-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v48_0)) (v1 : (c : Dev Cert.KernelIdeal.nD) → Buf (Elt Ideal) ((c.tc : Thread Cert.KernelIdeal.nD Cert.KernelIdeal.τ).loc Cert.KernelIdeal.main_v48_1)) (v2 : (c : Dev Cert.KernelIdeal.nD) → Buf (Elt Ideal) ((c.tc : Thread Cert.KernelIdeal.nD Cert.KernelIdeal.τ).loc Cert.KernelIdeal.main_v48_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48_0) = v0 c
          ∧ r.2.mem ((c.tc : Thread Cert.KernelIdeal.nD Cert.KernelIdeal.τ).loc Cert.KernelIdeal.main_v48_1) = v1 c
          ∧ r.2.mem ((c.tc : Thread Cert.KernelIdeal.nD Cert.KernelIdeal.τ).loc Cert.KernelIdeal.main_v48_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v70) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v8_0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8_0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v35) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v7_0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v7_0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v35) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v5_0)) (v1 : (c : Dev Cert.Kernel10Ideal.nD) → Buf (Elt Ideal) ((c.tc : Thread Cert.Kernel10Ideal.nD Cert.Kernel10Ideal.τ).loc Cert.Kernel10Ideal.main_v5_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5_0) = v0 c
          ∧ r.2.mem ((c.tc : Thread Cert.Kernel10Ideal.nD Cert.Kernel10Ideal.τ).loc Cert.Kernel10Ideal.main_v5_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v15) = v0 c
          ∧ r.2.mem ((c.tc : Thread Cert.Reference10Ideal.nD Cert.Reference10Ideal.τ).loc Cert.Reference10Ideal.main_v17) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v4_0)) (v1 : (c : Dev Cert.Kernel11Ideal.nD) → Buf (Elt Ideal) ((c.tc : Thread Cert.Kernel11Ideal.nD Cert.Kernel11Ideal.τ).loc Cert.Kernel11Ideal.main_v4_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4_0) = v0 c
          ∧ r.2.mem ((c.tc : Thread Cert.Kernel11Ideal.nD Cert.Kernel11Ideal.τ).loc Cert.Kernel11Ideal.main_v4_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v14) = v0 c
          ∧ r.2.mem ((c.tc : Thread Cert.Reference11Ideal.nD Cert.Reference11Ideal.τ).loc Cert.Reference11Ideal.main_v16) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S4112x16x96 : Shape := ⟨3, ![4112, 16, 96]⟩
abbrev S4112x16x64 : Shape := ⟨3, ![4112, 16, 64]⟩
abbrev S_ : Shape := ⟨0, ![]⟩

class Facts : Prop where
  bcast_S_S4112x16x96 : S_.BroadcastsInDim S4112x16x96 (![] : Fin 0 → Fin S4112x16x96.rank)
  bcast_S_S4112x16x64 : S_.BroadcastsInDim S4112x16x64 (![] : Fin 0 → Fin S4112x16x64.rank)

variable [Facts]

def fn {F : FTy → Type} [FloatOps F] (main_arg0 : FVec F S4112x16x96 .f32) (main_arg1 : FVec F S4112x16x96 .f32) (main_arg2 : FVec F S4112x16x64 .f32) (main_arg3 : FVec F S4112x16x64 .f32) : IVec S4112x16x96 1 × IVec S4112x16x96 1 × IVec S4112x16x64 1 × IVec S4112x16x64 1 :=
  let main_v0 : FVec F S4112x16x96 .f32 := Host.absf main_arg0
  let main_cst : FVec F S_ .f32 := constant S_ .f32 0x7F800000#32
  let main_v1 : FVec F S4112x16x96 .f32 := broadcastInDim S4112x16x96 ![] bcast_S_S4112x16x96 main_cst
  let main_v2 : IVec S4112x16x96 1 := cmpf .olt main_v0 main_v1
  let main_v3 : FVec F S4112x16x96 .f32 := Host.absf main_arg1
  let main_cst_0 : FVec F S_ .f32 := constant S_ .f32 0x7F800000#32
  let main_v4 : FVec F S4112x16x96 .f32 := broadcastInDim S4112x16x96 ![] bcast_S_S4112x16x96 main_cst_0
  let main_v5 : IVec S4112x16x96 1 := cmpf .olt main_v3 main_v4
  let main_v6 : FVec F S4112x16x64 .f32 := Host.absf main_arg2
  let main_cst_1 : FVec F S_ .f32 := constant S_ .f32 0x7F800000#32
  let main_v7 : FVec F S4112x16x64 .f32 := broadcastInDim S4112x16x64 ![] bcast_S_S4112x16x64 main_cst_1
  let main_v8 : IVec S4112x16x64 1 := cmpf .olt main_v6 main_v7
  let main_v9 : FVec F S4112x16x64 .f32 := Host.absf main_arg3
  let main_cst_2 : FVec F S_ .f32 := constant S_ .f32 0x7F800000#32
  let main_v10 : FVec F S4112x16x64 .f32 := broadcastInDim S4112x16x64 ![] bcast_S_S4112x16x64 main_cst_2
  let main_v11 : IVec S4112x16x64 1 := cmpf .olt main_v9 main_v10
  (main_v2, main_v5, main_v8, main_v11)
-- ==== Kernel.lean ====
abbrev S4112x16x96 : Shape := ⟨3, ![4112, 16, 96]⟩
abbrev S4112x16x64 : Shape := ⟨3, ![4112, 16, 64]⟩
abbrev S16x4112x4112 : Shape := ⟨3, ![16, 4112, 4112]⟩
abbrev S_ : Shape := ⟨0, ![]⟩
abbrev S4112 : Shape := ⟨1, ![4112]⟩
abbrev S1x4112 : Shape := ⟨2, ![1, 4112]⟩
abbrev S4112x1 : Shape := ⟨2, ![4112, 1]⟩
abbrev S4112x4112 : Shape := ⟨2, ![4112, 4112]⟩
abbrev S16x4112 : Shape := ⟨2, ![16, 4112]⟩
abbrev S16x4112x1 : Shape := ⟨3, ![16, 4112, 1]⟩
abbrev S16x64x4112 : Shape := ⟨3, ![16, 64, 4112]⟩
abbrev S4112x16 : Shape := ⟨2, ![4112, 16]⟩
abbrev S4224x16x128 : Shape := ⟨3, ![4224, 16, 128]⟩
abbrev S4224x2048 : Shape := ⟨2, ![4224, 2048]⟩
abbrev S4224x16x64 : Shape := ⟨3, ![4224, 16, 64]⟩
abbrev S4224x1024 : Shape := ⟨2, ![4224, 1024]⟩
abbrev S2048x4224 : Shape := ⟨2, ![2048, 4224]⟩
abbrev S1024x4224 : Shape := ⟨2, ![1024, 4224]⟩
abbrev S16x4224 : Shape := ⟨2, ![16, 4224]⟩
abbrev S8x2x4224 : Shape := ⟨3, ![8, 2, 4224]⟩
abbrev S8x8x4224 : Shape := ⟨3, ![8, 8, 4224]⟩
abbrev S4224x256 : Shape := ⟨2, ![4224, 256]⟩
abbrev S384x256 : Shape := ⟨2, ![384, 256]⟩
abbrev S256x384 : Shape := ⟨2, ![256, 384]⟩
abbrev S384x128 : Shape := ⟨2, ![384, 128]⟩
abbrev S128x4224 : Shape := ⟨2, ![128, 4224]⟩
abbrev S1x8x4224 : Shape := ⟨3, ![1, 8, 4224]⟩
abbrev S256x4224 : Shape := ⟨2, ![256, 4224]⟩
abbrev S64x384 : Shape := ⟨2, ![64, 384]⟩
abbrev S1x1x384 : Shape := ⟨3, ![1, 1, 384]⟩
abbrev S1x384 : Shape := ⟨2, ![1, 384]⟩
abbrev S384x384 : Shape := ⟨2, ![384, 384]⟩
abbrev S384x64 : Shape := ⟨2, ![384, 64]⟩
abbrev S128x384 : Shape := ⟨2, ![128, 384]⟩

abbrev nBuf : Space → Nat
  | .hbm => 79
  | .vmem => 22
  | .smem => 0
  | _ => 0

abbrev bufTy : (tb : Table) → Fin (tcTables nBuf tb) → BufTy
  | .hbm, ⟨0, _⟩ => ⟨S4112x16x96, .f32⟩
  | .hbm, ⟨1, _⟩ => ⟨S4112x16x96, .f32⟩
  | .hbm, ⟨2, _⟩ => ⟨S4112x16x64, .f32⟩
  | .hbm, ⟨3, _⟩ => ⟨S4112x16x64, .f32⟩
  | .hbm, ⟨4, _⟩ => ⟨S16x4112x4112, .f32⟩
  | .hbm, ⟨5, _⟩ => ⟨S_, .f32⟩
  | .hbm, ⟨6, _⟩ => ⟨S16x4112x4112, .f32⟩
  | .hbm, ⟨7, _⟩ => ⟨S16x4112x4112, .f32⟩
  | .hbm, ⟨8, _⟩ => ⟨S4112, .i32⟩
  | .hbm, ⟨9, _⟩ => ⟨S1x4112, .i32⟩
  | .hbm, ⟨10, _⟩ => ⟨S4112, .i32⟩
  | .hbm, ⟨11, _⟩ => ⟨S4112x1, .i32⟩
  | .hbm, ⟨12, _⟩ => ⟨S4112x4112, .i32⟩
  | .hbm, ⟨13, _⟩ => ⟨S4112x4112, .i32⟩
  | .hbm, ⟨14, _⟩ => ⟨S4112x4112, .i1⟩
  | .hbm, ⟨15, _⟩ => ⟨S_, .f32⟩
  | .hbm, ⟨16, _⟩ => ⟨S_, .f32⟩
  | .hbm, ⟨17, _⟩ => ⟨S16x4112x4112, .i1⟩
  | .hbm, ⟨18, _⟩ => ⟨S16x4112x4112, .f32⟩
  | .hbm, ⟨19, _⟩ => ⟨S16x4112x4112, .f32⟩
  | .hbm, ⟨20, _⟩ => ⟨S_, .f32⟩
  | .hbm, ⟨21, _⟩ => ⟨S16x4112, .f32⟩
  | .hbm, ⟨22, _⟩ => ⟨S16x4112x1, .f32⟩
  | .hbm, ⟨23, _⟩ => ⟨S16x4112x4112, .f32⟩
  | .hbm, ⟨24, _⟩ => ⟨S16x4112x4112, .f32⟩
  | .hbm, ⟨25, _⟩ => ⟨S16x4112x4112, .f32⟩
  | .hbm, ⟨26, _⟩ => ⟨S_, .f32⟩
  | .hbm, ⟨27, _⟩ => ⟨S16x4112, .f32⟩
  | .hbm, ⟨28, _⟩ => ⟨S16x4112x1, .f32⟩
  | .hbm, ⟨29, _⟩ => ⟨S16x4112x4112, .f32⟩
  | .hbm, ⟨30, _⟩ => ⟨S16x4112x4112, .f32⟩
  | .hbm, ⟨31, _⟩ => ⟨S16x64x4112, .f32⟩
  | .hbm, ⟨32, _⟩ => ⟨S4112x16x64, .f32⟩
  | .hbm, ⟨33, _⟩ => ⟨S16x4112x1, .f32⟩
  | .hbm, ⟨34, _⟩ => ⟨S16x4112x1, .f32⟩
  | .hbm, ⟨35, _⟩ => ⟨S16x4112, .f32⟩
  | .hbm, ⟨36, _⟩ => ⟨S4112x16x64, .f32⟩
  | .hbm, ⟨37, _⟩ => ⟨S_, .f32⟩
  | .hbm, ⟨38, _⟩ => ⟨S4112x16, .f32⟩
  | .hbm, ⟨39, _⟩ => ⟨S16x4112, .f32⟩
  | .hbm, ⟨40, _⟩ => ⟨S_, .i32⟩
  | .hbm, ⟨41, _⟩ => ⟨S_, .f32⟩
  | .hbm, ⟨42, _⟩ => ⟨S4224x16x128, .f32⟩
  | .hbm, ⟨43, _⟩ => ⟨S4224x2048, .f32⟩
  | .hbm, ⟨44, _⟩ => ⟨S4224x2048, .bf16⟩
  | .hbm, ⟨45, _⟩ => ⟨S_, .i32⟩
  | .hbm, ⟨46, _⟩ => ⟨S_, .f32⟩
  | .hbm, ⟨47, _⟩ => ⟨S4224x16x128, .f32⟩
  | .hbm, ⟨48, _⟩ => ⟨S4224x2048, .f32⟩
  | .hbm, ⟨49, _⟩ => ⟨S4224x2048, .bf16⟩
  | .hbm, ⟨50, _⟩ => ⟨S_, .i32⟩
  | .hbm, ⟨51, _⟩ => ⟨S_, .f32⟩
  | .hbm, ⟨52, _⟩ => ⟨S4224x16x64, .f32⟩
  | .hbm, ⟨53, _⟩ => ⟨S4224x1024, .f32⟩
  | .hbm, ⟨54, _⟩ => ⟨S4224x1024, .bf16⟩
  | .hbm, ⟨55, _⟩ => ⟨S_, .i32⟩
  | .hbm, ⟨56, _⟩ => ⟨S_, .f32⟩
  | .hbm, ⟨57, _⟩ => ⟨S4224x16x64, .f32⟩
  | .hbm, ⟨58, _⟩ => ⟨S4224x1024, .f32⟩
  | .hbm, ⟨59, _⟩ => ⟨S4224x1024, .bf16⟩
  | .hbm, ⟨60, _⟩ => ⟨S2048x4224, .bf16⟩
  | .hbm, ⟨61, _⟩ => ⟨S1024x4224, .bf16⟩
  | .hbm, ⟨62, _⟩ => ⟨S_, .i32⟩
  | .hbm, ⟨63, _⟩ => ⟨S_, .f32⟩
  | .hbm, ⟨64, _⟩ => ⟨S16x4224, .f32⟩
  | .hbm, ⟨65, _⟩ => ⟨S8x2x4224, .f32⟩
  | .hbm, ⟨66, _⟩ => ⟨S_, .i32⟩
  | .hbm, ⟨67, _⟩ => ⟨S_, .f32⟩
  | .hbm, ⟨68, _⟩ => ⟨S8x8x4224, .f32⟩
  | .hbm, ⟨69, _⟩ => ⟨S_, .i32⟩
  | .hbm, ⟨70, _⟩ => ⟨S_, .f32⟩
  | .hbm, ⟨71, _⟩ => ⟨S16x4224, .f32⟩
  | .hbm, ⟨72, _⟩ => ⟨S8x2x4224, .f32⟩
  | .hbm, ⟨73, _⟩ => ⟨S_, .i32⟩
  | .hbm, ⟨74, _⟩ => ⟨S_, .f32⟩
  | .hbm, ⟨75, _⟩ => ⟨S8x8x4224, .f32⟩
  | .hbm, ⟨76, _⟩ => ⟨S2048x4224, .f32⟩
  | .hbm, ⟨77, _⟩ => ⟨S4224x2048, .f32⟩
  | .hbm, ⟨78, _⟩ => ⟨S4224x1024, .f32⟩
  | .local _ .vmem, ⟨0, _⟩ => ⟨S4224x256, .bf16⟩
  | .local _ .vmem, ⟨1, _⟩ => ⟨S4224x256, .bf16⟩
  | .local _ .vmem, ⟨2, _⟩ => ⟨S384x256, .bf16⟩
  | .local _ .vmem, ⟨3, _⟩ => ⟨S384x256, .bf16⟩
  | .local _ .vmem, ⟨4, _⟩ => ⟨S256x384, .bf16⟩
  | .local _ .vmem, ⟨5, _⟩ => ⟨S256x384, .bf16⟩
  | .local _ .vmem, ⟨6, _⟩ => ⟨S384x128, .bf16⟩
  | .local _ .vmem, ⟨7, _⟩ => ⟨S384x128, .bf16⟩
  | .local _ .vmem, ⟨8, _⟩ => ⟨S128x4224, .bf16⟩
  | .local _ .vmem, ⟨9, _⟩ => ⟨S128x4224, .bf16⟩
  | .local _ .vmem, ⟨10, _⟩ => ⟨S1x8x4224, .f32⟩
  | .local _ .vmem, ⟨11, _⟩ => ⟨S1x8x4224, .f32⟩
  | .local _ .vmem, ⟨12, _⟩ => ⟨S1x8x4224, .f32⟩
  | .local _ .vmem, ⟨13, _⟩ => ⟨S1x8x4224, .f32⟩
  | .local _ .vmem, ⟨14, _⟩ => ⟨S256x4224, .f32⟩
  | .local _ .vmem, ⟨15, _⟩ => ⟨S256x4224, .f32⟩
  | .local _ .vmem, ⟨16, _⟩ => ⟨S384x256, .f32⟩
  | .local _ .vmem, ⟨17, _⟩ => ⟨S384x256, .f32⟩
  | .local _ .vmem, ⟨18, _⟩ => ⟨S384x128, .f32⟩
  | .local _ .vmem, ⟨19, _⟩ => ⟨S384x128, .f32⟩
  | .local _ .vmem, ⟨20, _⟩ => ⟨S384x256, .f32⟩
  | .local _ .vmem, ⟨21, _⟩ => ⟨S384x128, .f32⟩
  | _, _ => ⟨S4112x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_c : Ref sig .tc := ⟨.hbm, 40, rfl⟩
abbrev main_call1_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_call2_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_5 : Ref sig .tc := ⟨.hbm, 50, rfl⟩
abbrev main_call3_v0 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_6 : Ref sig .tc := ⟨.hbm, 55, rfl⟩
abbrev main_call4_v0 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_7 : Ref sig .tc := ⟨.hbm, 62, rfl⟩
abbrev main_call5_v0 : Ref sig .tc := ⟨.hbm, 63, rfl⟩
abbrev main_v42 : Ref sig .tc := ⟨.hbm, 64, rfl⟩
abbrev main_v43 : Ref sig .tc := ⟨.hbm, 65, rfl⟩
abbrev main_c_8 : Ref sig .tc := ⟨.hbm, 66, rfl⟩
abbrev main_call6_v0 : Ref sig .tc := ⟨.hbm, 67, rfl⟩
abbrev main_v44 : Ref sig .tc := ⟨.hbm, 68, rfl⟩
abbrev main_c_9 : Ref sig .tc := ⟨.hbm, 69, rfl⟩
abbrev main_call7_v0 : Ref sig .tc := ⟨.hbm, 70, rfl⟩
abbrev main_v45 : Ref sig .tc := ⟨.hbm, 71, rfl⟩
abbrev main_v46 : Ref sig .tc := ⟨.hbm, 72, rfl⟩
abbrev main_c_10 : Ref sig .tc := ⟨.hbm, 73, rfl⟩
abbrev main_call8_v0 : Ref sig .tc := ⟨.hbm, 74, rfl⟩
abbrev main_v47 : Ref sig .tc := ⟨.hbm, 75, rfl⟩
abbrev main_v48_0 : Ref sig .tc := ⟨.hbm, 76, rfl⟩
abbrev main_v48_1 : Ref sig .tc := ⟨.hbm, 77, rfl⟩
abbrev main_v48_2 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 11], ![false, false]⟩

def k0_cond2 (i : grid0.Coords) : BitVec 1 :=
  let arg1 : BitVec 32 := BitVec.ofNat 32 (i 1).val
  let c0_i32_5 : BitVec 32 := 0#32
  let v11 : BitVec 1 := Scalar.cmpi .eq arg1 c0_i32_5
  let v12 : BitVec 32 := Scalar.extui v11
  let c0_i32_6 : BitVec 32 := 0#32
  let v13 : BitVec 1 := Scalar.cmpi .ne v12 c0_i32_6
  v13

@[reducible] def k0_t1_loop : Scf.Loop 32 :=
  let c0_i32_17 : BitVec 32 := 0#32
  let c11_i32 : BitVec 32 := 11#32
  let v21 : BitVec 32 := Scalar.addi c0_i32_17 c11_i32
  let c1_i32 : BitVec 32 := 1#32
  ⟨c0_i32_17, v21, c1_i32⟩
def k0_mult1 (k0_t1 : Fin k0_t1_loop.trips) : BitVec 32 :=
  let c0_i32_17 : BitVec 32 := 0#32
  let c1_i32 : BitVec 32 := 1#32
  let arg14 : BitVec 32 := Scf.iv c0_i32_17 c1_i32 k0_t1
  let c384_i32 : BitVec 32 := 384#32
  let v22 : BitVec 32 := Scalar.muli arg14 c384_i32
  v22
def k0_off1 (k0_t1 : Fin k0_t1_loop.trips) : Fin 2 → Nat :=
  let c0_i32_17 : BitVec 32 := 0#32
  let c1_i32 : BitVec 32 := 1#32
  let arg14 : BitVec 32 := Scf.iv c0_i32_17 c1_i32 k0_t1
  let c384_i32 : BitVec 32 := 384#32
  let v22 : BitVec 32 := Scalar.muli arg14 c384_i32
  let v23 : BitVec 32 := v22
  let v24 : Index := Scalar.indexCast v23
  let c0_19 : Index := 0#32
  ![v24.toNat, 0]
def k0_off2 (k0_t1 : Fin k0_t1_loop.trips) : Fin 2 → Nat :=
  let c0_20 : Index := 0#32
  let c0_i32_17 : BitVec 32 := 0#32
  let c1_i32 : BitVec 32 := 1#32
  let arg14 : BitVec 32 := Scf.iv c0_i32_17 c1_i32 k0_t1
  let c384_i32 : BitVec 32 := 384#32
  let v22 : BitVec 32 := Scalar.muli arg14 c384_i32
  let v23 : BitVec 32 := v22
  let v27 : Index := Scalar.indexCast v23
  ![0, v27.toNat]
def k0_off3 (k0_t1 : Fin k0_t1_loop.trips) : Fin 3 → Nat :=
  let c0_21 : Index := 0#32
  let c0_22 : Index := 0#32
  let c0_i32_17 : BitVec 32 := 0#32
  let c1_i32 : BitVec 32 := 1#32
  let arg14 : BitVec 32 := Scf.iv c0_i32_17 c1_i32 k0_t1
  let c384_i32 : BitVec 32 := 384#32
  let v22 : BitVec 32 := Scalar.muli arg14 c384_i32
  let v23 : BitVec 32 := v22
  let v30 : Index := Scalar.indexCast v23
  ![0, 0, v30.toNat]
def k0_off4 (k0_t1 : Fin k0_t1_loop.trips) : Fin 2 → Nat :=
  let c0_47 : Index := 0#32
  let c0_i32_17 : BitVec 32 := 0#32
  let c1_i32 : BitVec 32 := 1#32
  let arg14 : BitVec 32 := Scf.iv c0_i32_17 c1_i32 k0_t1
  let c384_i32 : BitVec 32 := 384#32
  let v22 : BitVec 32 := Scalar.muli arg14 c384_i32
  let v23 : BitVec 32 := v22
  let v83 : Index := Scalar.indexCast v23
  ![0, v83.toNat]
def k0_off5 (k0_t1 : Fin k0_t1_loop.trips) : Fin 2 → Nat :=
  let c0_i32_17 : BitVec 32 := 0#32
  let c1_i32 : BitVec 32 := 1#32
  let arg14 : BitVec 32 := Scf.iv c0_i32_17 c1_i32 k0_t1
  let c384_i32 : BitVec 32 := 384#32
  let v22 : BitVec 32 := Scalar.muli arg14 c384_i32
  let v23 : BitVec 32 := v22
  let v92 : Index := Scalar.indexCast v23
  let c128 : Index := 128#32
  ![v92.toNat, 128]
def k0_off6 (k0_t1 : Fin k0_t1_loop.trips) : Fin 2 → Nat :=
  let c64 : Index := 64#32
  let c0_i32_17 : BitVec 32 := 0#32
  let c1_i32 : BitVec 32 := 1#32
  let arg14 : BitVec 32 := Scf.iv c0_i32_17 c1_i32 k0_t1
  let c384_i32 : BitVec 32 := 384#32
  let v22 : BitVec 32 := Scalar.muli arg14 c384_i32
  let v23 : BitVec 32 := v22
  let v95 : Index := Scalar.indexCast v23
  ![64, v95.toNat]
def k0_off7 (k0_t1 : Fin k0_t1_loop.trips) : Fin 3 → Nat :=
  let c0_52 : Index := 0#32
  let c1 : Index := 1#32
  let c0_i32_17 : BitVec 32 := 0#32
  let c1_i32 : BitVec 32 := 1#32
  let arg14 : BitVec 32 := Scf.iv c0_i32_17 c1_i32 k0_t1
  let c384_i32 : BitVec 32 := 384#32
  let v22 : BitVec 32 := Scalar.muli arg14 c384_i32
  let v23 : BitVec 32 := v22
  let v98 : Index := Scalar.indexCast v23
  ![0, 1, v98.toNat]
def k0_off8 (k0_t1 : Fin k0_t1_loop.trips) : Fin 2 → Nat :=
  let c128_78 : Index := 128#32
  let c0_i32_17 : BitVec 32 := 0#32
  let c1_i32 : BitVec 32 := 1#32
  let arg14 : BitVec 32 := Scf.iv c0_i32_17 c1_i32 k0_t1
  let c384_i32 : BitVec 32 := 384#32
  let v22 : BitVec 32 := Scalar.muli arg14 c384_i32
  let v23 : BitVec 32 := v22
  let v151 : Index := Scalar.indexCast v23
  ![128, v151.toNat]
def k0_cond3 (i : grid0.Coords) : BitVec 1 :=
  let arg1 : BitVec 32 := BitVec.ofNat 32 (i 1).val
  let c0_i32_7 : BitVec 32 := 0#32
  let v14 : BitVec 1 := Scalar.cmpi .sgt arg1 c0_i32_7
  let v15 : BitVec 32 := Scalar.extui v14
  let c0_i32_8 : BitVec 32 := 0#32
  let v16 : BitVec 1 := Scalar.cmpi .ne v15 c0_i32_8
  v16

def k0_mult2 (i : grid0.Coords) : BitVec 32 :=
  let arg1 : BitVec 32 := BitVec.ofNat 32 (i 1).val
  let c384_i32 : BitVec 32 := 384#32
  let v21 : BitVec 32 := Scalar.muli arg1 c384_i32
  v21
def k0_off9 (i : grid0.Coords) : Fin 2 → Nat :=
  let arg1 : BitVec 32 := BitVec.ofNat 32 (i 1).val
  let c384_i32 : BitVec 32 := 384#32
  let v21 : BitVec 32 := Scalar.muli arg1 c384_i32
  let v22 : BitVec 32 := v21
  let v23 : Index := Scalar.indexCast v22
  let c0_17 : Index := 0#32
  ![v23.toNat, 0]
def k0_off10 (i : grid0.Coords) : Fin 2 → Nat :=
  let c0_18 : Index := 0#32
  let arg1 : BitVec 32 := BitVec.ofNat 32 (i 1).val
  let c384_i32 : BitVec 32 := 384#32
  let v21 : BitVec 32 := Scalar.muli arg1 c384_i32
  let v22 : BitVec 32 := v21
  let v26 : Index := Scalar.indexCast v22
  ![0, v26.toNat]
def k0_off11 (i : grid0.Coords) : Fin 3 → Nat :=
  let c0_19 : Index := 0#32
  let c0_20 : Index := 0#32
  let arg1 : BitVec 32 := BitVec.ofNat 32 (i 1).val
  let c384_i32 : BitVec 32 := 384#32
  let v21 : BitVec 32 := Scalar.muli arg1 c384_i32
  let v22 : BitVec 32 := v21
  let v29 : Index := Scalar.indexCast v22
  ![0, 0, v29.toNat]
def k0_off12 (i : grid0.Coords) : Fin 2 → Nat :=
  let c0_45 : Index := 0#32
  let arg1 : BitVec 32 := BitVec.ofNat 32 (i 1).val
  let c384_i32 : BitVec 32 := 384#32
  let v21 : BitVec 32 := Scalar.muli arg1 c384_i32
  let v22 : BitVec 32 := v21
  let v82 : Index := Scalar.indexCast v22
  ![0, v82.toNat]
def k0_off13 (i : grid0.Coords) : Fin 2 → Nat :=
  let arg1 : BitVec 32 := BitVec.ofNat 32 (i 1).val
  let c384_i32 : BitVec 32 := 384#32
  let v21 : BitVec 32 := Scalar.muli arg1 c384_i32
  let v22 : BitVec 32 := v21
  let v91 : Index := Scalar.indexCast v22
  let c128 : Index := 128#32
  ![v91.toNat, 128]
def k0_off14 (i : grid0.Coords) : Fin 2 → Nat :=
  let c64 : Index := 64#32
  let arg1 : BitVec 32 := BitVec.ofNat 32 (i 1).val
  let c384_i32 : BitVec 32 := 384#32
  let v21 : BitVec 32 := Scalar.muli arg1 c384_i32
  let v22 : BitVec 32 := v21
  let v94 : Index := Scalar.indexCast v22
  ![64, v94.toNat]
def k0_off15 (i : grid0.Coords) : Fin 3 → Nat :=
  let c0_50 : Index := 0#32
  let c1 : Index := 1#32
  let arg1 : BitVec 32 := BitVec.ofNat 32 (i 1).val
  let c384_i32 : BitVec 32 := 384#32
  let v21 : BitVec 32 := Scalar.muli arg1 c384_i32
  let v22 : BitVec 32 := v21
  let v97 : Index := Scalar.indexCast v22
  ![0, 1, v97.toNat]
def k0_off16 (i : grid0.Coords) : Fin 2 → Nat :=
  let c128_76 : Index := 128#32
  let arg1 : BitVec 32 := BitVec.ofNat 32 (i 1).val
  let c384_i32 : BitVec 32 := 384#32
  let v21 : BitVec 32 := Scalar.muli arg1 c384_i32
  let v22 : BitVec 32 := v21
  let v150 : Index := Scalar.indexCast v22
  ![128, v150.toNat]
@[reducible] def k0_t2_loop (i : grid0.Coords) : Scf.Loop 32 :=
  let arg1 : BitVec 32 := BitVec.ofNat 32 (i 1).val
  let c1_i32 : BitVec 32 := 1#32
  let v159 : BitVec 32 := Scalar.addi arg1 c1_i32
  let c11_i32 : BitVec 32 := 11#32
  let v160 : BitVec 32 := Scalar.subi c11_i32 v159
  let c1_i32_82 : BitVec 32 := 1#32
  let v162 : BitVec 32 := Scalar.divsi v160 c1_i32_82
  let v163 : BitVec 32 := Scalar.muli v162 c1_i32_82
  let v164 : BitVec 32 := Scalar.addi v159 v163
  let c1_i32_83 : BitVec 32 := 1#32
  ⟨v159, v164, c1_i32_83⟩
def k0_mult3 (i : grid0.Coords) (k0_t2 : Fin (k0_t2_loop i).trips) : BitVec 32 :=
  let arg1 : BitVec 32 := BitVec.ofNat 32 (i 1).val
  let c1_i32 : BitVec 32 := 1#32
  let v159 : BitVec 32 := Scalar.addi arg1 c1_i32
  let c1_i32_83 : BitVec 32 := 1#32
  let arg14 : BitVec 32 := Scf.iv v159 c1_i32_83 k0_t2
  let c384_i32_85 : BitVec 32 := 384#32
  let v165 : BitVec 32 := Scalar.muli arg14 c384_i32_85
  v165
def k0_off17 (i : grid0.Coords) (k0_t2 : Fin (k0_t2_loop i).trips) : Fin 2 → Nat :=
  let arg1 : BitVec 32 := BitVec.ofNat 32 (i 1).val
  let c1_i32 : BitVec 32 := 1#32
  let v159 : BitVec 32 := Scalar.addi arg1 c1_i32
  let c1_i32_83 : BitVec 32 := 1#32
  let arg14 : BitVec 32 := Scf.iv v159 c1_i32_83 k0_t2
  let c384_i32_85 : BitVec 32 := 384#32
  let v165 : BitVec 32 := Scalar.muli arg14 c384_i32_85
  let v166 : BitVec 32 := v165
  let v167 : Index := Scalar.indexCast v166
  let c0_86 : Index := 0#32
  ![v167.toNat, 0]
def k0_off18 (i : grid0.Coords) (k0_t2 : Fin (k0_t2_loop i).trips) : Fin 2 → Nat :=
  let c0_87 : Index := 0#32
  let arg1 : BitVec 32 := BitVec.ofNat 32 (i 1).val
  let c1_i32 : BitVec 32 := 1#32
  let v159 : BitVec 32 := Scalar.addi arg1 c1_i32
  let c1_i32_83 : BitVec 32 := 1#32
  let arg14 : BitVec 32 := Scf.iv v159 c1_i32_83 k0_t2
  let c384_i32_85 : BitVec 32 := 384#32
  let v165 : BitVec 32 := Scalar.muli arg14 c384_i32_85
  let v166 : BitVec 32 := v165
  let v170 : Index := Scalar.indexCast v166
  ![0, v170.toNat]
def k0_off19 (i : grid0.Coords) (k0_t2 : Fin (k0_t2_loop i).trips) : Fin 3 → Nat :=
  let c0_88 : Index := 0#32
  let c0_89 : Index := 0#32
  let arg1 : BitVec 32 := BitVec.ofNat 32 (i 1).val
  let c1_i32 : BitVec 32 := 1#32
  let v159 : BitVec 32 := Scalar.addi arg1 c1_i32
  let c1_i32_83 : BitVec 32 := 1#32
  let arg14 : BitVec 32 := Scf.iv v159 c1_i32_83 k0_t2
  let c384_i32_85 : BitVec 32 := 384#32
  let v165 : BitVec 32 := Scalar.muli arg14 c384_i32_85
  let v166 : BitVec 32 := v165
  let v173 : Index := Scalar.indexCast v166
  ![0, 0, v173.toNat]
def k0_off20 (i : grid0.Coords) (k0_t2 : Fin (k0_t2_loop i).trips) : Fin 2 → Nat :=
  let c0_110 : Index := 0#32
  let arg1 : BitVec 32 := BitVec.ofNat 32 (i 1).val
  let c1_i32 : BitVec 32 := 1#32
  let v159 : BitVec 32 := Scalar.addi arg1 c1_i32
  let c1_i32_83 : BitVec 32 := 1#32
  let arg14 : BitVec 32 := Scf.iv v159 c1_i32_83 k0_t2
  let c384_i32_85 : BitVec 32 := 384#32
  let v165 : BitVec 32 := Scalar.muli arg14 c384_i32_85
  let v166 : BitVec 32 := v165
  let v209 : Index := Scalar.indexCast v166
  ![0, v209.toNat]
def k0_off21 (i : grid0.Coords) (k0_t2 : Fin (k0_t2_loop i).trips) : Fin 2 → Nat :=
  let arg1 : BitVec 32 := BitVec.ofNat 32 (i 1).val
  let c1_i32 : BitVec 32 := 1#32
  let v159 : BitVec 32 := Scalar.addi arg1 c1_i32
  let c1_i32_83 : BitVec 32 := 1#32
  let arg14 : BitVec 32 := Scf.iv v159 c1_i32_83 k0_t2
  let c384_i32_85 : BitVec 32 := 384#32
  let v165 : BitVec 32 := Scalar.muli arg14 c384_i32_85
  let v166 : BitVec 32 := v165
  let v218 : Index := Scalar.indexCast v166
  let c128_115 : Index := 128#32
  ![v218.toNat, 128]
def k0_off22 (i : grid0.Coords) (k0_t2 : Fin (k0_t2_loop i).trips) : Fin 2 → Nat :=
  let c64_116 : Index := 64#32
  let arg1 : BitVec 32 := BitVec.ofNat 32 (i 1).val
  let c1_i32 : BitVec 32 := 1#32
  let v159 : BitVec 32 := Scalar.addi arg1 c1_i32
  let c1_i32_83 : BitVec 32 := 1#32
  let arg14 : BitVec 32 := Scf.iv v159 c1_i32_83 k0_t2
  let c384_i32_85 : BitVec 32 := 384#32
  let v165 : BitVec 32 := Scalar.muli arg14 c384_i32_85
  let v166 : BitVec 32 := v165
  let v221 : Index := Scalar.indexCast v166
  ![64, v221.toNat]
def k0_off23 (i : grid0.Coords) (k0_t2 : Fin (k0_t2_loop i).trips) : Fin 3 → Nat :=
  let c0_117 : Index := 0#32
  let c1_118 : Index := 1#32
  let arg1 : BitVec 32 := BitVec.ofNat 32 (i 1).val
  let c1_i32 : BitVec 32 := 1#32
  let v159 : BitVec 32 := Scalar.addi arg1 c1_i32
  let c1_i32_83 : BitVec 32 := 1#32
  let arg14 : BitVec 32 := Scf.iv v159 c1_i32_83 k0_t2
  let c384_i32_85 : BitVec 32 := 384#32
  let v165 : BitVec 32 := Scalar.muli arg14 c384_i32_85
  let v166 : BitVec 32 := v165
  let v224 : Index := Scalar.indexCast v166
  ![0, 1, v224.toNat]
def k0_off24 (i : grid0.Coords) (k0_t2 : Fin (k0_t2_loop i).trips) : Fin 2 → Nat :=
  let c128_139 : Index := 128#32
  let arg1 : BitVec 32 := BitVec.ofNat 32 (i 1).val
  let c1_i32 : BitVec 32 := 1#32
  let v159 : BitVec 32 := Scalar.addi arg1 c1_i32
  let c1_i32_83 : BitVec 32 := 1#32
  let arg14 : BitVec 32 := Scf.iv v159 c1_i32_83 k0_t2
  let c384_i32_85 : BitVec 32 := 384#32
  let v165 : BitVec 32 := Scalar.muli arg14 c384_i32_85
  let v166 : BitVec 32 := v165
  let v260 : Index := Scalar.indexCast v166
  ![128, v260.toNat]
@[reducible] def k0_t3_loop (i : grid0.Coords) : Scf.Loop 32 :=
  let arg1 : BitVec 32 := BitVec.ofNat 32 (i 1).val
  let c1_i32 : BitVec 32 := 1#32
  let v159 : BitVec 32 := Scalar.addi arg1 c1_i32
  let c11_i32 : BitVec 32 := 11#32
  let v160 : BitVec 32 := Scalar.subi c11_i32 v159
  let c1_i32_82 : BitVec 32 := 1#32
  let v162 : BitVec 32 := Scalar.divsi v160 c1_i32_82
  let v163 : BitVec 32 := Scalar.muli v162 c1_i32_82
  let v164 : BitVec 32 := Scalar.addi v159 v163
  let v161 : BitVec 32 := Scalar.addi v159 v160
  let c1_i32_84 : BitVec 32 := 1#32
  ⟨v164, v161, c1_i32_84⟩
def k0_mult4 (i : grid0.Coords) (k0_t3 : Fin (k0_t3_loop i).trips) : BitVec 32 :=
  let arg1 : BitVec 32 := BitVec.ofNat 32 (i 1).val
  let c1_i32 : BitVec 32 := 1#32
  let v159 : BitVec 32 := Scalar.addi arg1 c1_i32
  let c11_i32 : BitVec 32 := 11#32
  let v160 : BitVec 32 := Scalar.subi c11_i32 v159
  let c1_i32_82 : BitVec 32 := 1#32
  let v162 : BitVec 32 := Scalar.divsi v160 c1_i32_82
  let v163 : BitVec 32 := Scalar.muli v162 c1_i32_82
  let v164 : BitVec 32 := Scalar.addi v159 v163
  let c1_i32_84 : BitVec 32 := 1#32
  let arg14 : BitVec 32 := Scf.iv v164 c1_i32_84 k0_t3
  let c384_i32_85 : BitVec 32 := 384#32
  let v165 : BitVec 32 := Scalar.muli arg14 c384_i32_85
  v165
def k0_off25 (i : grid0.Coords) (k0_t3 : Fin (k0_t3_loop i).trips) : Fin 2 → Nat :=
  let arg1 : BitVec 32 := BitVec.ofNat 32 (i 1).val
  let c1_i32 : BitVec 32 := 1#32
  let v159 : BitVec 32 := Scalar.addi arg1 c1_i32
  let c11_i32 : BitVec 32 := 11#32
  let v160 : BitVec 32 := Scalar.subi c11_i32 v159
  let c1_i32_82 : BitVec 32 := 1#32
  let v162 : BitVec 32 := Scalar.divsi v160 c1_i32_82
  let v163 : BitVec 32 := Scalar.muli v162 c1_i32_82
  let v164 : BitVec 32 := Scalar.addi v159 v163
  let c1_i32_84 : BitVec 32 := 1#32
  let arg14 : BitVec 32 := Scf.iv v164 c1_i32_84 k0_t3
  let c384_i32_85 : BitVec 32 := 384#32
  let v165 : BitVec 32 := Scalar.muli arg14 c384_i32_85
  let v166 : BitVec 32 := v165
  let v167 : Index := Scalar.indexCast v166
  let c0_86 : Index := 0#32
  ![v167.toNat, 0]
def k0_off26 (i : grid0.Coords) (k0_t3 : Fin (k0_t3_loop i).trips) : Fin 2 → Nat :=
  let c0_87 : Index := 0#32
  let arg1 : BitVec 32 := BitVec.ofNat 32 (i 1).val
  let c1_i32 : BitVec 32 := 1#32
  let v159 : BitVec 32 := Scalar.addi arg1 c1_i32
  let c11_i32 : BitVec 32 := 11#32
  let v160 : BitVec 32 := Scalar.subi c11_i32 v159
  let c1_i32_82 : BitVec 32 := 1#32
  let v162 : BitVec 32 := Scalar.divsi v160 c1_i32_82
  let v163 : BitVec 32 := Scalar.muli v162 c1_i32_82
  let v164 : BitVec 32 := Scalar.addi v159 v163
  let c1_i32_84 : BitVec 32 := 1#32
  let arg14 : BitVec 32 := Scf.iv v164 c1_i32_84 k0_t3
  let c384_i32_85 : BitVec 32 := 384#32
  let v165 : BitVec 32 := Scalar.muli arg14 c384_i32_85
  let v166 : BitVec 32 := v165
  let v170 : Index := Scalar.indexCast v166
  ![0, v170.toNat]
def k0_off27 (i : grid0.Coords) (k0_t3 : Fin (k0_t3_loop i).trips) : Fin 3 → Nat :=
  let c0_88 : Index := 0#32
  let c0_89 : Index := 0#32
  let arg1 : BitVec 32 := BitVec.ofNat 32 (i 1).val
  let c1_i32 : BitVec 32 := 1#32
  let v159 : BitVec 32 := Scalar.addi arg1 c1_i32
  let c11_i32 : BitVec 32 := 11#32
  let v160 : BitVec 32 := Scalar.subi c11_i32 v159
  let c1_i32_82 : BitVec 32 := 1#32
  let v162 : BitVec 32 := Scalar.divsi v160 c1_i32_82
  let v163 : BitVec 32 := Scalar.muli v162 c1_i32_82
  let v164 : BitVec 32 := Scalar.addi v159 v163
  let c1_i32_84 : BitVec 32 := 1#32
  let arg14 : BitVec 32 := Scf.iv v164 c1_i32_84 k0_t3
  let c384_i32_85 : BitVec 32 := 384#32
  let v165 : BitVec 32 := Scalar.muli arg14 c384_i32_85
  let v166 : BitVec 32 := v165
  let v173 : Index := Scalar.indexCast v166
  ![0, 0, v173.toNat]
def k0_off28 (i : grid0.Coords) (k0_t3 : Fin (k0_t3_loop i).trips) : Fin 2 → Nat :=
  let c0_110 : Index := 0#32
  let arg1 : BitVec 32 := BitVec.ofNat 32 (i 1).val
  let c1_i32 : BitVec 32 := 1#32
  let v159 : BitVec 32 := Scalar.addi arg1 c1_i32
  let c11_i32 : BitVec 32 := 11#32
  let v160 : BitVec 32 := Scalar.subi c11_i32 v159
  let c1_i32_82 : BitVec 32 := 1#32
  let v162 : BitVec 32 := Scalar.divsi v160 c1_i32_82
  let v163 : BitVec 32 := Scalar.muli v162 c1_i32_82
  let v164 : BitVec 32 := Scalar.addi v159 v163
  let c1_i32_84 : BitVec 32 := 1#32
  let arg14 : BitVec 32 := Scf.iv v164 c1_i32_84 k0_t3
  let c384_i32_85 : BitVec 32 := 384#32
  let v165 : BitVec 32 := Scalar.muli arg14 c384_i32_85
  let v166 : BitVec 32 := v165
  let v209 : Index := Scalar.indexCast v166
  ![0, v209.toNat]
def k0_off29 (i : grid0.Coords) (k0_t3 : Fin (k0_t3_loop i).trips) : Fin 2 → Nat :=
  let arg1 : BitVec 32 := BitVec.ofNat 32 (i 1).val
  let c1_i32 : BitVec 32 := 1#32
  let v159 : BitVec 32 := Scalar.addi arg1 c1_i32
  let c11_i32 : BitVec 32 := 11#32
  let v160 : BitVec 32 := Scalar.subi c11_i32 v159
  let c1_i32_82 : BitVec 32 := 1#32
  let v162 : BitVec 32 := Scalar.divsi v160 c1_i32_82
  let v163 : BitVec 32 := Scalar.muli v162 c1_i32_82
  let v164 : BitVec 32 := Scalar.addi v159 v163
  let c1_i32_84 : BitVec 32 := 1#32
  let arg14 : BitVec 32 := Scf.iv v164 c1_i32_84 k0_t3
  let c384_i32_85 : BitVec 32 := 384#32
  let v165 : BitVec 32 := Scalar.muli arg14 c384_i32_85
  let v166 : BitVec 32 := v165
  let v218 : Index := Scalar.indexCast v166
  let c128_115 : Index := 128#32
  ![v218.toNat, 128]
def k0_off30 (i : grid0.Coords) (k0_t3 : Fin (k0_t3_loop i).trips) : Fin 2 → Nat :=
  let c64_116 : Index := 64#32
  let arg1 : BitVec 32 := BitVec.ofNat 32 (i 1).val
  let c1_i32 : BitVec 32 := 1#32
  let v159 : BitVec 32 := Scalar.addi arg1 c1_i32
  let c11_i32 : BitVec 32 := 11#32
  let v160 : BitVec 32 := Scalar.subi c11_i32 v159
  let c1_i32_82 : BitVec 32 := 1#32
  let v162 : BitVec 32 := Scalar.divsi v160 c1_i32_82
  let v163 : BitVec 32 := Scalar.muli v162 c1_i32_82
  let v164 : BitVec 32 := Scalar.addi v159 v163
  let c1_i32_84 : BitVec 32 := 1#32
  let arg14 : BitVec 32 := Scf.iv v164 c1_i32_84 k0_t3
  let c384_i32_85 : BitVec 32 := 384#32
  let v165 : BitVec 32 := Scalar.muli arg14 c384_i32_85
  let v166 : BitVec 32 := v165
  let v221 : Index := Scalar.indexCast v166
  ![64, v221.toNat]
def k0_off31 (i : grid0.Coords) (k0_t3 : Fin (k0_t3_loop i).trips) : Fin 3 → Nat :=
  let c0_117 : Index := 0#32
  let c1_118 : Index := 1#32
  let arg1 : BitVec 32 := BitVec.ofNat 32 (i 1).val
  let c1_i32 : BitVec 32 := 1#32
  let v159 : BitVec 32 := Scalar.addi arg1 c1_i32
  let c11_i32 : BitVec 32 := 11#32
  let v160 : BitVec 32 := Scalar.subi c11_i32 v159
  let c1_i32_82 : BitVec 32 := 1#32
  let v162 : BitVec 32 := Scalar.divsi v160 c1_i32_82
  let v163 : BitVec 32 := Scalar.muli v162 c1_i32_82
  let v164 : BitVec 32 := Scalar.addi v159 v163
  let c1_i32_84 : BitVec 32 := 1#32
  let arg14 : BitVec 32 := Scf.iv v164 c1_i32_84 k0_t3
  let c384_i32_85 : BitVec 32 := 384#32
  let v165 : BitVec 32 := Scalar.muli arg14 c384_i32_85
  let v166 : BitVec 32 := v165
  let v224 : Index := Scalar.indexCast v166
  ![0, 1, v224.toNat]
def k0_off32 (i : grid0.Coords) (k0_t3 : Fin (k0_t3_loop i).trips) : Fin 2 → Nat :=
  let c128_139 : Index := 128#32
  let arg1 : BitVec 32 := BitVec.ofNat 32 (i 1).val
  let c1_i32 : BitVec 32 := 1#32
  let v159 : BitVec 32 := Scalar.addi arg1 c1_i32
  let c11_i32 : BitVec 32 := 11#32
  let v160 : BitVec 32 := Scalar.subi c11_i32 v159
  let c1_i32_82 : BitVec 32 := 1#32
  let v162 : BitVec 32 := Scalar.divsi v160 c1_i32_82
  let v163 : BitVec 32 := Scalar.muli v162 c1_i32_82
  let v164 : BitVec 32 := Scalar.addi v159 v163
  let c1_i32_84 : BitVec 32 := 1#32
  let arg14 : BitVec 32 := Scf.iv v164 c1_i32_84 k0_t3
  let c384_i32_85 : BitVec 32 := 384#32
  let v165 : BitVec 32 := Scalar.muli arg14 c384_i32_85
  let v166 : BitVec 32 := v165
  let v260 : Index := Scalar.indexCast v166
  ![128, v260.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4224x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x4224 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x4224 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x4224 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x4224 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S384x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S384x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S4112x16x96 : Shape := ⟨3, ![4112, 16, 96]⟩
abbrev S4112x16x64 : Shape := ⟨3, ![4112, 16, 64]⟩
abbrev S16x4112x4112 : Shape := ⟨3, ![16, 4112, 4112]⟩
abbrev S_ : Shape := ⟨0, ![]⟩
abbrev S4112 : Shape := ⟨1, ![4112]⟩
abbrev S1x4112 : Shape := ⟨2, ![1, 4112]⟩
abbrev S4112x1 : Shape := ⟨2, ![4112, 1]⟩
abbrev S4112x4112 : Shape := ⟨2, ![4112, 4112]⟩
abbrev S16x4112 : Shape := ⟨2, ![16, 4112]⟩
abbrev S16x4112x1 : Shape := ⟨3, ![16, 4112, 1]⟩
abbrev S16x64x4112 : Shape := ⟨3, ![16, 64, 4112]⟩
abbrev S16x4112x96 : Shape := ⟨3, ![16, 4112, 96]⟩
abbrev S4224x16x128 : Shape := ⟨3, ![4224, 16, 128]⟩
abbrev S4224x2048 : Shape := ⟨2, ![4224, 2048]⟩
abbrev S2048x4224 : Shape := ⟨2, ![2048, 4224]⟩
abbrev S4224x16x64 : Shape := ⟨3, ![4224, 16, 64]⟩
abbrev S4224x1024 : Shape := ⟨2, ![4224, 1024]⟩

abbrev nBuf : Space → Nat
  | .hbm => 103
  | .vmem => 0
  | .smem => 0
  | _ => 0

abbrev bufTy : (tb : Table) → Fin (tcTables nBuf tb) → BufTy
  | .hbm, ⟨0, _⟩ => ⟨S4112x16x96, .f32⟩
  | .hbm, ⟨1, _⟩ => ⟨S4112x16x96, .f32⟩
  | .hbm, ⟨2, _⟩ => ⟨S4112x16x64, .f32⟩
  | .hbm, ⟨3, _⟩ => ⟨S4112x16x64, .f32⟩
  | .hbm, ⟨4, _⟩ => ⟨S16x4112x4112, .f32⟩
  | .hbm, ⟨5, _⟩ => ⟨S_, .f32⟩
  | .hbm, ⟨6, _⟩ => ⟨S16x4112x4112, .f32⟩
  | .hbm, ⟨7, _⟩ => ⟨S16x4112x4112, .f32⟩
  | .hbm, ⟨8, _⟩ => ⟨S4112, .i32⟩
  | .hbm, ⟨9, _⟩ => ⟨S1x4112, .i32⟩
  | .hbm, ⟨10, _⟩ => ⟨S4112, .i32⟩
  | .hbm, ⟨11, _⟩ => ⟨S4112x1, .i32⟩
  | .hbm, ⟨12, _⟩ => ⟨S4112x4112, .i32⟩
  | .hbm, ⟨13, _⟩ => ⟨S4112x4112, .i32⟩
  | .hbm, ⟨14, _⟩ => ⟨S4112x4112, .i1⟩
  | .hbm, ⟨15, _⟩ => ⟨S_, .f32⟩
  | .hbm, ⟨16, _⟩ => ⟨S_, .f32⟩
  | .hbm, ⟨17, _⟩ => ⟨S16x4112x4112, .i1⟩
  | .hbm, ⟨18, _⟩ => ⟨S16x4112x4112, .f32⟩
  | .hbm, ⟨19, _⟩ => ⟨S16x4112x4112, .f32⟩
  | .hbm, ⟨20, _⟩ => ⟨S_, .f32⟩
  | .hbm, ⟨21, _⟩ => ⟨S16x4112x4112, .f32⟩
  | .hbm, ⟨22, _⟩ => ⟨S_, .f32⟩
  | .hbm, ⟨23, _⟩ => ⟨S16x4112, .f32⟩
  | .hbm, ⟨24, _⟩ => ⟨S16x4112x1, .f32⟩
  | .hbm, ⟨25, _⟩ => ⟨S16x4112x4112, .f32⟩
  | .hbm, ⟨26, _⟩ => ⟨S16x4112x4112, .i1⟩
  | .hbm, ⟨27, _⟩ => ⟨S16x4112x4112, .f32⟩
  | .hbm, ⟨28, _⟩ => ⟨S_, .f32⟩
  | .hbm, ⟨29, _⟩ => ⟨S16x4112, .f32⟩
  | .hbm, ⟨30, _⟩ => ⟨S_, .f32⟩
  | .hbm, ⟨31, _⟩ => ⟨S16x4112, .f32⟩
  | .hbm, ⟨32, _⟩ => ⟨S16x4112, .f32⟩
  | .hbm, ⟨33, _⟩ => ⟨S_, .f32⟩
  | .hbm, ⟨34, _⟩ => ⟨S16x4112, .f32⟩
  | .hbm, ⟨35, _⟩ => ⟨S16x4112, .i1⟩
  | .hbm, ⟨36, _⟩ => ⟨S_, .f32⟩
  | .hbm, ⟨37, _⟩ => ⟨S16x4112, .f32⟩
  | .hbm, ⟨38, _⟩ => ⟨S16x4112, .i1⟩
  | .hbm, ⟨39, _⟩ => ⟨S_, .f32⟩
  | .hbm, ⟨40, _⟩ => ⟨S16x4112, .f32⟩
  | .hbm, ⟨41, _⟩ => ⟨S_, .f32⟩
  | .hbm, ⟨42, _⟩ => ⟨S16x4112, .f32⟩
  | .hbm, ⟨43, _⟩ => ⟨S_, .f32⟩
  | .hbm, ⟨44, _⟩ => ⟨S16x4112, .f32⟩
  | .hbm, ⟨45, _⟩ => ⟨S16x4112, .f32⟩
  | .hbm, ⟨46, _⟩ => ⟨S16x4112, .f32⟩
  | .hbm, ⟨47, _⟩ => ⟨S16x4112x1, .f32⟩
  | .hbm, ⟨48, _⟩ => ⟨S16x4112x4112, .f32⟩
  | .hbm, ⟨49, _⟩ => ⟨S16x4112x4112, .f32⟩
  | .hbm, ⟨50, _⟩ => ⟨S16x4112x4112, .f32⟩
  | .hbm, ⟨51, _⟩ => ⟨S_, .f32⟩
  | .hbm, ⟨52, _⟩ => ⟨S16x4112, .f32⟩
  | .hbm, ⟨53, _⟩ => ⟨S16x4112x1, .f32⟩
  | .hbm, ⟨54, _⟩ => ⟨S16x4112x4112, .f32⟩
  | .hbm, ⟨55, _⟩ => ⟨S16x4112x4112, .f32⟩
  | .hbm, ⟨56, _⟩ => ⟨S16x4112x1, .f32⟩
  | .hbm, ⟨57, _⟩ => ⟨S_, .f32⟩
  | .hbm, ⟨58, _⟩ => ⟨S16x4112x1, .f32⟩
  | .hbm, ⟨59, _⟩ => ⟨S16x4112x1, .f32⟩
  | .hbm, ⟨60, _⟩ => ⟨S16x64x4112, .f32⟩
  | .hbm, ⟨61, _⟩ => ⟨S4112x16x64, .f32⟩
  | .hbm, ⟨62, _⟩ => ⟨S16x64x4112, .f32⟩
  | .hbm, ⟨63, _⟩ => ⟨S16x4112x4112, .f32⟩
  | .hbm, ⟨64, _⟩ => ⟨S16x64x4112, .f32⟩
  | .hbm, ⟨65, _⟩ => ⟨S4112x16x64, .f32⟩
  | .hbm, ⟨66, _⟩ => ⟨S16x4112x4112, .f32⟩
  | .hbm, ⟨67, _⟩ => ⟨S16x4112x4112, .f32⟩
  | .hbm, ⟨68, _⟩ => ⟨S16x4112x4112, .f32⟩
  | .hbm, ⟨69, _⟩ => ⟨S_, .f32⟩
  | .hbm, ⟨70, _⟩ => ⟨S16x4112, .f32⟩
  | .hbm, ⟨71, _⟩ => ⟨S16x4112x1, .f32⟩
  | .hbm, ⟨72, _⟩ => ⟨S16x4112x1, .f32⟩
  | .hbm, ⟨73, _⟩ => ⟨S16x4112x4112, .f32⟩
  | .hbm, ⟨74, _⟩ => ⟨S16x4112x4112, .f32⟩
  | .hbm, ⟨75, _⟩ => ⟨S_, .f32⟩
  | .hbm, ⟨76, _⟩ => ⟨S16x4112, .f32⟩
  | .hbm, ⟨77, _⟩ => ⟨S16x4112x4112, .f32⟩
  | .hbm, ⟨78, _⟩ => ⟨S16x4112x4112, .f32⟩
  | .hbm, ⟨79, _⟩ => ⟨S16x4112x4112, .f32⟩
  | .hbm, ⟨80, _⟩ => ⟨S_, .f32⟩
  | .hbm, ⟨81, _⟩ => ⟨S16x4112x4112, .f32⟩
  | .hbm, ⟨82, _⟩ => ⟨S16x4112x4112, .f32⟩
  | .hbm, ⟨83, _⟩ => ⟨S_, .f32⟩
  | .hbm, ⟨84, _⟩ => ⟨S16x4112x4112, .f32⟩
  | .hbm, ⟨85, _⟩ => ⟨S16x4112x4112, .f32⟩
  | .hbm, ⟨86, _⟩ => ⟨S16x4112x96, .f32⟩
  | .hbm, ⟨87, _⟩ => ⟨S4112x16x96, .f32⟩
  | .hbm, ⟨88, _⟩ => ⟨S16x4112x96, .f32⟩
  | .hbm, ⟨89, _⟩ => ⟨S4112x16x96, .f32⟩
  | .hbm, ⟨90, _⟩ => ⟨S_, .i32⟩
  | .hbm, ⟨91, _⟩ => ⟨S_, .f32⟩
  | .hbm, ⟨92, _⟩ => ⟨S4224x16x128, .f32⟩
  | .hbm, ⟨93, _⟩ => ⟨S4224x2048, .f32⟩
  | .hbm, ⟨94, _⟩ => ⟨S2048x4224, .f32⟩
  | .hbm, ⟨95, _⟩ => ⟨S_, .i32⟩
  | .hbm, ⟨96, _⟩ => ⟨S_, .f32⟩
  | .hbm, ⟨97, _⟩ => ⟨S4224x16x128, .f32⟩
  | .hbm, ⟨98, _⟩ => ⟨S4224x2048, .f32⟩
  | .hbm, ⟨99, _⟩ => ⟨S_, .i32⟩
  | .hbm, ⟨100, _⟩ => ⟨S_, .f32⟩
  | .hbm, ⟨101, _⟩ => ⟨S4224x16x64, .f32⟩
  | .hbm, ⟨102, _⟩ => ⟨S4224x1024, .f32⟩
  | _, _ => ⟨S4112x16x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_v10_1 : Ref sig .tc := ⟨.hbm, 17, rfl⟩
abbrev main_call0_v2 : Ref sig .tc := ⟨.hbm, 18, rfl⟩
abbrev main_v10_0 : Ref sig .tc := ⟨.hbm, 19, rfl⟩
abbrev main_call0_cst : Ref sig .tc := ⟨.hbm, 20, rfl⟩
abbrev main_v10_2 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_call1_cst : Ref sig .tc := ⟨.hbm, 80, rfl⟩
abbrev main_call1_v0 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c : Ref sig .tc := ⟨.hbm, 90, rfl⟩
abbrev main_call2_v0 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c_14 : Ref sig .tc := ⟨.hbm, 95, rfl⟩
abbrev main_call3_v0 : Ref sig .tc := ⟨.hbm, 96, rfl⟩
abbrev main_v67 : Ref sig .tc := ⟨.hbm, 97, rfl⟩
abbrev main_v68 : Ref sig .tc := ⟨.hbm, 98, rfl⟩
abbrev main_c_15 : Ref sig .tc := ⟨.hbm, 99, rfl⟩
abbrev main_call4_v0 : Ref sig .tc := ⟨.hbm, 100, rfl⟩
abbrev main_v69 : Ref sig .tc := ⟨.hbm, 101, rfl⟩
abbrev main_v70 : Ref sig .tc := ⟨.hbm, 102, rfl⟩

abbrev nD : Nat := 1
abbrev τ : Topo := Topo.v7x

variable {F : FTy → Type} [FloatOps F]
-- ==== Kernel2.lean ====
abbrev S4112x4096 : Shape := ⟨2, ![4112, 4096]⟩
abbrev S4096x1024 : Shape := ⟨2, ![4096, 1024]⟩
abbrev S4112x1024 : Shape := ⟨2, ![4112, 1024]⟩
abbrev S_ : Shape := ⟨0, ![]⟩
abbrev S4224x1024 : Shape := ⟨2, ![4224, 1024]⟩
abbrev S4224x4096 : Shape := ⟨2, ![4224, 4096]⟩
abbrev S1408x1024 : Shape := ⟨2, ![1408, 1024]⟩
abbrev S512x1024 : Shape := ⟨2, ![512, 1024]⟩
abbrev S1408x512 : Shape := ⟨2, ![1408, 512]⟩

abbrev nBuf : Space → Nat
  | .hbm => 12
  | .vmem => 9
  | .smem => 0
  | _ => 0

abbrev bufTy : (tb : Table) → Fin (tcTables nBuf tb) → BufTy
  | .hbm, ⟨0, _⟩ => ⟨S4112x4096, .f32⟩
  | .hbm, ⟨1, _⟩ => ⟨S4096x1024, .f32⟩
  | .hbm, ⟨2, _⟩ => ⟨S4112x1024, .f32⟩
  | .hbm, ⟨3, _⟩ => ⟨S_, .i32⟩
  | .hbm, ⟨4, _⟩ => ⟨S_, .f32⟩
  | .hbm, ⟨5, _⟩ => ⟨S4224x1024, .f32⟩
  | .hbm, ⟨6, _⟩ => ⟨S_, .i32⟩
  | .hbm, ⟨7, _⟩ => ⟨S_, .f32⟩
  | .hbm, ⟨8, _⟩ => ⟨S4224x4096, .f32⟩
  | .hbm, ⟨9, _⟩ => ⟨S4224x4096, .bf16⟩
  | .hbm, ⟨10, _⟩ => ⟨S4096x1024, .bf16⟩
  | .hbm, ⟨11, _⟩ => ⟨S4224x4096, .bf16⟩
  | .local _ .vmem, ⟨0, _⟩ => ⟨S1408x1024, .f32⟩
  | .local _ .vmem, ⟨1, _⟩ => ⟨S1408x1024, .f32⟩
  | .local _ .vmem, ⟨2, _⟩ => ⟨S512x1024, .bf16⟩
  | .local _ .vmem, ⟨3, _⟩ => ⟨S512x1024, .bf16⟩
  | .local _ .vmem, ⟨4, _⟩ => ⟨S1408x512, .bf16⟩
  | .local _ .vmem, ⟨5, _⟩ => ⟨S1408x512, .bf16⟩
  | .local _ .vmem, ⟨6, _⟩ => ⟨S1408x512, .bf16⟩
  | .local _ .vmem, ⟨7, _⟩ => ⟨S1408x512, .bf16⟩
  | .local _ .vmem, ⟨8, _⟩ => ⟨S1408x1024, .bf16⟩
  | _, _ => ⟨S4112x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4112x4096 : Shape := ⟨2, ![4112, 4096]⟩
abbrev S4096x1024 : Shape := ⟨2, ![4096, 1024]⟩
abbrev S4112x1024 : Shape := ⟨2, ![4112, 1024]⟩
abbrev S_ : Shape := ⟨0, ![]⟩
abbrev S4224x4096 : Shape := ⟨2, ![4224, 4096]⟩

abbrev nBuf : Space → Nat
  | .hbm => 25
  | .vmem => 0
  | .smem => 0
  | _ => 0

abbrev bufTy : (tb : Table) → Fin (tcTables nBuf tb) → BufTy
  | .hbm, ⟨0, _⟩ => ⟨S4112x4096, .f32⟩
  | .hbm, ⟨1, _⟩ => ⟨S4096x1024, .f32⟩
  | .hbm, ⟨2, _⟩ => ⟨S4112x1024, .f32⟩
  | .hbm, ⟨3, _⟩ => ⟨S_, .f32⟩
  | .hbm, ⟨4, _⟩ => ⟨S4112x4096, .f32⟩
  | .hbm, ⟨5, _⟩ => ⟨S4112x4096, .f32⟩
  | .hbm, ⟨6, _⟩ => ⟨S_, .f32⟩
  | .hbm, ⟨7, _⟩ => ⟨S4112x4096, .f32⟩
  | .hbm, ⟨8, _⟩ => ⟨S4112x4096, .i1⟩
  | .hbm, ⟨9, _⟩ => ⟨S_, .f32⟩
  | .hbm, ⟨10, _⟩ => ⟨S4112x4096, .f32⟩
  | .hbm, ⟨11, _⟩ => ⟨S4112x4096, .f32⟩
  | .hbm, ⟨12, _⟩ => ⟨S_, .f32⟩
  | .hbm, ⟨13, _⟩ => ⟨S4112x4096, .f32⟩
  | .hbm, ⟨14, _⟩ => ⟨S4112x4096, .f32⟩
  | .hbm, ⟨15, _⟩ => ⟨S4112x1024, .f32⟩
  | .hbm, ⟨16, _⟩ => ⟨S4112x4096, .f32⟩
  | .hbm, ⟨17, _⟩ => ⟨S4112x4096, .f32⟩
  | .hbm, ⟨18, _⟩ => ⟨S_, .f32⟩
  | .hbm, ⟨19, _⟩ => ⟨S4112x4096, .f32⟩
  | .hbm, ⟨20, _⟩ => ⟨S4112x4096, .f32⟩
  | .hbm, ⟨21, _⟩ => ⟨S_, .i32⟩
  | .hbm, ⟨22, _⟩ => ⟨S_, .f32⟩
  | .hbm, ⟨23, _⟩ => ⟨S4224x4096, .f32⟩
  | .hbm, ⟨24, _⟩ => ⟨S4224x4096, .bf16⟩
  | _, _ => ⟨S4112x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_call1_v0 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]
-- ==== Kernel3.lean ====
abbrev S4112x4096 : Shape := ⟨2, ![4112, 4096]⟩
abbrev S4112x1024 : Shape := ⟨2, ![4112, 1024]⟩
abbrev S_ : Shape := ⟨0, ![]⟩
abbrev S4224x1024 : Shape := ⟨2, ![4224, 1024]⟩
abbrev S4224x4096 : Shape := ⟨2, ![4224, 4096]⟩
abbrev S4096x1024 : Shape := ⟨2, ![4096, 1024]⟩
abbrev S384x2048 : Shape := ⟨2, ![384, 2048]⟩
abbrev S384x1024 : Shape := ⟨2, ![384, 1024]⟩
abbrev S2048x1024 : Shape := ⟨2, ![2048, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4112x4096, .f32⟩
  | .hbm, ⟨1, _⟩ => ⟨S4112x1024, .f32⟩
  | .hbm, ⟨2, _⟩ => ⟨S_, .i32⟩
  | .hbm, ⟨3, _⟩ => ⟨S_, .f32⟩
  | .hbm, ⟨4, _⟩ => ⟨S4224x1024, .f32⟩
  | .hbm, ⟨5, _⟩ => ⟨S_, .i32⟩
  | .hbm, ⟨6, _⟩ => ⟨S_, .f32⟩
  | .hbm, ⟨7, _⟩ => ⟨S4224x4096, .f32⟩
  | .hbm, ⟨8, _⟩ => ⟨S4224x4096, .bf16⟩
  | .hbm, ⟨9, _⟩ => ⟨S4096x1024, .bf16⟩
  | .local _ .vmem, ⟨0, _⟩ => ⟨S384x2048, .bf16⟩
  | .local _ .vmem, ⟨1, _⟩ => ⟨S384x2048, .bf16⟩
  | .local _ .vmem, ⟨2, _⟩ => ⟨S384x1024, .f32⟩
  | .local _ .vmem, ⟨3, _⟩ => ⟨S384x1024, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S4112x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 11], ![false, false, false]⟩

def k0_cond3 (i : grid0.Coords) : BitVec 1 :=
  let arg2 : BitVec 32 := BitVec.ofNat 32 (i 2).val
  let c10_i32 : BitVec 32 := 10#32
  let v17 : BitVec 1 := Scalar.cmpi .eq arg2 c10_i32
  let v18 : BitVec 32 := Scalar.extui v17
  let c0_i32_6 : BitVec 32 := 0#32
  let v19 : BitVec 1 := Scalar.cmpi .ne v18 c0_i32_6
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S384x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4112x4096 : Shape := ⟨2, ![4112, 4096]⟩
abbrev S4112x1024 : Shape := ⟨2, ![4112, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4112x4096, .f32⟩
  | .hbm, ⟨1, _⟩ => ⟨S4112x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S4112x4096, .f32⟩
  | .hbm, ⟨6, _⟩ => ⟨S4112x4096, .f32⟩
  | .hbm, ⟨7, _⟩ => ⟨S4112x4096, .f32⟩
  | .hbm, ⟨8, _⟩ => ⟨S4112x1024, .f32⟩
  | .hbm, ⟨9, _⟩ => ⟨S1024x4096, .f32⟩
  | .hbm, ⟨10, _⟩ => ⟨S4096x1024, .f32⟩
  | .hbm, ⟨11, _⟩ => ⟨S4096x1024, .bf16⟩
  | _, _ => ⟨S4112x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel4.lean ====
abbrev S4112x1024 : Shape := ⟨2, ![4112, 1024]⟩
abbrev S4112x4096 : Shape := ⟨2, ![4112, 4096]⟩
abbrev S_ : Shape := ⟨0, ![]⟩
abbrev S4224x1024 : Shape := ⟨2, ![4224, 1024]⟩
abbrev S4224x4096 : Shape := ⟨2, ![4224, 4096]⟩
abbrev S8x1024x512 : Shape := ⟨3, ![8, 1024, 512]⟩
abbrev S384x1024 : Shape := ⟨2, ![384, 1024]⟩
abbrev S384x2048 : Shape := ⟨2, ![384, 2048]⟩
abbrev S4x1024x512 : Shape := ⟨3, ![4, 1024, 512]⟩
abbrev S1024x2048 : Shape := ⟨2, ![1024, 2048]⟩
abbrev S1024x512 : Shape := ⟨2, ![1024, 512]⟩
abbrev S1x1024x512 : Shape := ⟨3, ![1, 1024, 512]⟩

abbrev nBuf : Space → Nat
  | .hbm => 11
  | .vmem => 7
  | .smem => 0
  | _ => 0

abbrev bufTy : (tb : Table) → Fin (tcTables nBuf tb) → BufTy
  | .hbm, ⟨0, _⟩ => ⟨S4112x1024, .f32⟩
  | .hbm, ⟨1, _⟩ => ⟨S4112x4096, .f32⟩
  | .hbm, ⟨2, _⟩ => ⟨S_, .i32⟩
  | .hbm, ⟨3, _⟩ => ⟨S_, .f32⟩
  | .hbm, ⟨4, _⟩ => ⟨S4224x1024, .f32⟩
  | .hbm, ⟨5, _⟩ => ⟨S4224x1024, .bf16⟩
  | .hbm, ⟨6, _⟩ => ⟨S_, .i32⟩
  | .hbm, ⟨7, _⟩ => ⟨S_, .f32⟩
  | .hbm, ⟨8, _⟩ => ⟨S4224x4096, .f32⟩
  | .hbm, ⟨9, _⟩ => ⟨S4224x4096, .bf16⟩
  | .hbm, ⟨10, _⟩ => ⟨S8x1024x512, .bf16⟩
  | .local _ .vmem, ⟨0, _⟩ => ⟨S384x1024, .bf16⟩
  | .local _ .vmem, ⟨1, _⟩ => ⟨S384x1024, .bf16⟩
  | .local _ .vmem, ⟨2, _⟩ => ⟨S384x2048, .bf16⟩
  | .local _ .vmem, ⟨3, _⟩ => ⟨S384x2048, .bf16⟩
  | .local _ .vmem, ⟨4, _⟩ => ⟨S4x1024x512, .bf16⟩
  | .local _ .vmem, ⟨5, _⟩ => ⟨S4x1024x512, .bf16⟩
  | .local _ .vmem, ⟨6, _⟩ => ⟨S1024x2048, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 11], ![false, false, false]⟩

def k0_cond3 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S384x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference4Ideal.lean ====
abbrev S4112x1024 : Shape := ⟨2, ![4112, 1024]⟩
abbrev S4112x4096 : Shape := ⟨2, ![4112, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S4112x4096, .f32⟩
  | .hbm, ⟨2, _⟩ => ⟨S_, .f32⟩
  | .hbm, ⟨3, _⟩ => ⟨S1024x4096, .f32⟩
  | .hbm, ⟨4, _⟩ => ⟨S4112x4096, .f32⟩
  | .hbm, ⟨5, _⟩ => ⟨S4096x1024, .f32⟩
  | .hbm, ⟨6, _⟩ => ⟨S1024x4096, .f32⟩
  | .hbm, ⟨7, _⟩ => ⟨S1024x4096, .bf16⟩
  | .hbm, ⟨8, _⟩ => ⟨S1024x8x512, .bf16⟩
  | .hbm, ⟨9, _⟩ => ⟨S8x1024x512, .bf16⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4112x4096 : Shape := ⟨2, ![4112, 4096]⟩
abbrev S4096x1024 : Shape := ⟨2, ![4096, 1024]⟩
abbrev S4112x1024 : Shape := ⟨2, ![4112, 1024]⟩
abbrev S_ : Shape := ⟨0, ![]⟩
abbrev S4224x1024 : Shape := ⟨2, ![4224, 1024]⟩
abbrev S4224x4096 : Shape := ⟨2, ![4224, 4096]⟩
abbrev S1408x512 : Shape := ⟨2, ![1408, 512]⟩
abbrev S512x1024 : Shape := ⟨2, ![512, 1024]⟩
abbrev S1408x1024 : Shape := ⟨2, ![1408, 1024]⟩

abbrev nBuf : Space → Nat
  | .hbm => 12
  | .vmem => 9
  | .smem => 0
  | _ => 0

abbrev bufTy : (tb : Table) → Fin (tcTables nBuf tb) → BufTy
  | .hbm, ⟨0, _⟩ => ⟨S4112x4096, .f32⟩
  | .hbm, ⟨1, _⟩ => ⟨S4096x1024, .f32⟩
  | .hbm, ⟨2, _⟩ => ⟨S4112x1024, .f32⟩
  | .hbm, ⟨3, _⟩ => ⟨S_, .i32⟩
  | .hbm, ⟨4, _⟩ => ⟨S_, .f32⟩
  | .hbm, ⟨5, _⟩ => ⟨S4224x1024, .f32⟩
  | .hbm, ⟨6, _⟩ => ⟨S_, .i32⟩
  | .hbm, ⟨7, _⟩ => ⟨S_, .f32⟩
  | .hbm, ⟨8, _⟩ => ⟨S4224x4096, .f32⟩
  | .hbm, ⟨9, _⟩ => ⟨S4224x4096, .bf16⟩
  | .hbm, ⟨10, _⟩ => ⟨S4096x1024, .bf16⟩
  | .hbm, ⟨11, _⟩ => ⟨S4224x1024, .f32⟩
  | .local _ .vmem, ⟨0, _⟩ => ⟨S1408x512, .bf16⟩
  | .local _ .vmem, ⟨1, _⟩ => ⟨S1408x512, .bf16⟩
  | .local _ .vmem, ⟨2, _⟩ => ⟨S512x1024, .bf16⟩
  | .local _ .vmem, ⟨3, _⟩ => ⟨S512x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | .local _ .vmem, ⟨7, _⟩ => ⟨S1408x1024, .f32⟩
  | .local _ .vmem, ⟨8, _⟩ => ⟨S1408x1024, .f32⟩
  | _, _ => ⟨S4112x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 1, 8], ![false, false, false]⟩

def k0_cond3 (i : grid0.Coords) : BitVec 1 :=
  let arg2 : BitVec 32 := BitVec.ofNat 32 (i 2).val
  let c7_i32 : BitVec 32 := 7#32
  let v16 : BitVec 1 := Scalar.cmpi .eq arg2 c7_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S4112x4096 : Shape := ⟨2, ![4112, 4096]⟩
abbrev S4096x1024 : Shape := ⟨2, ![4096, 1024]⟩
abbrev S4112x1024 : Shape := ⟨2, ![4112, 1024]⟩
abbrev S_ : Shape := ⟨0, ![]⟩
abbrev S4224x1024 : Shape := ⟨2, ![4224, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4112x4096, .f32⟩
  | .hbm, ⟨1, _⟩ => ⟨S4096x1024, .f32⟩
  | .hbm, ⟨2, _⟩ => ⟨S4112x1024, .f32⟩
  | .hbm, ⟨3, _⟩ => ⟨S_, .f32⟩
  | .hbm, ⟨4, _⟩ => ⟨S4112x4096, .f32⟩
  | .hbm, ⟨5, _⟩ => ⟨S4112x4096, .f32⟩
  | .hbm, ⟨6, _⟩ => ⟨S4112x4096, .f32⟩
  | .hbm, ⟨7, _⟩ => ⟨S4112x1024, .f32⟩
  | .hbm, ⟨8, _⟩ => ⟨S4112x1024, .f32⟩
  | .hbm, ⟨9, _⟩ => ⟨S_, .i32⟩
  | .hbm, ⟨10, _⟩ => ⟨S_, .f32⟩
  | .hbm, ⟨11, _⟩ => ⟨S4224x1024, .f32⟩
  | _, _ => ⟨S4112x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call1_v0 : Ref sig .tc := ⟨.hbm, 10, rfl⟩
abbrev main_v4 : Ref sig .tc := ⟨.hbm, 11, rfl⟩

abbrev nD : Nat := 1
abbrev τ : Topo := Topo.v7x

variable {F : FTy → Type} [FloatOps F]
-- ==== Kernel6.lean ====
abbrev S4112x1024 : Shape := ⟨2, ![4112, 1024]⟩
abbrev S1024 : Shape := ⟨1, ![1024]⟩
abbrev S1024x4096 : Shape := ⟨2, ![1024, 4096]⟩
abbrev S4112x4096 : Shape := ⟨2, ![4112, 4096]⟩
abbrev S_ : Shape := ⟨0, ![]⟩
abbrev S4224x1024 : Shape := ⟨2, ![4224, 1024]⟩
abbrev S4224x4096 : Shape := ⟨2, ![4224, 4096]⟩
abbrev S1x1024 : Shape := ⟨2, ![1, 1024]⟩
abbrev S1024x8x512 : Shape := ⟨3, ![1024, 8, 512]⟩
abbrev S8x1024x512 : Shape := ⟨3, ![8, 1024, 512]⟩
abbrev S8x1024 : Shape := ⟨2, ![8, 1024]⟩
abbrev S1408x512 : Shape := ⟨2, ![1408, 512]⟩
abbrev S1x1024x512 : Shape := ⟨3, ![1, 1024, 512]⟩
abbrev S1408x1024 : Shape := ⟨2, ![1408, 1024]⟩
abbrev S1024x512 : Shape := ⟨2, ![1024, 512]⟩
abbrev S1408 : Shape := ⟨1, ![1408]⟩
abbrev S1408x1 : Shape := ⟨2, ![1408, 1]⟩
abbrev S176x8x1024 : Shape := ⟨3, ![176, 8, 1024]⟩

abbrev nBuf : Space → Nat
  | .hbm => 21
  | .vmem => 13
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S1024x4096, .f32⟩
  | .hbm, ⟨3, _⟩ => ⟨S4112x4096, .f32⟩
  | .hbm, ⟨4, _⟩ => ⟨S4112x1024, .f32⟩
  | .hbm, ⟨5, _⟩ => ⟨S_, .i32⟩
  | .hbm, ⟨6, _⟩ => ⟨S_, .f32⟩
  | .hbm, ⟨7, _⟩ => ⟨S4224x1024, .f32⟩
  | .hbm, ⟨8, _⟩ => ⟨S_, .i32⟩
  | .hbm, ⟨9, _⟩ => ⟨S_, .f32⟩
  | .hbm, ⟨10, _⟩ => ⟨S4224x1024, .f32⟩
  | .hbm, ⟨11, _⟩ => ⟨S_, .i32⟩
  | .hbm, ⟨12, _⟩ => ⟨S_, .f32⟩
  | .hbm, ⟨13, _⟩ => ⟨S4224x4096, .f32⟩
  | .hbm, ⟨14, _⟩ => ⟨S4224x4096, .bf16⟩
  | .hbm, ⟨15, _⟩ => ⟨S1x1024, .f32⟩
  | .hbm, ⟨16, _⟩ => ⟨S1024x8x512, .f32⟩
  | .hbm, ⟨17, _⟩ => ⟨S8x1024x512, .f32⟩
  | .hbm, ⟨18, _⟩ => ⟨S8x1024x512, .bf16⟩
  | .hbm, ⟨19, _⟩ => ⟨S4224x1024, .f32⟩
  | .hbm, ⟨20, _⟩ => ⟨S8x1024, .f32⟩
  | .local _ .vmem, ⟨0, _⟩ => ⟨S1408x512, .bf16⟩
  | .local _ .vmem, ⟨1, _⟩ => ⟨S1408x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1408x1024, .f32⟩
  | .local _ .vmem, ⟨5, _⟩ => ⟨S1408x1024, .f32⟩
  | .local _ .vmem, ⟨6, _⟩ => ⟨S1x1024, .f32⟩
  | .local _ .vmem, ⟨7, _⟩ => ⟨S1408x1024, .f32⟩
  | .local _ .vmem, ⟨8, _⟩ => ⟨S1408x1024, .f32⟩
  | .local _ .vmem, ⟨9, _⟩ => ⟨S1408x1024, .f32⟩
  | .local _ .vmem, ⟨10, _⟩ => ⟨S1408x1024, .f32⟩
  | .local _ .vmem, ⟨11, _⟩ => ⟨S8x1024, .f32⟩
  | .local _ .vmem, ⟨12, _⟩ => ⟨S1408x1024, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_c_1 : Ref sig .tc := ⟨.hbm, 11, rfl⟩
abbrev main_call2_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![3, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_7 : BitVec 32 := 0#32
  let v13 : BitVec 1 := Scalar.cmpi .ne v12 c0_i32_7
  v13

def k0_cond4 (i : grid0.Coords) : BitVec 1 :=
  let arg0 : BitVec 32 := BitVec.ofNat 32 (i 0).val
  let c0_i32_25 : BitVec 32 := 0#32
  let v58 : BitVec 1 := Scalar.cmpi .eq arg0 c0_i32_25
  let v59 : BitVec 32 := Scalar.extui v58
  let c0_i32_26 : BitVec 32 := 0#32
  let v60 : BitVec 1 := Scalar.cmpi .ne v59 c0_i32_26
  v60

def k0_cond5 (i : grid0.Coords) : BitVec 1 :=
  let arg0 : BitVec 32 := BitVec.ofNat 32 (i 0).val
  let c0_i32_25 : BitVec 32 := 0#32
  let v58 : BitVec 1 := Scalar.cmpi .eq arg0 c0_i32_25
  let v_true : BitVec 1 := 1#1
  let v61 : BitVec 1 := Scalar.xori v58 v_true
  let v62 : BitVec 32 := Scalar.extui v61
  let c0_i32_27 : BitVec 32 := 0#32
  let v63 : BitVec 1 := Scalar.cmpi .ne v62 c0_i32_27
  v63

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1408x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1408x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== Reference6Ideal.lean ====
abbrev S4112x1024 : Shape := ⟨2, ![4112, 1024]⟩
abbrev S1024 : Shape := ⟨1, ![1024]⟩
abbrev S1024x4096 : Shape := ⟨2, ![1024, 4096]⟩
abbrev S4112x4096 : Shape := ⟨2, ![4112, 4096]⟩
abbrev S_ : Shape := ⟨0, ![]⟩
abbrev S4112 : Shape := ⟨1, ![4112]⟩
abbrev S4112x1 : Shape := ⟨2, ![4112, 1]⟩
abbrev S1x1024 : Shape := ⟨2, ![1, 1024]⟩
abbrev S4224x1024 : Shape := ⟨2, ![4224, 1024]⟩

abbrev nBuf : Space → Nat
  | .hbm => 50
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S1024x4096, .f32⟩
  | .hbm, ⟨3, _⟩ => ⟨S4112x4096, .f32⟩
  | .hbm, ⟨4, _⟩ => ⟨S4112x1024, .f32⟩
  | .hbm, ⟨5, _⟩ => ⟨S4112x1024, .f32⟩
  | .hbm, ⟨6, _⟩ => ⟨S_, .f32⟩
  | .hbm, ⟨7, _⟩ => ⟨S4112, .f32⟩
  | .hbm, ⟨8, _⟩ => ⟨S4112x1, .f32⟩
  | .hbm, ⟨9, _⟩ => ⟨S_, .f32⟩
  | .hbm, ⟨10, _⟩ => ⟨S4112x1, .f32⟩
  | .hbm, ⟨11, _⟩ => ⟨S4112x1, .f32⟩
  | .hbm, ⟨12, _⟩ => ⟨S_, .f32⟩
  | .hbm, ⟨13, _⟩ => ⟨S4112x1, .f32⟩
  | .hbm, ⟨14, _⟩ => ⟨S4112x1, .f32⟩
  | .hbm, ⟨15, _⟩ => ⟨S4112x1, .f32⟩
  | .hbm, ⟨16, _⟩ => ⟨S4112x1, .f32⟩
  | .hbm, ⟨17, _⟩ => ⟨S_, .f32⟩
  | .hbm, ⟨18, _⟩ => ⟨S4112x1, .f32⟩
  | .hbm, ⟨19, _⟩ => ⟨S4112x1, .f32⟩
  | .hbm, ⟨20, _⟩ => ⟨S4112x1024, .f32⟩
  | .hbm, ⟨21, _⟩ => ⟨S4112x1024, .f32⟩
  | .hbm, ⟨22, _⟩ => ⟨S1x1024, .f32⟩
  | .hbm, ⟨23, _⟩ => ⟨S4112x1024, .f32⟩
  | .hbm, ⟨24, _⟩ => ⟨S4112x1024, .f32⟩
  | .hbm, ⟨25, _⟩ => ⟨S4112x4096, .f32⟩
  | .hbm, ⟨26, _⟩ => ⟨S4112x1024, .f32⟩
  | .hbm, ⟨27, _⟩ => ⟨S4112x1024, .f32⟩
  | .hbm, ⟨28, _⟩ => ⟨S4112x1024, .f32⟩
  | .hbm, ⟨29, _⟩ => ⟨S4112x1024, .f32⟩
  | .hbm, ⟨30, _⟩ => ⟨S_, .f32⟩
  | .hbm, ⟨31, _⟩ => ⟨S4112, .f32⟩
  | .hbm, ⟨32, _⟩ => ⟨S4112x1, .f32⟩
  | .hbm, ⟨33, _⟩ => ⟨S4112x1024, .f32⟩
  | .hbm, ⟨34, _⟩ => ⟨S4112x1024, .f32⟩
  | .hbm, ⟨35, _⟩ => ⟨S4112x1024, .f32⟩
  | .hbm, ⟨36, _⟩ => ⟨S4112x1, .f32⟩
  | .hbm, ⟨37, _⟩ => ⟨S_, .f32⟩
  | .hbm, ⟨38, _⟩ => ⟨S4112x1, .f32⟩
  | .hbm, ⟨39, _⟩ => ⟨S4112x1, .f32⟩
  | .hbm, ⟨40, _⟩ => ⟨S_, .f32⟩
  | .hbm, ⟨41, _⟩ => ⟨S4112, .f32⟩
  | .hbm, ⟨42, _⟩ => ⟨S4112x1024, .f32⟩
  | .hbm, ⟨43, _⟩ => ⟨S4112x1024, .f32⟩
  | .hbm, ⟨44, _⟩ => ⟨S4112x1024, .f32⟩
  | .hbm, ⟨45, _⟩ => ⟨S4112x1024, .f32⟩
  | .hbm, ⟨46, _⟩ => ⟨S4112x1024, .f32⟩
  | .hbm, ⟨47, _⟩ => ⟨S_, .i32⟩
  | .hbm, ⟨48, _⟩ => ⟨S_, .f32⟩
  | .hbm, ⟨49, _⟩ => ⟨S4224x1024, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c : Ref sig .tc := ⟨.hbm, 47, rfl⟩
abbrev main_call0_v0 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Kernel7.lean ====
abbrev S4112x1024 : Shape := ⟨2, ![4112, 1024]⟩
abbrev S4112x6176 : Shape := ⟨2, ![4112, 6176]⟩
abbrev S_ : Shape := ⟨0, ![]⟩
abbrev S4224x1024 : Shape := ⟨2, ![4224, 1024]⟩
abbrev S4224x6272 : Shape := ⟨2, ![4224, 6272]⟩
abbrev S1024x6272 : Shape := ⟨2, ![1024, 6272]⟩
abbrev S384x1024 : Shape := ⟨2, ![384, 1024]⟩
abbrev S384x896 : Shape := ⟨2, ![384, 896]⟩
abbrev S1024x896 : Shape := ⟨2, ![1024, 896]⟩

abbrev nBuf : Space → Nat
  | .hbm => 11
  | .vmem => 7
  | .smem => 0
  | _ => 0

abbrev bufTy : (tb : Table) → Fin (tcTables nBuf tb) → BufTy
  | .hbm, ⟨0, _⟩ => ⟨S4112x1024, .f32⟩
  | .hbm, ⟨1, _⟩ => ⟨S4112x6176, .f32⟩
  | .hbm, ⟨2, _⟩ => ⟨S_, .i32⟩
  | .hbm, ⟨3, _⟩ => ⟨S_, .f32⟩
  | .hbm, ⟨4, _⟩ => ⟨S4224x1024, .f32⟩
  | .hbm, ⟨5, _⟩ => ⟨S4224x1024, .bf16⟩
  | .hbm, ⟨6, _⟩ => ⟨S_, .i32⟩
  | .hbm, ⟨7, _⟩ => ⟨S_, .f32⟩
  | .hbm, ⟨8, _⟩ => ⟨S4224x6272, .f32⟩
  | .hbm, ⟨9, _⟩ => ⟨S4224x6272, .bf16⟩
  | .hbm, ⟨10, _⟩ => ⟨S1024x6272, .bf16⟩
  | .local _ .vmem, ⟨0, _⟩ => ⟨S384x1024, .bf16⟩
  | .local _ .vmem, ⟨1, _⟩ => ⟨S384x1024, .bf16⟩
  | .local _ .vmem, ⟨2, _⟩ => ⟨S384x896, .bf16⟩
  | .local _ .vmem, ⟨3, _⟩ => ⟨S384x896, .bf16⟩
  | .local _ .vmem, ⟨4, _⟩ => ⟨S1024x896, .bf16⟩
  | .local _ .vmem, ⟨5, _⟩ => ⟨S1024x896, .bf16⟩
  | .local _ .vmem, ⟨6, _⟩ => ⟨S1024x896, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 7, 11], ![false, false, false]⟩

def k0_cond3 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S384x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4112x1024 : Shape := ⟨2, ![4112, 1024]⟩
abbrev S4112x6176 : Shape := ⟨2, ![4112, 6176]⟩
abbrev S_ : Shape := ⟨0, ![]⟩
abbrev S1024x6176 : Shape := ⟨2, ![1024, 6176]⟩
abbrev S6176x1024 : Shape := ⟨2, ![6176, 1024]⟩
abbrev S1024x6272 : Shape := ⟨2, ![1024, 6272]⟩

abbrev nBuf : Space → Nat
  | .hbm => 11
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S4112x6176, .f32⟩
  | .hbm, ⟨2, _⟩ => ⟨S_, .f32⟩
  | .hbm, ⟨3, _⟩ => ⟨S1024x6176, .f32⟩
  | .hbm, ⟨4, _⟩ => ⟨S4112x6176, .f32⟩
  | .hbm, ⟨5, _⟩ => ⟨S6176x1024, .f32⟩
  | .hbm, ⟨6, _⟩ => ⟨S1024x6176, .f32⟩
  | .hbm, ⟨7, _⟩ => ⟨S_, .i32⟩
  | .hbm, ⟨8, _⟩ => ⟨S_, .f32⟩
  | .hbm, ⟨9, _⟩ => ⟨S1024x6272, .f32⟩
  | .hbm, ⟨10, _⟩ => ⟨S1024x6272, .bf16⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel8.lean ====
abbrev S4112x2048 : Shape := ⟨2, ![4112, 2048]⟩
abbrev S4112x1024 : Shape := ⟨2, ![4112, 1024]⟩
abbrev S_ : Shape := ⟨0, ![]⟩
abbrev S4224x1024 : Shape := ⟨2, ![4224, 1024]⟩
abbrev S4224x2048 : Shape := ⟨2, ![4224, 2048]⟩
abbrev S2048x1024 : Shape := ⟨2, ![2048, 1024]⟩
abbrev S384x2048 : Shape := ⟨2, ![384, 2048]⟩
abbrev S384x1024 : Shape := ⟨2, ![384, 1024]⟩

abbrev nBuf : Space → Nat
  | .hbm => 10
  | .vmem => 6
  | .smem => 0
  | _ => 0

abbrev bufTy : (tb : Table) → Fin (tcTables nBuf tb) → BufTy
  | .hbm, ⟨0, _⟩ => ⟨S4112x2048, .f32⟩
  | .hbm, ⟨1, _⟩ => ⟨S4112x1024, .f32⟩
  | .hbm, ⟨2, _⟩ => ⟨S_, .i32⟩
  | .hbm, ⟨3, _⟩ => ⟨S_, .f32⟩
  | .hbm, ⟨4, _⟩ => ⟨S4224x1024, .f32⟩
  | .hbm, ⟨5, _⟩ => ⟨S_, .i32⟩
  | .hbm, ⟨6, _⟩ => ⟨S_, .f32⟩
  | .hbm, ⟨7, _⟩ => ⟨S4224x2048, .f32⟩
  | .hbm, ⟨8, _⟩ => ⟨S4224x2048, .bf16⟩
  | .hbm, ⟨9, _⟩ => ⟨S2048x1024, .bf16⟩
  | .local _ .vmem, ⟨0, _⟩ => ⟨S384x2048, .bf16⟩
  | .local _ .vmem, ⟨1, _⟩ => ⟨S384x2048, .bf16⟩
  | .local _ .vmem, ⟨2, _⟩ => ⟨S384x1024, .f32⟩
  | .local _ .vmem, ⟨3, _⟩ => ⟨S384x1024, .f32⟩
  | .local _ .vmem, ⟨4, _⟩ => ⟨S2048x1024, .bf16⟩
  | .local _ .vmem, ⟨5, _⟩ => ⟨S2048x1024, .f32⟩
  | _, _ => ⟨S4112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 11], ![false, false, false]⟩

def k0_cond3 (i : grid0.Coords) : BitVec 1 :=
  let arg2 : BitVec 32 := BitVec.ofNat 32 (i 2).val
  let c10_i32 : BitVec 32 := 10#32
  let v12 : BitVec 1 := Scalar.cmpi .eq arg2 c10_i32
  let v13 : BitVec 32 := Scalar.extui v12
  let c0_i32_5 : BitVec 32 := 0#32
  let v14 : BitVec 1 := Scalar.cmpi .ne v13 c0_i32_5
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S384x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S4112x2048 : Shape := ⟨2, ![4112, 2048]⟩
abbrev S4112x1024 : Shape := ⟨2, ![4112, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4112x2048, .f32⟩
  | .hbm, ⟨1, _⟩ => ⟨S4112x1024, .f32⟩
  | .hbm, ⟨2, _⟩ => ⟨S_, .f32⟩
  | .hbm, ⟨3, _⟩ => ⟨S2048x1024, .f32⟩
  | .hbm, ⟨4, _⟩ => ⟨S4112x1024, .f32⟩
  | .hbm, ⟨5, _⟩ => ⟨S1024x2048, .f32⟩
  | .hbm, ⟨6, _⟩ => ⟨S2048x1024, .f32⟩
  | .hbm, ⟨7, _⟩ => ⟨S2048x1024, .bf16⟩
  | _, _ => ⟨S4112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S4112x1024 : Shape := ⟨2, ![4112, 1024]⟩
abbrev S1024 : Shape := ⟨1, ![1024]⟩
abbrev S1024x6176 : Shape := ⟨2, ![1024, 6176]⟩
abbrev S4112x6176 : Shape := ⟨2, ![4112, 6176]⟩
abbrev S_ : Shape := ⟨0, ![]⟩
abbrev S4224x1024 : Shape := ⟨2, ![4224, 1024]⟩
abbrev S4224x6272 : Shape := ⟨2, ![4224, 6272]⟩
abbrev S1x1024 : Shape := ⟨2, ![1, 1024]⟩
abbrev S1024x6272 : Shape := ⟨2, ![1024, 6272]⟩
abbrev S8x1024 : Shape := ⟨2, ![8, 1024]⟩
abbrev S704x896 : Shape := ⟨2, ![704, 896]⟩
abbrev S1024x896 : Shape := ⟨2, ![1024, 896]⟩
abbrev S704x1024 : Shape := ⟨2, ![704, 1024]⟩
abbrev S704 : Shape := ⟨1, ![704]⟩
abbrev S704x1 : Shape := ⟨2, ![704, 1]⟩
abbrev S88x8x1024 : Shape := ⟨3, ![88, 8, 1024]⟩

abbrev nBuf : Space → Nat
  | .hbm => 22
  | .vmem => 13
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S1024x6176, .f32⟩
  | .hbm, ⟨3, _⟩ => ⟨S4112x6176, .f32⟩
  | .hbm, ⟨4, _⟩ => ⟨S4112x1024, .f32⟩
  | .hbm, ⟨5, _⟩ => ⟨S_, .i32⟩
  | .hbm, ⟨6, _⟩ => ⟨S_, .f32⟩
  | .hbm, ⟨7, _⟩ => ⟨S4224x1024, .f32⟩
  | .hbm, ⟨8, _⟩ => ⟨S_, .i32⟩
  | .hbm, ⟨9, _⟩ => ⟨S_, .f32⟩
  | .hbm, ⟨10, _⟩ => ⟨S4224x1024, .f32⟩
  | .hbm, ⟨11, _⟩ => ⟨S_, .i32⟩
  | .hbm, ⟨12, _⟩ => ⟨S_, .f32⟩
  | .hbm, ⟨13, _⟩ => ⟨S4224x6272, .f32⟩
  | .hbm, ⟨14, _⟩ => ⟨S4224x6272, .bf16⟩
  | .hbm, ⟨15, _⟩ => ⟨S1x1024, .f32⟩
  | .hbm, ⟨16, _⟩ => ⟨S_, .i32⟩
  | .hbm, ⟨17, _⟩ => ⟨S_, .f32⟩
  | .hbm, ⟨18, _⟩ => ⟨S1024x6272, .f32⟩
  | .hbm, ⟨19, _⟩ => ⟨S1024x6272, .bf16⟩
  | .hbm, ⟨20, _⟩ => ⟨S4224x1024, .f32⟩
  | .hbm, ⟨21, _⟩ => ⟨S8x1024, .f32⟩
  | .local _ .vmem, ⟨0, _⟩ => ⟨S704x896, .bf16⟩
  | .local _ .vmem, ⟨1, _⟩ => ⟨S704x896, .bf16⟩
  | .local _ .vmem, ⟨2, _⟩ => ⟨S1024x896, .bf16⟩
  | .local _ .vmem, ⟨3, _⟩ => ⟨S1024x896, .bf16⟩
  | .local _ .vmem, ⟨4, _⟩ => ⟨S704x1024, .f32⟩
  | .local _ .vmem, ⟨5, _⟩ => ⟨S704x1024, .f32⟩
  | .local _ .vmem, ⟨6, _⟩ => ⟨S1x1024, .f32⟩
  | .local _ .vmem, ⟨7, _⟩ => ⟨S704x1024, .f32⟩
  | .local _ .vmem, ⟨8, _⟩ => ⟨S704x1024, .f32⟩
  | .local _ .vmem, ⟨9, _⟩ => ⟨S704x1024, .f32⟩
  | .local _ .vmem, ⟨10, _⟩ => ⟨S704x1024, .f32⟩
  | .local _ .vmem, ⟨11, _⟩ => ⟨S8x1024, .f32⟩
  | .local _ .vmem, ⟨12, _⟩ => ⟨S704x1024, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_c_1 : Ref sig .tc := ⟨.hbm, 11, rfl⟩
abbrev main_call2_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c_2 : Ref sig .tc := ⟨.hbm, 16, rfl⟩
abbrev main_call3_v0 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![6, 1, 7], ![false, false, false]⟩

def k0_cond3 (i : grid0.Coords) : BitVec 1 :=
  let arg2 : BitVec 32 := BitVec.ofNat 32 (i 2).val
  let c6_i32 : BitVec 32 := 6#32
  let v11 : BitVec 1 := Scalar.cmpi .eq arg2 c6_i32
  let v12 : BitVec 32 := Scalar.extui v11
  let c0_i32_6 : BitVec 32 := 0#32
  let v13 : BitVec 1 := Scalar.cmpi .ne v12 c0_i32_6
  v13

def k0_cond4 (i : grid0.Coords) : BitVec 1 :=
  let arg0 : BitVec 32 := BitVec.ofNat 32 (i 0).val
  let c0_i32_24 : BitVec 32 := 0#32
  let v58 : BitVec 1 := Scalar.cmpi .eq arg0 c0_i32_24
  let v59 : BitVec 32 := Scalar.extui v58
  let c0_i32_25 : BitVec 32 := 0#32
  let v60 : BitVec 1 := Scalar.cmpi .ne v59 c0_i32_25
  v60

def k0_cond5 (i : grid0.Coords) : BitVec 1 :=
  let arg0 : BitVec 32 := BitVec.ofNat 32 (i 0).val
  let c0_i32_24 : BitVec 32 := 0#32
  let v58 : BitVec 1 := Scalar.cmpi .eq arg0 c0_i32_24
  let v_true : BitVec 1 := 1#1
  let v61 : BitVec 1 := Scalar.xori v58 v_true
  let v62 : BitVec 32 := Scalar.extui v61
  let c0_i32_26 : BitVec 32 := 0#32
  let v63 : BitVec 1 := Scalar.cmpi .ne v62 c0_i32_26
  v63

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S704x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S704x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S704x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== Reference9Ideal.lean ====
abbrev S4112x1024 : Shape := ⟨2, ![4112, 1024]⟩
abbrev S1024 : Shape := ⟨1, ![1024]⟩
abbrev S1024x6176 : Shape := ⟨2, ![1024, 6176]⟩
abbrev S4112x6176 : Shape := ⟨2, ![4112, 6176]⟩
abbrev S_ : Shape := ⟨0, ![]⟩
abbrev S4112 : Shape := ⟨1, ![4112]⟩
abbrev S4112x1 : Shape := ⟨2, ![4112, 1]⟩
abbrev S1x1024 : Shape := ⟨2, ![1, 1024]⟩
abbrev S4224x1024 : Shape := ⟨2, ![4224, 1024]⟩

abbrev nBuf : Space → Nat
  | .hbm => 50
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S1024x6176, .f32⟩
  | .hbm, ⟨3, _⟩ => ⟨S4112x6176, .f32⟩
  | .hbm, ⟨4, _⟩ => ⟨S4112x1024, .f32⟩
  | .hbm, ⟨5, _⟩ => ⟨S4112x1024, .f32⟩
  | .hbm, ⟨6, _⟩ => ⟨S_, .f32⟩
  | .hbm, ⟨7, _⟩ => ⟨S4112, .f32⟩
  | .hbm, ⟨8, _⟩ => ⟨S4112x1, .f32⟩
  | .hbm, ⟨9, _⟩ => ⟨S_, .f32⟩
  | .hbm, ⟨10, _⟩ => ⟨S4112x1, .f32⟩
  | .hbm, ⟨11, _⟩ => ⟨S4112x1, .f32⟩
  | .hbm, ⟨12, _⟩ => ⟨S_, .f32⟩
  | .hbm, ⟨13, _⟩ => ⟨S4112x1, .f32⟩
  | .hbm, ⟨14, _⟩ => ⟨S4112x1, .f32⟩
  | .hbm, ⟨15, _⟩ => ⟨S4112x1, .f32⟩
  | .hbm, ⟨16, _⟩ => ⟨S4112x1, .f32⟩
  | .hbm, ⟨17, _⟩ => ⟨S_, .f32⟩
  | .hbm, ⟨18, _⟩ => ⟨S4112x1, .f32⟩
  | .hbm, ⟨19, _⟩ => ⟨S4112x1, .f32⟩
  | .hbm, ⟨20, _⟩ => ⟨S4112x1024, .f32⟩
  | .hbm, ⟨21, _⟩ => ⟨S4112x1024, .f32⟩
  | .hbm, ⟨22, _⟩ => ⟨S1x1024, .f32⟩
  | .hbm, ⟨23, _⟩ => ⟨S4112x1024, .f32⟩
  | .hbm, ⟨24, _⟩ => ⟨S4112x1024, .f32⟩
  | .hbm, ⟨25, _⟩ => ⟨S4112x6176, .f32⟩
  | .hbm, ⟨26, _⟩ => ⟨S4112x1024, .f32⟩
  | .hbm, ⟨27, _⟩ => ⟨S4112x1024, .f32⟩
  | .hbm, ⟨28, _⟩ => ⟨S4112x1024, .f32⟩
  | .hbm, ⟨29, _⟩ => ⟨S4112x1024, .f32⟩
  | .hbm, ⟨30, _⟩ => ⟨S_, .f32⟩
  | .hbm, ⟨31, _⟩ => ⟨S4112, .f32⟩
  | .hbm, ⟨32, _⟩ => ⟨S4112x1, .f32⟩
  | .hbm, ⟨33, _⟩ => ⟨S4112x1024, .f32⟩
  | .hbm, ⟨34, _⟩ => ⟨S4112x1024, .f32⟩
  | .hbm, ⟨35, _⟩ => ⟨S4112x1024, .f32⟩
  | .hbm, ⟨36, _⟩ => ⟨S4112x1, .f32⟩
  | .hbm, ⟨37, _⟩ => ⟨S_, .f32⟩
  | .hbm, ⟨38, _⟩ => ⟨S4112x1, .f32⟩
  | .hbm, ⟨39, _⟩ => ⟨S4112x1, .f32⟩
  | .hbm, ⟨40, _⟩ => ⟨S_, .f32⟩
  | .hbm, ⟨41, _⟩ => ⟨S4112, .f32⟩
  | .hbm, ⟨42, _⟩ => ⟨S4112x1024, .f32⟩
  | .hbm, ⟨43, _⟩ => ⟨S4112x1024, .f32⟩
  | .hbm, ⟨44, _⟩ => ⟨S4112x1024, .f32⟩
  | .hbm, ⟨45, _⟩ => ⟨S4112x1024, .f32⟩
  | .hbm, ⟨46, _⟩ => ⟨S4112x1024, .f32⟩
  | .hbm, ⟨47, _⟩ => ⟨S_, .i32⟩
  | .hbm, ⟨48, _⟩ => ⟨S_, .f32⟩
  | .hbm, ⟨49, _⟩ => ⟨S4224x1024, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c : Ref sig .tc := ⟨.hbm, 47, rfl⟩
abbrev main_call0_v0 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Kernel10.lean ====
abbrev S4112x1024 : Shape := ⟨2, ![4112, 1024]⟩
abbrev S1024 : Shape := ⟨1, ![1024]⟩
abbrev S1024x4096 : Shape := ⟨2, ![1024, 4096]⟩
abbrev S_ : Shape := ⟨0, ![]⟩
abbrev S4224x1024 : Shape := ⟨2, ![4224, 1024]⟩
abbrev S1x1024 : Shape := ⟨2, ![1, 1024]⟩
abbrev S1024x8x512 : Shape := ⟨3, ![1024, 8, 512]⟩
abbrev S8x1024x512 : Shape := ⟨3, ![8, 1024, 512]⟩
abbrev S4224x4096 : Shape := ⟨2, ![4224, 4096]⟩
abbrev S1408x1024 : Shape := ⟨2, ![1408, 1024]⟩
abbrev S1x1024x512 : Shape := ⟨3, ![1, 1024, 512]⟩
abbrev S1408x512 : Shape := ⟨2, ![1408, 512]⟩
abbrev S1408 : Shape := ⟨1, ![1408]⟩
abbrev S1408x1 : Shape := ⟨2, ![1408, 1]⟩
abbrev S1024x512 : Shape := ⟨2, ![1024, 512]⟩

abbrev nBuf : Space → Nat
  | .hbm => 12
  | .vmem => 10
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S1024x4096, .f32⟩
  | .hbm, ⟨3, _⟩ => ⟨S_, .i32⟩
  | .hbm, ⟨4, _⟩ => ⟨S_, .f32⟩
  | .hbm, ⟨5, _⟩ => ⟨S4224x1024, .f32⟩
  | .hbm, ⟨6, _⟩ => ⟨S1x1024, .f32⟩
  | .hbm, ⟨7, _⟩ => ⟨S1024x8x512, .f32⟩
  | .hbm, ⟨8, _⟩ => ⟨S8x1024x512, .f32⟩
  | .hbm, ⟨9, _⟩ => ⟨S8x1024x512, .bf16⟩
  | .hbm, ⟨10, _⟩ => ⟨S4224x4096, .bf16⟩
  | .hbm, ⟨11, _⟩ => ⟨S4224x1024, .bf16⟩
  | .local _ .vmem, ⟨0, _⟩ => ⟨S1408x1024, .f32⟩
  | .local _ .vmem, ⟨1, _⟩ => ⟨S1408x1024, .f32⟩
  | .local _ .vmem, ⟨2, _⟩ => ⟨S1x1024, .f32⟩
  | .local _ .vmem, ⟨3, _⟩ => ⟨S1x1024x512, .bf16⟩
  | .local _ .vmem, ⟨4, _⟩ => ⟨S1x1024x512, .bf16⟩
  | .local _ .vmem, ⟨5, _⟩ => ⟨S1408x512, .bf16⟩
  | .local _ .vmem, ⟨6, _⟩ => ⟨S1408x512, .bf16⟩
  | .local _ .vmem, ⟨7, _⟩ => ⟨S1408x1024, .bf16⟩
  | .local _ .vmem, ⟨8, _⟩ => ⟨S1408x1024, .bf16⟩
  | .local _ .vmem, ⟨9, _⟩ => ⟨S1408x1024, .bf16⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![3, 8, 1], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1408x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== Reference10Ideal.lean ====
abbrev S4112x1024 : Shape := ⟨2, ![4112, 1024]⟩
abbrev S1024 : Shape := ⟨1, ![1024]⟩
abbrev S1024x4096 : Shape := ⟨2, ![1024, 4096]⟩
abbrev S_ : Shape := ⟨0, ![]⟩
abbrev S4112 : Shape := ⟨1, ![4112]⟩
abbrev S4112x1 : Shape := ⟨2, ![4112, 1]⟩
abbrev S1x1024 : Shape := ⟨2, ![1, 1024]⟩
abbrev S4112x4096 : Shape := ⟨2, ![4112, 4096]⟩
abbrev S4224x4096 : Shape := ⟨2, ![4224, 4096]⟩
abbrev S4224x1024 : Shape := ⟨2, ![4224, 1024]⟩

abbrev nBuf : Space → Nat
  | .hbm => 28
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S1024x4096, .f32⟩
  | .hbm, ⟨3, _⟩ => ⟨S4112x1024, .f32⟩
  | .hbm, ⟨4, _⟩ => ⟨S_, .f32⟩
  | .hbm, ⟨5, _⟩ => ⟨S4112, .f32⟩
  | .hbm, ⟨6, _⟩ => ⟨S4112x1, .f32⟩
  | .hbm, ⟨7, _⟩ => ⟨S_, .f32⟩
  | .hbm, ⟨8, _⟩ => ⟨S4112x1, .f32⟩
  | .hbm, ⟨9, _⟩ => ⟨S4112x1, .f32⟩
  | .hbm, ⟨10, _⟩ => ⟨S_, .f32⟩
  | .hbm, ⟨11, _⟩ => ⟨S4112x1, .f32⟩
  | .hbm, ⟨12, _⟩ => ⟨S4112x1, .f32⟩
  | .hbm, ⟨13, _⟩ => ⟨S4112x1, .f32⟩
  | .hbm, ⟨14, _⟩ => ⟨S4112x1024, .f32⟩
  | .hbm, ⟨15, _⟩ => ⟨S4112x1024, .f32⟩
  | .hbm, ⟨16, _⟩ => ⟨S1x1024, .f32⟩
  | .hbm, ⟨17, _⟩ => ⟨S4112x1024, .f32⟩
  | .hbm, ⟨18, _⟩ => ⟨S4112x1024, .f32⟩
  | .hbm, ⟨19, _⟩ => ⟨S4112x4096, .f32⟩
  | .hbm, ⟨20, _⟩ => ⟨S4112x4096, .bf16⟩
  | .hbm, ⟨21, _⟩ => ⟨S_, .i32⟩
  | .hbm, ⟨22, _⟩ => ⟨S_, .bf16⟩
  | .hbm, ⟨23, _⟩ => ⟨S4224x4096, .bf16⟩
  | .hbm, ⟨24, _⟩ => ⟨S4112x1024, .bf16⟩
  | .hbm, ⟨25, _⟩ => ⟨S_, .i32⟩
  | .hbm, ⟨26, _⟩ => ⟨S_, .bf16⟩
  | .hbm, ⟨27, _⟩ => ⟨S4224x1024, .bf16⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_call1_v0 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Kernel11.lean ====
abbrev S4112x1024 : Shape := ⟨2, ![4112, 1024]⟩
abbrev S1024 : Shape := ⟨1, ![1024]⟩
abbrev S1024x6176 : Shape := ⟨2, ![1024, 6176]⟩
abbrev S_ : Shape := ⟨0, ![]⟩
abbrev S4224x1024 : Shape := ⟨2, ![4224, 1024]⟩
abbrev S1x1024 : Shape := ⟨2, ![1, 1024]⟩
abbrev S1024x6272 : Shape := ⟨2, ![1024, 6272]⟩
abbrev S4224x6272 : Shape := ⟨2, ![4224, 6272]⟩
abbrev S1408x1024 : Shape := ⟨2, ![1408, 1024]⟩
abbrev S1024x896 : Shape := ⟨2, ![1024, 896]⟩
abbrev S1408x896 : Shape := ⟨2, ![1408, 896]⟩
abbrev S1408 : Shape := ⟨1, ![1408]⟩
abbrev S1408x1 : Shape := ⟨2, ![1408, 1]⟩

abbrev nBuf : Space → Nat
  | .hbm => 13
  | .vmem => 10
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S1024x6176, .f32⟩
  | .hbm, ⟨3, _⟩ => ⟨S_, .i32⟩
  | .hbm, ⟨4, _⟩ => ⟨S_, .f32⟩
  | .hbm, ⟨5, _⟩ => ⟨S4224x1024, .f32⟩
  | .hbm, ⟨6, _⟩ => ⟨S1x1024, .f32⟩
  | .hbm, ⟨7, _⟩ => ⟨S_, .i32⟩
  | .hbm, ⟨8, _⟩ => ⟨S_, .f32⟩
  | .hbm, ⟨9, _⟩ => ⟨S1024x6272, .f32⟩
  | .hbm, ⟨10, _⟩ => ⟨S1024x6272, .bf16⟩
  | .hbm, ⟨11, _⟩ => ⟨S4224x6272, .f32⟩
  | .hbm, ⟨12, _⟩ => ⟨S4224x1024, .bf16⟩
  | .local _ .vmem, ⟨0, _⟩ => ⟨S1408x1024, .f32⟩
  | .local _ .vmem, ⟨1, _⟩ => ⟨S1408x1024, .f32⟩
  | .local _ .vmem, ⟨2, _⟩ => ⟨S1x1024, .f32⟩
  | .local _ .vmem, ⟨3, _⟩ => ⟨S1024x896, .bf16⟩
  | .local _ .vmem, ⟨4, _⟩ => ⟨S1024x896, .bf16⟩
  | .local _ .vmem, ⟨5, _⟩ => ⟨S1408x896, .f32⟩
  | .local _ .vmem, ⟨6, _⟩ => ⟨S1408x896, .f32⟩
  | .local _ .vmem, ⟨7, _⟩ => ⟨S1408x1024, .bf16⟩
  | .local _ .vmem, ⟨8, _⟩ => ⟨S1408x1024, .bf16⟩
  | .local _ .vmem, ⟨9, _⟩ => ⟨S1408x1024, .bf16⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![3, 7, 1], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1408x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== Reference11Ideal.lean ====
abbrev S4112x1024 : Shape := ⟨2, ![4112, 1024]⟩
abbrev S1024 : Shape := ⟨1, ![1024]⟩
abbrev S1024x6176 : Shape := ⟨2, ![1024, 6176]⟩
abbrev S_ : Shape := ⟨0, ![]⟩
abbrev S4112 : Shape := ⟨1, ![4112]⟩
abbrev S4112x1 : Shape := ⟨2, ![4112, 1]⟩
abbrev S1x1024 : Shape := ⟨2, ![1, 1024]⟩
abbrev S4112x6176 : Shape := ⟨2, ![4112, 6176]⟩
abbrev S4224x6272 : Shape := ⟨2, ![4224, 6272]⟩
abbrev S4224x1024 : Shape := ⟨2, ![4224, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S1024x6176, .f32⟩
  | .hbm, ⟨3, _⟩ => ⟨S4112x1024, .f32⟩
  | .hbm, ⟨4, _⟩ => ⟨S_, .f32⟩
  | .hbm, ⟨5, _⟩ => ⟨S4112, .f32⟩
  | .hbm, ⟨6, _⟩ => ⟨S4112x1, .f32⟩
  | .hbm, ⟨7, _⟩ => ⟨S_, .f32⟩
  | .hbm, ⟨8, _⟩ => ⟨S4112x1, .f32⟩
  | .hbm, ⟨9, _⟩ => ⟨S4112x1, .f32⟩
  | .hbm, ⟨10, _⟩ => ⟨S_, .f32⟩
  | .hbm, ⟨11, _⟩ => ⟨S4112x1, .f32⟩
  | .hbm, ⟨12, _⟩ => ⟨S4112x1, .f32⟩
  | .hbm, ⟨13, _⟩ => ⟨S4112x1, .f32⟩
  | .hbm, ⟨14, _⟩ => ⟨S4112x1024, .f32⟩
  | .hbm, ⟨15, _⟩ => ⟨S4112x1024, .f32⟩
  | .hbm, ⟨16, _⟩ => ⟨S1x1024, .f32⟩
  | .hbm, ⟨17, _⟩ => ⟨S4112x1024, .f32⟩
  | .hbm, ⟨18, _⟩ => ⟨S4112x1024, .f32⟩
  | .hbm, ⟨19, _⟩ => ⟨S4112x6176, .f32⟩
  | .hbm, ⟨20, _⟩ => ⟨S_, .i32⟩
  | .hbm, ⟨21, _⟩ => ⟨S_, .f32⟩
  | .hbm, ⟨22, _⟩ => ⟨S4224x6272, .f32⟩
  | .hbm, ⟨23, _⟩ => ⟨S4112x1024, .bf16⟩
  | .hbm, ⟨24, _⟩ => ⟨S_, .i32⟩
  | .hbm, ⟨25, _⟩ => ⟨S_, .bf16⟩
  | .hbm, ⟨26, _⟩ => ⟨S4224x1024, .bf16⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_call1_v0 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Proof.Basic.lean ====
/- What every part of the proof uses: sums of real numbers read as extended reals, a window of a two-axis array and a
   write into one read at an index, and the constant the scores are multiplied by. -/
module

public import Idealize.ShloMosaic.Lib.Pointwise
public import Idealize.ShloMosaic.Lib.VecWindow
public import Idealize.ShloMosaic.PureOps.Ideal.Laws

@[expose] public section

noncomputable section

namespace Cert.Attn

open Idealize.ShloMosaic
open scoped BigOperators

/-- A finite sum of real numbers, read as an extended real, is the sum of the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The factor the scores are multiplied by, as the real number of its float word. -/
def sc : ℝ := 13698540 * (2 ^ 27)⁻¹

theorem ofBits_sc : Ideal.ofBits .f32 0x3DD105EC#32 = ((sc : ℝ) : EReal) := by
  simp [Ideal.ofBits, Ideal.ieee, sc]

theorem select_ofBool {α : Type} (p : Prop) [Decidable p] (a b : α) :
    Scalar.select (BitVec.ofBool (decide p)) a b = if p then a else b := by
  by_cases h : p <;> simp [Scalar.select, h]

theorem coe_ite (p : Prop) [Decidable p] (a b : ℝ) : ((if p then a else b : ℝ) : EReal) = if p then (a : EReal) else (b : EReal) := by
  split_ifs <;> rfl

/-- A read of part of a two-axis array at an index. -/
theorem window2_apply {α : Type} {n0 n1 s0 s1 o0 o1 : ℕ} (x : (⟨2, ![n0, n1]⟩ : Shape).Idx → α)
    (inb : ∀ a : Fin 2, (![o0, o1] : Fin 2 → ℕ) a + (![s0, s1] : Fin 2 → ℕ) a ≤ (⟨2, ![n0, n1]⟩ : Shape).size a)
    (i : Fin s0) (j : Fin s1) (hi : o0 + i.val < n0) (hj : o1 + j.val < n1) :
    VecWindow.window x ![o0, o1] ![s0, s1] inb (ix2 i j : (⟨2, ![s0, s1]⟩ : Shape).Idx) = x (ix2 ⟨o0 + i.val, hi⟩ ⟨o1 + j.val, hj⟩) := by
  unfold VecWindow.window
  congr 1
  funext a
  match a with
  | ⟨0, _⟩ => apply Fin.ext; simp [Rect.emb, Rect.unit]
  | ⟨1, _⟩ => apply Fin.ext; simp [Rect.emb, Rect.unit]

/-- A write into part of a two-axis array, read inside the part. -/
theorem put2_in {α : Type} {n0 n1 s0 s1 o0 o1 : ℕ} (x : (⟨2, ![n0, n1]⟩ : Shape).Idx → α)
    (w : (⟨2, ![s0, s1]⟩ : Shape).Idx → α) (i : Fin n0) (j : Fin n1) (hi : o0 ≤ i.val ∧ i.val < o0 + s0)
    (hj : o1 ≤ j.val ∧ j.val < o1 + s1) :
    VecWindow.put x ![o0, o1] ![s0, s1] w (ix2 i j) = w (ix2 ⟨i.val - o0, by omega⟩ ⟨j.val - o1, by omega⟩) := by
  unfold VecWindow.put
  rw [dif_pos]
  · congr 1
    funext a
    match a with
    | ⟨0, _⟩ => rfl
    | ⟨1, _⟩ => rfl
  · intro a
    match a with
    | ⟨0, _⟩ => exact hi
    | ⟨1, _⟩ => exact hj

/-- A write into part of a two-axis array, read outside the part. -/
theorem put2_out {α : Type} {n0 n1 s0 s1 o0 o1 : ℕ} (x : (⟨2, ![n0, n1]⟩ : Shape).Idx → α)
    (w : (⟨2, ![s0, s1]⟩ : Shape).Idx → α) (i : Fin n0) (j : Fin n1)
    (h : ¬ ((o0 ≤ i.val ∧ i.val < o0 + s0) ∧ (o1 ≤ j.val ∧ j.val < o1 + s1))) :
    VecWindow.put x ![o0, o1] ![s0, s1] w (ix2 i j) = x (ix2 i j) := by
  unfold VecWindow.put
  rw [dif_neg]
  intro hh
  exact h ⟨hh 0, hh 1⟩

end Cert.Attn

end
-- ==== Proof.Reals.lean ====
/- The mathematics of the gradient of causal attention over the real numbers: scores, weights, the gradients, and the
   facts about them that both programs meet. -/
module

public import proofs.«01_k».proof.Proof.Basic

@[expose] public section

noncomputable section

namespace Cert.Attn

open Idealize.ShloMosaic
open scoped BigOperators

/-- An array over rows, heads and columns. -/
abbrev Arr (n : ℕ) := Fin 4112 → Fin 16 → Fin n → ℝ

/-- The scaled score of key `j` for query `i`. -/
def score (q k : Arr 96) (h : Fin 16) (i j : Fin 4112) : ℝ := (∑ d, q i h d * k j h d) * sc

/-- The sum of the exponentials of the scores that query `i` sees. -/
def rowSum (q k : Arr 96) (h : Fin 16) (i : Fin 4112) : ℝ := ∑ j, if j.val ≤ i.val then Real.exp (score q k h i j) else 0

/-- The weight of key `j` for query `i`. -/
def weight (q k : Arr 96) (h : Fin 16) (i j : Fin 4112) : ℝ :=
  if j.val ≤ i.val then Real.exp (score q k h i j) / rowSum q k h i else 0

/-- The derivative by the weight of key `j` for query `i`. -/
def dWeight (v ct : Arr 64) (h : Fin 16) (i j : Fin 4112) : ℝ := ∑ y, ct i h y * v j h y

/-- The mean of those derivatives under the weights of a row. -/
def delta (q k : Arr 96) (v ct : Arr 64) (h : Fin 16) (i : Fin 4112) : ℝ := ∑ j, weight q k h i j * dWeight v ct h i j

/-- The derivative by the score before scaling. -/
def dScore (q k : Arr 96) (v ct : Arr 64) (h : Fin 16) (i j : Fin 4112) : ℝ :=
  weight q k h i j * (dWeight v ct h i j - delta q k v ct h i) * sc

/-- The gradient of the values. -/
def dV (q k : Arr 96) (ct : Arr 64) (j : Fin 4112) (h : Fin 16) (y : Fin 64) : ℝ := ∑ i, weight q k h i j * ct i h y

/-- The gradient of the keys. -/
def dK (q k : Arr 96) (v ct : Arr 64) (j : Fin 4112) (h : Fin 16) (x : Fin 96) : ℝ := ∑ i, dScore q k v ct h i j * q i h x

/-- The gradient of the queries. -/
def dQ (q k : Arr 96) (v ct : Arr 64) (i : Fin 4112) (h : Fin 16) (x : Fin 96) : ℝ := ∑ j, dScore q k v ct h i j * k j h x

theorem rowSum_pos (q k : Arr 96) (h : Fin 16) (i : Fin 4112) : 0 < rowSum q k h i := by
  unfold rowSum
  refine Finset.sum_pos' (fun j _ => ?_) ⟨i, Finset.mem_univ _, ?_⟩
  · split_ifs
    · exact (Real.exp_pos _).le
    · exact le_refl _
  · rw [if_pos (le_refl _)]
    exact Real.exp_pos _

/-- The exponential of a seen score less a number `M`, and zero for the others. -/
def shifted (q k : Arr 96) (M : ℝ) (h : Fin 16) (i j : Fin 4112) : ℝ := if j.val ≤ i.val then Real.exp (score q k h i j - M) else 0

/-- The sum of those over a row. -/
def shiftedSum (q k : Arr 96) (M : ℝ) (h : Fin 16) (i : Fin 4112) : ℝ := ∑ j, shifted q k M h i j

theorem shifted_eq (q k : Arr 96) (M : ℝ) (h : Fin 16) (i j : Fin 4112) :
    shifted q k M h i j = (if j.val ≤ i.val then Real.exp (score q k h i j) else 0) * Real.exp (-M) := by
  unfold shifted
  split_ifs
  · rw [← Real.exp_add, sub_eq_add_neg]
  · simp

theorem shiftedSum_eq (q k : Arr 96) (M : ℝ) (h : Fin 16) (i : Fin 4112) :
    shiftedSum q k M h i = rowSum q k h i * Real.exp (-M) := by
  simp only [shiftedSum, shifted_eq, rowSum, Finset.sum_mul]

theorem shiftedSum_pos (q k : Arr 96) (M : ℝ) (h : Fin 16) (i : Fin 4112) : 0 < shiftedSum q k M h i := by
  rw [shiftedSum_eq]
  exact mul_pos (rowSum_pos q k h i) (Real.exp_pos _)

/-- The shift cancels in the quotient. -/
theorem shifted_div (q k : Arr 96) (M : ℝ) (h : Fin 16) (i j : Fin 4112) :
    shifted q k M h i j / shiftedSum q k M h i = weight q k h i j := by
  rw [shifted_eq, shiftedSum_eq, mul_div_mul_right _ _ (Real.exp_pos _).ne', weight]
  split_ifs <;> simp

/-- The shift and the logarithm of the sum of the shifted exponentials are the logarithm of the sum. -/
theorem log_shiftedSum (q k : Arr 96) (M : ℝ) (h : Fin 16) (i : Fin 4112) :
    M + Real.log (shiftedSum q k M h i) = Real.log (rowSum q k h i) := by
  rw [shiftedSum_eq, Real.log_mul (rowSum_pos q k h i).ne' (Real.exp_pos _).ne', Real.log_exp]
  ring

/-- The exponential of a score less the logarithm of its row's sum is the weight. -/
theorem exp_sub_log (q k : Arr 96) (h : Fin 16) (i j : Fin 4112) (hij : j.val ≤ i.val) :
    Real.exp (score q k h i j - Real.log (rowSum q k h i)) = weight q k h i j := by
  rw [Real.exp_sub, Real.exp_log (rowSum_pos q k h i), weight, if_pos hij]

/-- The sum of output times cotangent is the mean of the derivatives by the weights. -/
theorem delta_eq (q k : Arr 96) (v ct : Arr 64) (h : Fin 16) (i : Fin 4112) :
    ∑ y, ct i h y * ∑ j, weight q k h i j * v j h y = delta q k v ct h i := by
  simp only [delta, dWeight, Finset.mul_sum]
  rw [Finset.sum_comm]
  exact Finset.sum_congr rfl fun j _ => Finset.sum_congr rfl fun y _ => by ring

/-- The largest of finitely many extended reals, of which none is the upper end and one not the lower, is a real number. -/
theorem fold_max_real {n : ℕ} (f : Fin n → EReal) (htop : ∀ j, f j ≠ ⊤) (j0 : Fin n) (h0 : f j0 ≠ ⊥) :
    ∃ M : ℝ, Finset.univ.fold max ⊥ f = (M : EReal) := by
  have hb : Finset.univ.fold max ⊥ f ≠ ⊥ := by
    intro h
    have := (Finset.le_fold_max (s := Finset.univ) (f := f) (b := ⊥) (f j0)).2 (Or.inr ⟨j0, Finset.mem_univ _, le_refl _⟩)
    rw [h] at this
    exact h0 (le_bot_iff.1 this)
  have ht : Finset.univ.fold max ⊥ f < ⊤ := by
    rw [Finset.fold_max_lt]
    exact ⟨bot_lt_top, fun j _ => lt_top_iff_ne_top.2 (htop j)⟩
  exact ⟨_, (EReal.coe_toReal ht.ne hb).symm⟩

end Cert.Attn

end
-- ==== Proof.RefStages.lean ====
/- The reference's composed results as stages: scores, mask, shifted exponentials, row sums, weights, and the gradients. -/
module

public import proofs.«01_k».proof.Proof.Gen.ReferenceIdeal.Run

public import proofs.«01_k».proof.Proof.Reals

@[expose] public section

noncomputable section

namespace Cert.ReferenceIdeal.Stage

open Cert.ReferenceIdeal Cert.ReferenceIdeal.Gen Cert.ReferenceIdeal.Value Idealize.ShloMosaic Idealize.ShloMosaic.TcCoe

abbrev A96 := FVec Ideal S4112x16x96 .f32
abbrev A64 := FVec Ideal S4112x16x64 .f32
abbrev Sq := FVec Ideal S16x4112x4112 .f32
abbrev Row := FVec Ideal S16x4112 .f32

/-- The scaled scores. -/
def scores (q k : A96) : Sq :=
  mulf (Host.dotGeneral dot_S4112x16x96_S4112x16x96_S16x4112x4112_2_2_0_0_1_1 none q k)
    (broadcastInDim S16x4112x4112 ![] bcast_S_S16x4112x4112 (constant S_ .f32 0x3DD105EC#32))

/-- Which key a query sees, per head. -/
def mask : IVec S16x4112x4112 1 :=
  broadcastInDim S16x4112x4112 ![1, 2] bcast_S4112x4112_S16x4112x4112_1_2 (cmpi .sle (broadcastInDim S4112x4112 ![0, 1] bcast_S1x4112_S4112x4112_0_1 (broadcastInDim S1x4112 ![1] bcast_S4112_S1x4112_1 (iotaInDim S4112 32 0))) (broadcastInDim S4112x4112 ![0, 1] bcast_S4112x1_S4112x4112_0_1 (broadcastInDim S4112x1 ![0] bcast_S4112_S4112x1_0 (iotaInDim S4112 32 0))))

/-- The scores, the unseen ones at the lower end. -/
def masked (q k : A96) : Sq :=
  select mask (scores q k) (broadcastInDim S16x4112x4112 ![] bcast_S_S16x4112x4112 (id (constant S_ .f32 0xFF800000#32)))

/-- A number per row, at least the lower end. -/
def atLeast (m : Row) : Row := maximumf (broadcastInDim S16x4112 ![] bcast_S_S16x4112 (constant S_ .f32 0xFF800000#32)) m

/-- The largest score of a row. -/
def largest (x : Sq) : Row :=
  atLeast (Host.reduce FloatOps.maximumf x (constant S_ .f32 0xFF800000#32) reducesTo_S16x4112x4112_S16x4112_d2 h_S_)

/-- The exponentials of scores less a number per row. -/
def exps (x : Sq) (m : Row) : Sq :=
  Host.exp (subf x (broadcastInDim S16x4112x4112 ![0, 1, 2] bcast_S16x4112x1_S16x4112x4112_0_1_2 (broadcastInDim S16x4112x1 ![0, 1] bcast_S16x4112_S16x4112x1_0_1 m)))

/-- The sum of a row. -/
def sums (x : Sq) : Row :=
  Host.reduceAdd x (constant S_ .f32 0x00000000#32) reducesTo_S16x4112x4112_S16x4112_d2 h_S_

/-- A number per row as a column. -/
def column (l : Row) : FVec Ideal S16x4112x1 .f32 := broadcastInDim S16x4112x1 ![0, 1] bcast_S16x4112_S16x4112x1_0_1 l

/-- Each entry divided by its row's number. -/
def divided (x : Sq) (l : Row) : Sq :=
  Host.divf x (broadcastInDim S16x4112x4112 ![0, 1, 2] bcast_S16x4112x1_S16x4112x4112_0_1_2 (column l))

/-- The derivatives by the weights. -/
def dWeights (v ct : A64) : Sq :=
  Host.dotGeneral dot_S16x64x4112_S4112x16x64_S16x4112x4112_1_2_2_0_0_1 none (transpose S16x64x4112 [1, 2, 0] ct transposes_S4112x16x64_S16x64x4112_1_2_0) v

/-- The derivatives by the row sums. -/
def dSums (dw e : Sq) (l : Row) : Row :=
  Host.reduceAdd (Host.negf (shapeCast _ (sums (mulf (mulf dw (broadcastInDim S16x4112x4112 ![0, 1, 2] bcast_S16x4112x1_S16x4112x4112_0_1_2 (Host.divf (broadcastInDim S16x4112x1 ![] bcast_S_S16x4112x1 (constant S_ .f32 0x3F800000#32)) (mulf (column l) (column l))))) e)) shapeCasts_S16x4112_S16x4112x1)) (constant S_ .f32 0x00000000#32) reducesTo_S16x4112x1_S16x4112_d2 h_S_

/-- The derivatives by the scores before scaling. -/
def dScores (dw e : Sq) (l dl : Row) : Sq :=
  mulf (select mask (mulf (addf (divided dw l) (broadcastInDim S16x4112x4112 ![0, 1] bcast_S16x4112_S16x4112x4112_0_1 dl)) e)
    (broadcastInDim S16x4112x4112 ![] bcast_S_S16x4112x4112 (constant S_ .f32 0x00000000#32)))
    (broadcastInDim S16x4112x4112 ![] bcast_S_S16x4112x4112 (constant S_ .f32 0x3DD105EC#32))

/-- The gradient of the queries, laid out with zero rows in front and filled columns, transposed. -/
def outQ (ds : Sq) (k : A96) : FVec Ideal S2048x4224 .f32 :=
  transpose S2048x4224 [1, 0] (shapeCast S4224x2048 (pad S4224x16x128 ![112, 0, 0] ![0, 0, 32] ![0, 0, 0] (transpose S4112x16x96 [1, 0, 2] (Host.dotGeneral dot_S16x4112x4112_S4112x16x96_S16x4112x96_2_0_1_2_0_1 none ds k) transposes_S16x4112x96_S4112x16x96_1_0_2) (sitofp .f32 (constantI S_ 32 0#32)) pads_S4112x16x96_S4224x16x128_11200_000_0320 h_S_) shapeCasts_S4224x16x128_S4224x2048) transposes_S4224x2048_S2048x4224_1_0

/-- The gradient of the keys, laid out. -/
def outK (ds : Sq) (q : A96) : FVec Ideal S4224x2048 .f32 :=
  shapeCast S4224x2048 (pad S4224x16x128 ![112, 0, 0] ![0, 0, 32] ![0, 0, 0] (transpose S4112x16x96 [1, 0, 2] (Host.dotGeneral dot_S16x4112x4112_S4112x16x96_S16x4112x96_1_0_2_2_0_1 none ds q) transposes_S16x4112x96_S4112x16x96_1_0_2) (sitofp .f32 (constantI S_ 32 0#32)) pads_S4112x16x96_S4224x16x128_11200_000_0320 h_S_) shapeCasts_S4224x16x128_S4224x2048

/-- The gradient of the values, laid out. -/
def outV (w : Sq) (ct : A64) : FVec Ideal S4224x1024 .f32 :=
  shapeCast S4224x1024 (pad S4224x16x64 ![112, 0, 0] ![0, 0, 0] ![0, 0, 0] (transpose S4112x16x64 [2, 0, 1] (Host.dotGeneral dot_S16x64x4112_S16x4112x4112_S16x64x4112_2_1_1_2_0_0 none (transpose S16x64x4112 [1, 2, 0] ct transposes_S4112x16x64_S16x64x4112_1_2_0) w) transposes_S16x64x4112_S4112x16x64_2_0_1) (sitofp .f32 (constantI S_ 32 0#32)) pads_S4112x16x64_S4224x16x64_11200_000_000 h_S_) shapeCasts_S4224x16x64_S4224x1024

/-- The shifted exponentials of the arguments. -/
def expsOf (q k : A96) : Sq := exps (masked q k) (largest (masked q k))

/-- The derivatives by the scores, of the arguments. -/
def dScoresOf (q k : A96) (v ct : A64) : Sq :=
  dScores (dWeights v ct) (expsOf q k) (sums (expsOf q k)) (dSums (dWeights v ct) (expsOf q k) (sums (expsOf q k)))

variable (m : (ℓ : Loc nD τ sig) → Buf (Elt Ideal) ℓ) (c : Dev nD)

theorem out0_eq : res_out0 m c = outQ (dScoresOf (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg1)) := rfl

theorem out1_eq : res_out1 m c = outK (dScoresOf (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg0)) := rfl

theorem out2_eq : res_out2 m c = outV (divided (expsOf (m ((c.tc : Thread nD τ).loc main_arg0)) (m ((c.tc : Thread nD τ).loc main_arg1))) (sums (expsOf (m ((c.tc : Thread nD τ).loc main_arg0)) (m ((c.tc : Thread nD τ).loc main_arg1))))) (m ((c.tc : Thread nD τ).loc main_arg3)) := rfl

end Cert.ReferenceIdeal.Stage

end
-- ==== Proof.RefValue.lean ====
/- The reference's stages at an index, as real numbers. -/
module

public import proofs.«01_k».proof.Proof.RefStages
public import Idealize.ShloMosaic.Lib.WordCmp
public import Idealize.ShloMosaic.Lib.KernelVsHost

@[expose] public section

noncomputable section

namespace Cert.Attn

open Idealize.ShloMosaic

/-- The array holds the real numbers `f`. -/
abbrev Holds {n : ℕ} (x : FVec Ideal ⟨3, ![4112, 16, n]⟩ .f32) (f : Arr n) : Prop := ∀ i h d, x (ix3 i h d) = ((f i h d : ℝ) : EReal)

theorem ofBits_bot : Ideal.ofBits .f32 0xFF800000#32 = ⊥ := by simp [Ideal.ofBits, Ideal.ieee]

/-- A host reduction to the largest along the last of three axes. -/
theorem reduce_max3 {n0 n1 n2 : ℕ} {u : Shape} (x : FVec Ideal ⟨3, ![n0, n1, n2]⟩ .f32) (w : BitVec 32)
    (h : (⟨3, ![n0, n1, n2]⟩ : Shape).ReducesTo [2] ⟨2, ![n0, n1]⟩) (hu : 0 < u.numel) (a : Fin n0) (b : Fin n1) :
    Host.reduce FloatOps.maximumf x (constant u .f32 w) h hu (ix2 a b) = Finset.univ.fold max (Ideal.ofBits .f32 w) (fun j => x (ix3 a b j)) := by
  pointwise

end Cert.Attn

namespace Cert.ReferenceIdeal.Stage

open Cert.ReferenceIdeal Cert.ReferenceIdeal.Gen Cert.ReferenceIdeal.Value Idealize.ShloMosaic Cert.Attn

variable {qa ka : A96} {va cta : A64} {q k : Arr 96} {v ct : Arr 64}

theorem scores_at (hq : Holds qa q) (hk : Holds ka k) (h : Fin 16) (i j : Fin 4112) :
    scores qa ka (ix3 h i j) = ((score q k h i j : ℝ) : EReal) := by
  pointwise [scores]
  simp only [hq, hk, ← EReal.coe_mul, ← coe_sum, ofBits_sc, score]

theorem mask_at (h : Fin 16) (i j : Fin 4112) : mask (ix3 h i j) = BitVec.ofBool (decide (j.val ≤ i.val)) := by
  pointwise [mask]
  rw [WordCmp.cmpi_sle_ofNat] <;> omega

theorem masked_at (hq : Holds qa q) (hk : Holds ka k) (h : Fin 16) (i j : Fin 4112) :
    masked qa ka (ix3 h i j) = if j.val ≤ i.val then ((score q k h i j : ℝ) : EReal) else ⊥ := by
  have e : masked qa ka (ix3 h i j) = Scalar.select (mask (ix3 h i j)) (scores qa ka (ix3 h i j)) (Ideal.ofBits .f32 0xFF800000#32) := by
    unfold masked
    generalize scores qa ka = x
    generalize mask = y
    pointwise
    rfl
  rw [e, mask_at, scores_at hq hk, select_ofBool, ofBits_bot]

theorem atLeast_at (m : Row) (h : Fin 16) (i : Fin 4112) : atLeast m (ix2 h i) = max (Ideal.ofBits .f32 0xFF800000#32) (m (ix2 h i)) := by
  pointwise [atLeast]

theorem largest_at (hq : Holds qa q) (hk : Holds ka k) (h : Fin 16) (i : Fin 4112) :
    ∃ M : ℝ, largest (masked qa ka) (ix2 h i) = ((M : ℝ) : EReal) := by
  obtain ⟨M, hM⟩ := fold_max_real (fun j : Fin 4112 => masked qa ka (ix3 h i j))
    (fun j => by beta_reduce; rw [masked_at hq hk]; split_ifs <;> simp) i
    (by beta_reduce; rw [masked_at hq hk, if_pos (le_refl _)]; simp)
  refine ⟨M, ?_⟩
  rw [largest, atLeast_at, reduce_max3, ofBits_bot, hM]
  exact max_eq_right bot_le

/-- The number each row's scores are shifted by. -/
def shiftOf (qa ka : A96) (h : Fin 16) (i : Fin 4112) : ℝ := EReal.toReal (largest (masked qa ka) (ix2 h i))

theorem largest_eq (hq : Holds qa q) (hk : Holds ka k) (h : Fin 16) (i : Fin 4112) :
    largest (masked qa ka) (ix2 h i) = ((shiftOf qa ka h i : ℝ) : EReal) := by
  obtain ⟨M, hM⟩ := largest_at hq hk h i
  rw [shiftOf, hM, EReal.toReal_coe]

theorem exps_at (hq : Holds qa q) (hk : Holds ka k) (h : Fin 16) (i j : Fin 4112) :
    expsOf qa ka (ix3 h i j) = ((shifted q k (shiftOf qa ka h i) h i j : ℝ) : EReal) := by
  have e : ∀ x m, exps x m (ix3 h i j) = Ideal.exp (x (ix3 h i j) - m (ix2 h i)) := by
    intro x m
    pointwise [exps]
  rw [expsOf, e, masked_at hq hk, largest_eq hq hk, shifted]
  split_ifs
  · rw [← EReal.coe_sub, Ideal.exp_coe]
  · rw [EReal.bot_sub, Ideal.exp_bot, EReal.coe_zero]

theorem sums_at (x : Sq) (h : Fin 16) (i : Fin 4112) : sums x (ix2 h i) = ∑ j, x (ix3 h i j) := by
  pointwise [sums]

theorem sums_exps (hq : Holds qa q) (hk : Holds ka k) (h : Fin 16) (i : Fin 4112) :
    sums (expsOf qa ka) (ix2 h i) = ((shiftedSum q k (shiftOf qa ka h i) h i : ℝ) : EReal) := by
  simp only [sums_at, exps_at hq hk, ← coe_sum, shiftedSum]

theorem divided_at (x : Sq) (l : Row) (h : Fin 16) (i j : Fin 4112) : divided x l (ix3 h i j) = Ideal.div (x (ix3 h i j)) (l (ix2 h i)) := by
  pointwise [divided, column]

theorem weights_at (hq : Holds qa q) (hk : Holds ka k) (h : Fin 16) (i j : Fin 4112) :
    divided (expsOf qa ka) (sums (expsOf qa ka)) (ix3 h i j) = ((weight q k h i j : ℝ) : EReal) := by
  rw [divided_at, exps_at hq hk, sums_exps hq hk, Ideal.div_coe (shiftedSum_pos _ _ _ _ _).ne', ← EReal.coe_mul, ← shifted_div q k (shiftOf qa ka h i),
    mul_one_div]

theorem dWeights_at (hv : Holds va v) (hc : Holds cta ct) (h : Fin 16) (i j : Fin 4112) :
    dWeights va cta (ix3 h i j) = ((dWeight v ct h i j : ℝ) : EReal) := by
  pointwise [dWeights]
  simp only [hv, hc, ← EReal.coe_mul, ← coe_sum, dWeight]

theorem dSums_at (hq : Holds qa q) (hk : Holds ka k) (hv : Holds va v) (hc : Holds cta ct) (h : Fin 16) (i : Fin 4112) :
    dSums (dWeights va cta) (expsOf qa ka) (sums (expsOf qa ka)) (ix2 h i)
      = ((-(delta q k v ct h i / shiftedSum q k (shiftOf qa ka h i) h i) : ℝ) : EReal) := by
  have e : ∀ x y l, dSums x y l (ix2 h i) = ∑ _a : Fin 1, -∑ j, x (ix3 h i j) * Ideal.div 1 (l (ix2 h i) * l (ix2 h i)) * y (ix3 h i j) := by
    intro x y l
    pointwise [dSums, column, sums]
  have hp := (shiftedSum_pos q k (shiftOf qa ka h i) h i).ne'
  rw [e]
  simp only [dWeights_at hv hc, exps_at hq hk, sums_exps hq hk, ← EReal.coe_mul, Ideal.div_coe (mul_ne_zero hp hp), one_mul, ← coe_sum,
    ← EReal.coe_neg, Finset.univ_unique, Finset.sum_singleton]
  congr 2
  rw [delta, Finset.sum_div]
  refine Finset.sum_congr rfl fun j _ => ?_
  rw [← shifted_div q k (shiftOf qa ka h i)]
  field_simp

theorem dScores_at (hq : Holds qa q) (hk : Holds ka k) (hv : Holds va v) (hc : Holds cta ct) (h : Fin 16) (i j : Fin 4112) :
    dScoresOf qa ka va cta (ix3 h i j) = ((dScore q k v ct h i j : ℝ) : EReal) := by
  have e : ∀ x y l dl, dScores x y l dl (ix3 h i j) = Scalar.select (mask (ix3 h i j))
      ((Ideal.div (x (ix3 h i j)) (l (ix2 h i)) + dl (ix2 h i)) * y (ix3 h i j) * Ideal.ofBits .f32 0x3DD105EC#32) 0 := by
    intro x y l dl
    unfold dScores
    generalize mask = w
    pointwise [divided, column]
  have hp := (shiftedSum_pos q k (shiftOf qa ka h i) h i).ne'
  rw [dScoresOf, e, mask_at, select_ofBool, dWeights_at hv hc, sums_exps hq hk, dSums_at hq hk hv hc, exps_at hq hk, Ideal.div_coe hp, ofBits_sc,
    ← EReal.coe_mul, ← EReal.coe_add, ← EReal.coe_mul, ← EReal.coe_mul, ← EReal.coe_zero, ← coe_ite]
  congr 1
  rw [dScore]
  split_ifs with hij
  · rw [← shifted_div q k (shiftOf qa ka h i)]
    field_simp
    ring
  · rw [weight, if_neg hij]
    ring

/-- The gradient of the queries in the reference's layout. -/
theorem outQ_at (hq : Holds qa q) (hk : Holds ka k) (hv : Holds va v) (hc : Holds cta ct) (r : Fin 2048) (g : Fin 4224) :
    outQ (dScoresOf qa ka va cta) ka (ix2 r g) = ((if h : 112 ≤ g.val ∧ r.val % 128 < 96
      then dQ q k v ct ⟨g.val - 112, by omega⟩ ⟨r.val / 128, by omega⟩ ⟨r.val % 128, h.2⟩ else 0 : ℝ) : EReal) := by
  pointwise [outQ]
  by_cases h : 112 ≤ g.val ∧ r.val % 128 < 96
  · have hh : (112 ≤ g.val ∧ g.val - 112 < 4112) ∧ r.val / 128 < 16 ∧ r.val % 128 < 96 := ⟨⟨h.1, by omega⟩, by omega, h.2⟩
    trans ((dQ q k v ct ⟨g.val - 112, by omega⟩ ⟨r.val / 128, by omega⟩ ⟨r.val % 128, h.2⟩ : ℝ) : EReal)
    · rw [dif_pos hh]
      simp only [dScores_at hq hk hv hc, hk _ _ _, ← EReal.coe_mul, ← coe_sum, dQ]
    · congr 1
      split_ifs
      rfl
  · have hh : ¬ ((112 ≤ g.val ∧ g.val - 112 < 4112) ∧ r.val / 128 < 16 ∧ r.val % 128 < 96) := fun hh => h ⟨hh.1.1, hh.2.2⟩
    rw [dif_neg hh]
    trans ((0 : ℝ) : EReal)
    · exact sitofp_zero
    · congr 1
      split_ifs
      rfl

/-- The gradient of the keys in the reference's layout. -/
theorem outK_at (hq : Holds qa q) (hk : Holds ka k) (hv : Holds va v) (hc : Holds cta ct) (r : Fin 2048) (g : Fin 4224) :
    outK (dScoresOf qa ka va cta) qa (ix2 g r) = ((if h : 112 ≤ g.val ∧ r.val % 128 < 96
      then dK q k v ct ⟨g.val - 112, by omega⟩ ⟨r.val / 128, by omega⟩ ⟨r.val % 128, h.2⟩ else 0 : ℝ) : EReal) := by
  pointwise [outK]
  by_cases h : 112 ≤ g.val ∧ r.val % 128 < 96
  · have hh : (112 ≤ g.val ∧ g.val - 112 < 4112) ∧ r.val / 128 < 16 ∧ r.val % 128 < 96 := ⟨⟨h.1, by omega⟩, by omega, h.2⟩
    trans ((dK q k v ct ⟨g.val - 112, by omega⟩ ⟨r.val / 128, by omega⟩ ⟨r.val % 128, h.2⟩ : ℝ) : EReal)
    · rw [dif_pos hh]
      simp only [dScores_at hq hk hv hc, hq _ _ _, ← EReal.coe_mul, ← coe_sum, dK]
    · congr 1
      split_ifs
      rfl
  · have hh : ¬ ((112 ≤ g.val ∧ g.val - 112 < 4112) ∧ r.val / 128 < 16 ∧ r.val % 128 < 96) := fun hh => h ⟨hh.1.1, hh.2.2⟩
    rw [dif_neg hh]
    trans ((0 : ℝ) : EReal)
    · exact sitofp_zero
    · congr 1
      split_ifs
      rfl

/-- The gradient of the values in the reference's layout. -/
theorem outV_at (hq : Holds qa q) (hk : Holds ka k) (hc : Holds cta ct) (r : Fin 1024) (g : Fin 4224) :
    outV (divided (expsOf qa ka) (sums (expsOf qa ka))) cta (ix2 g r) = ((if h : 112 ≤ g.val
      then dV q k ct ⟨g.val - 112, by omega⟩ ⟨r.val / 64, by omega⟩ ⟨r.val % 64, by omega⟩ else 0 : ℝ) : EReal) := by
  pointwise [outV]
  by_cases h : 112 ≤ g.val
  · have hh : (112 ≤ g.val ∧ g.val - 112 < 4112) ∧ r.val / 64 < 16 ∧ r.val % 64 < 64 := ⟨⟨h, by omega⟩, by omega, by omega⟩
    trans ((dV q k ct ⟨g.val - 112, by omega⟩ ⟨r.val / 64, by omega⟩ ⟨r.val % 64, by omega⟩ : ℝ) : EReal)
    · rw [dif_pos hh]
      simp only [weights_at hq hk, hc _ _ _, ← EReal.coe_mul, ← coe_sum, dV]
      exact congrArg _ (Finset.sum_congr rfl fun i _ => mul_comm _ _)
    · congr 1
      split_ifs
      rfl
  · have hh : ¬ ((112 ≤ g.val ∧ g.val - 112 < 4112) ∧ r.val / 64 < 16 ∧ r.val % 64 < 64) := fun hh => h hh.1.1
    rw [dif_neg hh]
    trans ((0 : ℝ) : EReal)
    · exact sitofp_zero
    · congr 1
      split_ifs
      rfl

end Cert.ReferenceIdeal.Stage

end
-- ==== Proof.Tile.lean ====
/- One tile of the kernel at an index, as real numbers: what each of its three products adds to the array it adds to. -/
module

public import proofs.«01_k».proof.Proof.Reals
public import proofs.«01_k».proof.Proof.Gen.KernelIdeal.Skeleton
public import Idealize.ShloMosaic.Lib.WordCmp

@[expose] public section

noncomputable section

namespace Cert.Attn

open Idealize.ShloMosaic
open scoped BigOperators

/-- The arrays of one pair of heads as real numbers, by padded row and column of the pair; the last two by head and row. -/
structure Data where
  Q : ℕ → ℕ → ℝ
  K : ℕ → ℕ → ℝ
  V : ℕ → ℕ → ℝ
  DO : ℕ → ℕ → ℝ
  LS : ℕ → ℕ → ℝ
  DL : ℕ → ℕ → ℝ

/-- Which padded key row a padded query row sees. -/
def Sees (kr g : ℕ) : Prop := kr ≤ g ∧ (112 ≤ kr ∨ g < 112)

instance (kr g : ℕ) : Decidable (Sees kr g) := inferInstanceAs (Decidable (_ ∧ _))

/-- The weight that the kernel computes for key row `kr` and query row `g`. -/
def Data.p (D : Data) (h kr g : ℕ) : ℝ :=
  if Sees kr g then Real.exp ((∑ x : Fin 128, D.K kr (128 * h + x) * D.Q g (128 * h + x)) * sc - D.LS h g) else 0

/-- The derivative by the score that the kernel computes. -/
def Data.ds (D : Data) (h kr g : ℕ) : ℝ :=
  D.p h kr g * ((∑ y : Fin 64, D.V kr (64 * h + y) * D.DO g (64 * h + y)) - D.DL h g) * sc

/-- The mask of the kernel's words is the one on numbers. -/
theorem mask_words {α : Type} (kb qb a b : ℕ) (hk : kb < 11) (hq : qb < 11) (ha : a < 384) (hb : b < 384) (x y : α) :
    Scalar.select (IntOp.andi (IntOp.cmpi .sle (IntOp.addi (Scalar.muli (BitVec.ofNat 32 kb) 384#32) (BitVec.ofNat 32 a))
        (IntOp.addi (Scalar.muli (BitVec.ofNat 32 qb) 384#32) (BitVec.ofNat 32 b)))
      (IntOp.ori (IntOp.cmpi .sge (IntOp.addi (Scalar.muli (BitVec.ofNat 32 kb) 384#32) (BitVec.ofNat 32 a)) 112#32)
        (IntOp.cmpi .slt (IntOp.addi (Scalar.muli (BitVec.ofNat 32 qb) 384#32) (BitVec.ofNat 32 b)) 112#32))) x y
      = if Sees (384 * kb + a) (384 * qb + b) then x else y := by
  have e : ∀ k a : ℕ, IntOp.addi (Scalar.muli (BitVec.ofNat 32 k) 384#32) (BitVec.ofNat 32 a) = BitVec.ofNat 32 (384 * k + a) := by
    intro k a
    show BitVec.ofNat 32 k * BitVec.ofNat 32 384 + BitVec.ofNat 32 a = _
    rw [← BitVec.ofNat_mul, ← BitVec.ofNat_add, Nat.mul_comm]
  rw [e, e, WordCmp.cmpi_sle_ofNat (by omega) (by omega), WordCmp.cmpi_sge_ofNat (by omega) (by omega), WordCmp.cmpi_slt_ofNat (by omega) (by omega)]
  have ha' : ∀ p q : Bool, IntOp.andi (BitVec.ofBool p) (BitVec.ofBool q) = BitVec.ofBool (p && q) := by decide
  have ho' : ∀ p q : Bool, IntOp.ori (BitVec.ofBool p) (BitVec.ofBool q) = BitVec.ofBool (p || q) := by decide
  rw [ho', ha']
  by_cases h : Sees (384 * kb + a) (384 * qb + b)
  · rw [if_pos h]
    have : (decide (384 * kb + a ≤ 384 * qb + b) && (decide (112 ≤ 384 * kb + a) || decide (384 * qb + b < 112))) = true := by
      simpa [Sees] using h
    rw [this]
    simp [Scalar.select]
  · rw [if_neg h]
    have : (decide (384 * kb + a ≤ 384 * qb + b) && (decide (112 ≤ 384 * kb + a) || decide (384 * qb + b < 112))) = false := by
      rw [Bool.eq_false_iff]
      simpa [Sees] using h
    rw [this]
    simp [Scalar.select]

theorem sees_of_lt {kb qb a b : ℕ} (h1 : 1 ≤ kb) (h : kb < qb) (ha : a < 384) : Sees (384 * kb + a) (384 * qb + b) := by
  unfold Sees
  omega

end Cert.Attn

namespace Cert.KernelIdeal.Tile

open Cert.KernelIdeal Cert.KernelIdeal.Gen Idealize.ShloMosaic Cert.Attn

/-- What one head reads in one tile holds the pair's numbers: head `h`, key block `kb`, query block `qb`. -/
structure Reads (D : Data) (h kb qb : ℕ) (q kk : Vec Ideal S384x128 .bf16) (l dl : Vec Ideal S1x1x384 .f32) (dd : Vec Ideal S64x384 .bf16)
    (vv : Vec Ideal S384x64 .bf16) (kt : Vec Ideal S128x384 .bf16) : Prop where
  hq : ∀ (b : Fin 384) (x : Fin 128), q (ix2 b x) = ((D.Q (384 * qb + b) (128 * h + x) : ℝ) : EReal)
  hk : ∀ (a : Fin 384) (x : Fin 128), kk (ix2 a x) = ((D.K (384 * kb + a) (128 * h + x) : ℝ) : EReal)
  hl : ∀ b : Fin 384, l (ix3 0 0 b) = ((D.LS h (384 * qb + b) : ℝ) : EReal)
  hdl : ∀ b : Fin 384, dl (ix3 0 0 b) = ((D.DL h (384 * qb + b) : ℝ) : EReal)
  hd : ∀ (y : Fin 64) (b : Fin 384), dd (ix2 y b) = ((D.DO (384 * qb + b) (64 * h + y) : ℝ) : EReal)
  hv : ∀ (a : Fin 384) (y : Fin 64), vv (ix2 a y) = ((D.V (384 * kb + a) (64 * h + y) : ℝ) : EReal)
  ht : ∀ (x : Fin 128) (a : Fin 384), kt (ix2 x a) = ((D.K (384 * kb + a) (128 * h + x) : ℝ) : EReal)

variable {D : Data} {h kb qb : ℕ} {q kk : Vec Ideal S384x128 .bf16} {l dl : Vec Ideal S1x1x384 .f32} {dd : Vec Ideal S64x384 .bf16}
  {vv : Vec Ideal S384x64 .bf16} {kt : Vec Ideal S128x384 .bf16}

/-- What a tile adds to the gradient of the values. -/
def addV (D : Data) (h kb qb a y : ℕ) : ℝ := ∑ b : Fin 384, D.p h (384 * kb + a) (384 * qb + b) * D.DO (384 * qb + b) (64 * h + y)

/-- What a tile adds to the gradient of the keys. -/
def addK (D : Data) (h kb qb a x : ℕ) : ℝ := ∑ b : Fin 384, D.ds h (384 * kb + a) (384 * qb + b) * D.Q (384 * qb + b) (128 * h + x)

/-- What a tile adds to the gradient of the queries. -/
def addQ (D : Data) (h kb qb x b : ℕ) : ℝ := ∑ a : Fin 384, D.K (384 * kb + a) (128 * h + x) * D.ds h (384 * kb + a) (384 * qb + b)

/-- The kernel's expression for a weight. -/
def expE (kk q : Vec Ideal S384x128 .bf16) (l : Vec Ideal S1x1x384 .f32) (a b : Fin 384) : EReal :=
  Ideal.exp ((∑ x, kk (ix2 a x) * q (ix2 b x)) * Ideal.ofBits .f32 0x3DD105EC#32 - l (ix3 0 0 b))

/-- The kernel's expression for the derivative by a score, of an unmasked weight. -/
def dsE (kk q : Vec Ideal S384x128 .bf16) (l dl : Vec Ideal S1x1x384 .f32) (vv : Vec Ideal S384x64 .bf16) (dd : Vec Ideal S64x384 .bf16) (a b : Fin 384) : EReal :=
  expE kk q l a b * (∑ y, vv (ix2 a y) * dd (ix2 y b) - dl (ix3 0 0 b)) * Ideal.ofBits .f32 0x3DD105EC#32

theorem expE_eq (R : Reads D h kb qb q kk l dl dd vv kt) (a b : Fin 384) (hs : Sees (384 * kb + a) (384 * qb + b)) :
    expE kk q l a b = ((D.p h (384 * kb + a) (384 * qb + b) : ℝ) : EReal) := by
  simp only [expE, R.hk, R.hq, R.hl, ofBits_sc, ← EReal.coe_mul, ← coe_sum, ← EReal.coe_sub, Ideal.exp_coe, Data.p, if_pos hs]

theorem dsE_eq (R : Reads D h kb qb q kk l dl dd vv kt) (a b : Fin 384) (hs : Sees (384 * kb + a) (384 * qb + b)) :
    dsE kk q l dl vv dd a b = ((D.ds h (384 * kb + a) (384 * qb + b) : ℝ) : EReal) := by
  simp only [dsE, expE_eq R a b hs, R.hv, R.hd, R.hdl, ofBits_sc, ← EReal.coe_mul, ← coe_sum, ← EReal.coe_sub, Data.ds]

/-- A masked tile's product with the cotangent. -/
theorem sumV (R : Reads D h kb qb q kk l dl dd vv kt) (a : Fin 384) (y : Fin 64) :
    ∑ b : Fin 384, (if Sees (384 * kb + a) (384 * qb + b) then expE kk q l a b * dd (ix2 y b) else 0) = ((addV D h kb qb a y : ℝ) : EReal) := by
  rw [addV, coe_sum]
  refine Finset.sum_congr rfl fun b _ => ?_
  split_ifs with hs
  · rw [expE_eq R a b hs, R.hd, EReal.coe_mul]
  · simp [Data.p, hs]

/-- A masked tile's product with the queries. -/
theorem sumK (R : Reads D h kb qb q kk l dl dd vv kt) (a : Fin 384) (x : Fin 128) :
    ∑ b : Fin 384, (if Sees (384 * kb + a) (384 * qb + b) then dsE kk q l dl vv dd a b * q (ix2 b x) else 0) = ((addK D h kb qb a x : ℝ) : EReal) := by
  rw [addK, coe_sum]
  refine Finset.sum_congr rfl fun b _ => ?_
  split_ifs with hs
  · rw [dsE_eq R a b hs, R.hq, EReal.coe_mul]
  · simp [Data.ds, Data.p, hs]

/-- A masked tile's product with the keys. -/
theorem sumQ (R : Reads D h kb qb q kk l dl dd vv kt) (x : Fin 128) (b : Fin 384) :
    ∑ a : Fin 384, (if Sees (384 * kb + a) (384 * qb + b) then kt (ix2 x a) * dsE kk q l dl vv dd a b else 0) = ((addQ D h kb qb x b : ℝ) : EReal) := by
  rw [addQ, coe_sum]
  refine Finset.sum_congr rfl fun a _ => ?_
  split_ifs with hs
  · rw [dsE_eq R a b hs, R.ht, EReal.coe_mul]
  · simp [Data.ds, Data.p, hs]

section Masked

variable (R : Reads D h kb qb q kk l dl dd vv kt) (hkb : kb < 11) (hqb : qb < 11)
include R hkb hqb

theorem t1_dv0 {k : Fin k0_t1_loop.trips} (hk : Scf.iv 0#32 1#32 k = BitVec.ofNat 32 qb) (ov : Vec Ideal S384x64 .f32) (a : Fin 384) (y : Fin 64) :
    k0_pay24 (k0_pay19 dd) (k0_pay21 (BitVec.ofNat 32 kb) 0#32 1#32 k q l kk) ov (ix2 a y) = ov (ix2 a y) + ((addV D h kb qb a y : ℝ) : EReal) := by
  rw [← sumV R]
  pointwise [k0_pay24, k0_pay19, k0_pay21, k0_pay18]
  simp only [hk, mask_words kb qb _ _ hkb hqb (Fin.isLt _) (Fin.isLt _), expE]

theorem t1_dk0 {k : Fin k0_t1_loop.trips} (hk : Scf.iv 0#32 1#32 k = BitVec.ofNat 32 qb) (ok : Vec Ideal S384x128 .f32) (a : Fin 384) (x : Fin 128) :
    k0_pay25 (k0_pay18 q) (k0_pay19 dd) (k0_pay20 dl) (k0_pay21 (BitVec.ofNat 32 kb) 0#32 1#32 k q l kk) (k0_pay22 vv) ok (ix2 a x)
      = ok (ix2 a x) + ((addK D h kb qb a x : ℝ) : EReal) := by
  rw [← sumK R]
  pointwise [k0_pay25, k0_pay23, k0_pay19, k0_pay20, k0_pay22, k0_pay21, k0_pay18]
  simp only [hk, mask_words kb qb _ _ hkb hqb (Fin.isLt _) (Fin.isLt _), dsE, expE]

theorem t1_dq0 {k : Fin k0_t1_loop.trips} (hk : Scf.iv 0#32 1#32 k = BitVec.ofNat 32 qb) (oq : Vec Ideal S128x384 .f32) (x : Fin 128) (b : Fin 384) :
    k0_pay26 (k0_pay19 dd) (k0_pay20 dl) (k0_pay21 (BitVec.ofNat 32 kb) 0#32 1#32 k q l kk) (k0_pay22 vv) oq kt (ix2 x b)
      = oq (ix2 x b) + ((addQ D h kb qb x b : ℝ) : EReal) := by
  rw [← sumQ R]
  pointwise [k0_pay26, k0_pay23, k0_pay19, k0_pay20, k0_pay22, k0_pay21, k0_pay18]
  simp only [hk, mask_words kb qb _ _ hkb hqb (Fin.isLt _) (Fin.isLt _), dsE, expE]

theorem t1_dv1 {w : BitVec 32} (hk : w = BitVec.ofNat 32 qb) (ov : Vec Ideal S384x64 .f32) (a : Fin 384) (y : Fin 64) :
    k0_pay4 ov (k0_pay31 (BitVec.ofNat 32 kb) w (k0_pay27 q) (k0_pay28 dd) l kk) (ix2 a y) = ov (ix2 a y) + ((addV D h kb qb a y : ℝ) : EReal) := by
  rw [← sumV R]
  pointwise [k0_pay4, k0_pay31, k0_pay29, k0_pay27, k0_pay28]
  simp only [hk, mask_words kb qb _ _ hkb hqb (Fin.isLt _) (Fin.isLt _), expE]

theorem t1_dk1 {w : BitVec 32} (hk : w = BitVec.ofNat 32 qb) (ok : Vec Ideal S384x128 .f32) (a : Fin 384) (x : Fin 128) :
    k0_pay5 (k0_pay27 q) (k0_pay30 (BitVec.ofNat 32 kb) w (k0_pay27 q) (k0_pay28 dd) l dl kk vv) ok (ix2 a x)
      = ok (ix2 a x) + ((addK D h kb qb a x : ℝ) : EReal) := by
  rw [← sumK R]
  pointwise [k0_pay5, k0_pay30, k0_pay29, k0_pay27, k0_pay28]
  simp only [hk, mask_words kb qb _ _ hkb hqb (Fin.isLt _) (Fin.isLt _), dsE, expE]

theorem t1_dq1 {w : BitVec 32} (hk : w = BitVec.ofNat 32 qb) (oq : Vec Ideal S128x384 .f32) (x : Fin 128) (b : Fin 384) :
    k0_pay6 (k0_pay30 (BitVec.ofNat 32 kb) w (k0_pay27 q) (k0_pay28 dd) l dl kk vv) oq kt (ix2 x b)
      = oq (ix2 x b) + ((addQ D h kb qb x b : ℝ) : EReal) := by
  rw [← sumQ R]
  pointwise [k0_pay6, k0_pay30, k0_pay29, k0_pay27, k0_pay28]
  simp only [hk, mask_words kb qb _ _ hkb hqb (Fin.isLt _) (Fin.isLt _), dsE, expE]

end Masked

section Diagonal

variable (R : Reads D h kb kb q kk l dl dd vv kt) (hkb : kb < 11)
include R hkb

theorem tb_dv0 (ov : Vec Ideal S384x64 .f32) (a : Fin 384) (y : Fin 64) :
    k0_pay60 (k0_pay55 dd) (k0_pay57 (BitVec.ofNat 32 kb) q l kk) ov (ix2 a y) = ov (ix2 a y) + ((addV D h kb kb a y : ℝ) : EReal) := by
  rw [← sumV R]
  pointwise [k0_pay60, k0_pay55, k0_pay57, k0_pay54]
  simp only [mask_words kb kb _ _ hkb hkb (Fin.isLt _) (Fin.isLt _), expE]

theorem tb_dk0 (ok : Vec Ideal S384x128 .f32) (a : Fin 384) (x : Fin 128) :
    k0_pay61 (k0_pay54 q) (k0_pay55 dd) (k0_pay56 dl) (k0_pay57 (BitVec.ofNat 32 kb) q l kk) (k0_pay58 vv) (constant S384x384 .f32 0x00000000#32) ok (ix2 a x)
      = ok (ix2 a x) + ((addK D h kb kb a x : ℝ) : EReal) := by
  rw [← sumK R]
  pointwise [k0_pay61, k0_pay59, k0_pay55, k0_pay56, k0_pay57, k0_pay58, k0_pay54]
  simp only [mask_words kb kb _ _ hkb hkb (Fin.isLt _) (Fin.isLt _), dsE, expE]

theorem tb_dq0 (oq : Vec Ideal S128x384 .f32) (x : Fin 128) (b : Fin 384) :
    k0_pay62 (k0_pay55 dd) (k0_pay56 dl) (k0_pay57 (BitVec.ofNat 32 kb) q l kk) (k0_pay58 vv) (constant S384x384 .f32 0x00000000#32) oq kt (ix2 x b)
      = oq (ix2 x b) + ((addQ D h kb kb x b : ℝ) : EReal) := by
  rw [← sumQ R]
  pointwise [k0_pay62, k0_pay59, k0_pay55, k0_pay56, k0_pay57, k0_pay58, k0_pay54]
  simp only [mask_words kb kb _ _ hkb hkb (Fin.isLt _) (Fin.isLt _), dsE, expE]

theorem tb_dv1 (ov : Vec Ideal S384x64 .f32) (a : Fin 384) (y : Fin 64) :
    k0_pay7 (k0_pay67 (BitVec.ofNat 32 kb) (k0_pay63 q) (k0_pay64 dd) l kk ov) (ix2 a y) = ov (ix2 a y) + ((addV D h kb kb a y : ℝ) : EReal) := by
  rw [← sumV R]
  pointwise [k0_pay7, k0_pay67, k0_pay65, k0_pay63, k0_pay64]
  simp only [mask_words kb kb _ _ hkb hkb (Fin.isLt _) (Fin.isLt _), expE]

theorem tb_dk1 (ok : Vec Ideal S384x128 .f32) (a : Fin 384) (x : Fin 128) :
    k0_pay8 (k0_pay63 q) (k0_pay66 (BitVec.ofNat 32 kb) (k0_pay63 q) (k0_pay64 dd) l dl kk vv) ok (ix2 a x)
      = ok (ix2 a x) + ((addK D h kb kb a x : ℝ) : EReal) := by
  rw [← sumK R]
  pointwise [k0_pay8, k0_pay66, k0_pay65, k0_pay63, k0_pay64]
  simp only [mask_words kb kb _ _ hkb hkb (Fin.isLt _) (Fin.isLt _), dsE, expE]

theorem tb_dq1 (oq : Vec Ideal S128x384 .f32) (x : Fin 128) (b : Fin 384) :
    k0_pay9 (k0_pay66 (BitVec.ofNat 32 kb) (k0_pay63 q) (k0_pay64 dd) l dl kk vv) oq kt (ix2 x b)
      = oq (ix2 x b) + ((addQ D h kb kb x b : ℝ) : EReal) := by
  rw [← sumQ R]
  pointwise [k0_pay9, k0_pay66, k0_pay65, k0_pay63, k0_pay64]
  simp only [mask_words kb kb _ _ hkb hkb (Fin.isLt _) (Fin.isLt _), dsE, expE]

end Diagonal

section Later

variable (R : Reads D h kb qb q kk l dl dd vv kt) (h1 : 1 ≤ kb) (hlt : kb < qb)
include R h1 hlt

theorem t2_dv0 (ov : Vec Ideal S384x64 .f32) (a : Fin 384) (y : Fin 64) :
    k0_pay36 q dd l kk ov (ix2 a y) = ov (ix2 a y) + ((addV D h kb qb a y : ℝ) : EReal) := by
  rw [← sumV R]
  pointwise [k0_pay36, k0_pay34, k0_pay33, k0_pay32]
  simp only [if_pos (sees_of_lt h1 hlt (Fin.isLt _)), expE]

theorem t2_dk0 (ok : Vec Ideal S384x128 .f32) (a : Fin 384) (x : Fin 128) :
    k0_pay37 (k0_pay32 q) (k0_pay35 q dd l dl kk vv) ok (ix2 a x) = ok (ix2 a x) + ((addK D h kb qb a x : ℝ) : EReal) := by
  rw [← sumK R]
  pointwise [k0_pay37, k0_pay35, k0_pay34, k0_pay33, k0_pay32]
  simp only [if_pos (sees_of_lt h1 hlt (Fin.isLt _)), dsE, expE]

theorem t2_dq0 (oq : Vec Ideal S128x384 .f32) (x : Fin 128) (b : Fin 384) :
    k0_pay38 (k0_pay35 q dd l dl kk vv) oq kt (ix2 x b) = oq (ix2 x b) + ((addQ D h kb qb x b : ℝ) : EReal) := by
  rw [← sumQ R]
  pointwise [k0_pay38, k0_pay35, k0_pay34, k0_pay33, k0_pay32]
  simp only [if_pos (sees_of_lt h1 hlt (Fin.isLt _)), dsE, expE]

theorem t2_dv1 (ov : Vec Ideal S384x64 .f32) (a : Fin 384) (y : Fin 64) :
    k0_pay11 (k0_pay40 dd) (k0_pay42 q l kk) ov (ix2 a y) = ov (ix2 a y) + ((addV D h kb qb a y : ℝ) : EReal) := by
  rw [← sumV R]
  pointwise [k0_pay11, k0_pay40, k0_pay42, k0_pay39]
  simp only [if_pos (sees_of_lt h1 hlt (Fin.isLt _)), expE]

theorem t2_dk1 (ok : Vec Ideal S384x128 .f32) (a : Fin 384) (x : Fin 128) :
    k0_pay12 (k0_pay39 q) (k0_pay40 dd) (k0_pay41 dl) (k0_pay42 q l kk) vv ok (ix2 a x) = ok (ix2 a x) + ((addK D h kb qb a x : ℝ) : EReal) := by
  rw [← sumK R]
  pointwise [k0_pay12, k0_pay10, k0_pay39, k0_pay40, k0_pay41, k0_pay42]
  simp only [if_pos (sees_of_lt h1 hlt (Fin.isLt _)), dsE, expE]

theorem t2_dq1 (oq : Vec Ideal S128x384 .f32) (x : Fin 128) (b : Fin 384) :
    k0_pay13 (k0_pay40 dd) (k0_pay41 dl) (k0_pay42 q l kk) vv oq kt (ix2 x b) = oq (ix2 x b) + ((addQ D h kb qb x b : ℝ) : EReal) := by
  rw [← sumQ R]
  pointwise [k0_pay13, k0_pay10, k0_pay39, k0_pay40, k0_pay41, k0_pay42]
  simp only [if_pos (sees_of_lt h1 hlt (Fin.isLt _)), dsE, expE]

end Later

end Cert.KernelIdeal.Tile

end
-- ==== Proof.Views.lean ====
/- Reading one tile's operands out of the buffers they lie in, and the state after a tile's two writes into an array. -/
module

public import proofs.«01_k».proof.Proof.Tile

@[expose] public section

noncomputable section

namespace Cert.KernelIdeal.Tile

open Cert.KernelIdeal Cert.KernelIdeal.Gen Idealize.ShloMosaic Cert.Attn

/-- A two-axis array holds the real numbers of `R`. -/
def At {n0 n1 : ℕ} (x : (⟨2, ![n0, n1]⟩ : Shape).Idx → EReal) (R : ℕ → ℕ → ℝ) : Prop :=
  ∀ (i : Fin n0) (j : Fin n1), x (ix2 i j) = ((R i j : ℝ) : EReal)

/-- The buffers that a step reads hold one pair's numbers, the key block being `kb`. -/
structure Ins (D : Data) (kb : ℕ) (xq : Vec Ideal S4224x256 .bf16) (xk : Vec Ideal S384x256 .bf16) (xt : Vec Ideal S256x384 .bf16)
    (xv : Vec Ideal S384x128 .bf16) (xd : Vec Ideal S128x4224 .bf16) (xl xe : Vec Ideal S1x8x4224 .f32) : Prop where
  hq : ∀ (g : Fin 4224) (x : Fin 256), xq (ix2 g x) = ((D.Q g x : ℝ) : EReal)
  hk : ∀ (a : Fin 384) (x : Fin 256), xk (ix2 a x) = ((D.K (384 * kb + a) x : ℝ) : EReal)
  ht : ∀ (x : Fin 256) (a : Fin 384), xt (ix2 x a) = ((D.K (384 * kb + a) x : ℝ) : EReal)
  hv : ∀ (a : Fin 384) (y : Fin 128), xv (ix2 a y) = ((D.V (384 * kb + a) y : ℝ) : EReal)
  hd : ∀ (y : Fin 128) (g : Fin 4224), xd (ix2 y g) = ((D.DO g y : ℝ) : EReal)
  hl : ∀ (h : Fin 8) (g : Fin 4224), h.val < 2 → xl (ix3 0 h g) = ((D.LS h g : ℝ) : EReal)
  he : ∀ (h : Fin 8) (g : Fin 4224), h.val < 2 → xe (ix3 0 h g) = ((D.DL h g : ℝ) : EReal)

/-- A read of one row of a three-axis array at an index. -/
theorem window3_apply {α : Type} {n0 n1 n2 o1 o2 s2 : ℕ} (x : (⟨3, ![n0, n1, n2]⟩ : Shape).Idx → α)
    (inb : ∀ a : Fin 3, (![0, o1, o2] : Fin 3 → ℕ) a + (![1, 1, s2] : Fin 3 → ℕ) a ≤ (⟨3, ![n0, n1, n2]⟩ : Shape).size a)
    (j : Fin s2) (h0 : 0 < n0) (h1 : o1 < n1) (h2 : o2 + j.val < n2) :
    VecWindow.window x ![0, o1, o2] ![1, 1, s2] inb (ix3 0 0 j : (⟨3, ![1, 1, s2]⟩ : Shape).Idx) = x (ix3 ⟨0, h0⟩ ⟨o1, h1⟩ ⟨o2 + j.val, h2⟩) := by
  unfold VecWindow.window
  congr 1
  funext a
  match a with
  | ⟨0, _⟩ => apply Fin.ext; simp [Rect.emb, Rect.unit]
  | ⟨1, _⟩ => apply Fin.ext; simp [Rect.emb, Rect.unit]
  | ⟨2, _⟩ => apply Fin.ext; simp [Rect.emb, Rect.unit]

section Views

variable {sig : RefSig} {κ : Kind} {sp : Space}

/-- A load of part of a two-axis array at an index. -/
theorem load2 {e : EltTy} {n0 n1 s0 s1 o0 o1 : ℕ} (v : View sig κ sp ⟨2, ![n0, n1]⟩ e) (f : v.ty.Contents (Elt Ideal)) {off : Fin 2 → ℕ}
    (inb : ∀ a, off a + (![s0, s1] : Fin 2 → ℕ) a ≤ (⟨2, ![n0, n1]⟩ : Shape).size a) (h : off = ![o0, o1]) (i : Fin s0) (j : Fin s1)
    (hi : o0 + i.val < n0) (hj : o1 + j.val < n1) :
    v.readAt (Elt Ideal) (Rect.unit (s := ⟨2, ![n0, n1]⟩) off ![s0, s1] inb).toLoadRect f (ix2 i j : (⟨2, ![s0, s1]⟩ : Shape).Idx)
      = v.read (Elt Ideal) f (ix2 ⟨o0 + i.val, hi⟩ ⟨o1 + j.val, hj⟩) := by
  subst h
  rw [View.readAt_unit v f inb rfl inb]
  exact window2_apply _ inb i j hi hj

/-- A load of one row of a three-axis array at an index. -/
theorem load3 {e : EltTy} {n0 n1 n2 s2 o1 o2 : ℕ} (v : View sig κ sp ⟨3, ![n0, n1, n2]⟩ e) (f : v.ty.Contents (Elt Ideal)) {off : Fin 3 → ℕ}
    (inb : ∀ a, off a + (![1, 1, s2] : Fin 3 → ℕ) a ≤ (⟨3, ![n0, n1, n2]⟩ : Shape).size a) (h : off = ![0, o1, o2]) (j : Fin s2)
    (h0 : 0 < n0) (h1 : o1 < n1) (h2 : o2 + j.val < n2) :
    v.readAt (Elt Ideal) (Rect.unit (s := ⟨3, ![n0, n1, n2]⟩) off ![1, 1, s2] inb).toLoadRect f (ix3 0 0 j : (⟨3, ![1, 1, s2]⟩ : Shape).Idx)
      = v.read (Elt Ideal) f (ix3 ⟨0, h0⟩ ⟨o1, h1⟩ ⟨o2 + j.val, h2⟩) := by
  subst h
  rw [View.readAt_unit v f inb rfl inb]
  exact window3_apply _ inb j h0 h1 h2

variable {D : Data} {kb : ℕ}
  {v2 : View sig κ sp S4224x256 .bf16} {v3 : View sig κ sp S384x256 .bf16} {v4 : View sig κ sp S256x384 .bf16} {v5 : View sig κ sp S384x128 .bf16}
  {v6 : View sig κ sp S128x4224 .bf16} {v7 v8 : View sig κ sp S1x8x4224 .f32}
  {f2 : v2.ty.Contents (Elt Ideal)} {f3 : v3.ty.Contents (Elt Ideal)} {f4 : v4.ty.Contents (Elt Ideal)} {f5 : v5.ty.Contents (Elt Ideal)}
  {f6 : v6.ty.Contents (Elt Ideal)} {f7 : v7.ty.Contents (Elt Ideal)} {f8 : v8.ty.Contents (Elt Ideal)}

/-- What one head reads in one tile, out of the buffers. -/
theorem reads_of (I : Ins D kb (v2.read (Elt Ideal) f2) (v3.read (Elt Ideal) f3) (v4.read (Elt Ideal) f4) (v5.read (Elt Ideal) f5)
      (v6.read (Elt Ideal) f6) (v7.read (Elt Ideal) f7) (v8.read (Elt Ideal) f8))
    {h qb : ℕ} (hh : h < 2) (hq : qb < 11) {o2 o3 o4 o5 o6 : Fin 2 → ℕ} {o7 o8 : Fin 3 → ℕ}
    (e2 : o2 = ![384 * qb, 128 * h]) (e3 : o3 = ![0, 128 * h]) (e4 : o4 = ![128 * h, 0]) (e5 : o5 = ![0, 64 * h]) (e6 : o6 = ![64 * h, 384 * qb])
    (e7 : o7 = ![0, h, 384 * qb]) (e8 : o8 = ![0, h, 384 * qb])
    (i2 : ∀ a, o2 a + (![384, 128] : Fin 2 → ℕ) a ≤ S4224x256.size a) (i3 : ∀ a, o3 a + (![384, 128] : Fin 2 → ℕ) a ≤ S384x256.size a)
    (i4 : ∀ a, o4 a + (![128, 384] : Fin 2 → ℕ) a ≤ S256x384.size a) (i5 : ∀ a, o5 a + (![384, 64] : Fin 2 → ℕ) a ≤ S384x128.size a)
    (i6 : ∀ a, o6 a + (![64, 384] : Fin 2 → ℕ) a ≤ S128x4224.size a) (i7 : ∀ a, o7 a + (![1, 1, 384] : Fin 3 → ℕ) a ≤ S1x8x4224.size a)
    (i8 : ∀ a, o8 a + (![1, 1, 384] : Fin 3 → ℕ) a ≤ S1x8x4224.size a) :
    Reads D h kb qb (v2.readAt (Elt Ideal) (Rect.unit (s := S4224x256) o2 ![384, 128] i2).toLoadRect f2) (v3.readAt (Elt Ideal) (Rect.unit (s := S384x256) o3 ![384, 128] i3).toLoadRect f3)
      (v7.readAt (Elt Ideal) (Rect.unit (s := S1x8x4224) o7 ![1, 1, 384] i7).toLoadRect f7) (v8.readAt (Elt Ideal) (Rect.unit (s := S1x8x4224) o8 ![1, 1, 384] i8).toLoadRect f8)
      (v6.readAt (Elt Ideal) (Rect.unit (s := S128x4224) o6 ![64, 384] i6).toLoadRect f6) (v5.readAt (Elt Ideal) (Rect.unit (s := S384x128) o5 ![384, 64] i5).toLoadRect f5)
      (v4.readAt (Elt Ideal) (Rect.unit (s := S256x384) o4 ![128, 384] i4).toLoadRect f4) where
  hq b x := (load2 v2 f2 i2 e2 b x (by omega) (by omega)).trans (I.hq _ _)
  hk a x := (load2 v3 f3 i3 e3 a x (by omega) (by omega)).trans ((I.hk _ _).trans (by simp only [Nat.zero_add]))
  ht x a := (load2 v4 f4 i4 e4 x a (by omega) (by omega)).trans ((I.ht _ _).trans (by simp only [Nat.zero_add]))
  hv a y := (load2 v5 f5 i5 e5 a y (by omega) (by omega)).trans ((I.hv _ _).trans (by simp only [Nat.zero_add]))
  hd y b := (load2 v6 f6 i6 e6 y b (by omega) (by omega)).trans (I.hd _ _)
  hl b := (load3 v7 f7 i7 e7 b (by omega) (by omega) (by omega)).trans (I.hl _ _ hh)
  hdl b := (load3 v8 f8 i8 e8 b (by omega) (by omega) (by omega)).trans (I.he _ _ hh)

/-- Two writes of half the columns each, both adding to what was there. -/
theorem add_columns {n0 c : ℕ} (v : View sig κ sp ⟨2, ![n0, 2 * c]⟩ .f32) (f : v.ty.Contents (Elt Ideal)) {R : ℕ → ℕ → ℝ} (A : ℕ → ℕ → ℕ → ℝ)
    (hf : At (v.read (Elt Ideal) f) R) {o0 o1 : Fin 2 → ℕ} (e0 : o0 = ![0, 0]) (e1 : o1 = ![0, c])
    (i0 : ∀ a, o0 a + (![n0, c] : Fin 2 → ℕ) a ≤ (⟨2, ![n0, 2 * c]⟩ : Shape).size a)
    (i1 : ∀ a, o1 a + (![n0, c] : Fin 2 → ℕ) a ≤ (⟨2, ![n0, 2 * c]⟩ : Shape).size a)
    {w0 w1 : (⟨2, ![n0, c]⟩ : Shape).Idx → EReal}
    (h0 : ∀ (a : Fin n0) (y : Fin c), w0 (ix2 a y) = v.readAt (Elt Ideal) (Rect.unit (s := ⟨2, ![n0, 2 * c]⟩) o0 ![n0, c] i0).toLoadRect f (ix2 a y : (⟨2, ![n0, c]⟩ : Shape).Idx) + ((A 0 a y : ℝ) : EReal))
    (h1 : ∀ (a : Fin n0) (y : Fin c), w1 (ix2 a y) = v.readAt (Elt Ideal) (Rect.unit (s := ⟨2, ![n0, 2 * c]⟩) o1 ![n0, c] i1).toLoadRect f (ix2 a y : (⟨2, ![n0, c]⟩ : Shape).Idx) + ((A 1 a y : ℝ) : EReal)) :
    At (v.read (Elt Ideal) (v.writes (Elt Ideal) f [⟨Rect.unit o1 ![n0, c] i1, w1⟩, ⟨Rect.unit o0 ![n0, c] i0, w0⟩]))
      (fun a y => R a y + A (y / c) a (y % c)) := by
  intro a y
  rw [View.read_writes_cons_put v f i1 w1 _ e1]
  by_cases hy : y.val < c
  · rw [put2_out _ _ _ _ (by omega), View.read_writes_cons_put v f i0 w0 _ e0, put2_in _ _ _ _ (by omega) (by omega), h0,
      load2 v f i0 e0 _ _ (by simp) (by simp), hf, EReal.coe_add]
    simp [Nat.div_eq_of_lt hy, Nat.mod_eq_of_lt hy]
  · have : y.val / c = 1 ∧ y.val % c = y.val - c := by
      have := y.isLt
      exact ⟨by rw [Nat.div_eq_iff (by omega)]; omega, by rw [Nat.mod_eq_sub_mod (by omega), Nat.mod_eq_of_lt (by omega)]⟩
    rw [put2_in _ _ _ _ (by omega) (by omega), h1, load2 v f i1 e1 _ _ (by simp) (by simp; omega), hf, EReal.coe_add, this.1, this.2]
    simp only [Nat.sub_zero, Nat.zero_add]
    rw [Nat.add_sub_of_le (by omega)]

/-- The same over an array just filled, the second write's old values read after the first write. -/
theorem add_columns_filled {n0 c : ℕ} (v : View sig κ sp ⟨2, ![n0, 2 * c]⟩ .f32) {R : ℕ → ℕ → ℝ} (A : ℕ → ℕ → ℕ → ℝ)
    {w : (⟨2, ![n0, 2 * c]⟩ : Shape).Idx → EReal} (hw : At w R) {oz : Fin 2 → ℕ}
    (iz : ∀ a, oz a + (⟨2, ![n0, 2 * c]⟩ : Shape).size a ≤ (⟨2, ![n0, 2 * c]⟩ : Shape).size a)
    {o0 o1 : Fin 2 → ℕ} (e0 : o0 = ![0, 0]) (e1 : o1 = ![0, c])
    (i0 : ∀ a, o0 a + (![n0, c] : Fin 2 → ℕ) a ≤ (⟨2, ![n0, 2 * c]⟩ : Shape).size a)
    (i1 : ∀ a, o1 a + (![n0, c] : Fin 2 → ℕ) a ≤ (⟨2, ![n0, 2 * c]⟩ : Shape).size a)
    {w0 w1 : (⟨2, ![n0, c]⟩ : Shape).Idx → EReal}
    (h0 : ∀ (a : Fin n0) (y : Fin c), w0 (ix2 a y) = v.readCov (Val := Elt Ideal) [⟨Rect.unit (s := ⟨2, ![n0, 2 * c]⟩) oz ![n0, 2 * c] iz, w⟩]
        (Rect.unit (s := ⟨2, ![n0, 2 * c]⟩) o0 ![n0, c] i0).toLoadRect (ix2 a y : (⟨2, ![n0, c]⟩ : Shape).Idx) + ((A 0 a y : ℝ) : EReal))
    (h1 : ∀ (a : Fin n0) (y : Fin c), w1 (ix2 a y) = v.readCov (Val := Elt Ideal) [⟨Rect.unit (s := ⟨2, ![n0, 2 * c]⟩) o0 ![n0, c] i0, w0⟩,
          ⟨Rect.unit (s := ⟨2, ![n0, 2 * c]⟩) oz ![n0, 2 * c] iz, w⟩]
        (Rect.unit (s := ⟨2, ![n0, 2 * c]⟩) o1 ![n0, c] i1).toLoadRect (ix2 a y : (⟨2, ![n0, c]⟩ : Shape).Idx) + ((A 1 a y : ℝ) : EReal)) :
    At (v.read (Elt Ideal) (v.writes (Elt Ideal) v.junk [⟨Rect.unit (s := ⟨2, ![n0, 2 * c]⟩) o1 ![n0, c] i1, w1⟩,
        ⟨Rect.unit (s := ⟨2, ![n0, 2 * c]⟩) o0 ![n0, c] i0, w0⟩, ⟨Rect.unit (s := ⟨2, ![n0, 2 * c]⟩) oz ![n0, 2 * c] iz, w⟩]))
      (fun a y => R a y + A (y / c) a (y % c)) := by
  have e := View.writes_append v (Val := Elt Ideal) v.junk [⟨Rect.unit (s := ⟨2, ![n0, 2 * c]⟩) o1 ![n0, c] i1, w1⟩,
        ⟨Rect.unit (s := ⟨2, ![n0, 2 * c]⟩) o0 ![n0, c] i0, w0⟩] [⟨Rect.unit (s := ⟨2, ![n0, 2 * c]⟩) oz ![n0, 2 * c] iz, w⟩]
  have hz : At (v.read (Elt Ideal) (v.writes (Elt Ideal) v.junk [⟨Rect.unit (s := ⟨2, ![n0, 2 * c]⟩) oz ![n0, 2 * c] iz, w⟩])) R := by
    have := View.read_writes_full (Val := Elt Ideal) v v.junk iz w []
    intro a y
    exact (congrFun this _).trans (hw a y)
  have g := add_columns v _ A hz e0 e1 i0 i1 h0 (w1 := w1) (fun a y => by
    rw [h1]
    congr 1
    unfold View.readCov
    have ha : 0 + a.val < n0 := by omega
    have hy : c + y.val < 2 * c := by omega
    rw [load2 v _ i1 e1 a y ha hy, load2 v _ i1 e1 a y ha hy]
    exact (congrFun (View.read_writes_cons_put (Val := Elt Ideal) v v.junk i0 w0 _ e0) _).trans (put2_out _ _ _ _ (by dsimp only; omega)))
  rw [← e] at g
  exact g

/-- Two writes of half the rows each, of the columns of one query block, both adding to what was there. -/
theorem add_rows {r n s q : ℕ} (v : View sig κ sp ⟨2, ![2 * r, n]⟩ .f32) (f : v.ty.Contents (Elt Ideal)) {R : ℕ → ℕ → ℝ} (A : ℕ → ℕ → ℕ → ℝ)
    (hf : At (v.read (Elt Ideal) f) R) {o0 o1 : Fin 2 → ℕ} (hq : q + s ≤ n) (e0 : o0 = ![0, q]) (e1 : o1 = ![r, q])
    (i0 : ∀ a, o0 a + (![r, s] : Fin 2 → ℕ) a ≤ (⟨2, ![2 * r, n]⟩ : Shape).size a)
    (i1 : ∀ a, o1 a + (![r, s] : Fin 2 → ℕ) a ≤ (⟨2, ![2 * r, n]⟩ : Shape).size a)
    {w0 w1 : (⟨2, ![r, s]⟩ : Shape).Idx → EReal}
    (h0 : ∀ (x : Fin r) (b : Fin s), w0 (ix2 x b) = v.readAt (Elt Ideal) (Rect.unit (s := ⟨2, ![2 * r, n]⟩) o0 ![r, s] i0).toLoadRect f (ix2 x b : (⟨2, ![r, s]⟩ : Shape).Idx) + ((A 0 x b : ℝ) : EReal))
    (h1 : ∀ (x : Fin r) (b : Fin s), w1 (ix2 x b) = v.readAt (Elt Ideal) (Rect.unit (s := ⟨2, ![2 * r, n]⟩) o1 ![r, s] i1).toLoadRect f (ix2 x b : (⟨2, ![r, s]⟩ : Shape).Idx) + ((A 1 x b : ℝ) : EReal)) :
    At (v.read (Elt Ideal) (v.writes (Elt Ideal) f [⟨Rect.unit o1 ![r, s] i1, w1⟩, ⟨Rect.unit o0 ![r, s] i0, w0⟩]))
      (fun x g => R x g + if q ≤ g ∧ g < q + s then A (x / r) (x % r) (g - q) else 0) := by
  intro x g
  rw [View.read_writes_cons_put v f i1 w1 _ e1]
  by_cases hg : q ≤ g.val ∧ g.val < q + s
  swap
  · rw [put2_out _ _ _ _ (by omega), View.read_writes_cons_put v f i0 w0 _ e0, put2_out _ _ _ _ (by omega), View.writes_nil, hf]
    simp [hg]
  simp only [if_pos hg]
  by_cases hy : x.val < r
  · rw [put2_out _ _ _ _ (by omega), View.read_writes_cons_put v f i0 w0 _ e0, put2_in _ _ _ _ (by omega) (by omega), h0,
      load2 v f i0 e0 _ _ (by simp) (by simp; omega), hf, EReal.coe_add]
    simp only [Nat.div_eq_of_lt hy, Nat.mod_eq_of_lt hy, Nat.sub_zero, Nat.zero_add]
    rw [Nat.add_sub_of_le (by omega)]
  · have : x.val / r = 1 ∧ x.val % r = x.val - r := by
      have := x.isLt
      exact ⟨by rw [Nat.div_eq_iff (by omega)]; omega, by rw [Nat.mod_eq_sub_mod (by omega), Nat.mod_eq_of_lt (by omega)]⟩
    rw [put2_in _ _ _ _ (by omega) (by omega), h1, load2 v f i1 e1 _ _ (by simp; omega) (by simp; omega), hf, EReal.coe_add, this.1, this.2]
    simp only []
    rw [Nat.add_sub_of_le (by omega), Nat.add_sub_of_le (by omega)]

end Views

end Cert.KernelIdeal.Tile
-- ==== Proof.TripB.lean ====
/- One trip of the loop of the later key blocks: what the arrays it writes hold afterwards. -/
module

public import proofs.«01_k».proof.Proof.Views
public import proofs.«01_k».proof.Proof.Gen.KernelIdeal.Loops

@[expose] public section

set_option maxRecDepth 8192

noncomputable section

namespace Cert.KernelIdeal.Tile

open Cert.KernelIdeal Cert.KernelIdeal.Gen Idealize.ShloMosaic Idealize.ShloMosaic.TcCoe Idealize.ShloMosaic.Tactic Cert.Attn
open Idealize.SL Idealize.SL.RA Idealize.SL.BI Idealize.SL.ProofMode Idealize.SL.Sem

theorem t2_trips : ∀ i : grid0.Coords, (k0_t2_loop i).trips = 10 - (i 1).val := by decide +kernel

theorem t2_lt (i : grid0.Coords) (k : Fin (k0_t2_loop i).trips) : (i 1).val + k.val + 1 < 11 := by
  have h := k.isLt
  have e := t2_trips i
  omega

variable {𝒱 : Variants} {c : Dev nD} {bd : Option 𝒱.V} {i : grid0.Coords} {arg2 : Memref sig .tc .vmem S4224x256 .bf16} {harg2 : arg2.IsWhole} {arg3 : Memref sig .tc .vmem S384x256 .bf16} {harg3 : arg3.IsWhole} {arg4 : Memref sig .tc .vmem S256x384 .bf16} {harg4 : arg4.IsWhole} {arg5 : Memref sig .tc .vmem S384x128 .bf16} {harg5 : arg5.IsWhole} {arg6 : Memref sig .tc .vmem S128x4224 .bf16} {harg6 : arg6.IsWhole} {arg7 : Memref sig .tc .vmem S1x8x4224 .f32} {harg7 : arg7.IsWhole} {arg8 : Memref sig .tc .vmem S1x8x4224 .f32} {harg8 : arg8.IsWhole} {arg9 : Memref sig .tc .vmem S256x4224 .f32} {harg9 : arg9.IsWhole} {arg10 : Memref sig .tc .vmem S384x256 .f32} {harg10 : arg10.IsWhole} {arg11 : Memref sig .tc .vmem S384x128 .f32} {harg11 : arg11.IsWhole} {arg12 : Memref sig .tc .vmem S384x256 .f32} {harg12 : arg12.IsWhole} {arg13 : Memref sig .tc .vmem S384x128 .f32} {harg13 : arg13.IsWhole} {k0_h3 : k0_cond3 i = 1#1} {v159 : BitVec 32} {X_arg2 : BufTy.Contents (Elt Ideal) arg2.view.ty} {X_arg3 : BufTy.Contents (Elt Ideal) arg3.view.ty} {X_arg4 : BufTy.Contents (Elt Ideal) arg4.view.ty} {X_arg5 : BufTy.Contents (Elt Ideal) arg5.view.ty} {X_arg6 : BufTy.Contents (Elt Ideal) arg6.view.ty} {X_arg7 : BufTy.Contents (Elt Ideal) arg7.view.ty} {X_arg8 : BufTy.Contents (Elt Ideal) arg8.view.ty}
  {D : Data}

/-- One trip's writes into `arg9`. -/
theorem t2_trip_dq (hkb : 1 ≤ (i 1).val)
    (I : Ins D (i 1).val (arg2.view.read (Elt Ideal) X_arg2) (arg3.view.read (Elt Ideal) X_arg3) (arg4.view.read (Elt Ideal) X_arg4)
    (arg5.view.read (Elt Ideal) X_arg5) (arg6.view.read (Elt Ideal) X_arg6) (arg7.view.read (Elt Ideal) X_arg7) (arg8.view.read (Elt Ideal) X_arg8))
    (k : Fin (k0_t2_loop i).trips) (f9 : BufTy.Contents (Elt Ideal) arg9.view.ty) (f12 : BufTy.Contents (Elt Ideal) arg12.view.ty)
    (f13 : BufTy.Contents (Elt Ideal) arg13.view.ty) {R : ℕ → ℕ → ℝ} (hR : At (arg9.view.read (Elt Ideal) f9) R) :
    At (arg9.view.read (Elt Ideal) (arg9.view.writes (Elt Ideal) f9
      ((trip_k0_t2 (F := Ideal) 𝒱 c bd i arg2 harg2 arg3 harg3 arg4 harg4 arg5 harg5 arg6 harg6 arg7 harg7 arg8 harg8 arg9 harg9 arg10 harg10 arg11 harg11 arg12 harg12 arg13 harg13 k0_h3 v159 X_arg2 X_arg3 X_arg4 X_arg5 X_arg6 X_arg7 X_arg8 k).1 f9 f12 f13)))
      (fun x g => R x g + if 384 * ((i 1).val + k.val + 1) ≤ g ∧ g < 384 * ((i 1).val + k.val + 1) + 384 then addQ D (x / 128) (i 1).val ((i 1).val + k.val + 1) (x % 128) (g - 384 * ((i 1).val + k.val + 1)) else 0) := by
  have hk10 : k.val < (k0_t2_loop i).trips := k.isLt
  have hq : (i 1).val + k.val + 1 < 11 := t2_lt i k
  have hlt : (i 1).val < (i 1).val + k.val + 1 := by omega
  have e2 : 384 * (i 1).val + 384 * k.val + 384 = 384 * ((i 1).val + k.val + 1) := by ring
  have R0 := reads_of I (h := 0) (by omega) hq ((k0_off17_eq i k).trans (by rw [e2])) rfl rfl rfl ((k0_off18_eq i k).trans (by rw [e2])) ((k0_off19_eq i k).trans (by rw [e2])) ((k0_off19_eq i k).trans (by rw [e2]))
    (k0_off17_inb i k k0_h3) inb_S384x256_S384x128_0_0 inb_S256x384_S128x384_0_0 inb_S384x128_S384x64_0_0 (k0_off18_inb i k k0_h3) (k0_off19_inb i k k0_h3) (k0_off19_inb i k k0_h3)
  have R1 := reads_of I (h := 1) (by omega) hq ((k0_off21_eq i k).trans (by rw [e2])) rfl rfl rfl ((k0_off22_eq i k).trans (by rw [e2])) ((k0_off23_eq i k).trans (by rw [e2])) ((k0_off23_eq i k).trans (by rw [e2]))
    (k0_off21_inb i k k0_h3) inb_S384x256_S384x128_0_128 inb_S256x384_S128x384_128_0 inb_S384x128_S384x64_0_64 (k0_off22_inb i k k0_h3) (k0_off23_inb i k k0_h3) (k0_off23_inb i k k0_h3)
  unfold trip_k0_t2
  dsimp only
  exact add_rows (r := 128) (q := 384 * ((i 1).val + k.val + 1)) (s := 384) arg9.view f9 (fun h x b => addQ D h (i 1).val ((i 1).val + k.val + 1) x b) hR (by omega) ((k0_off20_eq i k).trans (by rw [e2])) ((k0_off24_eq i k).trans (by rw [e2])) _ _
    (fun x b => t2_dq0 R0 hkb hlt _ x b) (fun x b => t2_dq1 R1 hkb hlt _ x b)

/-- One trip's writes into `arg12`. -/
theorem t2_trip_dk (hkb : 1 ≤ (i 1).val)
    (I : Ins D (i 1).val (arg2.view.read (Elt Ideal) X_arg2) (arg3.view.read (Elt Ideal) X_arg3) (arg4.view.read (Elt Ideal) X_arg4)
    (arg5.view.read (Elt Ideal) X_arg5) (arg6.view.read (Elt Ideal) X_arg6) (arg7.view.read (Elt Ideal) X_arg7) (arg8.view.read (Elt Ideal) X_arg8))
    (k : Fin (k0_t2_loop i).trips) (f9 : BufTy.Contents (Elt Ideal) arg9.view.ty) (f12 : BufTy.Contents (Elt Ideal) arg12.view.ty)
    (f13 : BufTy.Contents (Elt Ideal) arg13.view.ty) {R : ℕ → ℕ → ℝ} (hR : At (arg12.view.read (Elt Ideal) f12) R) :
    At (arg12.view.read (Elt Ideal) (arg12.view.writes (Elt Ideal) f12
      ((trip_k0_t2 (F := Ideal) 𝒱 c bd i arg2 harg2 arg3 harg3 arg4 harg4 arg5 harg5 arg6 harg6 arg7 harg7 arg8 harg8 arg9 harg9 arg10 harg10 arg11 harg11 arg12 harg12 arg13 harg13 k0_h3 v159 X_arg2 X_arg3 X_arg4 X_arg5 X_arg6 X_arg7 X_arg8 k).2.1 f9 f12 f13)))
      (fun a x => R a x + addK D (x / 128) (i 1).val ((i 1).val + k.val + 1) a (x % 128)) := by
  have hk10 : k.val < (k0_t2_loop i).trips := k.isLt
  have hq : (i 1).val + k.val + 1 < 11 := t2_lt i k
  have hlt : (i 1).val < (i 1).val + k.val + 1 := by omega
  have e2 : 384 * (i 1).val + 384 * k.val + 384 = 384 * ((i 1).val + k.val + 1) := by ring
  have R0 := reads_of I (h := 0) (by omega) hq ((k0_off17_eq i k).trans (by rw [e2])) rfl rfl rfl ((k0_off18_eq i k).trans (by rw [e2])) ((k0_off19_eq i k).trans (by rw [e2])) ((k0_off19_eq i k).trans (by rw [e2]))
    (k0_off17_inb i k k0_h3) inb_S384x256_S384x128_0_0 inb_S256x384_S128x384_0_0 inb_S384x128_S384x64_0_0 (k0_off18_inb i k k0_h3) (k0_off19_inb i k k0_h3) (k0_off19_inb i k k0_h3)
  have R1 := reads_of I (h := 1) (by omega) hq ((k0_off21_eq i k).trans (by rw [e2])) rfl rfl rfl ((k0_off22_eq i k).trans (by rw [e2])) ((k0_off23_eq i k).trans (by rw [e2])) ((k0_off23_eq i k).trans (by rw [e2]))
    (k0_off21_inb i k k0_h3) inb_S384x256_S384x128_0_128 inb_S256x384_S128x384_128_0 inb_S384x128_S384x64_0_64 (k0_off22_inb i k k0_h3) (k0_off23_inb i k k0_h3) (k0_off23_inb i k k0_h3)
  unfold trip_k0_t2
  dsimp only
  exact add_columns (c := 128) arg12.view f12 (fun h a x => addK D h (i 1).val ((i 1).val + k.val + 1) a x) hR rfl rfl _ _
    (fun a x => t2_dk0 R0 hkb hlt _ a x) (fun a x => t2_dk1 R1 hkb hlt _ a x)

/-- One trip's writes into `arg13`. -/
theorem t2_trip_dv (hkb : 1 ≤ (i 1).val)
    (I : Ins D (i 1).val (arg2.view.read (Elt Ideal) X_arg2) (arg3.view.read (Elt Ideal) X_arg3) (arg4.view.read (Elt Ideal) X_arg4)
    (arg5.view.read (Elt Ideal) X_arg5) (arg6.view.read (Elt Ideal) X_arg6) (arg7.view.read (Elt Ideal) X_arg7) (arg8.view.read (Elt Ideal) X_arg8))
    (k : Fin (k0_t2_loop i).trips) (f9 : BufTy.Contents (Elt Ideal) arg9.view.ty) (f12 : BufTy.Contents (Elt Ideal) arg12.view.ty)
    (f13 : BufTy.Contents (Elt Ideal) arg13.view.ty) {R : ℕ → ℕ → ℝ} (hR : At (arg13.view.read (Elt Ideal) f13) R) :
    At (arg13.view.read (Elt Ideal) (arg13.view.writes (Elt Ideal) f13
      ((trip_k0_t2 (F := Ideal) 𝒱 c bd i arg2 harg2 arg3 harg3 arg4 harg4 arg5 harg5 arg6 harg6 arg7 harg7 arg8 harg8 arg9 harg9 arg10 harg10 arg11 harg11 arg12 harg12 arg13 harg13 k0_h3 v159 X_arg2 X_arg3 X_arg4 X_arg5 X_arg6 X_arg7 X_arg8 k).2.2.1 f9 f12 f13)))
      (fun a y => R a y + addV D (y / 64) (i 1).val ((i 1).val + k.val + 1) a (y % 64)) := by
  have hk10 : k.val < (k0_t2_loop i).trips := k.isLt
  have hq : (i 1).val + k.val + 1 < 11 := t2_lt i k
  have hlt : (i 1).val < (i 1).val + k.val + 1 := by omega
  have e2 : 384 * (i 1).val + 384 * k.val + 384 = 384 * ((i 1).val + k.val + 1) := by ring
  have R0 := reads_of I (h := 0) (by omega) hq ((k0_off17_eq i k).trans (by rw [e2])) rfl rfl rfl ((k0_off18_eq i k).trans (by rw [e2])) ((k0_off19_eq i k).trans (by rw [e2])) ((k0_off19_eq i k).trans (by rw [e2]))
    (k0_off17_inb i k k0_h3) inb_S384x256_S384x128_0_0 inb_S256x384_S128x384_0_0 inb_S384x128_S384x64_0_0 (k0_off18_inb i k k0_h3) (k0_off19_inb i k k0_h3) (k0_off19_inb i k k0_h3)
  have R1 := reads_of I (h := 1) (by omega) hq ((k0_off21_eq i k).trans (by rw [e2])) rfl rfl rfl ((k0_off22_eq i k).trans (by rw [e2])) ((k0_off23_eq i k).trans (by rw [e2])) ((k0_off23_eq i k).trans (by rw [e2]))
    (k0_off21_inb i k k0_h3) inb_S384x256_S384x128_0_128 inb_S256x384_S128x384_128_0 inb_S384x128_S384x64_0_64 (k0_off22_inb i k k0_h3) (k0_off23_inb i k k0_h3) (k0_off23_inb i k k0_h3)
  unfold trip_k0_t2
  dsimp only
  exact add_columns (c := 64) arg13.view f13 (fun h a y => addV D h (i 1).val ((i 1).val + k.val + 1) a y) hR rfl rfl _ _
    (fun a x => t2_dv0 R0 hkb hlt _ a x) (fun a x => t2_dv1 R1 hkb hlt _ a x)

end Cert.KernelIdeal.Tile
-- ==== Proof.LoopB.lean ====
/- The loop of the later key blocks: what the arrays it writes hold after any number of trips. -/
module

public import proofs.«01_k».proof.Proof.TripB
public import proofs.«01_k».proof.Proof.Gen.KernelIdeal.Loops

@[expose] public section

set_option maxRecDepth 8192

noncomputable section

namespace Cert.KernelIdeal.Tile

open Cert.KernelIdeal Cert.KernelIdeal.Gen Idealize.ShloMosaic Idealize.ShloMosaic.TcCoe Idealize.ShloMosaic.Tactic Cert.Attn
open scoped BigOperators
open Idealize.SL Idealize.SL.RA Idealize.SL.BI Idealize.SL.ProofMode Idealize.SL.Sem

variable {𝒱 : Variants} {c : Dev nD} {bd : Option 𝒱.V} {i : grid0.Coords} {arg2 : Memref sig .tc .vmem S4224x256 .bf16} {harg2 : arg2.IsWhole} {arg3 : Memref sig .tc .vmem S384x256 .bf16} {harg3 : arg3.IsWhole} {arg4 : Memref sig .tc .vmem S256x384 .bf16} {harg4 : arg4.IsWhole} {arg5 : Memref sig .tc .vmem S384x128 .bf16} {harg5 : arg5.IsWhole} {arg6 : Memref sig .tc .vmem S128x4224 .bf16} {harg6 : arg6.IsWhole} {arg7 : Memref sig .tc .vmem S1x8x4224 .f32} {harg7 : arg7.IsWhole} {arg8 : Memref sig .tc .vmem S1x8x4224 .f32} {harg8 : arg8.IsWhole} {arg9 : Memref sig .tc .vmem S256x4224 .f32} {harg9 : arg9.IsWhole} {arg10 : Memref sig .tc .vmem S384x256 .f32} {harg10 : arg10.IsWhole} {arg11 : Memref sig .tc .vmem S384x128 .f32} {harg11 : arg11.IsWhole} {arg12 : Memref sig .tc .vmem S384x256 .f32} {harg12 : arg12.IsWhole} {arg13 : Memref sig .tc .vmem S384x128 .f32} {harg13 : arg13.IsWhole} {k0_h3 : k0_cond3 i = 1#1} {v159 : BitVec 32} {X_arg2 : BufTy.Contents (Elt Ideal) arg2.view.ty} {X_arg3 : BufTy.Contents (Elt Ideal) arg3.view.ty} {X_arg4 : BufTy.Contents (Elt Ideal) arg4.view.ty} {X_arg5 : BufTy.Contents (Elt Ideal) arg5.view.ty} {X_arg6 : BufTy.Contents (Elt Ideal) arg6.view.ty} {X_arg7 : BufTy.Contents (Elt Ideal) arg7.view.ty} {X_arg8 : BufTy.Contents (Elt Ideal) arg8.view.ty}
  {D : Data}

/-- The trips before trip `m`. -/
theorem t2_loop (hkb : 1 ≤ (i 1).val)
    (I : Ins D (i 1).val (arg2.view.read (Elt Ideal) X_arg2) (arg3.view.read (Elt Ideal) X_arg3) (arg4.view.read (Elt Ideal) X_arg4)
    (arg5.view.read (Elt Ideal) X_arg5) (arg6.view.read (Elt Ideal) X_arg6) (arg7.view.read (Elt Ideal) X_arg7) (arg8.view.read (Elt Ideal) X_arg8))
    (f9 : BufTy.Contents (Elt Ideal) arg9.view.ty) (f12 : BufTy.Contents (Elt Ideal) arg12.view.ty)
    (f13 : BufTy.Contents (Elt Ideal) arg13.view.ty) {R9 R12 R13 : ℕ → ℕ → ℝ} (h9 : At (arg9.view.read (Elt Ideal) f9) R9)
    (h12 : At (arg12.view.read (Elt Ideal) f12) R12) (h13 : At (arg13.view.read (Elt Ideal) f13) R13) (m : ℕ) (hm : m ≤ (k0_t2_loop i).trips) :
    At (arg9.view.read (Elt Ideal) (arg9.view.writes (Elt Ideal) f9 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 k0_h3 v159 X_arg2 X_arg3 X_arg4 X_arg5 X_arg6 X_arg7 X_arg8 f9 f12 f13 m).1))
      (fun x g => R9 x g + ∑ n ∈ Finset.range m, if 384 * ((i 1).val + n + 1) ≤ g ∧ g < 384 * ((i 1).val + n + 1) + 384 then addQ D (x / 128) (i 1).val ((i 1).val + n + 1) (x % 128) (g - 384 * ((i 1).val + n + 1)) else 0) ∧
    At (arg12.view.read (Elt Ideal) (arg12.view.writes (Elt Ideal) f12 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 k0_h3 v159 X_arg2 X_arg3 X_arg4 X_arg5 X_arg6 X_arg7 X_arg8 f9 f12 f13 m).2.1))
      (fun a x => R12 a x + ∑ n ∈ Finset.range m, addK D (x / 128) (i 1).val ((i 1).val + n + 1) a (x % 128)) ∧
    At (arg13.view.read (Elt Ideal) (arg13.view.writes (Elt Ideal) f13 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 k0_h3 v159 X_arg2 X_arg3 X_arg4 X_arg5 X_arg6 X_arg7 X_arg8 f9 f12 f13 m).2.2))
      (fun a y => R13 a y + ∑ n ∈ Finset.range m, addV D (y / 64) (i 1).val ((i 1).val + n + 1) a (y % 64)) := by
  induction m with
  | zero =>
    rw [pb_k0_t2.eq_1]
    refine ⟨?_, ?_, ?_⟩
    · exact fun i j => (h9 i j).trans (by simp)
    · exact fun i j => (h12 i j).trans (by simp)
    · exact fun i j => (h13 i j).trans (by simp)
  | succ m ih =>
    obtain ⟨i9, i12, i13⟩ := ih (by omega)
    have e := pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 k0_h3 v159 X_arg2 X_arg3 X_arg4 X_arg5 X_arg6 X_arg7 X_arg8 f9 f12 f13 ⟨m, by omega⟩
    rw [show m + 1 = (⟨m, by omega⟩ : Fin (k0_t2_loop i).trips).val + 1 from rfl, e]
    dsimp only
    rw [View.writes_append, View.writes_append, View.writes_append]
    refine ⟨?_, ?_, ?_⟩
    · refine fun i j => (t2_trip_dq hkb I ⟨m, by omega⟩ _ _ _ i9 i j).trans ?_
      simp only [Finset.sum_range_succ, add_assoc]
    · refine fun i j => (t2_trip_dk hkb I ⟨m, by omega⟩ _ _ _ i12 i j).trans ?_
      simp only [Finset.sum_range_succ, add_assoc]
    · refine fun i j => (t2_trip_dv hkb I ⟨m, by omega⟩ _ _ _ i13 i j).trans ?_
      simp only [Finset.sum_range_succ, add_assoc]

end Cert.KernelIdeal.Tile
-- ==== Proof.TripA.lean ====
/- One trip of the loop of the first key block: what the arrays it writes hold afterwards. -/
module

public import proofs.«01_k».proof.Proof.Views
public import proofs.«01_k».proof.Proof.Gen.KernelIdeal.Loops

@[expose] public section

set_option maxRecDepth 8192

noncomputable section

namespace Cert.KernelIdeal.Tile

open Cert.KernelIdeal Cert.KernelIdeal.Gen Idealize.ShloMosaic Idealize.ShloMosaic.TcCoe Idealize.ShloMosaic.Tactic Cert.Attn
open Idealize.SL Idealize.SL.RA Idealize.SL.BI Idealize.SL.ProofMode Idealize.SL.Sem

variable {𝒱 : Variants} {c : Dev nD} {bd : Option 𝒱.V} {i : grid0.Coords} {arg2 : Memref sig .tc .vmem S4224x256 .bf16} {harg2 : arg2.IsWhole} {arg3 : Memref sig .tc .vmem S384x256 .bf16} {harg3 : arg3.IsWhole} {arg4 : Memref sig .tc .vmem S256x384 .bf16} {harg4 : arg4.IsWhole} {arg5 : Memref sig .tc .vmem S384x128 .bf16} {harg5 : arg5.IsWhole} {arg6 : Memref sig .tc .vmem S128x4224 .bf16} {harg6 : arg6.IsWhole} {arg7 : Memref sig .tc .vmem S1x8x4224 .f32} {harg7 : arg7.IsWhole} {arg8 : Memref sig .tc .vmem S1x8x4224 .f32} {harg8 : arg8.IsWhole} {arg9 : Memref sig .tc .vmem S256x4224 .f32} {harg9 : arg9.IsWhole} {arg10 : Memref sig .tc .vmem S384x256 .f32} {harg10 : arg10.IsWhole} {arg11 : Memref sig .tc .vmem S384x128 .f32} {harg11 : arg11.IsWhole} {arg12 : Memref sig .tc .vmem S384x256 .f32} {harg12 : arg12.IsWhole} {arg13 : Memref sig .tc .vmem S384x128 .f32} {harg13 : arg13.IsWhole} {arg1 : BitVec 32} {k0_h2 : k0_cond2 i = 1#1} {X_arg2 : BufTy.Contents (Elt Ideal) arg2.view.ty} {X_arg3 : BufTy.Contents (Elt Ideal) arg3.view.ty} {X_arg4 : BufTy.Contents (Elt Ideal) arg4.view.ty} {X_arg5 : BufTy.Contents (Elt Ideal) arg5.view.ty} {X_arg6 : BufTy.Contents (Elt Ideal) arg6.view.ty} {X_arg7 : BufTy.Contents (Elt Ideal) arg7.view.ty} {X_arg8 : BufTy.Contents (Elt Ideal) arg8.view.ty}
  {D : Data} {kb : ℕ}

/-- One trip's writes into `arg9`. -/
theorem t1_trip_dq (hkb : kb < 11) (h1 : arg1 = BitVec.ofNat 32 kb)
    (I : Ins D kb (arg2.view.read (Elt Ideal) X_arg2) (arg3.view.read (Elt Ideal) X_arg3) (arg4.view.read (Elt Ideal) X_arg4)
    (arg5.view.read (Elt Ideal) X_arg5) (arg6.view.read (Elt Ideal) X_arg6) (arg7.view.read (Elt Ideal) X_arg7) (arg8.view.read (Elt Ideal) X_arg8))
    (k : Fin k0_t1_loop.trips) (f9 : BufTy.Contents (Elt Ideal) arg9.view.ty) (f12 : BufTy.Contents (Elt Ideal) arg12.view.ty)
    (f13 : BufTy.Contents (Elt Ideal) arg13.view.ty) {R : ℕ → ℕ → ℝ} (hR : At (arg9.view.read (Elt Ideal) f9) R) :
    At (arg9.view.read (Elt Ideal) (arg9.view.writes (Elt Ideal) f9
      ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 k0_h2 X_arg2 X_arg3 X_arg4 X_arg5 X_arg6 X_arg7 X_arg8 k).1 f9 f12 f13)))
      (fun x g => R x g + if 384 * k.val ≤ g ∧ g < 384 * k.val + 384 then addQ D (x / 128) kb k.val (x % 128) (g - 384 * k.val) else 0) := by
  have hq : k.val < 11 := Nat.lt_of_lt_of_le k.isLt k0_t1_abs.2.1
  have hw : Scf.iv 0#32 1#32 k.val = BitVec.ofNat 32 k.val := by simp [Scf.iv]
  subst h1
  have R0 := reads_of I (h := 0) (by omega) hq (k0_off1_eq k) rfl rfl rfl (k0_off2_eq k) (k0_off3_eq k) (k0_off3_eq k)
    (k0_off1_inb i k k0_h2) inb_S384x256_S384x128_0_0 inb_S256x384_S128x384_0_0 inb_S384x128_S384x64_0_0 (k0_off2_inb i k k0_h2) (k0_off3_inb i k k0_h2) (k0_off3_inb i k k0_h2)
  have R1 := reads_of I (h := 1) (by omega) hq (k0_off5_eq k) rfl rfl rfl (k0_off6_eq k) (k0_off7_eq k) (k0_off7_eq k)
    (k0_off5_inb i k k0_h2) inb_S384x256_S384x128_0_128 inb_S256x384_S128x384_128_0 inb_S384x128_S384x64_0_64 (k0_off6_inb i k k0_h2) (k0_off7_inb i k k0_h2) (k0_off7_inb i k k0_h2)
  unfold trip_k0_t1
  dsimp only
  exact add_rows (r := 128) (q := 384 * k.val) (s := 384) arg9.view f9 (fun h x b => addQ D h kb k.val x b) hR (by omega) (k0_off4_eq k) (k0_off8_eq k) _ _
    (fun x b => t1_dq0 R0 hkb hq hw _ x b) (fun x b => t1_dq1 R1 hkb hq hw _ x b)

/-- One trip's writes into `arg12`. -/
theorem t1_trip_dk (hkb : kb < 11) (h1 : arg1 = BitVec.ofNat 32 kb)
    (I : Ins D kb (arg2.view.read (Elt Ideal) X_arg2) (arg3.view.read (Elt Ideal) X_arg3) (arg4.view.read (Elt Ideal) X_arg4)
    (arg5.view.read (Elt Ideal) X_arg5) (arg6.view.read (Elt Ideal) X_arg6) (arg7.view.read (Elt Ideal) X_arg7) (arg8.view.read (Elt Ideal) X_arg8))
    (k : Fin k0_t1_loop.trips) (f9 : BufTy.Contents (Elt Ideal) arg9.view.ty) (f12 : BufTy.Contents (Elt Ideal) arg12.view.ty)
    (f13 : BufTy.Contents (Elt Ideal) arg13.view.ty) {R : ℕ → ℕ → ℝ} (hR : At (arg12.view.read (Elt Ideal) f12) R) :
    At (arg12.view.read (Elt Ideal) (arg12.view.writes (Elt Ideal) f12
      ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 k0_h2 X_arg2 X_arg3 X_arg4 X_arg5 X_arg6 X_arg7 X_arg8 k).2.1 f9 f12 f13)))
      (fun a x => R a x + addK D (x / 128) kb k.val a (x % 128)) := by
  have hq : k.val < 11 := Nat.lt_of_lt_of_le k.isLt k0_t1_abs.2.1
  have hw : Scf.iv 0#32 1#32 k.val = BitVec.ofNat 32 k.val := by simp [Scf.iv]
  subst h1
  have R0 := reads_of I (h := 0) (by omega) hq (k0_off1_eq k) rfl rfl rfl (k0_off2_eq k) (k0_off3_eq k) (k0_off3_eq k)
    (k0_off1_inb i k k0_h2) inb_S384x256_S384x128_0_0 inb_S256x384_S128x384_0_0 inb_S384x128_S384x64_0_0 (k0_off2_inb i k k0_h2) (k0_off3_inb i k k0_h2) (k0_off3_inb i k k0_h2)
  have R1 := reads_of I (h := 1) (by omega) hq (k0_off5_eq k) rfl rfl rfl (k0_off6_eq k) (k0_off7_eq k) (k0_off7_eq k)
    (k0_off5_inb i k k0_h2) inb_S384x256_S384x128_0_128 inb_S256x384_S128x384_128_0 inb_S384x128_S384x64_0_64 (k0_off6_inb i k k0_h2) (k0_off7_inb i k k0_h2) (k0_off7_inb i k k0_h2)
  unfold trip_k0_t1
  dsimp only
  exact add_columns (c := 128) arg12.view f12 (fun h a x => addK D h kb k.val a x) hR rfl rfl _ _
    (fun a x => t1_dk0 R0 hkb hq hw _ a x) (fun a x => t1_dk1 R1 hkb hq hw _ a x)

/-- One trip's writes into `arg13`. -/
theorem t1_trip_dv (hkb : kb < 11) (h1 : arg1 = BitVec.ofNat 32 kb)
    (I : Ins D kb (arg2.view.read (Elt Ideal) X_arg2) (arg3.view.read (Elt Ideal) X_arg3) (arg4.view.read (Elt Ideal) X_arg4)
    (arg5.view.read (Elt Ideal) X_arg5) (arg6.view.read (Elt Ideal) X_arg6) (arg7.view.read (Elt Ideal) X_arg7) (arg8.view.read (Elt Ideal) X_arg8))
    (k : Fin k0_t1_loop.trips) (f9 : BufTy.Contents (Elt Ideal) arg9.view.ty) (f12 : BufTy.Contents (Elt Ideal) arg12.view.ty)
    (f13 : BufTy.Contents (Elt Ideal) arg13.view.ty) {R : ℕ → ℕ → ℝ} (hR : At (arg13.view.read (Elt Ideal) f13) R) :
    At (arg13.view.read (Elt Ideal) (arg13.view.writes (Elt Ideal) f13
      ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 k0_h2 X_arg2 X_arg3 X_arg4 X_arg5 X_arg6 X_arg7 X_arg8 k).2.2.1 f9 f12 f13)))
      (fun a y => R a y + addV D (y / 64) kb k.val a (y % 64)) := by
  have hq : k.val < 11 := Nat.lt_of_lt_of_le k.isLt k0_t1_abs.2.1
  have hw : Scf.iv 0#32 1#32 k.val = BitVec.ofNat 32 k.val := by simp [Scf.iv]
  subst h1
  have R0 := reads_of I (h := 0) (by omega) hq (k0_off1_eq k) rfl rfl rfl (k0_off2_eq k) (k0_off3_eq k) (k0_off3_eq k)
    (k0_off1_inb i k k0_h2) inb_S384x256_S384x128_0_0 inb_S256x384_S128x384_0_0 inb_S384x128_S384x64_0_0 (k0_off2_inb i k k0_h2) (k0_off3_inb i k k0_h2) (k0_off3_inb i k k0_h2)
  have R1 := reads_of I (h := 1) (by omega) hq (k0_off5_eq k) rfl rfl rfl (k0_off6_eq k) (k0_off7_eq k) (k0_off7_eq k)
    (k0_off5_inb i k k0_h2) inb_S384x256_S384x128_0_128 inb_S256x384_S128x384_128_0 inb_S384x128_S384x64_0_64 (k0_off6_inb i k k0_h2) (k0_off7_inb i k k0_h2) (k0_off7_inb i k k0_h2)
  unfold trip_k0_t1
  dsimp only
  exact add_columns (c := 64) arg13.view f13 (fun h a y => addV D h kb k.val a y) hR rfl rfl _ _
    (fun a x => t1_dv0 R0 hkb hq hw _ a x) (fun a x => t1_dv1 R1 hkb hq hw _ a x)

end Cert.KernelIdeal.Tile
-- ==== Proof.LoopA.lean ====
/- The loop of the first key block: what the arrays it writes hold after any number of trips. -/
module

public import proofs.«01_k».proof.Proof.TripA
public import proofs.«01_k».proof.Proof.Gen.KernelIdeal.Loops

@[expose] public section

set_option maxRecDepth 8192

noncomputable section

namespace Cert.KernelIdeal.Tile

open Cert.KernelIdeal Cert.KernelIdeal.Gen Idealize.ShloMosaic Idealize.ShloMosaic.TcCoe Idealize.ShloMosaic.Tactic Cert.Attn
open scoped BigOperators
open Idealize.SL Idealize.SL.RA Idealize.SL.BI Idealize.SL.ProofMode Idealize.SL.Sem

variable {𝒱 : Variants} {c : Dev nD} {bd : Option 𝒱.V} {i : grid0.Coords} {arg2 : Memref sig .tc .vmem S4224x256 .bf16} {harg2 : arg2.IsWhole} {arg3 : Memref sig .tc .vmem S384x256 .bf16} {harg3 : arg3.IsWhole} {arg4 : Memref sig .tc .vmem S256x384 .bf16} {harg4 : arg4.IsWhole} {arg5 : Memref sig .tc .vmem S384x128 .bf16} {harg5 : arg5.IsWhole} {arg6 : Memref sig .tc .vmem S128x4224 .bf16} {harg6 : arg6.IsWhole} {arg7 : Memref sig .tc .vmem S1x8x4224 .f32} {harg7 : arg7.IsWhole} {arg8 : Memref sig .tc .vmem S1x8x4224 .f32} {harg8 : arg8.IsWhole} {arg9 : Memref sig .tc .vmem S256x4224 .f32} {harg9 : arg9.IsWhole} {arg10 : Memref sig .tc .vmem S384x256 .f32} {harg10 : arg10.IsWhole} {arg11 : Memref sig .tc .vmem S384x128 .f32} {harg11 : arg11.IsWhole} {arg12 : Memref sig .tc .vmem S384x256 .f32} {harg12 : arg12.IsWhole} {arg13 : Memref sig .tc .vmem S384x128 .f32} {harg13 : arg13.IsWhole} {arg1 : BitVec 32} {k0_h2 : k0_cond2 i = 1#1} {X_arg2 : BufTy.Contents (Elt Ideal) arg2.view.ty} {X_arg3 : BufTy.Contents (Elt Ideal) arg3.view.ty} {X_arg4 : BufTy.Contents (Elt Ideal) arg4.view.ty} {X_arg5 : BufTy.Contents (Elt Ideal) arg5.view.ty} {X_arg6 : BufTy.Contents (Elt Ideal) arg6.view.ty} {X_arg7 : BufTy.Contents (Elt Ideal) arg7.view.ty} {X_arg8 : BufTy.Contents (Elt Ideal) arg8.view.ty}
  {D : Data} {kb : ℕ}

/-- The trips before trip `m`. -/
theorem t1_loop (hkb : kb < 11) (h1 : arg1 = BitVec.ofNat 32 kb)
    (I : Ins D kb (arg2.view.read (Elt Ideal) X_arg2) (arg3.view.read (Elt Ideal) X_arg3) (arg4.view.read (Elt Ideal) X_arg4)
    (arg5.view.read (Elt Ideal) X_arg5) (arg6.view.read (Elt Ideal) X_arg6) (arg7.view.read (Elt Ideal) X_arg7) (arg8.view.read (Elt Ideal) X_arg8))
    (f9 : BufTy.Contents (Elt Ideal) arg9.view.ty) (f12 : BufTy.Contents (Elt Ideal) arg12.view.ty)
    (f13 : BufTy.Contents (Elt Ideal) arg13.view.ty) {R9 R12 R13 : ℕ → ℕ → ℝ} (h9 : At (arg9.view.read (Elt Ideal) f9) R9)
    (h12 : At (arg12.view.read (Elt Ideal) f12) R12) (h13 : At (arg13.view.read (Elt Ideal) f13) R13) (m : ℕ) (hm : m ≤ k0_t1_loop.trips) :
    At (arg9.view.read (Elt Ideal) (arg9.view.writes (Elt Ideal) f9 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 k0_h2 X_arg2 X_arg3 X_arg4 X_arg5 X_arg6 X_arg7 X_arg8 f9 f12 f13 m).1))
      (fun x g => R9 x g + ∑ n ∈ Finset.range m, if 384 * n ≤ g ∧ g < 384 * n + 384 then addQ D (x / 128) kb n (x % 128) (g - 384 * n) else 0) ∧
    At (arg12.view.read (Elt Ideal) (arg12.view.writes (Elt Ideal) f12 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 k0_h2 X_arg2 X_arg3 X_arg4 X_arg5 X_arg6 X_arg7 X_arg8 f9 f12 f13 m).2.1))
      (fun a x => R12 a x + ∑ n ∈ Finset.range m, addK D (x / 128) kb n a (x % 128)) ∧
    At (arg13.view.read (Elt Ideal) (arg13.view.writes (Elt Ideal) f13 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 k0_h2 X_arg2 X_arg3 X_arg4 X_arg5 X_arg6 X_arg7 X_arg8 f9 f12 f13 m).2.2))
      (fun a y => R13 a y + ∑ n ∈ Finset.range m, addV D (y / 64) kb n a (y % 64)) := by
  induction m with
  | zero =>
    rw [pb_k0_t1.eq_1]
    refine ⟨?_, ?_, ?_⟩
    · exact fun i j => (h9 i j).trans (by simp)
    · exact fun i j => (h12 i j).trans (by simp)
    · exact fun i j => (h13 i j).trans (by simp)
  | succ m ih =>
    obtain ⟨i9, i12, i13⟩ := ih (by omega)
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg1 k0_h2 X_arg2 X_arg3 X_arg4 X_arg5 X_arg6 X_arg7 X_arg8 f9 f12 f13 ⟨m, by omega⟩
    rw [show m + 1 = (⟨m, by omega⟩ : Fin k0_t1_loop.trips).val + 1 from rfl, e]
    dsimp only
    rw [View.writes_append, View.writes_append, View.writes_append]
    refine ⟨?_, ?_, ?_⟩
    · refine fun i j => (t1_trip_dq hkb h1 I ⟨m, by omega⟩ _ _ _ i9 i j).trans ?_
      simp only [Finset.sum_range_succ, add_assoc]
    · refine fun i j => (t1_trip_dk hkb h1 I ⟨m, by omega⟩ _ _ _ i12 i j).trans ?_
      simp only [Finset.sum_range_succ, add_assoc]
    · refine fun i j => (t1_trip_dv hkb h1 I ⟨m, by omega⟩ _ _ _ i13 i j).trans ?_
      simp only [Finset.sum_range_succ, add_assoc]

end Cert.KernelIdeal.Tile
-- ==== Proof.StepA.lean ====
/- What a step of the first key block leaves in the three outputs. -/
module

public import proofs.«01_k».proof.Proof.LoopA
public import proofs.«01_k».proof.Proof.Gen.KernelIdeal.Frame

@[expose] public section

set_option maxRecDepth 8192

noncomputable section

namespace Cert.KernelIdeal.Tile

open Cert.KernelIdeal Cert.KernelIdeal.Gen Idealize.ShloMosaic Idealize.ShloMosaic.TcCoe Idealize.ShloMosaic.Tactic Cert.Attn
open scoped BigOperators
open Idealize.SL Idealize.SL.RA Idealize.SL.BI Idealize.SL.ProofMode Idealize.SL.Sem

theorem pay1_at : At (k0_pay1 : FVec Ideal S256x4224 .f32) (fun _ _ => 0) := by
  intro x g
  pointwise [k0_pay1]
  simp

theorem pay2_at : At (k0_pay2 : FVec Ideal S384x256 .f32) (fun _ _ => 0) := by
  intro x g
  pointwise [k0_pay2]
  simp

theorem pay3_at : At (k0_pay3 : FVec Ideal S384x128 .f32) (fun _ _ => 0) := by
  intro x g
  pointwise [k0_pay3]
  simp

theorem trips_A : Scf.trips 0#32 (Scalar.addi 0#32 11#32) 1#32 = 11 := by decide +kernel

variable {c : Dev nD} {i : grid0.Coords} {arg2 : Memref sig .tc .vmem S4224x256 .bf16} {harg2 : arg2.IsWhole} {arg3 : Memref sig .tc .vmem S384x256 .bf16} {harg3 : arg3.IsWhole} {arg4 : Memref sig .tc .vmem S256x384 .bf16} {harg4 : arg4.IsWhole} {arg5 : Memref sig .tc .vmem S384x128 .bf16} {harg5 : arg5.IsWhole} {arg6 : Memref sig .tc .vmem S128x4224 .bf16} {harg6 : arg6.IsWhole} {arg7 : Memref sig .tc .vmem S1x8x4224 .f32} {harg7 : arg7.IsWhole} {arg8 : Memref sig .tc .vmem S1x8x4224 .f32} {harg8 : arg8.IsWhole} {arg9 : Memref sig .tc .vmem S256x4224 .f32} {harg9 : arg9.IsWhole} {arg10 : Memref sig .tc .vmem S384x256 .f32} {harg10 : arg10.IsWhole} {arg11 : Memref sig .tc .vmem S384x128 .f32} {harg11 : arg11.IsWhole} {arg12 : Memref sig .tc .vmem S384x256 .f32} {harg12 : arg12.IsWhole} {arg13 : Memref sig .tc .vmem S384x128 .f32} {harg13 : arg13.IsWhole} {hc0 : cond0_0 i} {hc1 : cond0_1 i} {hc2 : ¬cond0_2 i}     {x0 : Vec Ideal S4224x256 .bf16} {x1 : Vec Ideal S384x256 .bf16} {x2 : Vec Ideal S256x384 .bf16} {x3 : Vec Ideal S384x128 .bf16} {x4 : Vec Ideal S128x4224 .bf16} {x5 : Vec Ideal S1x8x4224 .f32} {x6 : Vec Ideal S1x8x4224 .f32}
  {D : Data}

/-- Output 7 after a step of the first key block. -/
theorem out_A_7 (I : Ins D (i 1).val x0 x1 x2 x3 x4 x5 x6) :
    At (out0_A_7 (F := Ideal) c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6) (fun x g => ∑ n ∈ Finset.range 11, if 384 * n ≤ g ∧ g < 384 * n + 384 then addQ D (x / 128) (i 1).val n (x % 128) (g - 384 * n) else 0) := by
  intro x g
  unfold out0_A_7
  rw [View.read_writes_apply_eq VO0_7 _ arg9.view arg9.view.junk (ix2 x g) _ (cover0_A_7 (F := Ideal) c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 (ix2 x g))]
  unfold kernelRun0_A
  dsimp only
  sl_unfold_run_names
  rw [View.writes_append]
  refine ((t1_loop (kb := (i 1).val) (i 1).isLt rfl (by
      have e2 := harg2.read_unread (Val := Elt Ideal) x0
      have e3 := harg3.read_unread (Val := Elt Ideal) x1
      have e4 := harg4.read_unread (Val := Elt Ideal) x2
      have e5 := harg5.read_unread (Val := Elt Ideal) x3
      have e6 := harg6.read_unread (Val := Elt Ideal) x4
      have e7 := harg7.read_unread (Val := Elt Ideal) x5
      have e8 := harg8.read_unread (Val := Elt Ideal) x6
      rw [e2, e3, e4, e5, e6, e7, e8]
      exact I) _ _ _
    (by rw [View.read_writes_full]; exact pay1_at) (by rw [View.read_writes_full]; exact pay2_at) (by rw [View.read_writes_full]; exact pay3_at)
    (Scf.trips 0#32 (Scalar.addi 0#32 11#32) 1#32) (le_refl _)).1 x g).trans ?_
  rw [trips_A]
  simp only [zero_add]

/-- Output 8 after a step of the first key block. -/
theorem out_A_8 (I : Ins D (i 1).val x0 x1 x2 x3 x4 x5 x6) :
    At (out0_A_8 (F := Ideal) c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6) (fun a x => ∑ n ∈ Finset.range 11, addK D (x / 128) (i 1).val n a (x % 128)) := by
  intro x g
  unfold out0_A_8
  unfold kernelRun0_A
  dsimp only
  sl_unfold_run_names
  erw [View.read_writes_full]
  unfold View.readCov
  erw [View.readAt_full]
  rw [View.writes_append]
  refine ((t1_loop (kb := (i 1).val) (i 1).isLt rfl (by
      have e2 := harg2.read_unread (Val := Elt Ideal) x0
      have e3 := harg3.read_unread (Val := Elt Ideal) x1
      have e4 := harg4.read_unread (Val := Elt Ideal) x2
      have e5 := harg5.read_unread (Val := Elt Ideal) x3
      have e6 := harg6.read_unread (Val := Elt Ideal) x4
      have e7 := harg7.read_unread (Val := Elt Ideal) x5
      have e8 := harg8.read_unread (Val := Elt Ideal) x6
      rw [e2, e3, e4, e5, e6, e7, e8]
      exact I) _ _ _
    (by rw [View.read_writes_full]; exact pay1_at) (by rw [View.read_writes_full]; exact pay2_at) (by rw [View.read_writes_full]; exact pay3_at)
    (Scf.trips 0#32 (Scalar.addi 0#32 11#32) 1#32) (le_refl _)).2.1 x g).trans ?_
  rw [trips_A]
  simp only [zero_add]

/-- Output 9 after a step of the first key block. -/
theorem out_A_9 (I : Ins D (i 1).val x0 x1 x2 x3 x4 x5 x6) :
    At (out0_A_9 (F := Ideal) c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6) (fun a y => ∑ n ∈ Finset.range 11, addV D (y / 64) (i 1).val n a (y % 64)) := by
  intro x g
  unfold out0_A_9
  unfold kernelRun0_A
  dsimp only
  sl_unfold_run_names
  erw [View.read_writes_full]
  unfold View.readCov
  erw [View.readAt_full]
  rw [View.writes_append]
  refine ((t1_loop (kb := (i 1).val) (i 1).isLt rfl (by
      have e2 := harg2.read_unread (Val := Elt Ideal) x0
      have e3 := harg3.read_unread (Val := Elt Ideal) x1
      have e4 := harg4.read_unread (Val := Elt Ideal) x2
      have e5 := harg5.read_unread (Val := Elt Ideal) x3
      have e6 := harg6.read_unread (Val := Elt Ideal) x4
      have e7 := harg7.read_unread (Val := Elt Ideal) x5
      have e8 := harg8.read_unread (Val := Elt Ideal) x6
      rw [e2, e3, e4, e5, e6, e7, e8]
      exact I) _ _ _
    (by rw [View.read_writes_full]; exact pay1_at) (by rw [View.read_writes_full]; exact pay2_at) (by rw [View.read_writes_full]; exact pay3_at)
    (Scf.trips 0#32 (Scalar.addi 0#32 11#32) 1#32) (le_refl _)).2.2 x g).trans ?_
  rw [trips_A]
  simp only [zero_add]

end Cert.KernelIdeal.Tile
-- ==== Proof.StepB.lean ====
/- What a step of a later key block leaves in the three outputs. -/
module

public import proofs.«01_k».proof.Proof.LoopB
public import proofs.«01_k».proof.Proof.StepA

@[expose] public section

set_option maxRecDepth 8192

noncomputable section

namespace Cert.KernelIdeal.Tile

open Cert.KernelIdeal Cert.KernelIdeal.Gen Idealize.ShloMosaic Idealize.ShloMosaic.TcCoe Idealize.ShloMosaic.Tactic Cert.Attn
open scoped BigOperators
open Idealize.SL Idealize.SL.RA Idealize.SL.BI Idealize.SL.ProofMode Idealize.SL.Sem

theorem t3_trips : ∀ i : grid0.Coords, (k0_t3_loop i).trips = 0 := by decide +kernel

variable {c : Dev nD} {i : grid0.Coords} {arg2 : Memref sig .tc .vmem S4224x256 .bf16} {harg2 : arg2.IsWhole} {arg3 : Memref sig .tc .vmem S384x256 .bf16} {harg3 : arg3.IsWhole} {arg4 : Memref sig .tc .vmem S256x384 .bf16} {harg4 : arg4.IsWhole} {arg5 : Memref sig .tc .vmem S384x128 .bf16} {harg5 : arg5.IsWhole} {arg6 : Memref sig .tc .vmem S128x4224 .bf16} {harg6 : arg6.IsWhole} {arg7 : Memref sig .tc .vmem S1x8x4224 .f32} {harg7 : arg7.IsWhole} {arg8 : Memref sig .tc .vmem S1x8x4224 .f32} {harg8 : arg8.IsWhole} {arg9 : Memref sig .tc .vmem S256x4224 .f32} {harg9 : arg9.IsWhole} {arg10 : Memref sig .tc .vmem S384x256 .f32} {harg10 : arg10.IsWhole} {arg11 : Memref sig .tc .vmem S384x128 .f32} {harg11 : arg11.IsWhole} {arg12 : Memref sig .tc .vmem S384x256 .f32} {harg12 : arg12.IsWhole} {arg13 : Memref sig .tc .vmem S384x128 .f32} {harg13 : arg13.IsWhole} {hc0 : ¬cond0_0 i} {hc1 : ¬cond0_1 i} {hc2 : cond0_2 i}     {x0 : Vec Ideal S4224x256 .bf16} {x1 : Vec Ideal S384x256 .bf16} {x2 : Vec Ideal S256x384 .bf16} {x3 : Vec Ideal S384x128 .bf16} {x4 : Vec Ideal S128x4224 .bf16} {x5 : Vec Ideal S1x8x4224 .f32} {x6 : Vec Ideal S1x8x4224 .f32} {xo7 : Vec Ideal S256x4224 .f32}
  {D : Data} {R : ℕ → ℕ → ℝ}

set_option maxHeartbeats 2000000 in
/-- Output 7 after a step of a later key block. -/
theorem out_B_7 (hkb : 1 ≤ (i 1).val) (I : Ins D (i 1).val x0 x1 x2 x3 x4 x5 x6) (hR : At xo7 R) :
    At (out0_B_7 (F := Ideal) c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo7) (fun x g => R x g + (if 384 * (i 1).val ≤ g ∧ g < 384 * (i 1).val + 384 then addQ D (x / 128) (i 1).val (i 1).val (x % 128) (g - 384 * (i 1).val) else 0) + ∑ n ∈ Finset.range (10 - (i 1).val), if 384 * ((i 1).val + n + 1) ≤ g ∧ g < 384 * ((i 1).val + n + 1) + 384 then addQ D (x / 128) (i 1).val ((i 1).val + n + 1) (x % 128) (g - 384 * ((i 1).val + n + 1)) else 0) := by
  have I' : Ins D (i 1).val (arg2.view.read (Elt Ideal) (harg2.unread x0)) (arg3.view.read (Elt Ideal) (harg3.unread x1))
      (arg4.view.read (Elt Ideal) (harg4.unread x2)) (arg5.view.read (Elt Ideal) (harg5.unread x3)) (arg6.view.read (Elt Ideal) (harg6.unread x4))
      (arg7.view.read (Elt Ideal) (harg7.unread x5)) (arg8.view.read (Elt Ideal) (harg8.unread x6)) := (by
      have e2 := harg2.read_unread (Val := Elt Ideal) x0
      have e3 := harg3.read_unread (Val := Elt Ideal) x1
      have e4 := harg4.read_unread (Val := Elt Ideal) x2
      have e5 := harg5.read_unread (Val := Elt Ideal) x3
      have e6 := harg6.read_unread (Val := Elt Ideal) x4
      have e7 := harg7.read_unread (Val := Elt Ideal) x5
      have e8 := harg8.read_unread (Val := Elt Ideal) x6
      rw [e2, e3, e4, e5, e6, e7, e8]
      exact I)
  have h9 : At (arg9.view.read (Elt Ideal) (harg9.unread xo7)) R := by
    have e9 := harg9.read_unread (Val := Elt Ideal) xo7
    rw [e9]
    exact hR
  have hq11 : (i 1).val < 11 := (i 1).isLt
  have R0 := reads_of I' (h := 0) (qb := (i 1).val) (by omega) (i 1).isLt (k0_off9_eq i) rfl rfl rfl (k0_off10_eq i) (k0_off11_eq i) (k0_off11_eq i)
    (k0_off9_inb i hc2) inb_S384x256_S384x128_0_0 inb_S256x384_S128x384_0_0 inb_S384x128_S384x64_0_0 (k0_off10_inb i hc2) (k0_off11_inb i hc2) (k0_off11_inb i hc2)
  have R1 := reads_of I' (h := 1) (qb := (i 1).val) (by omega) (i 1).isLt (k0_off13_eq i) rfl rfl rfl (k0_off14_eq i) (k0_off15_eq i) (k0_off15_eq i)
    (k0_off13_inb i hc2) inb_S384x256_S384x128_0_128 inb_S256x384_S128x384_128_0 inb_S384x128_S384x64_0_64 (k0_off14_inb i hc2) (k0_off15_inb i hc2) (k0_off15_inb i hc2)
  intro x g
  unfold out0_B_7
  unfold kernelRun0_B
  dsimp only
  sl_unfold_run_names
  rw [show Scf.trips (Scalar.addi (Scalar.addi (BitVec.ofNat 32 (i 1).val) 1#32) (Scalar.muli (Scalar.divsi (Scalar.subi 11#32 (Scalar.addi (BitVec.ofNat 32 (i 1).val) 1#32)) 1#32) 1#32)) (Scalar.addi (Scalar.addi (BitVec.ofNat 32 (i 1).val) 1#32) (Scalar.subi 11#32 (Scalar.addi (BitVec.ofNat 32 (i 1).val) 1#32))) 1#32 = 0 from t3_trips i]
  rw [pb_k0_t3.eq_1]
  dsimp only [List.nil_append]
  rw [View.writes_append]
  refine ((t2_loop hkb I' _ _ _ (R9 := fun x g => R x g + if 384 * (i 1).val ≤ g ∧ g < 384 * (i 1).val + 384 then addQ D (x / 128) (i 1).val (i 1).val (x % 128) (g - 384 * (i 1).val) else 0) (R12 := fun a x => 0 + addK D (x / 128) (i 1).val (i 1).val a (x % 128)) (R13 := fun a y => 0 + addV D (y / 64) (i 1).val (i 1).val a (y % 64))
    (by exact add_rows (r := 128) (q := 384 * (i 1).val) (s := 384) arg9.view _ (fun h x b => addQ D h (i 1).val (i 1).val x b) h9 (by omega) (k0_off12_eq i) (k0_off16_eq i) _ _ (fun x b => tb_dq0 R0 (i 1).isLt _ x b) (fun x b => tb_dq1 R1 (i 1).isLt _ x b))
    (by exact add_columns_filled (c := 128) arg12.view (fun h a x => addK D h (i 1).val (i 1).val a x) pay2_at _ rfl rfl _ _ (fun a x => tb_dk0 R0 (i 1).isLt _ a x) (fun a x => tb_dk1 R1 (i 1).isLt _ a x))
    (by exact add_columns_filled (c := 64) arg13.view (fun h a y => addV D h (i 1).val (i 1).val a y) pay3_at _ rfl rfl _ _ (fun a x => tb_dv0 R0 (i 1).isLt _ a x) (fun a x => tb_dv1 R1 (i 1).isLt _ a x))
    (k0_t2_loop i).trips (le_refl _)).1 x g).trans ?_
  rw [t2_trips]

set_option maxHeartbeats 2000000 in
/-- Output 8 after a step of a later key block. -/
theorem out_B_8 (hkb : 1 ≤ (i 1).val) (I : Ins D (i 1).val x0 x1 x2 x3 x4 x5 x6) (hR : At xo7 R) :
    At (out0_B_8 (F := Ideal) c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo7) (fun a x => addK D (x / 128) (i 1).val (i 1).val a (x % 128) + ∑ n ∈ Finset.range (10 - (i 1).val), addK D (x / 128) (i 1).val ((i 1).val + n + 1) a (x % 128)) := by
  have I' : Ins D (i 1).val (arg2.view.read (Elt Ideal) (harg2.unread x0)) (arg3.view.read (Elt Ideal) (harg3.unread x1))
      (arg4.view.read (Elt Ideal) (harg4.unread x2)) (arg5.view.read (Elt Ideal) (harg5.unread x3)) (arg6.view.read (Elt Ideal) (harg6.unread x4))
      (arg7.view.read (Elt Ideal) (harg7.unread x5)) (arg8.view.read (Elt Ideal) (harg8.unread x6)) := (by
      have e2 := harg2.read_unread (Val := Elt Ideal) x0
      have e3 := harg3.read_unread (Val := Elt Ideal) x1
      have e4 := harg4.read_unread (Val := Elt Ideal) x2
      have e5 := harg5.read_unread (Val := Elt Ideal) x3
      have e6 := harg6.read_unread (Val := Elt Ideal) x4
      have e7 := harg7.read_unread (Val := Elt Ideal) x5
      have e8 := harg8.read_unread (Val := Elt Ideal) x6
      rw [e2, e3, e4, e5, e6, e7, e8]
      exact I)
  have h9 : At (arg9.view.read (Elt Ideal) (harg9.unread xo7)) R := by
    have e9 := harg9.read_unread (Val := Elt Ideal) xo7
    rw [e9]
    exact hR
  have hq11 : (i 1).val < 11 := (i 1).isLt
  have R0 := reads_of I' (h := 0) (qb := (i 1).val) (by omega) (i 1).isLt (k0_off9_eq i) rfl rfl rfl (k0_off10_eq i) (k0_off11_eq i) (k0_off11_eq i)
    (k0_off9_inb i hc2) inb_S384x256_S384x128_0_0 inb_S256x384_S128x384_0_0 inb_S384x128_S384x64_0_0 (k0_off10_inb i hc2) (k0_off11_inb i hc2) (k0_off11_inb i hc2)
  have R1 := reads_of I' (h := 1) (qb := (i 1).val) (by omega) (i 1).isLt (k0_off13_eq i) rfl rfl rfl (k0_off14_eq i) (k0_off15_eq i) (k0_off15_eq i)
    (k0_off13_inb i hc2) inb_S384x256_S384x128_0_128 inb_S256x384_S128x384_128_0 inb_S384x128_S384x64_0_64 (k0_off14_inb i hc2) (k0_off15_inb i hc2) (k0_off15_inb i hc2)
  intro x g
  unfold out0_B_8
  unfold kernelRun0_B
  dsimp only
  sl_unfold_run_names
  erw [View.read_writes_full]
  unfold View.readCov
  erw [View.readAt_full]
  rw [show Scf.trips (k0_t3_loop i).lb (k0_t3_loop i).ub (k0_t3_loop i).st = 0 from t3_trips i]
  rw [pb_k0_t3.eq_1]
  dsimp only [List.nil_append]
  rw [View.writes_append]
  refine ((t2_loop hkb I' _ _ _ (R9 := fun x g => R x g + if 384 * (i 1).val ≤ g ∧ g < 384 * (i 1).val + 384 then addQ D (x / 128) (i 1).val (i 1).val (x % 128) (g - 384 * (i 1).val) else 0) (R12 := fun a x => 0 + addK D (x / 128) (i 1).val (i 1).val a (x % 128)) (R13 := fun a y => 0 + addV D (y / 64) (i 1).val (i 1).val a (y % 64))
    (by exact add_rows (r := 128) (q := 384 * (i 1).val) (s := 384) arg9.view _ (fun h x b => addQ D h (i 1).val (i 1).val x b) h9 (by omega) (k0_off12_eq i) (k0_off16_eq i) _ _ (fun x b => tb_dq0 R0 (i 1).isLt _ x b) (fun x b => tb_dq1 R1 (i 1).isLt _ x b))
    (by exact add_columns_filled (c := 128) arg12.view (fun h a x => addK D h (i 1).val (i 1).val a x) pay2_at _ rfl rfl _ _ (fun a x => tb_dk0 R0 (i 1).isLt _ a x) (fun a x => tb_dk1 R1 (i 1).isLt _ a x))
    (by exact add_columns_filled (c := 64) arg13.view (fun h a y => addV D h (i 1).val (i 1).val a y) pay3_at _ rfl rfl _ _ (fun a x => tb_dv0 R0 (i 1).isLt _ a x) (fun a x => tb_dv1 R1 (i 1).isLt _ a x))
    (k0_t2_loop i).trips (le_refl _)).2.1 x g).trans ?_
  rw [t2_trips]
  simp only [zero_add]

set_option maxHeartbeats 2000000 in
/-- Output 9 after a step of a later key block. -/
theorem out_B_9 (hkb : 1 ≤ (i 1).val) (I : Ins D (i 1).val x0 x1 x2 x3 x4 x5 x6) (hR : At xo7 R) :
    At (out0_B_9 (F := Ideal) c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo7) (fun a y => addV D (y / 64) (i 1).val (i 1).val a (y % 64) + ∑ n ∈ Finset.range (10 - (i 1).val), addV D (y / 64) (i 1).val ((i 1).val + n + 1) a (y % 64)) := by
  have I' : Ins D (i 1).val (arg2.view.read (Elt Ideal) (harg2.unread x0)) (arg3.view.read (Elt Ideal) (harg3.unread x1))
      (arg4.view.read (Elt Ideal) (harg4.unread x2)) (arg5.view.read (Elt Ideal) (harg5.unread x3)) (arg6.view.read (Elt Ideal) (harg6.unread x4))
      (arg7.view.read (Elt Ideal) (harg7.unread x5)) (arg8.view.read (Elt Ideal) (harg8.unread x6)) := (by
      have e2 := harg2.read_unread (Val := Elt Ideal) x0
      have e3 := harg3.read_unread (Val := Elt Ideal) x1
      have e4 := harg4.read_unread (Val := Elt Ideal) x2
      have e5 := harg5.read_unread (Val := Elt Ideal) x3
      have e6 := harg6.read_unread (Val := Elt Ideal) x4
      have e7 := harg7.read_unread (Val := Elt Ideal) x5
      have e8 := harg8.read_unread (Val := Elt Ideal) x6
      rw [e2, e3, e4, e5, e6, e7, e8]
      exact I)
  have h9 : At (arg9.view.read (Elt Ideal) (harg9.unread xo7)) R := by
    have e9 := harg9.read_unread (Val := Elt Ideal) xo7
    rw [e9]
    exact hR
  have hq11 : (i 1).val < 11 := (i 1).isLt
  have R0 := reads_of I' (h := 0) (qb := (i 1).val) (by omega) (i 1).isLt (k0_off9_eq i) rfl rfl rfl (k0_off10_eq i) (k0_off11_eq i) (k0_off11_eq i)
    (k0_off9_inb i hc2) inb_S384x256_S384x128_0_0 inb_S256x384_S128x384_0_0 inb_S384x128_S384x64_0_0 (k0_off10_inb i hc2) (k0_off11_inb i hc2) (k0_off11_inb i hc2)
  have R1 := reads_of I' (h := 1) (qb := (i 1).val) (by omega) (i 1).isLt (k0_off13_eq i) rfl rfl rfl (k0_off14_eq i) (k0_off15_eq i) (k0_off15_eq i)
    (k0_off13_inb i hc2) inb_S384x256_S384x128_0_128 inb_S256x384_S128x384_128_0 inb_S384x128_S384x64_0_64 (k0_off14_inb i hc2) (k0_off15_inb i hc2) (k0_off15_inb i hc2)
  intro x g
  unfold out0_B_9
  unfold kernelRun0_B
  dsimp only
  sl_unfold_run_names
  erw [View.read_writes_full]
  unfold View.readCov
  erw [View.readAt_full]
  rw [show Scf.trips (k0_t3_loop i).lb (k0_t3_loop i).ub (k0_t3_loop i).st = 0 from t3_trips i]
  rw [pb_k0_t3.eq_1]
  dsimp only [List.nil_append]
  rw [View.writes_append]
  refine ((t2_loop hkb I' _ _ _ (R9 := fun x g => R x g + if 384 * (i 1).val ≤ g ∧ g < 384 * (i 1).val + 384 then addQ D (x / 128) (i 1).val (i 1).val (x % 128) (g - 384 * (i 1).val) else 0) (R12 := fun a x => 0 + addK D (x / 128) (i 1).val (i 1).val a (x % 128)) (R13 := fun a y => 0 + addV D (y / 64) (i 1).val (i 1).val a (y % 64))
    (by exact add_rows (r := 128) (q := 384 * (i 1).val) (s := 384) arg9.view _ (fun h x b => addQ D h (i 1).val (i 1).val x b) h9 (by omega) (k0_off12_eq i) (k0_off16_eq i) _ _ (fun x b => tb_dq0 R0 (i 1).isLt _ x b) (fun x b => tb_dq1 R1 (i 1).isLt _ x b))
    (by exact add_columns_filled (c := 128) arg12.view (fun h a x => addK D h (i 1).val (i 1).val a x) pay2_at _ rfl rfl _ _ (fun a x => tb_dk0 R0 (i 1).isLt _ a x) (fun a x => tb_dk1 R1 (i 1).isLt _ a x))
    (by exact add_columns_filled (c := 64) arg13.view (fun h a y => addV D h (i 1).val (i 1).val a y) pay3_at _ rfl rfl _ _ (fun a x => tb_dv0 R0 (i 1).isLt _ a x) (fun a x => tb_dv1 R1 (i 1).isLt _ a x))
    (k0_t2_loop i).trips (le_refl _)).2.2 x g).trans ?_
  rw [t2_trips]
  simp only [zero_add]

end Cert.KernelIdeal.Tile
-- ==== Proof.Sums.lean ====
/- The sums over blocks that the steps leave, as sums over the rows of a pair. -/
module

public import proofs.«01_k».proof.Proof.Tile

@[expose] public section

noncomputable section

namespace Cert.KernelIdeal.Tile

open Cert.Attn
open scoped BigOperators

/-- A block left out of a sum was zero. -/
theorem sum_late (f : ℕ → ℝ) {kb : ℕ} (hkb : kb < 11) (hz : ∀ n, n < kb → f n = 0) :
    f kb + ∑ n ∈ Finset.range (10 - kb), f (kb + n + 1) = ∑ n ∈ Finset.range 11, f n := by
  have e : (11 : ℕ) = kb + (10 - kb + 1) := by omega
  rw [e, Finset.sum_range_add, Finset.sum_range_succ', Finset.sum_eq_zero fun n hn => hz n (Finset.mem_range.mp hn)]
  simp only [add_zero, zero_add]
  rw [add_comm]
  congr 1

variable (D : Data) (h : ℕ)

theorem p_hidden {kr g : ℕ} (hg : g < kr) : D.p h kr g = 0 := by
  unfold Data.p
  rw [if_neg]
  unfold Sees
  omega

theorem ds_hidden {kr g : ℕ} (hg : g < kr) : D.ds h kr g = 0 := by
  unfold Data.ds
  rw [p_hidden D h hg, zero_mul, zero_mul]

theorem addV_early {kb qb : ℕ} (hq : qb < kb) (a y : ℕ) (ha : a < 384) : addV D h kb qb a y = 0 := by
  unfold addV
  refine Finset.sum_eq_zero fun b _ => ?_
  rw [p_hidden D h (by have := b.isLt; omega), zero_mul]

theorem addK_early {kb qb : ℕ} (hq : qb < kb) (a x : ℕ) (ha : a < 384) : addK D h kb qb a x = 0 := by
  unfold addK
  refine Finset.sum_eq_zero fun b _ => ?_
  rw [ds_hidden D h (by have := b.isLt; omega), zero_mul]

theorem addQ_early {kb qb : ℕ} (hq : qb < kb) (x b : ℕ) (hb : b < 384) : addQ D h kb qb x b = 0 := by
  unfold addQ
  refine Finset.sum_eq_zero fun a _ => ?_
  rw [ds_hidden D h (by have := a.isLt; omega), mul_zero]

/-- A sum over eleven blocks of 384 rows is one over all rows. -/
theorem sum_blocks (f : ℕ → ℝ) : ∑ n ∈ Finset.range 11, ∑ b : Fin 384, f (384 * n + b) = ∑ g ∈ Finset.range 4224, f g := by
  have e : ∀ N : ℕ, ∑ n ∈ Finset.range N, ∑ b : Fin 384, f (384 * n + b) = ∑ g ∈ Finset.range (384 * N), f g := by
    intro N
    induction N with
    | zero => simp
    | succ N ih =>
      rw [Finset.sum_range_succ, ih, Nat.mul_succ, Finset.sum_range_add]
      congr 1
  exact e 11

/-- All that is added to one row of the keys' derivative. -/
theorem sum_addK (kb a x : ℕ) :
    ∑ n ∈ Finset.range 11, addK D h kb n a x = ∑ g ∈ Finset.range 4224, D.ds h (384 * kb + a) g * D.Q g (128 * h + x) :=
  sum_blocks fun g => D.ds h (384 * kb + a) g * D.Q g (128 * h + x)

/-- All that is added to one row of the values' derivative. -/
theorem sum_addV (kb a y : ℕ) :
    ∑ n ∈ Finset.range 11, addV D h kb n a y = ∑ g ∈ Finset.range 4224, D.p h (384 * kb + a) g * D.DO g (64 * h + y) :=
  sum_blocks fun g => D.p h (384 * kb + a) g * D.DO g (64 * h + y)

/-- What one tile adds to a column of the queries' derivative. -/
def inQ (kb n x g : ℕ) : ℝ := if 384 * n ≤ g ∧ g < 384 * n + 384 then addQ D h kb n x (g - 384 * n) else 0

theorem inQ_early {kb n : ℕ} (hn : n < kb) (x g : ℕ) : inQ D h kb n x g = 0 := by
  unfold inQ
  split_ifs with hc
  · exact addQ_early D h hn x _ (by omega)
  · rfl

/-- All that one key block adds to a column of the queries' derivative. -/
theorem sum_inQ (kb x g : ℕ) (hg : g < 4224) :
    ∑ n ∈ Finset.range 11, inQ D h kb n x g = ∑ a : Fin 384, D.K (384 * kb + a) (128 * h + x) * D.ds h (384 * kb + a) g := by
  rw [Finset.sum_eq_single (g / 384)]
  · unfold inQ addQ
    rw [if_pos (by omega)]
    refine Finset.sum_congr rfl fun a _ => ?_
    rw [show 384 * (g / 384) + (g - 384 * (g / 384)) = g by omega]
  · intro n _ hn
    unfold inQ
    rw [if_neg (by omega)]
  · intro hn
    exact absurd (Finset.mem_range.mpr (by omega)) hn

/-- All that the key blocks add to a column of the queries' derivative. -/
theorem sum_addQ (x g : ℕ) (hg : g < 4224) :
    ∑ kb ∈ Finset.range 11, ∑ n ∈ Finset.range 11, inQ D h kb n x g = ∑ kr ∈ Finset.range 4224, D.K kr (128 * h + x) * D.ds h kr g := by
  rw [← sum_blocks]
  exact Finset.sum_congr rfl fun kb _ => sum_inQ D h kb x g hg

end Cert.KernelIdeal.Tile
-- ==== Proof.Points.lean ====
/- What every step of the call leaves in the three outputs. -/
module

public import proofs.«01_k».proof.Proof.StepB
public import proofs.«01_k».proof.Proof.Sums

@[expose] public section

set_option maxRecDepth 8192

noncomputable section

namespace Cert.KernelIdeal.Tile

open Cert.KernelIdeal Cert.KernelIdeal.Gen Idealize.ShloMosaic Idealize.ShloMosaic.TcCoe Cert.Attn
open scoped BigOperators

theorem key_block (t : Fin cfg0.N) : (grid0.coords t 1).val = t.val % 11 := by
  have e1 : (grid0.coords t 1).val = t.val / 1 % 11 := Pipeline.Grid.coords_val t 1 (by decide) rfl
  rw [e1, Nat.div_one]

variable (m : (ℓ : Loc nD τ sig) → Buf (Elt Ideal) ℓ)

/-- At every point the staged blocks hold the numbers of the point's pair and key block. -/
def Staged (D : ℕ → Data) (c : Dev nD) : Prop :=
  ∀ t : Fin cfg0.N, Ins (D (t.val / 11)) (grid0.coords t 1).val (iblk m c 0 t) (iblk m c 1 t) (iblk m c 2 t) (iblk m c 3 t) (iblk m c 4 t)
    (iblk m c 5 t) (iblk m c 6 t)

variable {m} {D : ℕ → Data} {c : Dev nD}

theorem At.of_eq {n0 n1 : ℕ} {x : (⟨2, ![n0, n1]⟩ : Shape).Idx → EReal} {R R' : ℕ → ℕ → ℝ} (h : At x R)
    (e : ∀ (i : Fin n0) (j : Fin n1), R i j = R' i j) : At x R' := by
  intro i j
  rw [h i j, e i j]

theorem At.left {n0 n1 : ℕ} {x y : (⟨2, ![n0, n1]⟩ : Shape).Idx → EReal} {R : ℕ → ℕ → ℝ} (h : At x R) (e : y = x) : At y R := by
  rw [e]
  exact h

/-- The queries' derivative at a pair's first point. -/
theorem outQ_first (S : Staged m D c) (t : Fin cfg0.N) (h0 : t.val % 11 = 0) :
    At (n0 := 256) (n1 := 4224) (outsAt0 m c t.val t.isLt).1 (fun x g => ∑ kb ∈ Finset.range (t.val % 11 + 1), ∑ n' ∈ Finset.range 11, inQ (D (t.val / 11)) (x / 128) kb n' (x % 128) g) := by
  have E := congrArg (fun z => z.1) (outsAt0_A m c t h0 h0 (by omega))
  dsimp only at E
  have hk := key_block t
  have A := out_A_7 (c := c) (harg2 := hs0_0 t) (harg3 := hs0_1 t) (harg4 := hs0_2 t) (harg5 := hs0_3 t) (harg6 := hs0_4 t) (harg7 := hs0_5 t) (harg8 := hs0_6 t) (harg9 := hs0_7 t) (harg10 := hs0_8 t) (harg11 := hs0_9 t) (arg12 := scM0_0) (harg12 := Memref.isWhole_whole _) (arg13 := scM0_1) (harg13 := Memref.isWhole_whole _) (hc0 := (hcond0_0 t).mpr h0) (hc1 := (hcond0_1 t).mpr h0) (hc2 := fun h => absurd ((hcond0_2 t).mp h) (by omega)) (x0 := iblk m c 0 t) (x1 := iblk m c 1 t) (x2 := iblk m c 2 t) (x3 := iblk m c 3 t) (x4 := iblk m c 4 t) (x5 := iblk m c 5 t) (x6 := iblk m c 6 t) (S t)
  refine (A.left E).of_eq fun a x => ?_
  rw [hk]
  rw [h0, Nat.zero_add, Finset.sum_range_one]
  rfl

/-- The queries' derivative at a later point. -/
theorem outQ_later (S : Staged m D c) (t : Fin cfg0.N) (h0 : ¬t.val % 11 = 0) {R : ℕ → ℕ → ℝ}
    (hR : At (n0 := 256) (n1 := 4224) (outsAt0 m c (t.val - 1) (Nat.lt_of_le_of_lt (Nat.sub_le _ _) t.isLt)).1 R) :
    At (n0 := 256) (n1 := 4224) (outsAt0 m c t.val t.isLt).1 (fun x g => R x g + ∑ n' ∈ Finset.range 11, inQ (D (t.val / 11)) (x / 128) (t.val % 11) n' (x % 128) g) := by
  have E := congrArg (fun z => z.1) (outsAt0_B m c t h0 h0 (by omega))
  dsimp only at E
  have hk := key_block t
  have h11 : t.val % 11 < 11 := Nat.mod_lt _ (by decide)
  have h1 : 1 ≤ t.val % 11 := Nat.one_le_iff_ne_zero.mpr h0
  have B := out_B_7 (c := c) (harg2 := hs0_0 t) (harg3 := hs0_1 t) (harg4 := hs0_2 t) (harg5 := hs0_3 t) (harg6 := hs0_4 t) (harg7 := hs0_5 t) (harg8 := hs0_6 t) (harg9 := hs0_7 t) (harg10 := hs0_8 t) (harg11 := hs0_9 t) (arg12 := scM0_0) (harg12 := Memref.isWhole_whole _) (arg13 := scM0_1) (harg13 := Memref.isWhole_whole _) (hc0 := fun h => h0 ((hcond0_0 t).mp h)) (hc1 := fun h => h0 ((hcond0_1 t).mp h)) (hc2 := (hcond0_2 t).mpr (by omega)) (x0 := iblk m c 0 t) (x1 := iblk m c 1 t) (x2 := iblk m c 2 t) (x3 := iblk m c 3 t) (x4 := iblk m c 4 t) (x5 := iblk m c 5 t) (x6 := iblk m c 6 t) (xo7 := (outsAt0 m c (t.val - 1) (Nat.lt_of_le_of_lt (Nat.sub_le _ _) t.isLt)).1) (R := R) (by rw [hk]; exact h1) (S t) hR
  refine (B.left E).of_eq fun a x => ?_
  rw [hk]
  rw [add_assoc]
  congr 1
  rw [← sum_late (fun n => inQ (D (t.val / 11)) (a.val / 128) (t.val % 11) n (a.val % 128) x.val) h11 fun n hn => inQ_early _ _ hn _ _]
  rfl

/-- The queries' derivative after a point: what the key blocks so far have added. -/
theorem outQ_point (S : Staged m D c) : ∀ (n : ℕ) (hn : n < cfg0.N),
    At (n0 := 256) (n1 := 4224) (outsAt0 m c n hn).1 (fun x g => ∑ kb ∈ Finset.range (n % 11 + 1), ∑ n' ∈ Finset.range 11,
      inQ (D (n / 11)) (x / 128) kb n' (x % 128) g) := by
  intro n
  induction n with
  | zero =>
    intro hn
    have h0 : (⟨0, hn⟩ : Fin cfg0.N).val % 11 = 0 := rfl
    exact outQ_first S ⟨0, hn⟩ h0
  | succ n ih =>
    intro hn
    by_cases h0 : (n + 1) % 11 = 0
    · exact outQ_first S ⟨n + 1, hn⟩ h0
    · have h := outQ_later S ⟨n + 1, hn⟩ h0 (ih (Nat.lt_of_succ_lt hn))
      refine h.of_eq fun x g => ?_
      rw [Finset.sum_range_succ _ ((n + 1) % 11)]
      congr 1
      rw [show (n + 1) / 11 = n / 11 by omega, show (n + 1) % 11 = n % 11 + 1 by omega]

/-- The keys' derivative at a pair's first point. -/
theorem outK_first (S : Staged m D c) (t : Fin cfg0.N) (h0 : t.val % 11 = 0) :
    At (n0 := 384) (n1 := 256) (outsAt0 m c t.val t.isLt).2.1 (fun a x => ∑ g ∈ Finset.range 4224, (D (t.val / 11)).ds (x / 128) (384 * (t.val % 11) + a) g * (D (t.val / 11)).Q g (128 * (x / 128) + x % 128)) := by
  have E := congrArg (fun z => z.2.1) (outsAt0_A m c t h0 h0 (by omega))
  dsimp only at E
  have hk := key_block t
  have A := out_A_8 (c := c) (harg2 := hs0_0 t) (harg3 := hs0_1 t) (harg4 := hs0_2 t) (harg5 := hs0_3 t) (harg6 := hs0_4 t) (harg7 := hs0_5 t) (harg8 := hs0_6 t) (harg9 := hs0_7 t) (harg10 := hs0_8 t) (harg11 := hs0_9 t) (arg12 := scM0_0) (harg12 := Memref.isWhole_whole _) (arg13 := scM0_1) (harg13 := Memref.isWhole_whole _) (hc0 := (hcond0_0 t).mpr h0) (hc1 := (hcond0_1 t).mpr h0) (hc2 := fun h => absurd ((hcond0_2 t).mp h) (by omega)) (x0 := iblk m c 0 t) (x1 := iblk m c 1 t) (x2 := iblk m c 2 t) (x3 := iblk m c 3 t) (x4 := iblk m c 4 t) (x5 := iblk m c 5 t) (x6 := iblk m c 6 t) (S t)
  refine (A.left E).of_eq fun a x => ?_
  rw [hk]
  rw [sum_addK]

/-- The keys' derivative at a later point. -/
theorem outK_later (S : Staged m D c) (t : Fin cfg0.N) (h0 : ¬t.val % 11 = 0) {R : ℕ → ℕ → ℝ}
    (hR : At (n0 := 256) (n1 := 4224) (outsAt0 m c (t.val - 1) (Nat.lt_of_le_of_lt (Nat.sub_le _ _) t.isLt)).1 R) :
    At (n0 := 384) (n1 := 256) (outsAt0 m c t.val t.isLt).2.1 (fun a x => ∑ g ∈ Finset.range 4224, (D (t.val / 11)).ds (x / 128) (384 * (t.val % 11) + a) g * (D (t.val / 11)).Q g (128 * (x / 128) + x % 128)) := by
  have E := congrArg (fun z => z.2.1) (outsAt0_B m c t h0 h0 (by omega))
  dsimp only at E
  have hk := key_block t
  have h11 : t.val % 11 < 11 := Nat.mod_lt _ (by decide)
  have h1 : 1 ≤ t.val % 11 := Nat.one_le_iff_ne_zero.mpr h0
  have B := out_B_8 (c := c) (harg2 := hs0_0 t) (harg3 := hs0_1 t) (harg4 := hs0_2 t) (harg5 := hs0_3 t) (harg6 := hs0_4 t) (harg7 := hs0_5 t) (harg8 := hs0_6 t) (harg9 := hs0_7 t) (harg10 := hs0_8 t) (harg11 := hs0_9 t) (arg12 := scM0_0) (harg12 := Memref.isWhole_whole _) (arg13 := scM0_1) (harg13 := Memref.isWhole_whole _) (hc0 := fun h => h0 ((hcond0_0 t).mp h)) (hc1 := fun h => h0 ((hcond0_1 t).mp h)) (hc2 := (hcond0_2 t).mpr (by omega)) (x0 := iblk m c 0 t) (x1 := iblk m c 1 t) (x2 := iblk m c 2 t) (x3 := iblk m c 3 t) (x4 := iblk m c 4 t) (x5 := iblk m c 5 t) (x6 := iblk m c 6 t) (xo7 := (outsAt0 m c (t.val - 1) (Nat.lt_of_le_of_lt (Nat.sub_le _ _) t.isLt)).1) (R := R) (by rw [hk]; exact h1) (S t) hR
  refine (B.left E).of_eq fun a x => ?_
  rw [hk]
  rw [sum_late (fun n => addK (D (t.val / 11)) (x.val / 128) (t.val % 11) n a.val (x.val % 128)) h11 fun n hn => addK_early _ _ hn _ _ a.isLt, sum_addK]

/-- The keys' derivative after a point. -/
theorem outK_point (S : Staged m D c) (t : Fin cfg0.N) :
    At (n0 := 384) (n1 := 256) (outsAt0 m c t.val t.isLt).2.1 (fun a x => ∑ g ∈ Finset.range 4224, (D (t.val / 11)).ds (x / 128) (384 * (t.val % 11) + a) g * (D (t.val / 11)).Q g (128 * (x / 128) + x % 128)) := by
  by_cases h0 : t.val % 11 = 0
  · exact outK_first S t h0
  · exact outK_later S t h0 (outQ_point S _ _)

/-- The values' derivative at a pair's first point. -/
theorem outV_first (S : Staged m D c) (t : Fin cfg0.N) (h0 : t.val % 11 = 0) :
    At (n0 := 384) (n1 := 128) (outsAt0 m c t.val t.isLt).2.2 (fun a x => ∑ g ∈ Finset.range 4224, (D (t.val / 11)).p (x / 64) (384 * (t.val % 11) + a) g * (D (t.val / 11)).DO g (64 * (x / 64) + x % 64)) := by
  have E := congrArg (fun z => z.2.2) (outsAt0_A m c t h0 h0 (by omega))
  dsimp only at E
  have hk := key_block t
  have A := out_A_9 (c := c) (harg2 := hs0_0 t) (harg3 := hs0_1 t) (harg4 := hs0_2 t) (harg5 := hs0_3 t) (harg6 := hs0_4 t) (harg7 := hs0_5 t) (harg8 := hs0_6 t) (harg9 := hs0_7 t) (harg10 := hs0_8 t) (harg11 := hs0_9 t) (arg12 := scM0_0) (harg12 := Memref.isWhole_whole _) (arg13 := scM0_1) (harg13 := Memref.isWhole_whole _) (hc0 := (hcond0_0 t).mpr h0) (hc1 := (hcond0_1 t).mpr h0) (hc2 := fun h => absurd ((hcond0_2 t).mp h) (by omega)) (x0 := iblk m c 0 t) (x1 := iblk m c 1 t) (x2 := iblk m c 2 t) (x3 := iblk m c 3 t) (x4 := iblk m c 4 t) (x5 := iblk m c 5 t) (x6 := iblk m c 6 t) (S t)
  refine (A.left E).of_eq fun a x => ?_
  rw [hk]
  rw [sum_addV]

/-- The values' derivative at a later point. -/
theorem outV_later (S : Staged m D c) (t : Fin cfg0.N) (h0 : ¬t.val % 11 = 0) {R : ℕ → ℕ → ℝ}
    (hR : At (n0 := 256) (n1 := 4224) (outsAt0 m c (t.val - 1) (Nat.lt_of_le_of_lt (Nat.sub_le _ _) t.isLt)).1 R) :
    At (n0 := 384) (n1 := 128) (outsAt0 m c t.val t.isLt).2.2 (fun a x => ∑ g ∈ Finset.range 4224, (D (t.val / 11)).p (x / 64) (384 * (t.val % 11) + a) g * (D (t.val / 11)).DO g (64 * (x / 64) + x % 64)) := by
  have E := congrArg (fun z => z.2.2) (outsAt0_B m c t h0 h0 (by omega))
  dsimp only at E
  have hk := key_block t
  have h11 : t.val % 11 < 11 := Nat.mod_lt _ (by decide)
  have h1 : 1 ≤ t.val % 11 := Nat.one_le_iff_ne_zero.mpr h0
  have B := out_B_9 (c := c) (harg2 := hs0_0 t) (harg3 := hs0_1 t) (harg4 := hs0_2 t) (harg5 := hs0_3 t) (harg6 := hs0_4 t) (harg7 := hs0_5 t) (harg8 := hs0_6 t) (harg9 := hs0_7 t) (harg10 := hs0_8 t) (harg11 := hs0_9 t) (arg12 := scM0_0) (harg12 := Memref.isWhole_whole _) (arg13 := scM0_1) (harg13 := Memref.isWhole_whole _) (hc0 := fun h => h0 ((hcond0_0 t).mp h)) (hc1 := fun h => h0 ((hcond0_1 t).mp h)) (hc2 := (hcond0_2 t).mpr (by omega)) (x0 := iblk m c 0 t) (x1 := iblk m c 1 t) (x2 := iblk m c 2 t) (x3 := iblk m c 3 t) (x4 := iblk m c 4 t) (x5 := iblk m c 5 t) (x6 := iblk m c 6 t) (xo7 := (outsAt0 m c (t.val - 1) (Nat.lt_of_le_of_lt (Nat.sub_le _ _) t.isLt)).1) (R := R) (by rw [hk]; exact h1) (S t) hR
  refine (B.left E).of_eq fun a x => ?_
  rw [hk]
  rw [sum_late (fun n => addV (D (t.val / 11)) (x.val / 64) (t.val % 11) n a.val (x.val % 64)) h11 fun n hn => addV_early _ _ hn _ _ a.isLt, sum_addV]

/-- The values' derivative after a point. -/
theorem outV_point (S : Staged m D c) (t : Fin cfg0.N) :
    At (n0 := 384) (n1 := 128) (outsAt0 m c t.val t.isLt).2.2 (fun a x => ∑ g ∈ Finset.range 4224, (D (t.val / 11)).p (x / 64) (384 * (t.val % 11) + a) g * (D (t.val / 11)).DO g (64 * (x / 64) + x % 64)) := by
  by_cases h0 : t.val % 11 = 0
  · exact outV_first S t h0
  · exact outV_later S t h0 (outQ_point S _ _)

end Cert.KernelIdeal.Tile
-- ==== Proof.Final.lean ====
/- The three result arrays after the call, as sums over the rows of a pair. -/
module

public import proofs.«01_k».proof.Proof.Points
public import proofs.«01_k».proof.Proof.Gen.KernelIdeal.Value
public import Idealize.ShloMosaic.Lib.Pipeline.ValueKit

@[expose] public section

set_option maxRecDepth 8192

noncomputable section

namespace Cert.KernelIdeal.Tile

open Cert.KernelIdeal Cert.KernelIdeal.Gen Idealize.ShloMosaic Idealize.ShloMosaic.TcCoe Cert.Attn
open scoped BigOperators

theorem idx_in : ∀ t : Fin cfg0.N, win0_0.index t = ![0, t.val / 11] ∧ win0_1.index t = ![t.val % 11, t.val / 11]
    ∧ win0_2.index t = ![t.val / 11, t.val % 11] ∧ win0_3.index t = ![t.val % 11, t.val / 11] ∧ win0_4.index t = ![t.val / 11, 0]
    ∧ win0_5.index t = ![t.val / 11, 0, 0] ∧ win0_6.index t = ![t.val / 11, 0, 0] := by decide +kernel

theorem idx_out : ∀ t : Fin cfg0.N, win0_7.index t = ![t.val / 11, 0] ∧ win0_8.index t = ![t.val % 11, t.val / 11]
    ∧ win0_9.index t = ![t.val % 11, t.val / 11] := by decide +kernel

theorem flush7 : ∀ t : Fin cfg0.N, (cfg0.win 7).flush t = true → t.val % 11 = 10 := by decide +kernel

variable {m : (ℓ : Loc nD τ sig) → Buf (Elt Ideal) ℓ} {D : ℕ → Data} {c : Dev nD}

/-- The keys' derivative in the padded array. -/
def allK (D : ℕ → Data) (g r : ℕ) : ℝ :=
  ∑ g' ∈ Finset.range 4224, (D (r / 256)).ds (r % 256 / 128) g g' * (D (r / 256)).Q g' (128 * (r % 256 / 128) + r % 256 % 128)

/-- The values' derivative in the padded array. -/
def allV (D : ℕ → Data) (g r : ℕ) : ℝ :=
  ∑ g' ∈ Finset.range 4224, (D (r / 128)).p (r % 128 / 64) g g' * (D (r / 128)).DO g' (64 * (r % 128 / 64) + r % 128 % 64)

/-- The queries' derivative in the padded array. -/
def allQ (D : ℕ → Data) (r g : ℕ) : ℝ :=
  ∑ kr ∈ Finset.range 4224, (D (r / 256)).K kr (128 * (r % 256 / 128) + r % 256 % 128) * (D (r / 256)).ds (r % 256 / 128) kr g

theorem pair_eta {n0 n1 : ℕ} (y : (⟨2, ![n0, n1]⟩ : Shape).Idx) : y = ix2 (y 0) (y 1) := by
  funext a
  match a with
  | ⟨0, _⟩ => rfl
  | ⟨1, _⟩ => rfl

theorem finalK (S : Staged m D c) : (dats m 0 c).arrAt 8 cfg0.N = fun i : S4224x2048.Idx => ((allK D (i 0).val (i 1).val : ℝ) : EReal) := by
  refine (dats m 0 c).arrAt_eq_of_covers 8 _ (by decide +kernel) fun t hf y => ?_
  blk_simp [(idx_out t).2.1]
  rw [after0_8]
  have h := outK_point S t (y 0) (y 1)
  have h1 : (y 1).val < 256 := (y 1).isLt
  refine (congrArg (outsAt0 m c t.val t.isLt).2.1 (pair_eta (n0 := 384) (n1 := 256) y)).trans (h.trans ?_)
  unfold allK
  rw [show (t.val / 11 * 256 + (y 1).val) / 256 = t.val / 11 by omega, show (t.val / 11 * 256 + (y 1).val) % 256 = (y 1).val by omega,
    Nat.mul_comm (t.val % 11) 384]

theorem finalV (S : Staged m D c) : (dats m 0 c).arrAt 9 cfg0.N = fun i : S4224x1024.Idx => ((allV D (i 0).val (i 1).val : ℝ) : EReal) := by
  refine (dats m 0 c).arrAt_eq_of_covers 9 _ (by decide +kernel) fun t hf y => ?_
  blk_simp [(idx_out t).2.2]
  rw [after0_9]
  have h := outV_point S t (y 0) (y 1)
  have h1 : (y 1).val < 128 := (y 1).isLt
  refine (congrArg (outsAt0 m c t.val t.isLt).2.2 (pair_eta (n0 := 384) (n1 := 128) y)).trans (h.trans ?_)
  unfold allV
  rw [show (t.val / 11 * 128 + (y 1).val) / 128 = t.val / 11 by omega, show (t.val / 11 * 128 + (y 1).val) % 128 = (y 1).val by omega,
    Nat.mul_comm (t.val % 11) 384]

theorem finalQ (S : Staged m D c) : (dats m 0 c).arrAt 7 cfg0.N = fun i : S2048x4224.Idx => ((allQ D (i 0).val (i 1).val : ℝ) : EReal) := by
  refine (dats m 0 c).arrAt_eq_of_covers 7 _ (by decide +kernel) fun t hf y => ?_
  have h10 := flush7 t hf
  blk_simp [(idx_out t).1]
  rw [after0_7]
  have h := outQ_point S t.val t.isLt (y 0) (y 1)
  have h0 : (y 0).val < 256 := (y 0).isLt
  have h1 : (y 1).val < 4224 := (y 1).isLt
  refine (congrArg (outsAt0 m c t.val t.isLt).1 (pair_eta (n0 := 256) (n1 := 4224) y)).trans (h.trans ?_)
  rw [h10]
  refine (congrArg (fun z : ℝ => (z : EReal)) (sum_addQ (D (t.val / 11)) ((y 0).val / 128) ((y 0).val % 128) (y 1).val h1)).trans ?_
  dsimp only
  unfold allQ
  rw [show (t.val / 11 * 256 + (y 0).val) / 256 = t.val / 11 by omega, show (t.val / 11 * 256 + (y 0).val) % 256 = (y 0).val by omega]

end Cert.KernelIdeal.Tile
-- ==== Proof.Host.lean ====
/- The arrays that the host lays out for the call, at an index. -/
module

public import proofs.«01_k».proof.Proof.RefValue
public import proofs.«01_k».proof.Proof.Final

@[expose] public section

set_option maxRecDepth 8192

noncomputable section

namespace Cert.KernelIdeal.Prep

open Cert.KernelIdeal Cert.KernelIdeal.Gen Idealize.ShloMosaic Idealize.ShloMosaic.TcCoe Cert.Attn
open Cert.ReferenceIdeal.Stage (masked exps expsOf sums column divided atLeast largest shiftOf)
open scoped BigOperators

abbrev A96 := FVec Ideal S4112x16x96 .f32
abbrev A64 := FVec Ideal S4112x16x64 .f32
abbrev Sq := FVec Ideal S16x4112x4112 .f32
abbrev Row := FVec Ideal S16x4112 .f32

/-- Queries or keys laid out for the call. -/
def laid96 (x : A96) : FVec Ideal S4224x2048 .bf16 :=
  truncf .bf16 (shapeCast S4224x2048 (pad S4224x16x128 ![112, 0, 0] ![0, 0, 32] ![0, 0, 0] x (sitofp .f32 (constantI S_ 32 0#32)) pads_S4112x16x96_S4224x16x128_11200_000_0320 h_S_) shapeCasts_S4224x16x128_S4224x2048) bitsLt_bf16_f32

/-- Values or the cotangent laid out for the call. -/
def laid64 (x : A64) : FVec Ideal S4224x1024 .bf16 :=
  truncf .bf16 (shapeCast S4224x1024 (pad S4224x16x64 ![112, 0, 0] ![0, 0, 0] ![0, 0, 0] x (sitofp .f32 (constantI S_ 32 0#32)) pads_S4112x16x64_S4224x16x64_11200_000_000 h_S_) shapeCasts_S4224x16x64_S4224x1024) bitsLt_bf16_f32

/-- A number per head and row laid out for the call. -/
def laidRow (x : Row) : FVec Ideal S8x8x4224 .f32 :=
  pad S8x8x4224 ![0, 0, 0] ![0, 6, 0] ![0, 0, 0] (shapeCast S8x2x4224 (pad S16x4224 ![0, 112] ![0, 0] ![0, 0] x (sitofp .f32 (constantI S_ 32 0#32)) pads_S16x4112_S16x4224_000_11200 h_S_) shapeCasts_S16x4224_S8x2x4224) (sitofp .f32 (constantI S_ 32 0#32)) pads_S8x2x4224_S8x8x4224_000_060_000 h_S_

/-- The largest entry of a row. -/
def rowMax (x : Sq) : Row := Host.reduce FloatOps.maximumf x (constant S_ .f32 0xFF800000#32) reducesTo_S16x4112x4112_S16x4112_d2 h_S_

/-- A row's shift and the logarithm of its sum, added. -/
def logSum (m l : Row) : Row :=
  shapeCast S16x4112 (addf (broadcastInDim S16x4112x1 ![0, 1] bcast_S16x4112_S16x4112x1_0_1 m) (Host.log (broadcastInDim S16x4112x1 ![0, 1] bcast_S16x4112_S16x4112x1_0_1 l))) shapeCasts_S16x4112x1_S16x4112

/-- The row sums of the output times its cotangent. -/
def rowDots (w : Sq) (v ct : A64) : Row :=
  transpose S16x4112 [1, 0] (Host.reduceAdd (mulf ct (transpose S4112x16x64 [2, 0, 1] (Host.dotGeneral dot_S4112x16x64_S16x4112x4112_S16x64x4112_0_2_2_1_1_0 none v w) transposes_S16x64x4112_S4112x16x64_2_0_1)) (constant S_ .f32 0x00000000#32) reducesTo_S4112x16x64_S4112x16_d2 h_S_) transposes_S4112x16_S16x4112_1_0

/-- The exponentials of the scores less their row's largest. -/
def expsMax (q k : A96) : Sq := exps (masked q k) (rowMax (masked q k))

section Entry

variable (m : (ℓ : Loc nD τ sig) → Buf (Elt Ideal) ℓ) (c : Dev nD)

theorem entry_30 : V m c main_v30 = laid96 (m ((c.tc : Thread nD τ).loc main_arg0)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append]
  entry_read
  rfl

theorem entry_33 : V m c main_v33 = laid96 (m ((c.tc : Thread nD τ).loc main_arg1)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append]
  entry_read
  rfl

theorem entry_36 : V m c main_v36 = laid64 (m ((c.tc : Thread nD τ).loc main_arg2)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append]
  entry_read
  rfl

theorem entry_40 : V m c main_v40 = transpose S2048x4224 [1, 0] (laid96 (m ((c.tc : Thread nD τ).loc main_arg1))) transposes_S4224x2048_S2048x4224_1_0 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append]
  entry_read
  rfl

theorem entry_41 : V m c main_v41 = transpose S1024x4224 [1, 0] (laid64 (m ((c.tc : Thread nD τ).loc main_arg3))) transposes_S4224x1024_S1024x4224_1_0 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append]
  entry_read
  rfl

theorem entry_47 : V m c main_v47 = laidRow (rowDots (divided (expsMax (m ((c.tc : Thread nD τ).loc main_arg0)) (m ((c.tc : Thread nD τ).loc main_arg1))) (sums (expsMax (m ((c.tc : Thread nD τ).loc main_arg0)) (m ((c.tc : Thread nD τ).loc main_arg1))))) (m ((c.tc : Thread nD τ).loc main_arg2)) (m ((c.tc : Thread nD τ).loc main_arg3))) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append]
  entry_read
  rfl

end Entry

theorem after_two (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

/-- The host lines after the row sums, from any contents. -/
theorem late_44 (W : Valuation τ sig (Elt Ideal)) :
    StableHlo.after [hostOps0_3, hostOps0_4, hostOps0_5, hostOps0_6, hostOps0_7, hostOps0_8, hostOps0_9, hostOps0_10, hostOps0_11, hostOps0_12, hostOps0_13, hostOps0_14, hostOps0_15, hostOps0_16, hostOps0_17].flatten W (Proc.devRef .tc main_v44) = laidRow (W (Proc.devRef .tc main_v24)) := by
  simp only [hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append]
  entry_read
  rfl

/-- The host lines that make the row sums, from any contents. -/
theorem mid_24 (W : Valuation τ sig (Elt Ideal)) :
    StableHlo.after hostOps0_2 W (Proc.devRef .tc main_v24)
      = logSum (rowMax (W (Proc.devRef .tc main_v10))) (sums (exps (W (Proc.devRef .tc main_v10)) (rowMax (W (Proc.devRef .tc main_v10))))) := by
  simp only [hostOps0_2]
  entry_read
  rfl

section Late

variable (m : (ℓ : Loc nD τ sig) → Buf (Elt Ideal) ℓ) (c : Dev nD)

/-- The host lines that make the masked scores. -/
theorem early_10 :
    StableHlo.after (hostOps0 ++ hostOps0_1) (fun b => m (c, b)) (Proc.devRef .tc main_v10)
      = masked (m ((c.tc : Thread nD τ).loc main_arg0)) (m ((c.tc : Thread nD τ).loc main_arg1)) := by
  simp only [hostOps0, hostOps0_1, List.flatten_cons, List.flatten_nil, List.append_nil, List.cons_append, List.nil_append]
  entry_read
  rfl

theorem entry_44 : V m c main_v44 = laidRow (logSum (rowMax (masked (m ((c.tc : Thread nD τ).loc main_arg0)) (m ((c.tc : Thread nD τ).loc main_arg1)))) (sums (expsMax (m ((c.tc : Thread nD τ).loc main_arg0)) (m ((c.tc : Thread nD τ).loc main_arg1))))) := by
  have e : V m c main_v44 = StableHlo.after (hostOps0 ++ (hostOps0_1 ++ (hostOps0_2 ++ [hostOps0_3, hostOps0_4, hostOps0_5, hostOps0_6, hostOps0_7, hostOps0_8, hostOps0_9, hostOps0_10, hostOps0_11, hostOps0_12, hostOps0_13, hostOps0_14, hostOps0_15, hostOps0_16, hostOps0_17].flatten))) (fun b => m (c, b)) (Proc.devRef .tc main_v44) := rfl
  rw [e, after_two, after_two, ← after_two hostOps0, after_two, late_44, mid_24, early_10]
  rfl

end Late

end Cert.KernelIdeal.Prep
-- ==== Proof.Layout.lean ====
/- The arrays laid out for the call as real numbers. -/
module

public import proofs.«01_k».proof.Proof.Host

@[expose] public section

set_option maxRecDepth 8192

noncomputable section

namespace Cert.Attn

/-- Queries, keys and their gradients as laid out: 112 rows of zeros in front, each head's columns filled up to 128. -/
def F96 (f : Arr 96) (g r : ℕ) : ℝ :=
  if h : (112 ≤ g ∧ g - 112 < 4112) ∧ r / 128 < 16 ∧ r % 128 < 96 then f ⟨g - 112, h.1.2⟩ ⟨r / 128, h.2.1⟩ ⟨r % 128, h.2.2⟩ else 0

/-- Values, the cotangent and the values' gradient as laid out: 112 rows of zeros in front. -/
def F64 (f : Arr 64) (g r : ℕ) : ℝ :=
  if h : (112 ≤ g ∧ g - 112 < 4112) ∧ r / 64 < 16 then f ⟨g - 112, h.1.2⟩ ⟨r / 64, h.2⟩ ⟨r % 64, Nat.mod_lt _ (by decide)⟩ else 0

/-- A number per head and row as laid out. -/
def FRow (f : Fin 16 → Fin 4112 → ℝ) (h g : ℕ) : ℝ :=
  if e : (112 ≤ g ∧ g - 112 < 4112) ∧ h < 16 then f ⟨h, e.2⟩ ⟨g - 112, e.1.2⟩ else 0

/-- The numbers of one pair of heads. -/
def pairData (q k : Arr 96) (v ct : Arr 64) (p : ℕ) : Data where
  Q g x := F96 q g (256 * p + x)
  K g x := F96 k g (256 * p + x)
  V g y := F64 v g (128 * p + y)
  DO g y := F64 ct g (128 * p + y)
  LS h g := FRow (fun h i => Real.log (rowSum q k h i)) (2 * p + h) g
  DL h g := FRow (delta q k v ct) (2 * p + h) g

end Cert.Attn

namespace Cert.KernelIdeal.Prep

open Cert.KernelIdeal Cert.KernelIdeal.Gen Idealize.ShloMosaic Idealize.ShloMosaic.TcCoe Cert.Attn
open Cert.ReferenceIdeal.Stage (masked exps expsOf sums column divided atLeast largest shiftOf sums_exps largest_eq weights_at)
open scoped BigOperators

variable {qa ka : A96} {va cta : A64} {q k : Arr 96} {v ct : Arr 64}

theorem laid96_at {x : A96} {f : Arr 96} (hx : Holds x f) (g : Fin 4224) (r : Fin 2048) : laid96 x (ix2 g r) = ((F96 f g r : ℝ) : EReal) := by
  pointwise [laid96]
  unfold F96
  by_cases h : (112 ≤ g.val ∧ g.val - 112 < 4112) ∧ r.val / 128 < 16 ∧ r.val % 128 < 96
  · rw [dif_pos h, dif_pos h, hx]
  · rw [dif_neg h, dif_neg h]
    exact sitofp_zero

theorem laid64_at {x : A64} {f : Arr 64} (hx : Holds x f) (g : Fin 4224) (r : Fin 1024) : laid64 x (ix2 g r) = ((F64 f g r : ℝ) : EReal) := by
  pointwise [laid64]
  unfold F64
  by_cases h : (112 ≤ g.val ∧ g.val - 112 < 4112) ∧ r.val / 64 < 16
  · rw [dif_pos ⟨h.1, h.2, Nat.mod_lt _ (by decide)⟩, dif_pos h, hx]
  · rw [dif_neg fun e => h ⟨e.1, e.2.1⟩, dif_neg h]
    exact sitofp_zero

theorem laidRow_at {x : Row} {f : Fin 16 → Fin 4112 → ℝ} (hx : ∀ h i, x (ix2 h i) = ((f h i : ℝ) : EReal)) (p h : Fin 8) (g : Fin 4224) (hh : h.val < 2) :
    laidRow x (ix3 p h g) = ((FRow f (2 * p + h) g : ℝ) : EReal) := by
  pointwise [laidRow]
  rw [dif_pos hh]
  unfold FRow
  by_cases h' : (112 ≤ g.val ∧ g.val - 112 < 4112) ∧ 2 * p.val + h.val < 16
  · rw [dif_pos ⟨by omega, h'.1⟩, dif_pos h', hx]
    congr 2
    apply Fin.ext
    show p.val * 2 + h.val = 2 * p.val + h.val
    omega
  · rw [dif_neg fun e => h' ⟨e.2, by omega⟩, dif_neg h']
    exact sitofp_zero

theorem logSum_at (m l : Row) (h : Fin 16) (i : Fin 4112) : logSum m l (ix2 h i) = m (ix2 h i) + Ideal.log (l (ix2 h i)) := by
  pointwise [logSum]

theorem rowDots_at (w : Sq) (v ct : A64) (h : Fin 16) (i : Fin 4112) :
    rowDots w v ct (ix2 h i) = ∑ y, ct (ix3 i h y) * ∑ j, v (ix3 j h y) * w (ix3 h i j) := by
  pointwise [rowDots]

theorem atLeast_eq (m : Row) : atLeast m = m := by
  funext i
  obtain ⟨a, b, rfl⟩ : ∃ a b, i = ix2 a b := ⟨i 0, i 1, Tile.pair_eta i⟩
  rw [Cert.ReferenceIdeal.Stage.atLeast_at, ofBits_bot]
  exact max_eq_right bot_le

theorem rowMax_masked : rowMax (masked qa ka) = largest (masked qa ka) := (atLeast_eq _).symm

theorem expsMax_eq : expsMax qa ka = expsOf qa ka := by
  unfold expsMax
  rw [rowMax_masked]
  rfl

theorem log_at (hq : Holds qa q) (hk : Holds ka k) (h : Fin 16) (i : Fin 4112) :
    logSum (rowMax (masked qa ka)) (sums (expsMax qa ka)) (ix2 h i) = ((Real.log (rowSum q k h i) : ℝ) : EReal) := by
  rw [logSum_at, expsMax_eq, rowMax_masked, sums_exps hq hk, largest_eq hq hk]
  have e := Cert.Attn.shiftedSum_pos q k (shiftOf qa ka h i) h i
  rw [show Ideal.log ((shiftedSum q k (shiftOf qa ka h i) h i : ℝ) : EReal) = ((Real.log (shiftedSum q k (shiftOf qa ka h i) h i) : ℝ) : EReal) from
    if_neg (not_le.mpr e), ← EReal.coe_add, log_shiftedSum]

theorem dots_at (hq : Holds qa q) (hk : Holds ka k) (hv : Holds va v) (hc : Holds cta ct) (h : Fin 16) (i : Fin 4112) :
    rowDots (divided (expsMax qa ka) (sums (expsMax qa ka))) va cta (ix2 h i) = ((delta q k v ct h i : ℝ) : EReal) := by
  rw [rowDots_at, expsMax_eq]
  simp only [weights_at hq hk, hv, hc, ← EReal.coe_mul, ← coe_sum]
  rw [← delta_eq]
  refine congrArg _ (Finset.sum_congr rfl fun y _ => ?_)
  refine congrArg _ (Finset.sum_congr rfl fun y _ => mul_comm _ _)

theorem flip96 (x : FVec Ideal S4224x2048 .bf16) (r : Fin 2048) (g : Fin 4224) :
    transpose S2048x4224 [1, 0] x transposes_S4224x2048_S2048x4224_1_0 (ix2 r g) = x (ix2 g r) := by
  pointwise

theorem flip64 (x : FVec Ideal S4224x1024 .bf16) (r : Fin 1024) (g : Fin 4224) :
    transpose S1024x4224 [1, 0] x transposes_S4224x1024_S1024x4224_1_0 (ix2 r g) = x (ix2 g r) := by
  pointwise

section Stage

variable {m : (ℓ : Loc nD τ sig) → Buf (Elt Ideal) ℓ} {c : Dev nD}

set_option maxHeartbeats 1000000 in
/-- The blocks that the call stages hold the pairs' numbers. -/
theorem staged (hq : Holds (m ((c.tc : Thread nD τ).loc main_arg0)) q) (hk : Holds (m ((c.tc : Thread nD τ).loc main_arg1)) k)
    (hv : Holds (m ((c.tc : Thread nD τ).loc main_arg2)) v) (hc : Holds (m ((c.tc : Thread nD τ).loc main_arg3)) ct) :
    Tile.Staged m (pairData q k v ct) c := by
  intro t
  have ht : t.val < 88 := Nat.lt_of_lt_of_eq t.isLt N_0
  have hp : t.val / 11 < 8 := by omega
  have h11 : t.val % 11 < 11 := Nat.mod_lt _ (by decide)
  rw [Tile.key_block t]
  obtain ⟨i0, i1, i2, i3, i4, i5, i6⟩ := Tile.idx_in t
  constructor
  · intro g x
    refine Eq.trans ?_ (laid96_at hq g ⟨256 * (t.val / 11) + x.val, by omega⟩)
    rw [← entry_30]
    blk_ext [iblk, i0]
  · intro a x
    refine Eq.trans ?_ (laid96_at hk ⟨384 * (t.val % 11) + a.val, by omega⟩ ⟨256 * (t.val / 11) + x.val, by omega⟩)
    rw [← entry_33]
    blk_ext [iblk, i1]
  · intro x a
    refine Eq.trans ?_ (laid96_at hk ⟨384 * (t.val % 11) + a.val, by omega⟩ ⟨256 * (t.val / 11) + x.val, by omega⟩)
    refine Eq.trans (b := V m c main_v40 (ix2 ⟨256 * (t.val / 11) + x.val, by omega⟩ ⟨384 * (t.val % 11) + a.val, by omega⟩)) ?_ ?_
    · blk_ext [iblk, i2]
    · exact (congrFun (entry_40 m c) _).trans (flip96 _ _ _)
  · intro a y
    refine Eq.trans ?_ (laid64_at hv ⟨384 * (t.val % 11) + a.val, by omega⟩ ⟨128 * (t.val / 11) + y.val, by omega⟩)
    rw [← entry_36]
    blk_ext [iblk, i3]
  · intro y g
    refine Eq.trans ?_ (laid64_at hc g ⟨128 * (t.val / 11) + y.val, by omega⟩)
    refine Eq.trans (b := V m c main_v41 (ix2 ⟨128 * (t.val / 11) + y.val, by omega⟩ g)) ?_ ?_
    · blk_ext [iblk, i4]
    · exact (congrFun (entry_41 m c) _).trans (flip64 _ _ _)
  · intro h g hh
    refine Eq.trans ?_ (laidRow_at (log_at hq hk) ⟨t.val / 11, hp⟩ h g hh)
    rw [← entry_44]
    blk_ext [iblk, i5]
  · intro h g hh
    refine Eq.trans ?_ (laidRow_at (dots_at hq hk hv hc) ⟨t.val / 11, hp⟩ h g hh)
    rw [← entry_47]
    blk_ext [iblk, i6]

end Stage

end Cert.KernelIdeal.Prep
-- ==== Proof.Combine.lean ====
/- The sums that the call leaves are the gradients in the padded layout. -/
module

public import proofs.«01_k».proof.Proof.Layout

@[expose] public section

noncomputable section

namespace Cert.Attn

open scoped BigOperators

variable (q k : Arr 96) (v ct : Arr 64)

theorem F96_front (f : Arr 96) {g : ℕ} (hg : g < 112) (r : ℕ) : F96 f g r = 0 := by
  unfold F96
  rw [dif_neg (by omega)]

theorem F64_front (f : Arr 64) {g : ℕ} (hg : g < 112) (r : ℕ) : F64 f g r = 0 := by
  unfold F64
  rw [dif_neg (by omega)]

theorem F96_row (f : Arr 96) (i : Fin 4112) (H : Fin 16) (x : ℕ) (hx : x < 128) :
    F96 f (112 + i) (128 * H + x) = if h : x < 96 then f i H ⟨x, h⟩ else 0 := by
  unfold F96
  have e1 : (128 * H.val + x) / 128 = H.val := by omega
  have e2 : (128 * H.val + x) % 128 = x := by omega
  by_cases h : x < 96
  · rw [dif_pos ⟨⟨by omega, by omega⟩, by omega, by omega⟩, dif_pos h]
    congr 1
    · apply Fin.ext; show 112 + i.val - 112 = i.val; omega
    · apply Fin.ext; exact e1
    · apply Fin.ext; exact e2
  · rw [dif_neg (by omega), dif_neg h]

theorem F64_row (f : Arr 64) (i : Fin 4112) (H : Fin 16) (y : Fin 64) : F64 f (112 + i) (64 * H + y) = f i H y := by
  unfold F64
  have e1 : (64 * H.val + y.val) / 64 = H.val := by omega
  have e2 : (64 * H.val + y.val) % 64 = y.val := by omega
  rw [dif_pos ⟨⟨by omega, by omega⟩, by omega⟩]
  congr 1
  · apply Fin.ext; show 112 + i.val - 112 = i.val; omega
  · apply Fin.ext; exact e1
  · apply Fin.ext; exact e2

theorem FRow_row (f : Fin 16 → Fin 4112 → ℝ) (H : Fin 16) (i : Fin 4112) : FRow f H (112 + i) = f H i := by
  unfold FRow
  rw [dif_pos ⟨⟨by omega, by omega⟩, by omega⟩]
  congr 1
  apply Fin.ext
  show 112 + i.val - 112 = i.val
  omega

/-- A sum over 128 columns of which the last 32 are zero. -/
theorem sum_filled (a : Fin 96 → ℝ) (G : Fin 128 → ℝ) (hG : ∀ x : Fin 128, G x = if h : x.val < 96 then a ⟨x, h⟩ else 0) :
    ∑ x, G x = ∑ d, a d := by
  have e : ∑ x : Fin (96 + 32), G x = ∑ d, a d := by
    rw [Fin.sum_univ_add]
    have z : ∑ i : Fin 32, G (Fin.natAdd 96 i) = 0 := by
      refine Finset.sum_eq_zero fun i _ => ?_
      rw [hG, dif_neg]
      show ¬ 96 + i.val < 96
      omega
    rw [z, add_zero]
    refine Finset.sum_congr rfl fun d _ => ?_
    rw [hG, dif_pos (show (Fin.castAdd 32 d).val < 96 from d.isLt)]
    rfl
  exact e

/-- A sum over the padded rows. -/
theorem sum_rows (f : ℕ → ℝ) (hf : ∀ g, g < 112 → f g = 0) : ∑ g ∈ Finset.range 4224, f g = ∑ i : Fin 4112, f (112 + i) := by
  rw [show 4224 = 112 + 4112 from rfl, Finset.sum_range_add, Finset.sum_eq_zero fun g hg => hf g (Finset.mem_range.mp hg), zero_add]
  exact (Fin.sum_univ_eq_sum_range (fun i => f (112 + i)) 4112).symm

section

variable {p h : ℕ} (H : Fin 16) (hH : H.val = 2 * p + h)
include hH

theorem score_sum (i j : Fin 4112) :
    ∑ x : Fin 128, (pairData q k v ct p).K (112 + j) (128 * h + x) * (pairData q k v ct p).Q (112 + i) (128 * h + x) = ∑ d, q i H d * k j H d := by
  refine sum_filled (fun d => q i H d * k j H d) _ fun x => ?_
  have e : 256 * p + (128 * h + x.val) = 128 * H.val + x.val := by omega
  show F96 k (112 + j) (256 * p + (128 * h + x.val)) * F96 q (112 + i) (256 * p + (128 * h + x.val)) = _
  rw [e, F96_row _ _ _ _ x.isLt, F96_row _ _ _ _ x.isLt]
  split_ifs
  · exact mul_comm _ _
  · exact mul_zero _

theorem p_row (i j : Fin 4112) : (pairData q k v ct p).p h (112 + j) (112 + i) = weight q k H i j := by
  unfold Data.p
  rw [score_sum q k v ct H hH]
  have e : (pairData q k v ct p).LS h (112 + i) = Real.log (rowSum q k H i) := by
    show FRow (fun h i => Real.log (rowSum q k h i)) (2 * p + h) (112 + i.val) = _
    rw [← hH, FRow_row]
  rw [e]
  by_cases hij : j.val ≤ i.val
  · rw [if_pos (by unfold Sees; omega), ← exp_sub_log q k H i j hij]
    rfl
  · rw [if_neg (by unfold Sees; omega), weight, if_neg hij]

theorem ds_row (i j : Fin 4112) : (pairData q k v ct p).ds h (112 + j) (112 + i) = dScore q k v ct H i j := by
  unfold Data.ds dScore
  rw [p_row q k v ct H hH]
  have e : (pairData q k v ct p).DL h (112 + i) = delta q k v ct H i := by
    show FRow _ (2 * p + h) (112 + i) = _
    rw [← hH, FRow_row]
  have e' : ∑ y : Fin 64, (pairData q k v ct p).V (112 + j) (64 * h + y) * (pairData q k v ct p).DO (112 + i) (64 * h + y) = dWeight v ct H i j := by
    unfold dWeight
    refine Finset.sum_congr rfl fun y _ => ?_
    show F64 v (112 + j) (128 * p + (64 * h + y.val)) * F64 ct (112 + i) (128 * p + (64 * h + y.val)) = _
    rw [show 128 * p + (64 * h + y.val) = 64 * H.val + y.val by omega, F64_row, F64_row]
    exact mul_comm _ _
  rw [e, e']

end

theorem p_mixed (D : Data) (h : ℕ) {kr g : ℕ} (hk : kr < 112) (hg : 112 ≤ g) : D.p h kr g = 0 := by
  unfold Data.p
  rw [if_neg (by unfold Sees; omega)]

theorem ds_mixed (D : Data) (h : ℕ) {kr g : ℕ} (hk : kr < 112) (hg : 112 ≤ g) : D.ds h kr g = 0 := by
  unfold Data.ds
  rw [p_mixed D h hk hg, zero_mul, zero_mul]

open Cert.KernelIdeal.Tile (allK allV allQ)

/-- The keys' gradient in the padded layout. -/
theorem allK_eq (r : Fin 2048) (g : Fin 4224) :
    allK (pairData q k v ct) g r = if h : 112 ≤ g.val ∧ r.val % 128 < 96
      then dK q k v ct ⟨g.val - 112, by omega⟩ ⟨r.val / 128, by omega⟩ ⟨r.val % 128, h.2⟩ else 0 := by
  unfold allK
  have er : ∀ g', (pairData q k v ct (r.val / 256)).Q g' (128 * (r.val % 256 / 128) + r.val % 256 % 128) = F96 q g' (128 * (r.val / 128) + r.val % 128) := by
    intro g'
    show F96 q g' (256 * (r.val / 256) + (128 * (r.val % 256 / 128) + r.val % 256 % 128)) = _
    congr 1
    omega
  simp only [er]
  by_cases hg : 112 ≤ g.val
  · rw [sum_rows _ fun g' h' => by rw [F96_front _ h', mul_zero]]
    obtain ⟨j, hj⟩ : ∃ j : Fin 4112, g.val = 112 + j.val := ⟨⟨g.val - 112, by omega⟩, by show g.val = 112 + (g.val - 112); omega⟩
    have ej : (⟨g.val - 112, by omega⟩ : Fin 4112) = j := Fin.ext (by show g.val - 112 = j.val; omega)
    have e : ∀ i : Fin 4112, (pairData q k v ct (r.val / 256)).ds (r.val % 256 / 128) g.val (112 + i) * F96 q (112 + i) (128 * (r.val / 128) + r.val % 128)
        = dScore q k v ct ⟨r.val / 128, by omega⟩ i j * if h : r.val % 128 < 96 then q i ⟨r.val / 128, by omega⟩ ⟨r.val % 128, h⟩ else 0 := by
      intro i
      rw [hj, ds_row q k v ct ⟨r.val / 128, by omega⟩ (by show r.val / 128 = _; omega)]
      exact congrArg _ (F96_row q i ⟨r.val / 128, by omega⟩ (r.val % 128) (Nat.mod_lt _ (by decide)))
    simp only [e]
    by_cases hx : r.val % 128 < 96
    · rw [dif_pos ⟨hg, hx⟩, ej]
      simp only [dif_pos hx]
      rfl
    · rw [dif_neg fun h => hx h.2]
      simp only [dif_neg hx, mul_zero, Finset.sum_const_zero]
  · rw [dif_neg fun h => hg h.1]
    refine Finset.sum_eq_zero fun g' _ => ?_
    by_cases h' : g' < 112
    · rw [F96_front _ h', mul_zero]
    · rw [ds_mixed _ _ (by omega) (by omega), zero_mul]

/-- The queries' gradient in the padded layout. -/
theorem allQ_eq (r : Fin 2048) (g : Fin 4224) :
    allQ (pairData q k v ct) r g = if h : 112 ≤ g.val ∧ r.val % 128 < 96
      then dQ q k v ct ⟨g.val - 112, by omega⟩ ⟨r.val / 128, by omega⟩ ⟨r.val % 128, h.2⟩ else 0 := by
  unfold allQ
  have er : ∀ g', (pairData q k v ct (r.val / 256)).K g' (128 * (r.val % 256 / 128) + r.val % 256 % 128) = F96 k g' (128 * (r.val / 128) + r.val % 128) := by
    intro g'
    show F96 k g' (256 * (r.val / 256) + (128 * (r.val % 256 / 128) + r.val % 256 % 128)) = _
    congr 1
    omega
  simp only [er]
  rw [sum_rows _ fun g' h' => by rw [F96_front _ h', zero_mul]]
  by_cases hg : 112 ≤ g.val
  · obtain ⟨i, hi⟩ : ∃ i : Fin 4112, g.val = 112 + i.val := ⟨⟨g.val - 112, by omega⟩, by show g.val = 112 + (g.val - 112); omega⟩
    have ei : (⟨g.val - 112, by omega⟩ : Fin 4112) = i := Fin.ext (by show g.val - 112 = i.val; omega)
    have e : ∀ j : Fin 4112, F96 k (112 + j) (128 * (r.val / 128) + r.val % 128) * (pairData q k v ct (r.val / 256)).ds (r.val % 256 / 128) (112 + j) g.val
        = dScore q k v ct ⟨r.val / 128, by omega⟩ i j * if h : r.val % 128 < 96 then k j ⟨r.val / 128, by omega⟩ ⟨r.val % 128, h⟩ else 0 := by
      intro j
      rw [hi, ds_row q k v ct ⟨r.val / 128, by omega⟩ (by show r.val / 128 = _; omega), mul_comm]
      exact congrArg _ (F96_row k j ⟨r.val / 128, by omega⟩ (r.val % 128) (Nat.mod_lt _ (by decide)))
    simp only [e]
    by_cases hx : r.val % 128 < 96
    · rw [dif_pos ⟨hg, hx⟩, ei]
      simp only [dif_pos hx]
      rfl
    · rw [dif_neg fun h => hx h.2]
      simp only [dif_neg hx, mul_zero, Finset.sum_const_zero]
  · rw [dif_neg fun h => hg h.1]
    refine Finset.sum_eq_zero fun j _ => ?_
    rw [Cert.KernelIdeal.Tile.ds_hidden _ _ (by omega), mul_zero]

/-- The values' gradient in the padded layout. -/
theorem allV_eq (r : Fin 1024) (g : Fin 4224) :
    allV (pairData q k v ct) g r = if h : 112 ≤ g.val
      then dV q k ct ⟨g.val - 112, by omega⟩ ⟨r.val / 64, by omega⟩ ⟨r.val % 64, by omega⟩ else 0 := by
  unfold allV
  have er : ∀ g', (pairData q k v ct (r.val / 128)).DO g' (64 * (r.val % 128 / 64) + r.val % 128 % 64) = F64 ct g' (64 * (r.val / 64) + r.val % 64) := by
    intro g'
    show F64 ct g' (128 * (r.val / 128) + (64 * (r.val % 128 / 64) + r.val % 128 % 64)) = _
    congr 1
    omega
  simp only [er]
  by_cases hg : 112 ≤ g.val
  · rw [sum_rows _ fun g' h' => by rw [F64_front _ h', mul_zero]]
    obtain ⟨j, hj⟩ : ∃ j : Fin 4112, g.val = 112 + j.val := ⟨⟨g.val - 112, by omega⟩, by show g.val = 112 + (g.val - 112); omega⟩
    have ej : (⟨g.val - 112, by omega⟩ : Fin 4112) = j := Fin.ext (by show g.val - 112 = j.val; omega)
    rw [dif_pos hg, ej]
    unfold dV
    refine Finset.sum_congr rfl fun i _ => ?_
    rw [hj, p_row q k v ct ⟨r.val / 64, by omega⟩ (by show r.val / 64 = _; omega)]
    exact congrArg _ (F64_row ct i ⟨r.val / 64, by omega⟩ ⟨r.val % 64, by omega⟩)
  · rw [dif_neg hg]
    refine Finset.sum_eq_zero fun g' _ => ?_
    by_cases h' : g' < 112
    · rw [F64_front _ h', mul_zero]
    · rw [p_mixed _ _ (by omega) (by omega), zero_mul]

end Cert.Attn
-- ==== Proof.Finite.lean ====
/- What the precondition says: every element of the four arguments is a real number. -/
module

public import proofs.«01_k».proof.Proof.Combine
public import proofs.«01_k».proof.Proof.Gen.Pre_finite

@[expose] public section

noncomputable section

namespace Cert.Attn

open Idealize.ShloMosaic

theorem inf_eq : (FloatOps.ofBits .f32 0x7F800000#32 : Ideal .f32) = (⊤ : EReal) := by
  rw [Ideal.ofBits_def]
  simp [Ideal.ofBits, Ideal.ieee]

theorem real_of_lt (x : EReal) (h : max x (-x) < ⊤) : x = ((x.toReal : ℝ) : EReal) := by
  have h1 : x ≠ ⊤ := fun e => by rw [e] at h; exact absurd (lt_of_le_of_lt (le_max_left _ _) h) (lt_irrefl _)
  have h2 : x ≠ ⊥ := fun e => by rw [e] at h; exact absurd (lt_of_le_of_lt (le_max_right _ _) h) (lt_irrefl _)
  exact (EReal.coe_toReal h1 h2).symm

theorem real_of_cmp (x : Ideal .f32) (h : Scalar.cmpf .olt (FloatOps.hostAbsf x) (FloatOps.ofBits .f32 0x7F800000#32 : Ideal .f32) = 1#1) :
    x = ((EReal.toReal x : ℝ) : EReal) := by
  refine real_of_lt x ?_
  rw [inf_eq] at h
  by_contra hn
  have e : Scalar.cmpf .olt (FloatOps.hostAbsf x) (⊤ : Ideal .f32) = BitVec.ofBool (decide (max (x : EReal) (-x) < ⊤)) := rfl
  rw [e, decide_eq_false hn] at h
  exact absurd h (by decide)

/-- The real numbers an array holds. -/
def reals {n : ℕ} (x : FVec Ideal ⟨3, ![4112, 16, n]⟩ .f32) : Arr n := fun i h d => EReal.toReal (x (ix3 i h d))

variable [Cert.Pre_finite.Facts] (a0 a1 : FVec Ideal ⟨3, ![4112, 16, 96]⟩ .f32) (a2 a3 : FVec Ideal ⟨3, ![4112, 16, 64]⟩ .f32)

theorem holds0 (h : (Cert.Pre_finite.fn (F := Ideal) a0 a1 a2 a3).1 = fun _ => 1#1) : Holds a0 (reals a0) :=
  fun i j d => real_of_cmp (a0 (ix3 i j d)) (congrFun h (ix3 i j d))

theorem holds1 (h : (Cert.Pre_finite.fn (F := Ideal) a0 a1 a2 a3).2.1 = fun _ => 1#1) : Holds a1 (reals a1) :=
  fun i j d => real_of_cmp (a1 (ix3 i j d)) (congrFun h (ix3 i j d))

theorem holds2 (h : (Cert.Pre_finite.fn (F := Ideal) a0 a1 a2 a3).2.2.1 = fun _ => 1#1) : Holds a2 (reals a2) :=
  fun i j d => real_of_cmp (a2 (ix3 i j d)) (congrFun h (ix3 i j d))

theorem holds3 (h : (Cert.Pre_finite.fn (F := Ideal) a0 a1 a2 a3).2.2.2 = fun _ => 1#1) : Holds a3 (reals a3) :=
  fun i j d => real_of_cmp (a3 (ix3 i j d)) (congrFun h (ix3 i j d))

end Cert.Attn

end
-- ==== Proof.Rows.lean ====
/- Matrices of extended reals by row and column number: zero rows put in front, and sums over blocks of rows. -/
module

public import Idealize.ShloMosaic.Lib.Pointwise
public import Idealize.ShloMosaic.PureOps.Ideal.Laws

@[expose] public section

noncomputable section

namespace Cert.Mlp

open Idealize.ShloMosaic
open scoped BigOperators

/-- A matrix of extended reals. -/
abbrev Mat (n0 n1 : ℕ) := (⟨2, ![n0, n1]⟩ : Shape).Idx → EReal

/-- The entry of a matrix at a row and column number, zero outside. -/
def ent {n0 n1 : ℕ} (x : Mat n0 n1) (g r : ℕ) : EReal :=
  if h : g < n0 ∧ r < n1 then x (ix2 ⟨g, h.1⟩ ⟨r, h.2⟩) else 0

theorem ent_fin {n0 n1 : ℕ} (x : Mat n0 n1) (i : Fin n0) (j : Fin n1) : ent x i.val j.val = x (ix2 i j) := by
  unfold ent
  rw [dif_pos ⟨i.isLt, j.isLt⟩]

/-- A matrix with 112 rows of zeros put in front. -/
def front {n : ℕ} (x : Mat 4112 n) (g r : ℕ) : EReal := if 112 ≤ g then ent x (g - 112) r else 0

theorem front_low {n : ℕ} (x : Mat 4112 n) {g : ℕ} (h : g < 112) (r : ℕ) : front x g r = 0 := by
  unfold front
  rw [if_neg (by omega)]

theorem front_high {n : ℕ} (x : Mat 4112 n) (g r : ℕ) : front x (112 + g) r = ent x g r := by
  unfold front
  rw [if_pos (by omega), Nat.add_sub_cancel_left]

/-- The activation: the square of the positive part. -/
def act (x : EReal) : EReal := max x 0 * max x 0

theorem ofBits_zero : Ideal.ofBits .f32 0x00000000#32 = 0 := by simp [Ideal.ofBits, Ideal.ieee]

theorem pad_zero : (sitofp .f32 (constantI (⟨0, ![]⟩ : Shape) 32 0#32) : FVec Ideal ⟨0, ![]⟩ .f32) = fun _ => 0 := by
  funext i
  simp [sitofp, constantI, FloatOps.sitofp]

/-- A sum over eleven blocks of 384 rows is one over all rows. -/
theorem sum_blocks (f : ℕ → EReal) : ∑ n ∈ Finset.range 11, ∑ b : Fin 384, f (384 * n + b) = ∑ g ∈ Finset.range 4224, f g := by
  have e : ∀ N : ℕ, ∑ n ∈ Finset.range N, ∑ b : Fin 384, f (384 * n + b) = ∑ g ∈ Finset.range (384 * N), f g := by
    intro N
    induction N with
    | zero => simp
    | succ N ih =>
      rw [Finset.sum_range_succ, ih, Nat.mul_succ, Finset.sum_range_add]
      congr 1
  exact e 11

/-- A sum over all rows, the front ones adding nothing. -/
theorem sum_front (f : ℕ → EReal) (hz : ∀ g, g < 112 → f g = 0) : ∑ g ∈ Finset.range 4224, f g = ∑ i : Fin 4112, f (112 + i) := by
  rw [show (4224 : ℕ) = 112 + 4112 from rfl, Finset.sum_range_add, Finset.sum_eq_zero fun g hg => hz g (Finset.mem_range.mp hg), zero_add]
  exact (Fin.sum_univ_eq_sum_range (fun b => f (112 + b)) 4112).symm

/-- Two matrices are equal if they are at every row and column. -/
theorem mat_ext {n0 n1 : ℕ} {x y : Mat n0 n1} (h : ∀ i j, x (ix2 i j) = y (ix2 i j)) : x = y := by
  funext i
  have e : i = ix2 (i 0) (i 1) := by
    funext a
    match a with
    | ⟨0, _⟩ => rfl
    | ⟨1, _⟩ => rfl
  rw [e]
  exact h _ _

end Cert.Mlp
-- ==== Proof.HiddenGrad.lean ====
/- The call that makes the gradient of the feed-forward layer's hidden values. -/
module

public import proofs.«01_k».proof.Proof.Rows
public import proofs.«01_k».proof.Proof.Gen.Kernel2Ideal.Value
public import proofs.«01_k».proof.Proof.Gen.Reference2Ideal.Run
public import Idealize.ShloMosaic.Lib.Pipeline.ValueKit
public import Idealize.ShloMosaic.Lib.KernelVsHost
public import Idealize.ShloMosaic.Lib.VecWindow

@[expose] public section

set_option maxRecDepth 8192

noncomputable section

namespace Cert.Kernel2Ideal.Hidden

open Cert.Kernel2Ideal Cert.Kernel2Ideal.Gen Idealize.ShloMosaic Idealize.ShloMosaic.TcCoe Idealize.ShloMosaic.Tactic Cert.Mlp
open scoped BigOperators
open Idealize.SL Idealize.SL.RA Idealize.SL.BI Idealize.SL.ProofMode Idealize.SL.Sem

section Steps

variable {c : Dev nD} {i : grid0.Coords} {arg3 : Memref sig .tc .vmem S1408x1024 .f32} {harg3 : arg3.IsWhole} {arg4 : Memref sig .tc .vmem S512x1024 .bf16} {harg4 : arg4.IsWhole} {arg5 : Memref sig .tc .vmem S1408x512 .bf16} {harg5 : arg5.IsWhole} {arg6 : Memref sig .tc .vmem S1408x512 .bf16} {harg6 : arg6.IsWhole} {arg7 : Memref sig .tc .vmem S1408x1024 .bf16} {harg7 : arg7.IsWhole}
  {x0 : Vec Ideal S1408x1024 .f32} {x1 : Vec Ideal S512x1024 .bf16} {x2 : Vec Ideal S1408x512 .bf16} {xs0 : Vec Ideal S1408x1024 .bf16}

/-- The derivative of the activation, twice the positive part. -/
def incline (x : EReal) : EReal := Ideal.ofBits .f32 0x40000000#32 * max x 0

theorem pay1_at (x0 : Vec Ideal S1408x1024 .f32) (a : Fin 1408) (b : Fin 1024) : k0_pay1 x0 (ix2 a b) = x0 (ix2 a b) := by
  pointwise [k0_pay1]

/-- What a block of the output is made of. -/
theorem pay2_at (s : Vec Ideal S1408x1024 .bf16) (x1 : Vec Ideal S512x1024 .bf16) (x2 : Vec Ideal S1408x512 .bf16) (a : Fin 1408) (b : Fin 512) :
    k0_pay2 s x1 x2 (ix2 a b) = (∑ x : Fin 1024, s (ix2 a x) * x1 (ix2 b x)) * incline (x2 (ix2 a b)) := by
  pointwise [k0_pay2]
  simp only [ofBits_zero, incline]

/-- What the first block of columns keeps. -/
theorem kept_eq {hc0 : cond0_0 i} :
    sout0_A_0 (F := Ideal) c i arg3 harg3 arg4 harg4 arg5 harg5 arg6 harg6 arg7 harg7 hc0 x0 x1 x2 = k0_pay1 x0 := by
  unfold sout0_A_0 kernelRun0_A
  dsimp only
  sl_unfold_run_names
  erw [View.read_writes_full]
  have e3 := harg3.read_unread (Val := Elt Ideal) x0
  rw [View.readAt_full, e3]

/-- What the first block of columns writes. -/
theorem first_eq {hc0 : cond0_0 i} :
    out0_A_3 (F := Ideal) c i arg3 harg3 arg4 harg4 arg5 harg5 arg6 harg6 arg7 harg7 hc0 x0 x1 x2 = k0_pay2 (k0_pay1 x0) x1 x2 := by
  unfold out0_A_3 kernelRun0_A
  dsimp only
  sl_unfold_run_names
  erw [View.read_writes_full]
  have e3 := harg3.read_unread (Val := Elt Ideal) x0
  have e4 := harg4.read_unread (Val := Elt Ideal) x1
  have e5 := harg5.read_unread (Val := Elt Ideal) x2
  rw [View.readCov_full, View.readAt_full, View.readAt_full, View.readAt_full, e3, e4, e5]

/-- What a later block of columns writes. -/
theorem later_eq {hc0 : ¬cond0_0 i} :
    out0_B_3 (F := Ideal) c i arg3 harg3 arg4 harg4 arg5 harg5 arg6 harg6 arg7 harg7 hc0 x0 x1 x2 xs0 = k0_pay2 xs0 x1 x2 := by
  unfold out0_B_3 kernelRun0_B
  dsimp only
  sl_unfold_run_names
  erw [View.read_writes_full]
  have e4 := harg4.read_unread (Val := Elt Ideal) x1
  have e5 := harg5.read_unread (Val := Elt Ideal) x2
  have e7 := harg7.read_unread (Val := Elt Ideal) xs0
  rw [View.readAt_full, View.readAt_full, View.readAt_full, e4, e5, e7]

end Steps

theorem idx_all : ∀ t : Fin cfg0.N, win0_0.index t = ![t.val / 8, 0] ∧ win0_1.index t = ![t.val % 8, 0]
    ∧ win0_2.index t = ![t.val / 8, t.val % 8] ∧ win0_3.index t = ![t.val / 8, t.val % 8] := by decide +kernel

variable (m : (ℓ : Loc nD τ sig) → Buf (Elt Ideal) ℓ) (c : Dev nD)

/-- The saved values, the matrix and the cotangent of the launch. -/
abbrev argU : Mat 4112 4096 := m ((c.tc : Thread nD τ).loc main_arg0)
abbrev argW : Mat 4096 1024 := m ((c.tc : Thread nD τ).loc main_arg1)
abbrev argC : Mat 4112 1024 := m ((c.tc : Thread nD τ).loc main_arg2)

/-- The saved values as laid out. -/
def laidU (x : FVec Ideal S4112x4096 .f32) : FVec Ideal S4224x4096 .bf16 :=
  truncf .bf16 (pad S4224x4096 ![112, 0] ![0, 0] ![0, 0] x (sitofp .f32 (constantI S_ 32 0#32)) pads_S4112x4096_S4224x4096_11200_000 h_S_) bitsLt_bf16_f32

/-- The matrix as laid out. -/
def laidW (x : FVec Ideal S4096x1024 .f32) : FVec Ideal S4096x1024 .bf16 := truncf .bf16 x bitsLt_bf16_f32

/-- The cotangent as laid out. -/
def laidC (x : FVec Ideal S4112x1024 .f32) : FVec Ideal S4224x1024 .f32 :=
  pad S4224x1024 ![112, 0] ![0, 0] ![0, 0] x (sitofp .f32 (constantI S_ 32 0#32)) pads_S4112x1024_S4224x1024_11200_000 h_S_

theorem laidU_at (x : FVec Ideal S4112x4096 .f32) (g : Fin 4224) (r : Fin 4096) : laidU x (ix2 g r) = front (n := 4096) x g r := by
  have hz : (sitofp .f32 (constantI S_ 32 0#32) : FVec Ideal S_ .f32) = fun _ => 0 := pad_zero
  unfold laidU
  rw [hz]
  pointwise
  unfold front ent
  have hg := g.isLt
  by_cases h : 112 ≤ g.val
  · rw [dif_pos ⟨h, by omega⟩, if_pos h, dif_pos ⟨by omega, r.isLt⟩]
  · rw [dif_neg fun e => h e.1, if_neg h]

theorem laidC_at (x : FVec Ideal S4112x1024 .f32) (g : Fin 4224) (r : Fin 1024) : laidC x (ix2 g r) = front (n := 1024) x g r := by
  have hz : (sitofp .f32 (constantI S_ 32 0#32) : FVec Ideal S_ .f32) = fun _ => 0 := pad_zero
  unfold laidC
  rw [hz]
  pointwise
  unfold front ent
  have hg := g.isLt
  by_cases h : 112 ≤ g.val
  · rw [dif_pos ⟨h, by omega⟩, if_pos h, dif_pos ⟨by omega, r.isLt⟩]
  · rw [dif_neg fun e => h e.1, if_neg h]

theorem laidW_at (x : FVec Ideal S4096x1024 .f32) (g : Fin 4096) (r : Fin 1024) : laidW x (ix2 g r) = x (ix2 g r) := by
  pointwise [laidW]

theorem entry_u : V m c main_v2 = laidU (m ((c.tc : Thread nD τ).loc main_arg0)) := by
  unfold V
  simp only [hostOps0, hostOps0_1, hostOps0_2, hostOps0_3, hostOps0_4, List.flatten_cons, List.flatten_nil, List.append_nil, List.cons_append, List.nil_append]
  entry_read
  rfl

theorem entry_w : V m c main_v3 = laidW (m ((c.tc : Thread nD τ).loc main_arg1)) := by
  unfold V
  simp only [hostOps0, hostOps0_1, hostOps0_2, hostOps0_3, hostOps0_4, List.flatten_cons, List.flatten_nil, List.append_nil, List.cons_append, List.nil_append]
  entry_read
  rfl

theorem entry_c : V m c main_v0 = laidC (m ((c.tc : Thread nD τ).loc main_arg2)) := by
  unfold V
  simp only [hostOps0, hostOps0_1, hostOps0_2, hostOps0_3, hostOps0_4, List.flatten_cons, List.flatten_nil, List.append_nil, List.cons_append, List.nil_append]
  entry_read
  rfl

theorem block_c (t : Fin cfg0.N) (a : Fin 1408) (x : Fin 1024) :
    (iblk m c 0 t : Vec Ideal S1408x1024 .f32) (ix2 a x) = front (argC m c) (1408 * (t.val / 8) + a) x := by
  have h := (idx_all t).1
  have hN : t.val < 24 := lt_of_lt_of_eq t.isLt N_0
  refine Eq.trans ?_ (laidC_at _ ⟨1408 * (t.val / 8) + a.val, by omega⟩ x)
  rw [← entry_c]
  blk_ext [iblk, h]

theorem block_w (t : Fin cfg0.N) (b : Fin 512) (x : Fin 1024) :
    (iblk m c 1 t : Vec Ideal S512x1024 .bf16) (ix2 b x) = argW m c (ix2 ⟨512 * (t.val % 8) + b.val, by omega⟩ x) := by
  have h := (idx_all t).2.1
  refine Eq.trans ?_ (laidW_at _ ⟨512 * (t.val % 8) + b.val, by omega⟩ x)
  rw [← entry_w]
  blk_ext [iblk, h]

theorem block_u (t : Fin cfg0.N) (a : Fin 1408) (b : Fin 512) :
    (iblk m c 2 t : Vec Ideal S1408x512 .bf16) (ix2 a b) = front (argU m c) (1408 * (t.val / 8) + a) (512 * (t.val % 8) + b) := by
  have h := (idx_all t).2.2.1
  have hN : t.val < 24 := lt_of_lt_of_eq t.isLt N_0
  refine Eq.trans ?_ (laidU_at _ ⟨1408 * (t.val / 8) + a.val, by omega⟩ ⟨512 * (t.val % 8) + b.val, by omega⟩)
  rw [← entry_u]
  blk_ext [iblk, h]

/-- The rows of the cotangent stay for all blocks of columns. -/
theorem kept (n : ℕ) : ∀ (hn : n < cfg0.N) (a : Fin 1408) (x : Fin 1024),
    (outsAt0 m c n hn).2 (ix2 a x) = front (argC m c) (1408 * (n / 8) + a) x := by
  induction n with
  | zero =>
    intro hn a x
    have E := congrArg (fun z => z.2) (outsAt0_A m c ⟨0, hn⟩ rfl)
    dsimp only at E
    refine (congrFun (E.trans kept_eq) (ix2 a x)).trans ?_
    rw [pay1_at, block_c]
  | succ n ih =>
    intro hn a x
    by_cases h0 : (n + 1) % 8 = 0
    · have E := congrArg (fun z => z.2) (outsAt0_A m c ⟨n + 1, hn⟩ h0)
      dsimp only at E
      refine (congrFun (E.trans kept_eq) (ix2 a x)).trans ?_
      rw [pay1_at, block_c]
    · have E := congrArg (fun z => z.2) (outsAt0_B m c ⟨n + 1, hn⟩ h0)
      dsimp only at E
      refine (congrFun E (ix2 a x)).trans ?_
      unfold sout0_B_0
      refine (ih _ a x).trans ?_
      rw [show (n + 1) / 8 = n / 8 by omega]

/-- An entry of the result by row and column number. -/
def entry (g r : ℕ) : EReal := (∑ x : Fin 1024, front (argC m c) g x * ent (argW m c) r x) * incline (front (argU m c) g r)

/-- What a point writes. -/
theorem written (t : Fin cfg0.N) (a : Fin 1408) (b : Fin 512) :
    (outsAt0 m c t.val t.isLt).1 (ix2 a b) = entry m c (1408 * (t.val / 8) + a) (512 * (t.val % 8) + b) := by
  have hw : ∀ x : Fin 1024, (iblk m c 1 t : Vec Ideal S512x1024 .bf16) (ix2 b x) = ent (argW m c) (512 * (t.val % 8) + b) x := fun x =>
    (block_w m c t b x).trans (ent_fin (argW m c) ⟨512 * (t.val % 8) + b.val, by omega⟩ x).symm
  by_cases h0 : t.val % 8 = 0
  · have E := congrArg (fun z => z.1) (outsAt0_A m c t h0)
    dsimp only at E
    refine (congrFun (E.trans first_eq) (ix2 a b)).trans ((pay2_at _ _ _ a b).trans ?_)
    refine congrArg₂ (· * ·) (Finset.sum_congr rfl fun x _ => congrArg₂ (· * ·) ?_ (hw x)) (congrArg incline (block_u m c t a b))
    exact (pay1_at _ a x).trans (block_c m c t a x)
  · have E := congrArg (fun z => z.1) (outsAt0_B m c t h0)
    dsimp only at E
    refine (congrFun (E.trans later_eq) (ix2 a b)).trans ((pay2_at _ _ _ a b).trans ?_)
    refine congrArg₂ (· * ·) (Finset.sum_congr rfl fun x _ => congrArg₂ (· * ·) ?_ (hw x)) (congrArg incline (block_u m c t a b))
    refine (kept m c (t.val - 1) _ a x).trans ?_
    rw [show (t.val - 1) / 8 = t.val / 8 by omega]

/-- The array that the call leaves. -/
theorem final : (dats m 0 c).arrAt 3 cfg0.N = fun i : S4224x4096.Idx => entry m c (i 0).val (i 1).val := by
  refine (dats m 0 c).arrAt_eq_of_covers 3 _ (by decide +kernel) fun t hf y => ?_
  blk_simp [(idx_all t).2.2.2]
  rw [after0_3]
  have e : y = ix2 (n0 := 1408) (n1 := 512) (y 0) (y 1) := by
    funext a
    match a with
    | ⟨0, _⟩ => rfl
    | ⟨1, _⟩ => rfl
  refine (congrArg (outsAt0 m c t.val t.isLt).1 e).trans ((written m c t (y 0) (y 1)).trans ?_)
  rw [Nat.mul_comm 1408, Nat.mul_comm 512]

end Cert.Kernel2Ideal.Hidden

namespace Cert.Reference2Ideal.Hidden

open Cert.Reference2Ideal Cert.Reference2Ideal.Gen Idealize.ShloMosaic Cert.Mlp
open Cert.Kernel2Ideal.Hidden (incline)

/-- The reference's gradient, of any arguments. -/
def grad (u : FVec Ideal S4112x4096 .f32) (w : FVec Ideal S4096x1024 .f32) (ct : FVec Ideal S4112x1024 .f32) : FVec Ideal S4224x4096 .bf16 :=
  truncf .bf16 (pad S4224x4096 ![112, 0] ![0, 0] ![0, 0] (select (cmpf .ogt u (broadcastInDim S4112x4096 ![] bcast_S_S4112x4096 (constant S_ .f32 0x00000000#32))) (mulf (Host.dotGeneral dot_S4112x1024_S4096x1024_S4112x4096_1_1_0_0_n_n none ct w) (mulf (broadcastInDim S4112x4096 ![] bcast_S_S4112x4096 (constant S_ .f32 0x40000000#32)) (maximumf u (broadcastInDim S4112x4096 ![] bcast_S_S4112x4096 (constant S_ .f32 0x00000000#32))))) (broadcastInDim S4112x4096 ![] bcast_S_S4112x4096 (constant S_ .f32 0x00000000#32))) (sitofp .f32 (constantI S_ 32 0#32)) pads_S4112x4096_S4224x4096_11200_000 h_S_) bitsLt_bf16_f32

/-- The reference's gradient before it is laid out. -/
def inner (u : FVec Ideal S4112x4096 .f32) (w : FVec Ideal S4096x1024 .f32) (ct : FVec Ideal S4112x1024 .f32) : FVec Ideal S4112x4096 .f32 :=
  select (cmpf .ogt u (broadcastInDim S4112x4096 ![] bcast_S_S4112x4096 (constant S_ .f32 0x00000000#32))) (mulf (Host.dotGeneral dot_S4112x1024_S4096x1024_S4112x4096_1_1_0_0_n_n none ct w) (mulf (broadcastInDim S4112x4096 ![] bcast_S_S4112x4096 (constant S_ .f32 0x40000000#32)) (maximumf u (broadcastInDim S4112x4096 ![] bcast_S_S4112x4096 (constant S_ .f32 0x00000000#32))))) (broadcastInDim S4112x4096 ![] bcast_S_S4112x4096 (constant S_ .f32 0x00000000#32))

theorem inner_at (u : FVec Ideal S4112x4096 .f32) (w : FVec Ideal S4096x1024 .f32) (ct : FVec Ideal S4112x1024 .f32) (i : Fin 4112) (j : Fin 4096) :
    inner u w ct (ix2 i j) = (∑ x : Fin 1024, ct (ix2 i x) * w (ix2 j x)) * incline (u (ix2 i j)) := by
  pointwise [inner]
  simp only [ofBits_zero, incline]
  split
  · rfl
  · rw [max_eq_right (not_lt.mp ‹_›), mul_zero, mul_zero]

theorem grad_at (u : FVec Ideal S4112x4096 .f32) (w : FVec Ideal S4096x1024 .f32) (ct : FVec Ideal S4112x1024 .f32) (g : Fin 4224) (r : Fin 4096) :
    grad u w ct (ix2 g r) = front (n := 4096) (inner u w ct) g r := Cert.Kernel2Ideal.Hidden.laidU_at (inner u w ct) g r

/-- The reference's gradient has the entries that the call leaves. -/
theorem grad_entry (u : FVec Ideal S4112x4096 .f32) (w : FVec Ideal S4096x1024 .f32) (ct : FVec Ideal S4112x1024 .f32) (g : Fin 4224) (r : Fin 4096) :
    grad u w ct (ix2 g r)
      = (∑ x : Fin 1024, front (n := 1024) ct g x * ent (n0 := 4096) (n1 := 1024) w r x) * incline (front (n := 4096) u g r) := by
  rw [grad_at]
  by_cases h : 112 ≤ g.val
  · obtain ⟨i, hi⟩ : ∃ i : Fin 4112, g.val = 112 + i.val := ⟨⟨g.val - 112, by omega⟩, by dsimp only; omega⟩
    rw [hi, front_high, front_high, ent_fin, ent_fin, inner_at]
    refine congrArg (· * _) (Finset.sum_congr rfl fun x _ => ?_)
    rw [front_high, ent_fin, ent_fin]
  · have h' : g.val < 112 := by omega
    rw [front_low _ h', front_low _ h']
    simp only [incline, max_self, mul_zero]

end Cert.Reference2Ideal.Hidden
-- ==== Proof.DownGrad.lean ====
/- The call that makes the gradient of the second feed-forward matrix. -/
module

public import proofs.«01_k».proof.Proof.Rows
public import proofs.«01_k».proof.Proof.Gen.Kernel3Ideal.Value
public import proofs.«01_k».proof.Proof.Gen.Reference3Ideal.Run
public import Idealize.ShloMosaic.Lib.Pipeline.ValueKit
public import Idealize.ShloMosaic.Lib.KernelVsHost
public import Idealize.ShloMosaic.Lib.VecWindow

@[expose] public section

set_option maxRecDepth 8192

noncomputable section

namespace Cert.Kernel3Ideal.Down

open Cert.Kernel3Ideal Cert.Kernel3Ideal.Gen Idealize.ShloMosaic Idealize.ShloMosaic.TcCoe Idealize.ShloMosaic.Tactic Cert.Mlp
open scoped BigOperators
open Idealize.SL Idealize.SL.RA Idealize.SL.BI Idealize.SL.ProofMode Idealize.SL.Sem

section Steps

variable {c : Dev nD} {i : grid0.Coords} {arg3 : Memref sig .tc .vmem S384x2048 .bf16} {harg3 : arg3.IsWhole} {arg4 : Memref sig .tc .vmem S384x1024 .f32} {harg4 : arg4.IsWhole} {arg5 : Memref sig .tc .vmem S2048x1024 .bf16} {harg5 : arg5.IsWhole} {arg6 : Memref sig .tc .vmem S2048x1024 .f32} {harg6 : arg6.IsWhole}
  {x0 : Vec Ideal S384x2048 .bf16} {x1 : Vec Ideal S384x1024 .f32} {xs0 : Vec Ideal S2048x1024 .f32}

/-- What a block of rows adds. -/
theorem pay1_at (x0 : Vec Ideal S384x2048 .bf16) (x1 : Vec Ideal S384x1024 .f32) (a : Fin 2048) (b : Fin 1024) :
    k0_pay1 x0 x1 (ix2 a b) = ∑ x : Fin 384, act (x0 (ix2 x a)) * x1 (ix2 x b) := by
  pointwise [k0_pay1]
  simp only [ofBits_zero, act]

/-- The running sum after the first block of rows. -/
theorem first_eq {hc0 : cond0_0 i} {hc1 : ¬cond0_1 i} {hc2 : ¬cond0_2 i} :
    sout0_A_0 (F := Ideal) c i arg3 harg3 arg4 harg4 arg5 harg5 arg6 harg6 hc0 hc1 hc2 x0 x1 = k0_pay2 x0 x1 := by
  unfold sout0_A_0 kernelRun0_A
  dsimp only
  sl_unfold_run_names
  erw [View.read_writes_full]
  have e3 := harg3.read_unread (Val := Elt Ideal) x0
  have e4 := harg4.read_unread (Val := Elt Ideal) x1
  rw [View.readAt_full, View.readAt_full, e3, e4]

/-- The running sum after a middle block of rows. -/
theorem middle_eq {hc0 : ¬cond0_0 i} {hc1 : cond0_1 i} {hc2 : ¬cond0_2 i} :
    sout0_B_0 (F := Ideal) c i arg3 harg3 arg4 harg4 arg5 harg5 arg6 harg6 hc0 hc1 hc2 x0 x1 xs0 = k0_pay3 x0 x1 xs0 := by
  unfold sout0_B_0 kernelRun0_B
  dsimp only
  sl_unfold_run_names
  erw [View.read_writes_full]
  have e3 := harg3.read_unread (Val := Elt Ideal) x0
  have e4 := harg4.read_unread (Val := Elt Ideal) x1
  have e6 := harg6.read_unread (Val := Elt Ideal) xs0
  rw [View.readAt_full, View.readAt_full, View.readAt_full, e3, e4, e6]

/-- What the last block of rows leaves in the output. -/
theorem last_eq {hc0 : ¬cond0_0 i} {hc1 : cond0_1 i} {hc2 : cond0_2 i} :
    out0_C_2 (F := Ideal) c i arg3 harg3 arg4 harg4 arg5 harg5 arg6 harg6 hc0 hc1 hc2 x0 x1 xs0 = k0_pay4 (k0_pay3 x0 x1 xs0) := by
  unfold out0_C_2 kernelRun0_C
  dsimp only
  sl_unfold_run_names
  erw [View.read_writes_full]
  have e3 := harg3.read_unread (Val := Elt Ideal) x0
  have e4 := harg4.read_unread (Val := Elt Ideal) x1
  have e6 := harg6.read_unread (Val := Elt Ideal) xs0
  rw [View.readCov_full, View.readAt_full, View.readAt_full, View.readAt_full, e3, e4, e6]

theorem pay2_at (x0 : Vec Ideal S384x2048 .bf16) (x1 : Vec Ideal S384x1024 .f32) (a : Fin 2048) (b : Fin 1024) :
    k0_pay2 x0 x1 (ix2 a b) = ∑ x : Fin 384, act (x0 (ix2 x a)) * x1 (ix2 x b) := by
  rw [← pay1_at]
  unfold k0_pay2
  generalize k0_pay1 x0 x1 = y
  pointwise

theorem pay3_at (x0 : Vec Ideal S384x2048 .bf16) (x1 : Vec Ideal S384x1024 .f32) (s : Vec Ideal S2048x1024 .f32) (a : Fin 2048) (b : Fin 1024) :
    k0_pay3 x0 x1 s (ix2 a b) = s (ix2 a b) + ∑ x : Fin 384, act (x0 (ix2 x a)) * x1 (ix2 x b) := by
  rw [← pay1_at]
  unfold k0_pay3
  generalize k0_pay1 x0 x1 = y
  pointwise

theorem pay4_at (s : Vec Ideal S2048x1024 .f32) (a : Fin 2048) (b : Fin 1024) : k0_pay4 s (ix2 a b) = s (ix2 a b) := by
  pointwise [k0_pay4]

end Steps

theorem idx_all : ∀ t : Fin cfg0.N, win0_0.index t = ![t.val % 11, t.val / 11] ∧ win0_1.index t = ![t.val % 11, 0]
    ∧ win0_2.index t = ![t.val / 11, 0] := by decide +kernel

theorem flush_last : ∀ t : Fin cfg0.N, (cfg0.win 2).flush t = true → t.val % 11 = 10 := by decide +kernel

variable (m : (ℓ : Loc nD τ sig) → Buf (Elt Ideal) ℓ) (c : Dev nD)

/-- The saved values and the cotangent of the launch. -/
abbrev argU : Mat 4112 4096 := m ((c.tc : Thread nD τ).loc main_arg0)
abbrev argC : Mat 4112 1024 := m ((c.tc : Thread nD τ).loc main_arg1)

/-- The saved values as laid out. -/
def laidU (x : FVec Ideal S4112x4096 .f32) : FVec Ideal S4224x4096 .bf16 :=
  truncf .bf16 (pad S4224x4096 ![112, 0] ![0, 0] ![0, 0] x (sitofp .f32 (constantI S_ 32 0#32)) pads_S4112x4096_S4224x4096_11200_000 h_S_) bitsLt_bf16_f32

/-- The cotangent as laid out. -/
def laidC (x : FVec Ideal S4112x1024 .f32) : FVec Ideal S4224x1024 .f32 :=
  pad S4224x1024 ![112, 0] ![0, 0] ![0, 0] x (sitofp .f32 (constantI S_ 32 0#32)) pads_S4112x1024_S4224x1024_11200_000 h_S_

theorem laidU_at (x : FVec Ideal S4112x4096 .f32) (g : Fin 4224) (r : Fin 4096) : laidU x (ix2 g r) = front (n := 4096) x g r := by
  have hz : (sitofp .f32 (constantI S_ 32 0#32) : FVec Ideal S_ .f32) = fun _ => 0 := pad_zero
  unfold laidU
  rw [hz]
  pointwise
  unfold front ent
  have hg := g.isLt
  by_cases h : 112 ≤ g.val
  · rw [dif_pos ⟨h, by omega⟩, if_pos h, dif_pos ⟨by omega, r.isLt⟩]
  · rw [dif_neg fun e => h e.1, if_neg h]

theorem laidC_at (x : FVec Ideal S4112x1024 .f32) (g : Fin 4224) (r : Fin 1024) : laidC x (ix2 g r) = front (n := 1024) x g r := by
  have hz : (sitofp .f32 (constantI S_ 32 0#32) : FVec Ideal S_ .f32) = fun _ => 0 := pad_zero
  unfold laidC
  rw [hz]
  pointwise
  unfold front ent
  have hg := g.isLt
  by_cases h : 112 ≤ g.val
  · rw [dif_pos ⟨h, by omega⟩, if_pos h, dif_pos ⟨by omega, r.isLt⟩]
  · rw [dif_neg fun e => h e.1, if_neg h]

theorem entry_u : V m c main_v2 = laidU (m ((c.tc : Thread nD τ).loc main_arg0)) := by
  unfold V
  simp only [hostOps0, hostOps0_1, hostOps0_2, hostOps0_3, hostOps0_4, List.flatten_cons, List.flatten_nil, List.append_nil, List.cons_append, List.nil_append]
  entry_read
  rfl

theorem entry_c : V m c main_v0 = laidC (m ((c.tc : Thread nD τ).loc main_arg1)) := by
  unfold V
  simp only [hostOps0, hostOps0_1, hostOps0_2, hostOps0_3, hostOps0_4, List.flatten_cons, List.flatten_nil, List.append_nil, List.cons_append, List.nil_append]
  entry_read
  rfl

theorem block_u (t : Fin cfg0.N) (x : Fin 384) (a : Fin 2048) :
    (iblk m c 0 t : Vec Ideal S384x2048 .bf16) (ix2 x a) = front (argU m c) (384 * (t.val % 11) + x) (2048 * (t.val / 11) + a) := by
  have h := (idx_all t).1
  have hN : t.val < 22 := lt_of_lt_of_eq t.isLt N_0
  refine Eq.trans ?_ (laidU_at _ ⟨384 * (t.val % 11) + x.val, by omega⟩ ⟨2048 * (t.val / 11) + a.val, by omega⟩)
  rw [← entry_u]
  blk_ext [iblk, h]

theorem block_c (t : Fin cfg0.N) (x : Fin 384) (b : Fin 1024) :
    (iblk m c 1 t : Vec Ideal S384x1024 .f32) (ix2 x b) = front (argC m c) (384 * (t.val % 11) + x) b := by
  have h := (idx_all t).2.1
  have hN : t.val < 22 := lt_of_lt_of_eq t.isLt N_0
  refine Eq.trans ?_ (laidC_at _ ⟨384 * (t.val % 11) + x.val, by omega⟩ b)
  rw [← entry_c]
  blk_ext [iblk, h]

/-- What a row adds to an entry of the gradient. -/
def term (a b g : ℕ) : EReal := act (front (argU m c) g a) * front (argC m c) g b

theorem block_sum (t : Fin cfg0.N) (a : Fin 2048) (b : Fin 1024) :
    ∑ x : Fin 384, act ((iblk m c 0 t : Vec Ideal S384x2048 .bf16) (ix2 x a)) * (iblk m c 1 t : Vec Ideal S384x1024 .f32) (ix2 x b)
      = ∑ x : Fin 384, term m c (2048 * (t.val / 11) + a) b (384 * (t.val % 11) + x) := by
  refine Finset.sum_congr rfl fun x _ => ?_
  rw [block_u, block_c]
  rfl

/-- The running sum after a point that is not its last. -/
theorem running (n : ℕ) : ∀ (hn : n < cfg0.N), ¬n % 11 = 10 → ∀ (a : Fin 2048) (b : Fin 1024),
    (outsAt0 m c n hn).2 (ix2 a b) = ∑ kb ∈ Finset.range (n % 11 + 1), ∑ x : Fin 384, term m c (2048 * (n / 11) + a) b (384 * kb + x) := by
  induction n with
  | zero =>
    intro hn h10 a b
    have E := congrArg (fun z => z.2) (outsAt0_A m c ⟨0, hn⟩ rfl (by dsimp only; omega) h10)
    dsimp only at E
    refine (congrFun (E.trans first_eq) (ix2 a b)).trans ?_
    rw [pay2_at, block_sum, Finset.sum_range_one]
    rfl
  | succ n ih =>
    intro hn h10 a b
    by_cases h0 : (n + 1) % 11 = 0
    · have E := congrArg (fun z => z.2) (outsAt0_A m c ⟨n + 1, hn⟩ h0 (by dsimp only; omega) h10)
      dsimp only at E
      refine (congrFun (E.trans first_eq) (ix2 a b)).trans ?_
      rw [pay2_at, block_sum, h0, Finset.sum_range_one]
    · have E := congrArg (fun z => z.2) (outsAt0_B m c ⟨n + 1, hn⟩ h0 (by dsimp only; omega) h10)
      dsimp only at E
      refine (congrFun (E.trans middle_eq) (ix2 a b)).trans ?_
      rw [pay3_at, block_sum, Finset.sum_range_succ]
      congr 1
      refine (ih _ (by omega) a b).trans ?_
      rw [show (n + 1) / 11 = n / 11 by omega, show (n + 1) % 11 = n % 11 + 1 by omega]

/-- What the last point of a block of columns writes. -/
theorem written (t : Fin cfg0.N) (h10 : t.val % 11 = 10) (a : Fin 2048) (b : Fin 1024) :
    (outsAt0 m c t.val t.isLt).1 (ix2 a b) = ∑ g ∈ Finset.range 4224, term m c (2048 * (t.val / 11) + a) b g := by
  have E := congrArg (fun z => z.1) (outsAt0_C m c t (by omega) (by omega) h10)
  dsimp only at E
  refine (congrFun (E.trans last_eq) (ix2 a b)).trans ?_
  rw [pay4_at, pay3_at, block_sum, ← sum_blocks, Finset.sum_range_succ _ 10]
  congr 1
  · refine (running m c (t.val - 1) _ (by omega) a b).trans ?_
    rw [show (t.val - 1) % 11 + 1 = 10 by omega, show (t.val - 1) / 11 = t.val / 11 by omega]
  · rw [h10]

/-- The array that the call leaves. -/
theorem final : (dats m 0 c).arrAt 2 cfg0.N = fun i : S4096x1024.Idx => ∑ g ∈ Finset.range 4224, term m c (i 0).val (i 1).val g := by
  refine (dats m 0 c).arrAt_eq_of_covers 2 _ (by decide +kernel) fun t hf y => ?_
  have h10 := flush_last t hf
  blk_simp [(idx_all t).2.2]
  rw [after0_2]
  have e : y = ix2 (n0 := 2048) (n1 := 1024) (y 0) (y 1) := by
    funext a
    match a with
    | ⟨0, _⟩ => rfl
    | ⟨1, _⟩ => rfl
  refine (congrArg (outsAt0 m c t.val t.isLt).1 e).trans ((written m c t h10 (y 0) (y 1)).trans ?_)
  rw [Nat.mul_comm 2048]

/-- An entry of it, as a sum over the rows of the arguments. -/
theorem entry_sum (a : Fin 4096) (b : Fin 1024) :
    ∑ g ∈ Finset.range 4224, term m c a b g = ∑ i : Fin 4112, argC m c (ix2 i b) * act (argU m c (ix2 i a)) := by
  rw [sum_front]
  · refine Finset.sum_congr rfl fun i _ => ?_
    unfold term
    rw [front_high, front_high, ent_fin, ent_fin, mul_comm]
  · intro g hg
    unfold term
    rw [front_low _ hg b.val, mul_zero]

end Cert.Kernel3Ideal.Down

namespace Cert.Reference3Ideal.Down

open Cert.Reference3Ideal Cert.Reference3Ideal.Gen Idealize.ShloMosaic Cert.Mlp

/-- The reference's gradient, of any arguments. -/
def grad (u : FVec Ideal S4112x4096 .f32) (ct : FVec Ideal S4112x1024 .f32) : FVec Ideal S4096x1024 .bf16 :=
  truncf .bf16 (transpose S4096x1024 [1, 0] (Host.dotGeneral dot_S4112x1024_S4112x4096_S1024x4096_0_0_1_1_n_n none ct (mulf (maximumf u (broadcastInDim S4112x4096 ![] bcast_S_S4112x4096 (constant S_ .f32 0x00000000#32))) (maximumf u (broadcastInDim S4112x4096 ![] bcast_S_S4112x4096 (constant S_ .f32 0x00000000#32))))) transposes_S1024x4096_S4096x1024_1_0) bitsLt_bf16_f32

theorem grad_at (u : FVec Ideal S4112x4096 .f32) (ct : FVec Ideal S4112x1024 .f32) (a : Fin 4096) (b : Fin 1024) :
    grad u ct (ix2 a b) = ∑ i : Fin 4112, ct (ix2 i b) * act (u (ix2 i a)) := by
  pointwise [grad]
  simp only [ofBits_zero, act]

end Cert.Reference3Ideal.Down
-- ==== Proof.UpGrad.lean ====
/- The call that makes the gradient of the first feed-forward matrix. -/
module

public import proofs.«01_k».proof.Proof.Rows
public import proofs.«01_k».proof.Proof.Basic
public import proofs.«01_k».proof.Proof.Gen.Kernel4Ideal.Value
public import proofs.«01_k».proof.Proof.Gen.Reference4Ideal.Run
public import Idealize.ShloMosaic.Lib.Pipeline.ValueKit
public import Idealize.ShloMosaic.Lib.KernelVsHost
public import Idealize.ShloMosaic.Lib.VecWindow

@[expose] public section

set_option maxRecDepth 8192

noncomputable section

namespace Cert.Kernel4Ideal.Up

open Cert.Kernel4Ideal Cert.Kernel4Ideal.Gen Idealize.ShloMosaic Idealize.ShloMosaic.TcCoe Idealize.ShloMosaic.Tactic Cert.Mlp
open scoped BigOperators
open Idealize.SL Idealize.SL.RA Idealize.SL.BI Idealize.SL.ProofMode Idealize.SL.Sem

section Steps

variable {c : Dev nD} {i : grid0.Coords} {arg3 : Memref sig .tc .vmem S384x1024 .bf16} {harg3 : arg3.IsWhole} {arg4 : Memref sig .tc .vmem S384x2048 .bf16} {harg4 : arg4.IsWhole} {arg5 : Memref sig .tc .vmem S4x1024x512 .bf16} {harg5 : arg5.IsWhole} {arg6 : Memref sig .tc .vmem S1024x2048 .f32} {harg6 : arg6.IsWhole}
  {x0 : Vec Ideal S384x1024 .bf16} {x1 : Vec Ideal S384x2048 .bf16} {xs0 : Vec Ideal S1024x2048 .f32}

/-- What a block of rows adds. -/
theorem pay1_at (x0 : Vec Ideal S384x1024 .bf16) (x1 : Vec Ideal S384x2048 .bf16) (a : Fin 1024) (b : Fin 2048) :
    k0_pay1 x0 x1 (ix2 a b) = ∑ x : Fin 384, x0 (ix2 x a) * x1 (ix2 x b) := by
  pointwise [k0_pay1]

/-- The running sum after the first block of rows. -/
theorem first_eq {hc0 : cond0_0 i} {hc1 : ¬cond0_1 i} {hc2 : ¬cond0_2 i} :
    sout0_A_0 (F := Ideal) c i arg3 harg3 arg4 harg4 arg5 harg5 arg6 harg6 hc0 hc1 hc2 x0 x1 = k0_pay2 x0 x1 := by
  unfold sout0_A_0 kernelRun0_A
  dsimp only
  sl_unfold_run_names
  erw [View.read_writes_full]
  have e3 := harg3.read_unread (Val := Elt Ideal) x0
  have e4 := harg4.read_unread (Val := Elt Ideal) x1
  rw [View.readAt_full, View.readAt_full, e3, e4]

/-- The running sum after a middle block of rows. -/
theorem middle_eq {hc0 : ¬cond0_0 i} {hc1 : cond0_1 i} {hc2 : ¬cond0_2 i} :
    sout0_B_0 (F := Ideal) c i arg3 harg3 arg4 harg4 arg5 harg5 arg6 harg6 hc0 hc1 hc2 x0 x1 xs0 = k0_pay3 x0 x1 xs0 := by
  unfold sout0_B_0 kernelRun0_B
  dsimp only
  sl_unfold_run_names
  erw [View.read_writes_full]
  have e3 := harg3.read_unread (Val := Elt Ideal) x0
  have e4 := harg4.read_unread (Val := Elt Ideal) x1
  have e6 := harg6.read_unread (Val := Elt Ideal) xs0
  rw [View.readAt_full, View.readAt_full, View.readAt_full, e3, e4, e6]

theorem pay2_at (x0 : Vec Ideal S384x1024 .bf16) (x1 : Vec Ideal S384x2048 .bf16) (a : Fin 1024) (b : Fin 2048) :
    k0_pay2 x0 x1 (ix2 a b) = k0_pay1 x0 x1 (ix2 a b) := by
  unfold k0_pay2
  generalize k0_pay1 x0 x1 = y
  pointwise

theorem pay3_at (x0 : Vec Ideal S384x1024 .bf16) (x1 : Vec Ideal S384x2048 .bf16) (s : Vec Ideal S1024x2048 .f32) (a : Fin 1024) (b : Fin 2048) :
    k0_pay3 x0 x1 s (ix2 a b) = s (ix2 a b) + k0_pay1 x0 x1 (ix2 a b) := by
  unfold k0_pay3
  generalize k0_pay1 x0 x1 = y
  pointwise

/-- A read of some of the columns of an array just written whole. -/
theorem columns_at (v : View sig .tc .vmem S1024x2048 .f32) (y : Vec Ideal S1024x2048 .f32) {o : ℕ}
    (inb : ∀ a, (![0, o] : Fin 2 → ℕ) a + S1024x512.size a ≤ S1024x2048.size a) (inb' : ∀ a, (![0, 0] : Fin 2 → ℕ) a + S1024x2048.size a ≤ S1024x2048.size a)
    (a : Fin 1024) (b : Fin 512) (h : o + b.val < 2048) :
    v.readCov (Val := Elt Ideal) [⟨Rect.unit ![0, 0] S1024x2048.size inb', y⟩] (Rect.unit (s := S1024x2048) ![0, o] S1024x512.size inb).toLoadRect (ix2 a b)
      = y (ix2 a ⟨o + b.val, h⟩) := by
  unfold View.readCov
  rw [View.readAt_unit v _ _ rfl inb, View.read_writes_full]
  refine (Cert.Attn.window2_apply y inb a b (by omega) h).trans ?_
  congr 2
  apply Fin.ext
  simp

theorem pay4_at (v : Vec Ideal S1024x512 .f32) (a : Fin 1024) (b : Fin 512) : k0_pay4 v (ix3 0 a b) = v (ix2 a b) := by
  pointwise [k0_pay4]

theorem pay5_at (v : Vec Ideal S1024x512 .f32) (a : Fin 1024) (b : Fin 512) : k0_pay5 v (ix3 0 a b) = v (ix2 a b) := by
  pointwise [k0_pay5]

theorem pay6_at (v : Vec Ideal S1024x512 .f32) (a : Fin 1024) (b : Fin 512) : k0_pay6 v (ix3 0 a b) = v (ix2 a b) := by
  pointwise [k0_pay6]

theorem pay7_at (v : Vec Ideal S1024x512 .f32) (a : Fin 1024) (b : Fin 512) : k0_pay7 v (ix3 0 a b) = v (ix2 a b) := by
  pointwise [k0_pay7]

/-- What the last block of rows leaves in the output. -/
theorem last_at {hc0 : ¬cond0_0 i} {hc1 : cond0_1 i} {hc2 : cond0_2 i} (p : Fin 4) (a : Fin 1024) (b : Fin 512) :
    out0_C_2 (F := Ideal) c i arg3 harg3 arg4 harg4 arg5 harg5 arg6 harg6 hc0 hc1 hc2 x0 x1 xs0 (ix3 p a b)
      = k0_pay3 x0 x1 xs0 (ix2 a ⟨512 * p.val + b.val, by omega⟩) := by
  unfold out0_C_2 kernelRun0_C
  dsimp only
  sl_unfold_run_names
  have e3 := harg3.read_unread (Val := Elt Ideal) x0
  have e4 := harg4.read_unread (Val := Elt Ideal) x1
  have e6 := harg6.read_unread (Val := Elt Ideal) xs0
  rw [View.readAt_full, View.readAt_full, View.readAt_full, e3, e4, e6]
  generalize k0_pay3 x0 x1 xs0 = y
  match p with
  | ⟨0, _⟩ =>
    refine (View.read_writes_cons_unit_of_not_mem _ _ _ _ _ _ rfl 0 (.inl (show (0 : ℕ) < 3 by decide))).trans ?_
    refine (View.read_writes_cons_unit_of_not_mem _ _ _ _ _ _ rfl 0 (.inl (show (0 : ℕ) < 2 by decide))).trans ?_
    refine (View.read_writes_cons_unit_of_not_mem _ _ _ _ _ _ rfl 0 (.inl (show (0 : ℕ) < 1 by decide))).trans ?_
    refine (View.read_writes_cons_unit_of_mem _ _ _ _ _ _ (ix3 0 a b) rfl fun d => ?_).trans ?_
    · match d with
      | ⟨0, _⟩ => rfl
      | ⟨1, _⟩ => exact (Nat.zero_add _).symm
      | ⟨2, _⟩ => exact (Nat.zero_add _).symm
    · rw [pay4_at, columns_at _ _ _ _ _ _ (by omega)]
      exact congrArg (fun x => y (ix2 a x)) (Fin.ext (by simp))
  | ⟨1, _⟩ =>
    refine (View.read_writes_cons_unit_of_not_mem _ _ _ _ _ _ rfl 0 (.inl (show (1 : ℕ) < 3 by decide))).trans ?_
    refine (View.read_writes_cons_unit_of_not_mem _ _ _ _ _ _ rfl 0 (.inl (show (1 : ℕ) < 2 by decide))).trans ?_
    refine (View.read_writes_cons_unit_of_mem _ _ _ _ _ _ (ix3 0 a b) rfl fun d => ?_).trans ?_
    · match d with
      | ⟨0, _⟩ => rfl
      | ⟨1, _⟩ => exact (Nat.zero_add _).symm
      | ⟨2, _⟩ => exact (Nat.zero_add _).symm
    · rw [pay5_at, columns_at _ _ _ _ _ _ (by omega)]
      exact congrArg (fun x => y (ix2 a x)) (Fin.ext (by simp))
  | ⟨2, _⟩ =>
    refine (View.read_writes_cons_unit_of_not_mem _ _ _ _ _ _ rfl 0 (.inl (show (2 : ℕ) < 3 by decide))).trans ?_
    refine (View.read_writes_cons_unit_of_mem _ _ _ _ _ _ (ix3 0 a b) rfl fun d => ?_).trans ?_
    · match d with
      | ⟨0, _⟩ => rfl
      | ⟨1, _⟩ => exact (Nat.zero_add _).symm
      | ⟨2, _⟩ => exact (Nat.zero_add _).symm
    · rw [pay6_at, columns_at _ _ _ _ _ _ (by omega)]
      exact congrArg (fun x => y (ix2 a x)) (Fin.ext (by simp))
  | ⟨3, _⟩ =>
    refine (View.read_writes_cons_unit_of_mem _ _ _ _ _ _ (ix3 0 a b) rfl fun d => ?_).trans ?_
    · match d with
      | ⟨0, _⟩ => rfl
      | ⟨1, _⟩ => exact (Nat.zero_add _).symm
      | ⟨2, _⟩ => exact (Nat.zero_add _).symm
    · rw [pay7_at, columns_at _ _ _ _ _ _ (by omega)]
      exact congrArg (fun x => y (ix2 a x)) (Fin.ext (by simp))

end Steps

theorem idx_all : ∀ t : Fin cfg0.N, win0_0.index t = ![t.val % 11, 0] ∧ win0_1.index t = ![t.val % 11, t.val / 11]
    ∧ win0_2.index t = ![t.val / 11, 0, 0] := by decide +kernel

theorem flush_last : ∀ t : Fin cfg0.N, (cfg0.win 2).flush t = true → t.val % 11 = 10 := by decide +kernel

variable (m : (ℓ : Loc nD τ sig) → Buf (Elt Ideal) ℓ) (c : Dev nD)

/-- The layer's normalised values and the cotangent of the launch. -/
abbrev argH : Mat 4112 1024 := m ((c.tc : Thread nD τ).loc main_arg0)
abbrev argU : Mat 4112 4096 := m ((c.tc : Thread nD τ).loc main_arg1)

/-- The layer's normalised values as laid out. -/
def laidH (x : FVec Ideal S4112x1024 .f32) : FVec Ideal S4224x1024 .bf16 :=
  truncf .bf16 (pad S4224x1024 ![112, 0] ![0, 0] ![0, 0] x (sitofp .f32 (constantI S_ 32 0#32)) pads_S4112x1024_S4224x1024_11200_000 h_S_) bitsLt_bf16_f32

/-- The cotangent as laid out. -/
def laidU (x : FVec Ideal S4112x4096 .f32) : FVec Ideal S4224x4096 .bf16 :=
  truncf .bf16 (pad S4224x4096 ![112, 0] ![0, 0] ![0, 0] x (sitofp .f32 (constantI S_ 32 0#32)) pads_S4112x4096_S4224x4096_11200_000 h_S_) bitsLt_bf16_f32

theorem laidU_at (x : FVec Ideal S4112x4096 .f32) (g : Fin 4224) (r : Fin 4096) : laidU x (ix2 g r) = front (n := 4096) x g r := by
  have hz : (sitofp .f32 (constantI S_ 32 0#32) : FVec Ideal S_ .f32) = fun _ => 0 := pad_zero
  unfold laidU
  rw [hz]
  pointwise
  unfold front ent
  have hg := g.isLt
  by_cases h : 112 ≤ g.val
  · rw [dif_pos ⟨h, by omega⟩, if_pos h, dif_pos ⟨by omega, r.isLt⟩]
  · rw [dif_neg fun e => h e.1, if_neg h]

theorem laidH_at (x : FVec Ideal S4112x1024 .f32) (g : Fin 4224) (r : Fin 1024) : laidH x (ix2 g r) = front (n := 1024) x g r := by
  have hz : (sitofp .f32 (constantI S_ 32 0#32) : FVec Ideal S_ .f32) = fun _ => 0 := pad_zero
  unfold laidH
  rw [hz]
  pointwise
  unfold front ent
  have hg := g.isLt
  by_cases h : 112 ≤ g.val
  · rw [dif_pos ⟨h, by omega⟩, if_pos h, dif_pos ⟨by omega, r.isLt⟩]
  · rw [dif_neg fun e => h e.1, if_neg h]

theorem entry_u : V m c main_v3 = laidU (m ((c.tc : Thread nD τ).loc main_arg1)) := by
  unfold V
  simp only [hostOps0, hostOps0_1, hostOps0_2, hostOps0_3, hostOps0_4, List.flatten_cons, List.flatten_nil, List.append_nil, List.cons_append, List.nil_append]
  entry_read
  rfl

theorem entry_h : V m c main_v1 = laidH (m ((c.tc : Thread nD τ).loc main_arg0)) := by
  unfold V
  simp only [hostOps0, hostOps0_1, hostOps0_2, hostOps0_3, hostOps0_4, List.flatten_cons, List.flatten_nil, List.append_nil, List.cons_append, List.nil_append]
  entry_read
  rfl

theorem block_h (t : Fin cfg0.N) (x : Fin 384) (a : Fin 1024) :
    (iblk m c 0 t : Vec Ideal S384x1024 .bf16) (ix2 x a) = front (argH m c) (384 * (t.val % 11) + x) a := by
  have h := (idx_all t).1
  have hN : t.val < 22 := lt_of_lt_of_eq t.isLt N_0
  refine Eq.trans ?_ (laidH_at _ ⟨384 * (t.val % 11) + x.val, by omega⟩ a)
  rw [← entry_h]
  blk_ext [iblk, h]

theorem block_u (t : Fin cfg0.N) (x : Fin 384) (b : Fin 2048) :
    (iblk m c 1 t : Vec Ideal S384x2048 .bf16) (ix2 x b) = front (argU m c) (384 * (t.val % 11) + x) (2048 * (t.val / 11) + b) := by
  have h := (idx_all t).2.1
  have hN : t.val < 22 := lt_of_lt_of_eq t.isLt N_0
  refine Eq.trans ?_ (laidU_at _ ⟨384 * (t.val % 11) + x.val, by omega⟩ ⟨2048 * (t.val / 11) + b.val, by omega⟩)
  rw [← entry_u]
  blk_ext [iblk, h]

/-- What a row adds to an entry of the gradient. -/
def term (a b g : ℕ) : EReal := front (argH m c) g a * front (argU m c) g b

theorem block_sum (t : Fin cfg0.N) (a : Fin 1024) (b : Fin 2048) :
    k0_pay1 (F := Ideal) (iblk m c 0 t) (iblk m c 1 t) (ix2 a b) = ∑ x : Fin 384, term m c a (2048 * (t.val / 11) + b) (384 * (t.val % 11) + x) :=
  (pay1_at _ _ a b).trans (Finset.sum_congr rfl fun x _ => congrArg₂ (· * ·) (block_h m c t x a) (block_u m c t x b))

/-- The running sum after a point that is not its last. -/
theorem running (n : ℕ) : ∀ (hn : n < cfg0.N), ¬n % 11 = 10 → ∀ (a : Fin 1024) (b : Fin 2048),
    (outsAt0 m c n hn).2 (ix2 a b) = ∑ kb ∈ Finset.range (n % 11 + 1), ∑ x : Fin 384, term m c a (2048 * (n / 11) + b) (384 * kb + x) := by
  induction n with
  | zero =>
    intro hn h10 a b
    have E := congrArg (fun z => z.2) (outsAt0_A m c ⟨0, hn⟩ rfl (by dsimp only; omega) h10)
    dsimp only at E
    refine (congrFun (E.trans first_eq) (ix2 a b)).trans ?_
    rw [pay2_at, block_sum, Finset.sum_range_one]
    rfl
  | succ n ih =>
    intro hn h10 a b
    by_cases h0 : (n + 1) % 11 = 0
    · have E := congrArg (fun z => z.2) (outsAt0_A m c ⟨n + 1, hn⟩ h0 (by dsimp only; omega) h10)
      dsimp only at E
      refine (congrFun (E.trans first_eq) (ix2 a b)).trans ?_
      rw [pay2_at, block_sum, h0, Finset.sum_range_one]
    · have E := congrArg (fun z => z.2) (outsAt0_B m c ⟨n + 1, hn⟩ h0 (by dsimp only; omega) h10)
      dsimp only at E
      refine (congrFun (E.trans middle_eq) (ix2 a b)).trans ?_
      rw [pay3_at, block_sum, Finset.sum_range_succ]
      congr 1
      refine (ih _ (by omega) a b).trans ?_
      rw [show (n + 1) / 11 = n / 11 by omega, show (n + 1) % 11 = n % 11 + 1 by omega]

/-- What the last point of a block of columns writes. -/
theorem written (t : Fin cfg0.N) (h10 : t.val % 11 = 10) (p : Fin 4) (a : Fin 1024) (b : Fin 512) :
    (outsAt0 m c t.val t.isLt).1 (ix3 p a b) = ∑ g ∈ Finset.range 4224, term m c a (2048 * (t.val / 11) + (512 * p + b)) g := by
  have E := congrArg (fun z => z.1) (outsAt0_C m c t (by omega) (by omega) h10)
  dsimp only at E
  refine (congrFun E (ix3 p a b)).trans ((last_at p a b).trans ?_)
  rw [pay3_at, block_sum, ← sum_blocks, Finset.sum_range_succ _ 10]
  congr 1
  · refine (running m c (t.val - 1) _ (by omega) a _).trans ?_
    rw [show (t.val - 1) % 11 + 1 = 10 by omega, show (t.val - 1) / 11 = t.val / 11 by omega]
  · rw [h10]

/-- The array that the call leaves. -/
theorem final : (dats m 0 c).arrAt 2 cfg0.N = fun i : S8x1024x512.Idx => ∑ g ∈ Finset.range 4224, term m c (i 1).val (512 * (i 0).val + (i 2).val) g := by
  refine (dats m 0 c).arrAt_eq_of_covers 2 _ (by decide +kernel) fun t hf y => ?_
  have h10 := flush_last t hf
  blk_simp [(idx_all t).2.2]
  rw [after0_2]
  have e : y = ix3 (n0 := 4) (n1 := 1024) (n2 := 512) (y 0) (y 1) (y 2) := by
    funext a
    match a with
    | ⟨0, _⟩ => rfl
    | ⟨1, _⟩ => rfl
    | ⟨2, _⟩ => rfl
  refine (congrArg (outsAt0 m c t.val t.isLt).1 e).trans ((written m c t h10 (y 0) (y 1) (y 2)).trans ?_)
  rw [show 2048 * (t.val / 11) + (512 * (y 0).val + (y 2).val) = 512 * (t.val / 11 * 4 + (y 0).val) + (y 2).val by omega]

/-- An entry of it, as a sum over the rows of the arguments. -/
theorem entry_sum (a : Fin 1024) (b : Fin 4096) :
    ∑ g ∈ Finset.range 4224, term m c a b g = ∑ i : Fin 4112, argU m c (ix2 i b) * argH m c (ix2 i a) := by
  rw [sum_front]
  · refine Finset.sum_congr rfl fun i _ => ?_
    unfold term
    rw [front_high, front_high, ent_fin, ent_fin, mul_comm]
  · intro g hg
    unfold term
    rw [front_low _ hg b.val, mul_zero]

end Cert.Kernel4Ideal.Up

namespace Cert.Reference4Ideal.Up

open Cert.Reference4Ideal Cert.Reference4Ideal.Gen Idealize.ShloMosaic Cert.Mlp

/-- The reference's gradient, of any arguments. -/
def grad (h : FVec Ideal S4112x1024 .f32) (ct : FVec Ideal S4112x4096 .f32) : FVec Ideal S8x1024x512 .bf16 :=
  transpose S8x1024x512 [1, 0, 2] (shapeCast _ (truncf .bf16 (transpose S1024x4096 [1, 0] (Host.dotGeneral dot_S4112x4096_S4112x1024_S4096x1024_0_0_1_1_n_n none ct h) transposes_S4096x1024_S1024x4096_1_0) bitsLt_bf16_f32) shapeCasts_S1024x4096_S1024x8x512) transposes_S1024x8x512_S8x1024x512_1_0_2

theorem grad_at (h : FVec Ideal S4112x1024 .f32) (ct : FVec Ideal S4112x4096 .f32) (p : Fin 8) (a : Fin 1024) (b : Fin 512) :
    grad h ct (ix3 p a b) = ∑ i : Fin 4112, ct (ix2 i ⟨512 * p.val + b.val, by omega⟩) * h (ix2 i a) := by
  pointwise [grad]
  simp only [Nat.mul_comm p.val 512]

end Cert.Reference4Ideal.Up
-- ==== Proof.Blocks.lean ====
/- Sums over blocks of 512 columns. -/
module

public import proofs.«01_k».proof.Proof.Rows

@[expose] public section

noncomputable section

namespace Cert.Mlp

open Idealize.ShloMosaic
open scoped BigOperators

/-- A sum over eight blocks of 512 columns is one over all columns. -/
theorem sum_columns (f : ℕ → EReal) : ∑ n ∈ Finset.range 8, ∑ b : Fin 512, f (512 * n + b) = ∑ x : Fin 4096, f x := by
  have e : ∀ N : ℕ, ∑ n ∈ Finset.range N, ∑ b : Fin 512, f (512 * n + b) = ∑ g ∈ Finset.range (512 * N), f g := by
    intro N
    induction N with
    | zero => simp
    | succ N ih =>
      rw [Finset.sum_range_succ, ih, Nat.mul_succ, Finset.sum_range_add]
      congr 1
  exact (e 8).trans (Fin.sum_univ_eq_sum_range f 4096).symm

/-- The activation of nothing. -/
theorem act_zero : act 0 = 0 := by
  unfold act
  rw [max_self, mul_zero]

end Cert.Mlp
-- ==== Proof.DownForward.lean ====
/- The call that multiplies by the second feed-forward matrix. -/
module

public import proofs.«01_k».proof.Proof.Blocks
public import proofs.«01_k».proof.Proof.Gen.Kernel5Ideal.Value
public import proofs.«01_k».proof.Proof.Gen.Reference5Ideal.Run
public import Idealize.ShloMosaic.Lib.Pipeline.ValueKit
public import Idealize.ShloMosaic.Lib.KernelVsHost
public import Idealize.ShloMosaic.Lib.VecWindow

@[expose] public section

set_option maxRecDepth 8192

noncomputable section

namespace Cert.Kernel5Ideal.Forward

open Cert.Kernel5Ideal Cert.Kernel5Ideal.Gen Idealize.ShloMosaic Idealize.ShloMosaic.TcCoe Idealize.ShloMosaic.Tactic Cert.Mlp
open scoped BigOperators
open Idealize.SL Idealize.SL.RA Idealize.SL.BI Idealize.SL.ProofMode Idealize.SL.Sem

section Steps

variable {c : Dev nD} {i : grid0.Coords} {arg3 : Memref sig .tc .vmem S1408x512 .bf16} {harg3 : arg3.IsWhole} {arg4 : Memref sig .tc .vmem S512x1024 .bf16} {harg4 : arg4.IsWhole} {arg5 : Memref sig .tc .vmem S1408x1024 .f32} {harg5 : arg5.IsWhole} {arg6 : Memref sig .tc .vmem S1408x1024 .f32} {harg6 : arg6.IsWhole} {arg7 : Memref sig .tc .vmem S1408x1024 .f32} {harg7 : arg7.IsWhole}
  {x0 : Vec Ideal S1408x512 .bf16} {x1 : Vec Ideal S512x1024 .bf16} {x2 : Vec Ideal S1408x1024 .f32} {xs0 : Vec Ideal S1408x1024 .f32}

/-- What a block of columns adds. -/
theorem pay1_at (x0 : Vec Ideal S1408x512 .bf16) (x1 : Vec Ideal S512x1024 .bf16) (a : Fin 1408) (b : Fin 1024) :
    k0_pay1 x0 x1 (ix2 a b) = ∑ x : Fin 512, act (x0 (ix2 a x)) * x1 (ix2 x b) := by
  pointwise [k0_pay1]
  simp only [ofBits_zero, act]

/-- The running sum after the first block of columns. -/
theorem first_eq {hc0 : cond0_0 i} {hc1 : ¬cond0_1 i} {hc2 : ¬cond0_2 i} :
    sout0_A_0 (F := Ideal) c i arg3 harg3 arg4 harg4 arg5 harg5 arg6 harg6 arg7 harg7 hc0 hc1 hc2 x0 x1 x2 = k0_pay2 x0 x1 := by
  unfold sout0_A_0 kernelRun0_A
  dsimp only
  sl_unfold_run_names
  erw [View.read_writes_full]
  have e3 := harg3.read_unread (Val := Elt Ideal) x0
  have e4 := harg4.read_unread (Val := Elt Ideal) x1
  rw [View.readAt_full, View.readAt_full, e3, e4]

/-- The running sum after a middle block of columns. -/
theorem middle_eq {hc0 : ¬cond0_0 i} {hc1 : cond0_1 i} {hc2 : ¬cond0_2 i} :
    sout0_B_0 (F := Ideal) c i arg3 harg3 arg4 harg4 arg5 harg5 arg6 harg6 arg7 harg7 hc0 hc1 hc2 x0 x1 x2 xs0 = k0_pay3 x0 x1 xs0 := by
  unfold sout0_B_0 kernelRun0_B
  dsimp only
  sl_unfold_run_names
  erw [View.read_writes_full]
  have e3 := harg3.read_unread (Val := Elt Ideal) x0
  have e4 := harg4.read_unread (Val := Elt Ideal) x1
  have e7 := harg7.read_unread (Val := Elt Ideal) xs0
  rw [View.readAt_full, View.readAt_full, View.readAt_full, e3, e4, e7]

/-- What the last block of columns leaves in the output. -/
theorem last_eq {hc0 : ¬cond0_0 i} {hc1 : cond0_1 i} {hc2 : cond0_2 i} :
    out0_C_3 (F := Ideal) c i arg3 harg3 arg4 harg4 arg5 harg5 arg6 harg6 arg7 harg7 hc0 hc1 hc2 x0 x1 x2 xs0 = k0_pay4 (k0_pay3 x0 x1 xs0) x2 := by
  unfold out0_C_3 kernelRun0_C
  dsimp only
  sl_unfold_run_names
  erw [View.read_writes_full]
  have e3 := harg3.read_unread (Val := Elt Ideal) x0
  have e4 := harg4.read_unread (Val := Elt Ideal) x1
  have e5 := harg5.read_unread (Val := Elt Ideal) x2
  have e7 := harg7.read_unread (Val := Elt Ideal) xs0
  rw [View.readCov_full, View.readAt_full, View.readAt_full, View.readAt_full, View.readAt_full, e3, e4, e5, e7]

theorem pay2_at (x0 : Vec Ideal S1408x512 .bf16) (x1 : Vec Ideal S512x1024 .bf16) (a : Fin 1408) (b : Fin 1024) :
    k0_pay2 x0 x1 (ix2 a b) = k0_pay1 x0 x1 (ix2 a b) := by
  unfold k0_pay2
  generalize k0_pay1 x0 x1 = y
  pointwise

theorem pay3_at (x0 : Vec Ideal S1408x512 .bf16) (x1 : Vec Ideal S512x1024 .bf16) (s : Vec Ideal S1408x1024 .f32) (a : Fin 1408) (b : Fin 1024) :
    k0_pay3 x0 x1 s (ix2 a b) = s (ix2 a b) + k0_pay1 x0 x1 (ix2 a b) := by
  unfold k0_pay3
  generalize k0_pay1 x0 x1 = y
  pointwise

theorem pay4_at (s h : Vec Ideal S1408x1024 .f32) (a : Fin 1408) (b : Fin 1024) : k0_pay4 s h (ix2 a b) = h (ix2 a b) + s (ix2 a b) := by
  pointwise [k0_pay4]

end Steps

theorem idx_all : ∀ t : Fin cfg0.N, win0_0.index t = ![t.val / 8, t.val % 8] ∧ win0_1.index t = ![t.val % 8, 0]
    ∧ win0_2.index t = ![t.val / 8, 0] ∧ win0_3.index t = ![t.val / 8, 0] := by decide +kernel

theorem flush_last : ∀ t : Fin cfg0.N, (cfg0.win 3).flush t = true → t.val % 8 = 7 := by decide +kernel

variable (m : (ℓ : Loc nD τ sig) → Buf (Elt Ideal) ℓ) (c : Dev nD)

/-- The hidden values, the matrix and the residual of the launch. -/
abbrev argU : Mat 4112 4096 := m ((c.tc : Thread nD τ).loc main_arg0)
abbrev argW : Mat 4096 1024 := m ((c.tc : Thread nD τ).loc main_arg1)
abbrev argH : Mat 4112 1024 := m ((c.tc : Thread nD τ).loc main_arg2)

/-- The hidden values as laid out. -/
def laidU (x : FVec Ideal S4112x4096 .f32) : FVec Ideal S4224x4096 .bf16 :=
  truncf .bf16 (pad S4224x4096 ![112, 0] ![0, 0] ![0, 0] x (sitofp .f32 (constantI S_ 32 0#32)) pads_S4112x4096_S4224x4096_11200_000 h_S_) bitsLt_bf16_f32

/-- The matrix as laid out. -/
def laidW (x : FVec Ideal S4096x1024 .f32) : FVec Ideal S4096x1024 .bf16 := truncf .bf16 x bitsLt_bf16_f32

/-- The residual as laid out. -/
def laidH (x : FVec Ideal S4112x1024 .f32) : FVec Ideal S4224x1024 .f32 :=
  pad S4224x1024 ![112, 0] ![0, 0] ![0, 0] x (sitofp .f32 (constantI S_ 32 0#32)) pads_S4112x1024_S4224x1024_11200_000 h_S_

theorem laidU_at (x : FVec Ideal S4112x4096 .f32) (g : Fin 4224) (r : Fin 4096) : laidU x (ix2 g r) = front (n := 4096) x g r := by
  have hz : (sitofp .f32 (constantI S_ 32 0#32) : FVec Ideal S_ .f32) = fun _ => 0 := pad_zero
  unfold laidU
  rw [hz]
  pointwise
  unfold front ent
  have hg := g.isLt
  by_cases h : 112 ≤ g.val
  · rw [dif_pos ⟨h, by omega⟩, if_pos h, dif_pos ⟨by omega, r.isLt⟩]
  · rw [dif_neg fun e => h e.1, if_neg h]

theorem laidH_at (x : FVec Ideal S4112x1024 .f32) (g : Fin 4224) (r : Fin 1024) : laidH x (ix2 g r) = front (n := 1024) x g r := by
  have hz : (sitofp .f32 (constantI S_ 32 0#32) : FVec Ideal S_ .f32) = fun _ => 0 := pad_zero
  unfold laidH
  rw [hz]
  pointwise
  unfold front ent
  have hg := g.isLt
  by_cases h : 112 ≤ g.val
  · rw [dif_pos ⟨h, by omega⟩, if_pos h, dif_pos ⟨by omega, r.isLt⟩]
  · rw [dif_neg fun e => h e.1, if_neg h]

theorem laidW_at (x : FVec Ideal S4096x1024 .f32) (g : Fin 4096) (r : Fin 1024) : laidW x (ix2 g r) = ent (n0 := 4096) (n1 := 1024) x g r := by
  refine Eq.trans ?_ (ent_fin (n0 := 4096) (n1 := 1024) x g r).symm
  pointwise [laidW]

theorem entry_u : V m c main_v2 = laidU (m ((c.tc : Thread nD τ).loc main_arg0)) := by
  unfold V
  simp only [hostOps0, hostOps0_1, hostOps0_2, hostOps0_3, hostOps0_4, List.flatten_cons, List.flatten_nil, List.append_nil, List.cons_append, List.nil_append]
  entry_read
  rfl

theorem entry_w : V m c main_v3 = laidW (m ((c.tc : Thread nD τ).loc main_arg1)) := by
  unfold V
  simp only [hostOps0, hostOps0_1, hostOps0_2, hostOps0_3, hostOps0_4, List.flatten_cons, List.flatten_nil, List.append_nil, List.cons_append, List.nil_append]
  entry_read
  rfl

theorem entry_h : V m c main_v0 = laidH (m ((c.tc : Thread nD τ).loc main_arg2)) := by
  unfold V
  simp only [hostOps0, hostOps0_1, hostOps0_2, hostOps0_3, hostOps0_4, List.flatten_cons, List.flatten_nil, List.append_nil, List.cons_append, List.nil_append]
  entry_read
  rfl

theorem block_u (t : Fin cfg0.N) (a : Fin 1408) (x : Fin 512) :
    (iblk m c 0 t : Vec Ideal S1408x512 .bf16) (ix2 a x) = front (argU m c) (1408 * (t.val / 8) + a) (512 * (t.val % 8) + x) := by
  have h := (idx_all t).1
  have hN : t.val < 24 := lt_of_lt_of_eq t.isLt N_0
  refine Eq.trans ?_ (laidU_at _ ⟨1408 * (t.val / 8) + a.val, by omega⟩ ⟨512 * (t.val % 8) + x.val, by omega⟩)
  rw [← entry_u]
  blk_ext [iblk, h]

theorem block_w (t : Fin cfg0.N) (x : Fin 512) (b : Fin 1024) :
    (iblk m c 1 t : Vec Ideal S512x1024 .bf16) (ix2 x b) = ent (argW m c) (512 * (t.val % 8) + x) b := by
  have h := (idx_all t).2.1
  refine Eq.trans ?_ (laidW_at _ ⟨512 * (t.val % 8) + x.val, by omega⟩ b)
  rw [← entry_w]
  blk_ext [iblk, h]

theorem block_h (t : Fin cfg0.N) (a : Fin 1408) (b : Fin 1024) :
    (iblk m c 2 t : Vec Ideal S1408x1024 .f32) (ix2 a b) = front (argH m c) (1408 * (t.val / 8) + a) b := by
  have h := (idx_all t).2.2.1
  have hN : t.val < 24 := lt_of_lt_of_eq t.isLt N_0
  refine Eq.trans ?_ (laidH_at _ ⟨1408 * (t.val / 8) + a.val, by omega⟩ b)
  rw [← entry_h]
  blk_ext [iblk, h]

/-- What a column of hidden values adds to an entry of the product. -/
def term (g r x : ℕ) : EReal := act (front (argU m c) g x) * ent (argW m c) x r

theorem block_sum (t : Fin cfg0.N) (a : Fin 1408) (b : Fin 1024) :
    k0_pay1 (F := Ideal) (iblk m c 0 t) (iblk m c 1 t) (ix2 a b)
      = ∑ x : Fin 512, term m c (1408 * (t.val / 8) + a) b (512 * (t.val % 8) + x) :=
  (pay1_at _ _ a b).trans (Finset.sum_congr rfl fun x _ => congrArg₂ (· * ·) (congrArg act (block_u m c t a x)) (block_w m c t x b))

/-- The running sum after a point that is not its last. -/
theorem running (n : ℕ) : ∀ (hn : n < cfg0.N), ¬n % 8 = 7 → ∀ (a : Fin 1408) (b : Fin 1024),
    (outsAt0 m c n hn).2 (ix2 a b) = ∑ k ∈ Finset.range (n % 8 + 1), ∑ x : Fin 512, term m c (1408 * (n / 8) + a) b (512 * k + x) := by
  induction n with
  | zero =>
    intro hn h7 a b
    have E := congrArg (fun z => z.2) (outsAt0_A m c ⟨0, hn⟩ rfl (by dsimp only; omega) h7)
    dsimp only at E
    refine (congrFun (E.trans first_eq) (ix2 a b)).trans ?_
    rw [pay2_at, block_sum, Finset.sum_range_one]
    rfl
  | succ n ih =>
    intro hn h7 a b
    by_cases h0 : (n + 1) % 8 = 0
    · have E := congrArg (fun z => z.2) (outsAt0_A m c ⟨n + 1, hn⟩ h0 (by dsimp only; omega) h7)
      dsimp only at E
      refine (congrFun (E.trans first_eq) (ix2 a b)).trans ?_
      rw [pay2_at, block_sum, h0, Finset.sum_range_one]
    · have E := congrArg (fun z => z.2) (outsAt0_B m c ⟨n + 1, hn⟩ h0 (by dsimp only; omega) h7)
      dsimp only at E
      refine (congrFun (E.trans middle_eq) (ix2 a b)).trans ?_
      rw [pay3_at, block_sum, Finset.sum_range_succ]
      congr 1
      refine (ih _ (by omega) a b).trans ?_
      rw [show (n + 1) / 8 = n / 8 by omega, show (n + 1) % 8 = n % 8 + 1 by omega]

/-- An entry of the result by row and column number. -/
def entry (g r : ℕ) : EReal := front (argH m c) g r + ∑ x : Fin 4096, term m c g r x

/-- What the last point of a block of rows writes. -/
theorem written (t : Fin cfg0.N) (h7 : t.val % 8 = 7) (a : Fin 1408) (b : Fin 1024) :
    (outsAt0 m c t.val t.isLt).1 (ix2 a b) = entry m c (1408 * (t.val / 8) + a) b := by
  have E := congrArg (fun z => z.1) (outsAt0_C m c t (by omega) (by omega) h7)
  dsimp only at E
  refine (congrFun (E.trans last_eq) (ix2 a b)).trans ?_
  refine (pay4_at _ _ a b).trans (congrArg₂ (· + ·) (block_h m c t a b) ?_)
  rw [pay3_at, block_sum, ← sum_columns, Finset.sum_range_succ _ 7]
  congr 1
  · refine (running m c (t.val - 1) _ (by omega) a b).trans ?_
    rw [show (t.val - 1) % 8 + 1 = 7 by omega, show (t.val - 1) / 8 = t.val / 8 by omega]
  · rw [h7]

/-- The array that the call leaves. -/
theorem final : (dats m 0 c).arrAt 3 cfg0.N = fun i : S4224x1024.Idx => entry m c (i 0).val (i 1).val := by
  refine (dats m 0 c).arrAt_eq_of_covers 3 _ (by decide +kernel) fun t hf y => ?_
  have h7 := flush_last t hf
  blk_simp [(idx_all t).2.2.2]
  rw [after0_3]
  have e : y = ix2 (n0 := 1408) (n1 := 1024) (y 0) (y 1) := by
    funext a
    match a with
    | ⟨0, _⟩ => rfl
    | ⟨1, _⟩ => rfl
  refine (congrArg (outsAt0 m c t.val t.isLt).1 e).trans ((written m c t h7 (y 0) (y 1)).trans ?_)
  rw [Nat.mul_comm 1408]

end Cert.Kernel5Ideal.Forward

namespace Cert.Reference5Ideal.Forward

open Cert.Reference5Ideal Cert.Reference5Ideal.Gen Idealize.ShloMosaic Cert.Mlp

/-- The reference's result before it is laid out. -/
def inner (u : FVec Ideal S4112x4096 .f32) (w : FVec Ideal S4096x1024 .f32) (h : FVec Ideal S4112x1024 .f32) : FVec Ideal S4112x1024 .f32 :=
  addf h (Host.dotGeneral dot_S4112x4096_S4096x1024_S4112x1024_1_0_0_1_n_n none (mulf (maximumf u (broadcastInDim S4112x4096 ![] bcast_S_S4112x4096 (constant S_ .f32 0x00000000#32))) (maximumf u (broadcastInDim S4112x4096 ![] bcast_S_S4112x4096 (constant S_ .f32 0x00000000#32)))) w)

/-- The reference's result, of any arguments. -/
def result (u : FVec Ideal S4112x4096 .f32) (w : FVec Ideal S4096x1024 .f32) (h : FVec Ideal S4112x1024 .f32) : FVec Ideal S4224x1024 .f32 :=
  pad S4224x1024 ![112, 0] ![0, 0] ![0, 0] (inner u w h) (sitofp .f32 (constantI S_ 32 0#32)) pads_S4112x1024_S4224x1024_11200_000 h_S_

theorem inner_at (u : FVec Ideal S4112x4096 .f32) (w : FVec Ideal S4096x1024 .f32) (h : FVec Ideal S4112x1024 .f32) (i : Fin 4112) (j : Fin 1024) :
    inner u w h (ix2 i j) = h (ix2 i j) + ∑ x : Fin 4096, act (u (ix2 i x)) * w (ix2 x j) := by
  pointwise [inner]
  simp only [ofBits_zero, act]

/-- The reference's result has the entries that the call leaves. -/
theorem result_entry (u : FVec Ideal S4112x4096 .f32) (w : FVec Ideal S4096x1024 .f32) (h : FVec Ideal S4112x1024 .f32) (g : Fin 4224) (r : Fin 1024) :
    result u w h (ix2 g r) = front (n := 1024) h g r
      + ∑ x : Fin 4096, act (front (n := 4096) u g x) * ent (n0 := 4096) (n1 := 1024) w x r := by
  refine (Cert.Kernel5Ideal.Forward.laidH_at (inner u w h) g r).trans ?_
  by_cases hg : 112 ≤ g.val
  · obtain ⟨i, hi⟩ : ∃ i : Fin 4112, g.val = 112 + i.val := ⟨⟨g.val - 112, by omega⟩, by dsimp only; omega⟩
    rw [hi, front_high, front_high, ent_fin, ent_fin, inner_at]
    refine congrArg (_ + ·) (Finset.sum_congr rfl fun x _ => ?_)
    rw [front_high, ent_fin, ent_fin]
  · have h' : g.val < 112 := by omega
    rw [front_low _ h', front_low _ h', zero_add]
    refine (Finset.sum_eq_zero fun x _ => ?_).symm
    rw [front_low _ h', act_zero, zero_mul]

end Cert.Reference5Ideal.Forward
-- ==== Proof.NormRow.lean ====
/- One row of the gradient through the normalisation, over the extended reals. -/
module

public import proofs.«01_k».proof.Proof.Rows

@[expose] public section

noncomputable section

namespace Cert.Mlp

open Idealize.ShloMosaic
open scoped BigOperators

/-- The constants of the normalisation, as the float words denote them. -/
abbrev width : EReal := Ideal.ofBits .f32 0x44800000#32
abbrev tiny : EReal := Ideal.ofBits .f32 0x358637BD#32
abbrev minusHalf : EReal := Ideal.ofBits .f32 0xBF000000#32

/-- The number added to the mean square. -/
def eps : ℝ := 8796093 * (2 ^ 43)⁻¹

theorem eps_pos : 0 < eps := by unfold eps; positivity

theorem width_eq : width = ((1024 : ℝ) : EReal) := by
  have e : width = (((8388608 : ℝ) * (2 ^ 13)⁻¹ : ℝ) : EReal) := by simp [width, Ideal.ofBits, Ideal.ieee]
  rw [e]
  congr 1
  norm_num

theorem tiny_eq : tiny = ((eps : ℝ) : EReal) := by simp [tiny, Ideal.ofBits, Ideal.ieee, eps]

theorem minusHalf_eq : minusHalf = ((-(1 / 2) : ℝ) : EReal) := by
  have e : minusHalf = ((-((8388608 : ℝ) * (2 ^ 24)⁻¹) : ℝ) : EReal) := by simp [minusHalf, Ideal.ofBits, Ideal.ieee]
  rw [e]
  congr 1
  norm_num

section Rows

variable (h d g e : Fin 1024 → EReal) (j : Fin 1024)

/-- The mean square of a row with the small number added. -/
def moment : EReal := Ideal.div (∑ x, h x * h x) width + tiny

/-- What a row is multiplied by. -/
def factor : EReal := Ideal.rsqrt (moment h)

/-- The gradient of a row as the call computes it. -/
def callRow : EReal :=
  factor h * (d j * g j - h j * factor h * Ideal.div (∑ x, d x * g x * (h x * factor h)) width) + e j

/-- The share of the mean square in the gradient. -/
def share : EReal := ∑ _a : Fin 1, Ideal.div ((∑ x, h x * (d x * g x)) * (minusHalf * Ideal.div (factor h) (moment h))) width

/-- The gradient of a row as the transposed derivative gives it. -/
def plainRow : EReal := e j + d j * g j * factor h + h j * share h d g + share h d g * h j

end Rows

/-- A sum times a real number that is not negative. -/
theorem sum_mul_real {r : ℝ} (hr : 0 ≤ r) (f : Fin 1024 → EReal) : ∑ x, f x * (r : EReal) = (∑ x, f x) * (r : EReal) := by
  have e : ∀ s : Finset (Fin 1024), ∑ x ∈ s, f x * (r : EReal) = (∑ x ∈ s, f x) * (r : EReal) := by
    intro s
    induction s using Finset.induction_on with
    | empty => simp
    | insert a s ha ih =>
      rw [Finset.sum_insert ha, Finset.sum_insert ha, ih,
        EReal.right_distrib_of_nonneg_of_ne_top (EReal.coe_nonneg.mpr hr) (EReal.coe_ne_top r)]
  exact e _

theorem square_nonneg (x : EReal) : 0 ≤ x * x := by
  induction x with
  | bot => simp
  | top => simp
  | coe x =>
    rw [← EReal.coe_mul]
    exact EReal.coe_nonneg.mpr (mul_self_nonneg x)

/-- A row's mean square with the small number added is plus infinity or a positive number. -/
theorem moment_cases (h : Fin 1024 → EReal) : moment h = ⊤ ∨ ∃ v : ℝ, 0 < v ∧ moment h = (v : EReal) := by
  have hs : 0 ≤ ∑ x, h x * h x := Finset.sum_nonneg fun x _ => square_nonneg (h x)
  have hm : moment h = (∑ x, h x * h x) * ((1 / 1024 : ℝ) : EReal) + ((eps : ℝ) : EReal) := by
    unfold moment
    rw [width_eq, tiny_eq, Ideal.div_coe (by norm_num)]
  rw [hm]
  generalize ∑ x, h x * h x = s at hs ⊢
  induction s with
  | bot => exact absurd hs (by simp)
  | top =>
    left
    rw [EReal.top_mul_of_pos (EReal.coe_pos.mpr (by norm_num)), EReal.top_add_coe]
  | coe s =>
    right
    have := eps_pos
    have := EReal.coe_nonneg.mp hs
    exact ⟨s * (1 / 1024) + eps, by positivity, by rw [EReal.coe_add, EReal.coe_mul]⟩

theorem neg_twice (y : EReal) : -(y + y) = -y + -y := by
  induction y with
  | bot => simp
  | top => simp
  | coe y =>
    rw [← EReal.coe_add, ← EReal.coe_neg, ← EReal.coe_neg, ← EReal.coe_add]
    congr 1
    ring

/-- The two gradients of a row are the same. -/
theorem row_eq (h d g e : Fin 1024 → EReal) (j : Fin 1024) : callRow h d g e j = plainRow h d g e j := by
  rcases moment_cases h with hm | ⟨v, hp, hm⟩
  · have hf : factor h = 0 := by
      unfold factor
      rw [hm]
      rfl
    unfold callRow plainRow share
    rw [hf, hm, Ideal.zero_div (by simp)]
    have hw : Ideal.div 0 width = 0 := Ideal.zero_div (by rw [width_eq]; exact_mod_cast (by norm_num : (1024 : ℝ) ≠ 0))
    simp only [mul_zero, zero_mul, hw, Finset.sum_const_zero, zero_add, add_zero]
  · obtain ⟨r, hr⟩ : ∃ r : ℝ, r = (Real.sqrt v)⁻¹ := ⟨_, rfl⟩
    have hf : factor h = (r : EReal) := by
      unfold factor
      rw [hm, Ideal.rsqrt_coe, if_neg (not_lt.mpr hp.le), if_neg hp.ne', hr]
    have hr0 : 0 ≤ r := by
      rw [hr]
      positivity
    have hrr : 1 / v = r * r := by
      rw [hr, ← mul_inv, Real.mul_self_sqrt hp.le, one_div]
    have hs : ∑ x, d x * g x * (h x * (r : EReal)) = (∑ x, h x * (d x * g x)) * (r : EReal) := by
      rw [← sum_mul_real hr0]
      refine Finset.sum_congr rfl fun x _ => ?_
      rw [← mul_assoc, mul_comm (d x * g x)]
    unfold callRow plainRow share
    rw [hf, hm, width_eq, minusHalf_eq, Ideal.div_coe hp.ne', Ideal.div_coe (by norm_num), Fin.sum_univ_one, Ideal.div_coe (by norm_num), hs]
    generalize ∑ x, h x * (d x * g x) = s
    generalize d j * g j = t
    generalize h j = k
    generalize e j = u
    obtain ⟨c, hc⟩ : ∃ c : ℝ, c = r * r * r * (1 / 2048) := ⟨_, rfl⟩
    have hc0 : 0 ≤ c := by
      rw [hc]
      positivity
    have e1 : (r : EReal) * (k * (r : EReal) * (s * (r : EReal) * ((1 / 1024 : ℝ) : EReal))) = k * s * (c : EReal) + k * s * (c : EReal) := by
      rw [← EReal.left_distrib_of_nonneg (EReal.coe_nonneg.mpr hc0) (EReal.coe_nonneg.mpr hc0), ← EReal.coe_add,
        show c + c = r * r * r * (1 / 1024) by rw [hc]; ring, EReal.coe_mul, EReal.coe_mul, EReal.coe_mul]
      ac_rfl
    have e2 : s * (((-(1 / 2) : ℝ) : EReal) * ((r : EReal) * ((1 / v : ℝ) : EReal))) * ((1 / 1024 : ℝ) : EReal) = -(s * (c : EReal)) := by
      rw [← EReal.coe_mul, ← EReal.coe_mul, mul_assoc, ← EReal.coe_mul, hrr,
        show -(1 / 2) * (r * (r * r)) * (1 / 1024) = -c by rw [hc]; ring, EReal.coe_neg, mul_neg]
    rw [e2, EReal.mul_sub_of_nonneg_of_ne_top (EReal.coe_nonneg.mpr hr0) (EReal.coe_ne_top r), e1, sub_eq_add_neg, neg_twice, mul_neg, neg_mul,
      mul_comm (s * (c : EReal)) k, ← mul_assoc k s, mul_comm t]
    ac_rfl

end Cert.Mlp
-- ==== Proof.NormGrad.lean ====
/- The call that takes the gradient through the feed-forward layer's normalisation. -/
module

public import proofs.«01_k».proof.Proof.Blocks
public import proofs.«01_k».proof.Proof.NormRow
public import proofs.«01_k».proof.Proof.Basic
public import proofs.«01_k».proof.Proof.Gen.Kernel6Ideal.Value
public import proofs.«01_k».proof.Proof.Gen.Reference6Ideal.Run
public import Idealize.ShloMosaic.Lib.Pipeline.ValueKit
public import Idealize.ShloMosaic.Lib.KernelVsHost
public import Idealize.ShloMosaic.Lib.VecWindow

@[expose] public section

set_option maxRecDepth 8192

noncomputable section

namespace Cert.Kernel6Ideal.Norm

open Cert.Kernel6Ideal Cert.Kernel6Ideal.Gen Idealize.ShloMosaic Idealize.ShloMosaic.TcCoe Idealize.ShloMosaic.Tactic Cert.Mlp
open scoped BigOperators
open Idealize.SL Idealize.SL.RA Idealize.SL.BI Idealize.SL.ProofMode Idealize.SL.Sem

section Steps

variable {c : Dev nD} {i : grid0.Coords} {arg3 : Memref sig .tc .vmem S1408x512 .bf16} {harg3 : arg3.IsWhole} {arg4 : Memref sig .tc .vmem S1x1024x512 .bf16} {harg4 : arg4.IsWhole} {arg5 : Memref sig .tc .vmem S1408x1024 .f32} {harg5 : arg5.IsWhole} {arg6 : Memref sig .tc .vmem S1x1024 .f32} {harg6 : arg6.IsWhole} {arg7 : Memref sig .tc .vmem S1408x1024 .f32} {harg7 : arg7.IsWhole} {arg8 : Memref sig .tc .vmem S1408x1024 .f32} {harg8 : arg8.IsWhole} {arg9 : Memref sig .tc .vmem S8x1024 .f32} {harg9 : arg9.IsWhole} {arg10 : Memref sig .tc .vmem S1408x1024 .f32} {harg10 : arg10.IsWhole}
  {x0 : Vec Ideal S1408x512 .bf16} {x1 : Vec Ideal S1x1024x512 .bf16} {x2 : Vec Ideal S1408x1024 .f32} {x3 : Vec Ideal S1x1024 .f32} {x4 : Vec Ideal S1408x1024 .f32} {xo6 : Vec Ideal S8x1024 .f32} {xs0 : Vec Ideal S1408x1024 .f32}

/-- What a block of columns adds. -/
theorem pay1_at (x0 : Vec Ideal S1408x512 .bf16) (x1 : Vec Ideal S1x1024x512 .bf16) (a : Fin 1408) (b : Fin 1024) :
    k0_pay1 x0 x1 (ix2 a b) = ∑ x : Fin 512, x0 (ix2 a x) * x1 (ix3 0 b x) := by
  pointwise [k0_pay1]

/-- The running sum after the first block of columns. -/
theorem first_eq {hc0 : cond0_0 i} {hc1 : ¬cond0_1 i} {hc2 : ¬cond0_2 i} :
    sout0_A_0 (F := Ideal) c i arg3 harg3 arg4 harg4 arg5 harg5 arg6 harg6 arg7 harg7 arg8 harg8 arg9 harg9 arg10 harg10 hc0 hc1 hc2 x0 x1 x2 x3 x4 = k0_pay2 x0 x1 := by
  unfold sout0_A_0 kernelRun0_A
  dsimp only
  sl_unfold_run_names
  erw [View.read_writes_full]
  have e3 := harg3.read_unread (Val := Elt Ideal) x0
  have e4 := harg4.read_unread (Val := Elt Ideal) x1
  rw [View.readAt_full, View.readAt_full, e3, e4]

/-- The running sum after a middle block of columns. -/
theorem middle_eq {hc0 : ¬cond0_0 i} {hc1 : cond0_1 i} {hc2 : ¬cond0_2 i} :
    sout0_B_0 (F := Ideal) c i arg3 harg3 arg4 harg4 arg5 harg5 arg6 harg6 arg7 harg7 arg8 harg8 arg9 harg9 arg10 harg10 hc0 hc1 hc2 x0 x1 x2 x3 x4 xs0 = k0_pay3 x0 x1 xs0 := by
  unfold sout0_B_0 kernelRun0_B
  dsimp only
  sl_unfold_run_names
  erw [View.read_writes_full]
  have e3 := harg3.read_unread (Val := Elt Ideal) x0
  have e4 := harg4.read_unread (Val := Elt Ideal) x1
  have e10 := harg10.read_unread (Val := Elt Ideal) xs0
  rw [View.readAt_full, View.readAt_full, View.readAt_full, e3, e4, e10]

/-- What the last block of columns leaves in the output, in the first block of rows. -/
theorem last_eq {hc0 : ¬cond0_0 i} {hc1 : cond0_1 i} {hc2 : cond0_2 i} {hc3 : cond0_3 i} {hc4 : ¬cond0_4 i} :
    out0_C_5 (F := Ideal) c i arg3 harg3 arg4 harg4 arg5 harg5 arg6 harg6 arg7 harg7 arg8 harg8 arg9 harg9 arg10 harg10 hc0 hc1 hc2 hc3 hc4 x0 x1 x2 x3 x4 xs0
      = k0_pay9 (BitVec.ofNat 32 (i 0).val) (k0_pay3 x0 x1 xs0) x2 x3 x4 := by
  unfold out0_C_5 kernelRun0_C
  dsimp only
  sl_unfold_run_names
  erw [View.read_writes_full]
  have e3 := harg3.read_unread (Val := Elt Ideal) x0
  have e4 := harg4.read_unread (Val := Elt Ideal) x1
  have e5 := harg5.read_unread (Val := Elt Ideal) x2
  have e6 := harg6.read_unread (Val := Elt Ideal) x3
  have e7 := harg7.read_unread (Val := Elt Ideal) x4
  have e10 := harg10.read_unread (Val := Elt Ideal) xs0
  rw [View.readCov_full, View.readAt_full, View.readAt_full, View.readAt_full, View.readAt_full, View.readAt_full, View.readAt_full,
    e3, e4, e5, e6, e7, e10]

/-- What the last block of columns leaves in the output, in a later block of rows. -/
theorem later_eq {hc0 : ¬cond0_0 i} {hc1 : cond0_1 i} {hc2 : cond0_2 i} {hc3 : ¬cond0_3 i} {hc4 : cond0_4 i} :
    out0_D_5 (F := Ideal) c i arg3 harg3 arg4 harg4 arg5 harg5 arg6 harg6 arg7 harg7 arg8 harg8 arg9 harg9 arg10 harg10 hc0 hc1 hc2 hc3 hc4 x0 x1 x2 x3 x4 xo6 xs0
      = k0_pay9 (BitVec.ofNat 32 (i 0).val) (k0_pay3 x0 x1 xs0) x2 x3 x4 := by
  unfold out0_D_5 kernelRun0_D
  dsimp only
  sl_unfold_run_names
  erw [View.read_writes_full]
  have e3 := harg3.read_unread (Val := Elt Ideal) x0
  have e4 := harg4.read_unread (Val := Elt Ideal) x1
  have e5 := harg5.read_unread (Val := Elt Ideal) x2
  have e6 := harg6.read_unread (Val := Elt Ideal) x3
  have e7 := harg7.read_unread (Val := Elt Ideal) x4
  have e10 := harg10.read_unread (Val := Elt Ideal) xs0
  rw [View.readCov_full, View.readAt_full, View.readAt_full, View.readAt_full, View.readAt_full, View.readAt_full, View.readAt_full,
    e3, e4, e5, e6, e7, e10]

theorem pay2_at (x0 : Vec Ideal S1408x512 .bf16) (x1 : Vec Ideal S1x1024x512 .bf16) (a : Fin 1408) (b : Fin 1024) :
    k0_pay2 x0 x1 (ix2 a b) = k0_pay1 x0 x1 (ix2 a b) := by
  unfold k0_pay2
  generalize k0_pay1 x0 x1 = y
  pointwise

theorem pay3_at (x0 : Vec Ideal S1408x512 .bf16) (x1 : Vec Ideal S1x1024x512 .bf16) (s : Vec Ideal S1408x1024 .f32) (a : Fin 1408) (b : Fin 1024) :
    k0_pay3 x0 x1 s (ix2 a b) = s (ix2 a b) + k0_pay1 x0 x1 (ix2 a b) := by
  unfold k0_pay3
  generalize k0_pay1 x0 x1 = y
  pointwise

theorem pay6_at (x2 : Vec Ideal S1408x1024 .f32) (a : Fin 1408) : k0_pay6 x2 (ix2 a 0) = factor fun x => x2 (ix2 a x) := by
  pointwise [k0_pay6, k0_pay5]
  rfl

theorem pay9_at (n : BitVec 32) (s x2 : Vec Ideal S1408x1024 .f32) (x3 : Vec Ideal S1x1024 .f32) (x4 : Vec Ideal S1408x1024 .f32) (a : Fin 1408) (b : Fin 1024) :
    k0_pay9 n s x2 x3 x4 (ix2 a b)
      = Scalar.select (Scalar.cmpi .sge (n * 1408#32 + BitVec.ofNat 32 a.val) 112#32)
          (callRow (fun x => x2 (ix2 a x)) (fun x => s (ix2 a x)) (fun x => x3 (ix2 0 x)) (fun x => x4 (ix2 a x)) b) 0 := by
  unfold callRow
  simp only [← pay6_at]
  unfold k0_pay9 k0_pay7 k0_pay5
  generalize k0_pay6 x2 = r
  pointwise
  rfl

end Steps

theorem idx_all : ∀ t : Fin cfg0.N, win0_0.index t = ![t.val / 8, t.val % 8] ∧ win0_1.index t = ![t.val % 8, 0, 0]
    ∧ win0_2.index t = ![t.val / 8, 0] ∧ win0_3.index t = ![0, 0] ∧ win0_4.index t = ![t.val / 8, 0] ∧ win0_5.index t = ![t.val / 8, 0] := by
  decide +kernel

theorem flush_last : ∀ t : Fin cfg0.N, (cfg0.win 5).flush t = true → t.val % 8 = 7 := by decide +kernel

theorem coords_row : ∀ t : Fin cfg0.N, ((grid0.coords t) 0).val = t.val / 8 := by decide +kernel

/-- The test of a row's number against the rows put in front. -/
theorem row_test (n a : ℕ) (hn : n < 3) (ha : a < 1408) :
    Scalar.cmpi .sge (BitVec.ofNat 32 n * 1408#32 + BitVec.ofNat 32 a) 112#32 = BitVec.ofBool (decide (112 ≤ 1408 * n + a)) := by
  have e : BitVec.ofNat 32 n * 1408#32 + BitVec.ofNat 32 a = BitVec.ofNat 32 (1408 * n + a) := by
    rw [BitVec.ofNat_add, BitVec.ofNat_mul, BitVec.mul_comm]
  rw [e]
  exact WordCmp.cmpi_sge_ofNat (by omega) (by omega)

variable (m : (ℓ : Loc nD τ sig) → Buf (Elt Ideal) ℓ) (c : Dev nD)

/-- The residual, the gain, the matrix, the gradient of the hidden values and the cotangent of the launch. -/
abbrev argH : Mat 4112 1024 := m ((c.tc : Thread nD τ).loc main_arg0)
abbrev argG : FVec Ideal S1024 .f32 := m ((c.tc : Thread nD τ).loc main_arg1)
abbrev argW : Mat 1024 4096 := m ((c.tc : Thread nD τ).loc main_arg2)
abbrev argU : Mat 4112 4096 := m ((c.tc : Thread nD τ).loc main_arg3)
abbrev argC : Mat 4112 1024 := m ((c.tc : Thread nD τ).loc main_arg4)

/-- The gradient of the hidden values as laid out. -/
def laidU (x : FVec Ideal S4112x4096 .f32) : FVec Ideal S4224x4096 .bf16 :=
  truncf .bf16 (pad S4224x4096 ![112, 0] ![0, 0] ![0, 0] x (sitofp .f32 (constantI S_ 32 0#32)) pads_S4112x4096_S4224x4096_11200_000 h_S_) bitsLt_bf16_f32

/-- The matrix as laid out, by blocks of columns. -/
def laidW (x : FVec Ideal S1024x4096 .f32) : FVec Ideal S8x1024x512 .bf16 :=
  truncf .bf16 (transpose S8x1024x512 [1, 0, 2] (shapeCast S1024x8x512 x shapeCasts_S1024x4096_S1024x8x512) transposes_S1024x8x512_S8x1024x512_1_0_2) bitsLt_bf16_f32

/-- The gain as laid out. -/
def laidG (x : FVec Ideal S1024 .f32) : FVec Ideal S1x1024 .f32 := broadcastInDim S1x1024 ![1] bcast_S1024_S1x1024_1 x

/-- The residual and the cotangent as laid out. -/
def laidC (x : FVec Ideal S4112x1024 .f32) : FVec Ideal S4224x1024 .f32 :=
  pad S4224x1024 ![112, 0] ![0, 0] ![0, 0] x (sitofp .f32 (constantI S_ 32 0#32)) pads_S4112x1024_S4224x1024_11200_000 h_S_

theorem laidU_at (x : FVec Ideal S4112x4096 .f32) (g : Fin 4224) (r : Fin 4096) : laidU x (ix2 g r) = front (n := 4096) x g r := by
  have hz : (sitofp .f32 (constantI S_ 32 0#32) : FVec Ideal S_ .f32) = fun _ => 0 := pad_zero
  unfold laidU
  rw [hz]
  pointwise
  unfold front ent
  have hg := g.isLt
  by_cases h : 112 ≤ g.val
  · rw [dif_pos ⟨h, by omega⟩, if_pos h, dif_pos ⟨by omega, r.isLt⟩]
  · rw [dif_neg fun e => h e.1, if_neg h]

theorem laidC_at (x : FVec Ideal S4112x1024 .f32) (g : Fin 4224) (r : Fin 1024) : laidC x (ix2 g r) = front (n := 1024) x g r := by
  have hz : (sitofp .f32 (constantI S_ 32 0#32) : FVec Ideal S_ .f32) = fun _ => 0 := pad_zero
  unfold laidC
  rw [hz]
  pointwise
  unfold front ent
  have hg := g.isLt
  by_cases h : 112 ≤ g.val
  · rw [dif_pos ⟨h, by omega⟩, if_pos h, dif_pos ⟨by omega, r.isLt⟩]
  · rw [dif_neg fun e => h e.1, if_neg h]

theorem laidG_at (x : FVec Ideal S1024 .f32) (a : Fin 1) (r : Fin 1024) : laidG x (ix2 a r) = x (ix1 r) := by
  pointwise [laidG]

theorem laidW_at (x : FVec Ideal S1024x4096 .f32) (s : Fin 8) (b : Fin 1024) (r : Fin 512) :
    laidW x (ix3 s b r) = ent (n0 := 1024) (n1 := 4096) x b (512 * s + r) := by
  refine Eq.trans ?_ (ent_fin (n0 := 1024) (n1 := 4096) x b ⟨512 * s + r, by omega⟩).symm
  pointwise [laidW]
  simp only [Nat.mul_comm]

theorem entry_u : V m c main_v3 = laidU (m ((c.tc : Thread nD τ).loc main_arg3)) := by
  unfold V
  simp only [hostOps0, hostOps0_1, hostOps0_2, hostOps0_3, hostOps0_4, hostOps0_5, hostOps0_6, List.flatten_cons, List.flatten_nil, List.append_nil, List.cons_append, List.nil_append]
  entry_read
  rfl

theorem entry_w : V m c main_v7 = laidW (m ((c.tc : Thread nD τ).loc main_arg2)) := by
  unfold V
  simp only [hostOps0, hostOps0_1, hostOps0_2, hostOps0_3, hostOps0_4, hostOps0_5, hostOps0_6, List.flatten_cons, List.flatten_nil, List.append_nil, List.cons_append, List.nil_append]
  entry_read
  rfl

theorem entry_g : V m c main_v4 = laidG (m ((c.tc : Thread nD τ).loc main_arg1)) := by
  unfold V
  simp only [hostOps0, hostOps0_1, hostOps0_2, hostOps0_3, hostOps0_4, hostOps0_5, hostOps0_6, List.flatten_cons, List.flatten_nil, List.append_nil, List.cons_append, List.nil_append]
  entry_read
  rfl

theorem entry_h : V m c main_v1 = laidC (m ((c.tc : Thread nD τ).loc main_arg0)) := by
  unfold V
  simp only [hostOps0, hostOps0_1, hostOps0_2, hostOps0_3, hostOps0_4, hostOps0_5, hostOps0_6, List.flatten_cons, List.flatten_nil, List.append_nil, List.cons_append, List.nil_append]
  entry_read
  rfl

theorem entry_c : V m c main_v0 = laidC (m ((c.tc : Thread nD τ).loc main_arg4)) := by
  unfold V
  simp only [hostOps0, hostOps0_1, hostOps0_2, hostOps0_3, hostOps0_4, hostOps0_5, hostOps0_6, List.flatten_cons, List.flatten_nil, List.append_nil, List.cons_append, List.nil_append]
  entry_read
  rfl

theorem block_u (t : Fin cfg0.N) (a : Fin 1408) (x : Fin 512) :
    (iblk m c 0 t : Vec Ideal S1408x512 .bf16) (ix2 a x) = front (argU m c) (1408 * (t.val / 8) + a) (512 * (t.val % 8) + x) := by
  have h := (idx_all t).1
  have hN : t.val < 24 := lt_of_lt_of_eq t.isLt N_0
  refine Eq.trans ?_ (laidU_at _ ⟨1408 * (t.val / 8) + a.val, by omega⟩ ⟨512 * (t.val % 8) + x.val, by omega⟩)
  rw [← entry_u]
  blk_ext [iblk, h]

theorem block_w (t : Fin cfg0.N) (b : Fin 1024) (x : Fin 512) :
    (iblk m c 1 t : Vec Ideal S1x1024x512 .bf16) (ix3 0 b x) = ent (argW m c) b (512 * (t.val % 8) + x) := by
  have h := (idx_all t).2.1
  refine Eq.trans ?_ (laidW_at _ ⟨t.val % 8, by omega⟩ b x)
  rw [← entry_w]
  blk_ext [iblk, h]

theorem block_h (t : Fin cfg0.N) (a : Fin 1408) (b : Fin 1024) :
    (iblk m c 2 t : Vec Ideal S1408x1024 .f32) (ix2 a b) = front (argH m c) (1408 * (t.val / 8) + a) b := by
  have h := (idx_all t).2.2.1
  have hN : t.val < 24 := lt_of_lt_of_eq t.isLt N_0
  refine Eq.trans ?_ (laidC_at _ ⟨1408 * (t.val / 8) + a.val, by omega⟩ b)
  rw [← entry_h]
  blk_ext [iblk, h]

theorem block_g (t : Fin cfg0.N) (b : Fin 1024) : (iblk m c 3 t : Vec Ideal S1x1024 .f32) (ix2 0 b) = argG m c (ix1 b) := by
  have h := (idx_all t).2.2.2.1
  refine Eq.trans ?_ (laidG_at _ 0 b)
  rw [← entry_g]
  blk_ext [iblk, h]

theorem block_c (t : Fin cfg0.N) (a : Fin 1408) (b : Fin 1024) :
    (iblk m c 4 t : Vec Ideal S1408x1024 .f32) (ix2 a b) = front (argC m c) (1408 * (t.val / 8) + a) b := by
  have h := (idx_all t).2.2.2.2.1
  have hN : t.val < 24 := lt_of_lt_of_eq t.isLt N_0
  refine Eq.trans ?_ (laidC_at _ ⟨1408 * (t.val / 8) + a.val, by omega⟩ b)
  rw [← entry_c]
  blk_ext [iblk, h]

/-- What a column of the hidden gradient adds to an entry of the product. -/
def term (g r x : ℕ) : EReal := front (argU m c) g x * ent (argW m c) r x

theorem block_sum (t : Fin cfg0.N) (a : Fin 1408) (b : Fin 1024) :
    k0_pay1 (F := Ideal) (iblk m c 0 t) (iblk m c 1 t) (ix2 a b)
      = ∑ x : Fin 512, term m c (1408 * (t.val / 8) + a) b (512 * (t.val % 8) + x) :=
  (pay1_at _ _ a b).trans (Finset.sum_congr rfl fun x _ => congrArg₂ (· * ·) (block_u m c t a x) (block_w m c t b x))

/-- The running sum after a point that is not its last. -/
theorem running (n : ℕ) : ∀ (hn : n < cfg0.N), ¬n % 8 = 7 → ∀ (a : Fin 1408) (b : Fin 1024),
    (outsAt0 m c n hn).2.2 (ix2 a b) = ∑ k ∈ Finset.range (n % 8 + 1), ∑ x : Fin 512, term m c (1408 * (n / 8) + a) b (512 * k + x) := by
  induction n with
  | zero =>
    intro hn h7 a b
    have E := congrArg (fun z => z.2.2) (outsAt0_A m c ⟨0, hn⟩ rfl (by dsimp only; omega) h7)
    dsimp only at E
    refine (congrFun (E.trans first_eq) (ix2 a b)).trans ?_
    rw [pay2_at, block_sum, Finset.sum_range_one]
    rfl
  | succ n ih =>
    intro hn h7 a b
    by_cases h0 : (n + 1) % 8 = 0
    · have E := congrArg (fun z => z.2.2) (outsAt0_A m c ⟨n + 1, hn⟩ h0 (by dsimp only; omega) h7)
      dsimp only at E
      refine (congrFun (E.trans first_eq) (ix2 a b)).trans ?_
      rw [pay2_at, block_sum, h0, Finset.sum_range_one]
    · have E := congrArg (fun z => z.2.2) (outsAt0_B m c ⟨n + 1, hn⟩ h0 (by dsimp only; omega) h7)
      dsimp only at E
      refine (congrFun (E.trans middle_eq) (ix2 a b)).trans ?_
      rw [pay3_at, block_sum, Finset.sum_range_succ]
      congr 1
      refine (ih _ (by omega) a b).trans ?_
      rw [show (n + 1) / 8 = n / 8 by omega, show (n + 1) % 8 = n % 8 + 1 by omega]

/-- The sum after the last block of columns. -/
theorem full_sum (t : Fin cfg0.N) (h7 : t.val % 8 = 7) (a : Fin 1408) (b : Fin 1024) :
    k0_pay3 (F := Ideal) (iblk m c 0 t) (iblk m c 1 t) (outsAt0 m c (t.val - 1) (Nat.lt_of_le_of_lt (Nat.sub_le _ _) t.isLt)).2.2 (ix2 a b)
      = ∑ x : Fin 4096, term m c (1408 * (t.val / 8) + a) b x := by
  rw [pay3_at, block_sum, ← sum_columns, Finset.sum_range_succ _ 7]
  congr 1
  · refine (running m c (t.val - 1) _ (by omega) a b).trans ?_
    rw [show (t.val - 1) % 8 + 1 = 7 by omega, show (t.val - 1) / 8 = t.val / 8 by omega]
  · rw [h7]

/-- An entry of the result by row and column number. -/
def entry (g : ℕ) (r : Fin 1024) : EReal :=
  if 112 ≤ g then callRow (fun x => front (argH m c) g x) (fun x => ∑ y : Fin 4096, term m c g x y) (fun x => argG m c (ix1 x))
    (fun x => front (argC m c) g x) r else 0

/-- What the last point of a block of rows writes. -/
theorem written_eq (t : Fin cfg0.N) (h7 : t.val % 8 = 7) (a : Fin 1408) (b : Fin 1024) :
    k0_pay9 (F := Ideal) (BitVec.ofNat 32 ((grid0.coords t) 0).val) (k0_pay3 (iblk m c 0 t) (iblk m c 1 t) (outsAt0 m c (t.val - 1) (Nat.lt_of_le_of_lt (Nat.sub_le _ _) t.isLt)).2.2)
      (iblk m c 2 t) (iblk m c 3 t) (iblk m c 4 t) (ix2 a b) = entry m c (1408 * (t.val / 8) + a) b := by
  have hN : t.val < 24 := lt_of_lt_of_eq t.isLt N_0
  refine (pay9_at _ _ _ _ _ a b).trans ?_
  rw [coords_row, row_test _ _ (by omega) a.isLt, Cert.Attn.select_ofBool]
  unfold entry
  have e1 : (fun x : Fin 1024 => (iblk m c 2 t : Vec Ideal S1408x1024 .f32) (ix2 a x)) = fun x : Fin 1024 => front (argH m c) (1408 * (t.val / 8) + a) x.val :=
    funext fun x => block_h m c t a x
  have e2 := funext fun x : Fin 1024 => full_sum m c t h7 a x
  have e3 : (fun x : Fin 1024 => (iblk m c 3 t : Vec Ideal S1x1024 .f32) (ix2 0 x)) = fun x => argG m c (ix1 x) :=
    funext fun x => block_g m c t x
  have e4 : (fun x : Fin 1024 => (iblk m c 4 t : Vec Ideal S1408x1024 .f32) (ix2 a x)) = fun x : Fin 1024 => front (argC m c) (1408 * (t.val / 8) + a) x.val :=
    funext fun x => block_c m c t a x
  rw [e1, e2, e3, e4]

theorem written (t : Fin cfg0.N) (h7 : t.val % 8 = 7) (a : Fin 1408) (b : Fin 1024) :
    (outsAt0 m c t.val t.isLt).1 (ix2 a b) = entry m c (1408 * (t.val / 8) + a) b := by
  by_cases h8 : t.val < 8
  · have E := congrArg (fun z => z.1) (outsAt0_C m c t (by omega) (by omega) h7 h8 (by omega))
    dsimp only at E
    exact (congrFun (E.trans last_eq) (ix2 a b)).trans (written_eq m c t h7 a b)
  · have E := congrArg (fun z => z.1) (outsAt0_D m c t (by omega) (by omega) h7 h8 (by omega))
    dsimp only at E
    exact (congrFun (E.trans later_eq) (ix2 a b)).trans (written_eq m c t h7 a b)

/-- The array that the call leaves. -/
theorem final : (dats m 0 c).arrAt 5 cfg0.N = fun i : S4224x1024.Idx => entry m c (i 0).val (i 1) := by
  refine (dats m 0 c).arrAt_eq_of_covers 5 _ (by decide +kernel) fun t hf y => ?_
  have h7 := flush_last t hf
  blk_simp [(idx_all t).2.2.2.2.2]
  rw [after0_5]
  have e : y = ix2 (n0 := 1408) (n1 := 1024) (y 0) (y 1) := by
    funext a
    match a with
    | ⟨0, _⟩ => rfl
    | ⟨1, _⟩ => rfl
  refine (congrArg (outsAt0 m c t.val t.isLt).1 e).trans ((written m c t h7 (y 0) (y 1)).trans ?_)
  rw [Nat.mul_comm 1408]
  exact congrArg (entry m c _) (Fin.ext (by blk_simp [(idx_all t).2.2.2.2.2]))

end Cert.Kernel6Ideal.Norm

namespace Cert.Reference6Ideal.Norm

open Cert.Reference6Ideal Cert.Reference6Ideal.Gen Idealize.ShloMosaic Cert.Mlp

section

variable (h : FVec Ideal S4112x1024 .f32) (g : FVec Ideal S1024 .f32) (w : FVec Ideal S1024x4096 .f32) (du : FVec Ideal S4112x4096 .f32)
  (dh : FVec Ideal S4112x1024 .f32)

/-- The mean square of each row with the small number added. -/
def moments : FVec Ideal S4112x1 .f32 :=
  addf (Host.divf (broadcastInDim S4112x1 ![0] bcast_S4112_S4112x1_0 (Host.reduceAdd (mulf h h) (constant S_ .f32 0x00000000#32) reducesTo_S4112x1024_S4112_d1 h_S_)) (broadcastInDim S4112x1 ![] bcast_S_S4112x1 (constant S_ .f32 0x44800000#32))) (broadcastInDim S4112x1 ![] bcast_S_S4112x1 (constant S_ .f32 0x358637BD#32))

/-- The gradient of the normalised rows times the gain. -/
def gained : FVec Ideal S4112x1024 .f32 :=
  mulf (Host.dotGeneral dot_S4112x4096_S1024x4096_S4112x1024_1_1_0_0_n_n none du w) (broadcastInDim S4112x1024 ![0, 1] bcast_S1x1024_S4112x1024_0_1 (broadcastInDim S1x1024 ![1] bcast_S1024_S1x1024_1 g))

/-- Each row's gradient of its mean square. -/
def shares (v : FVec Ideal S4112x1 .f32) (t : FVec Ideal S4112x1024 .f32) : FVec Ideal S4112x1024 .f32 :=
  broadcastInDim S4112x1024 ![0] bcast_S4112_S4112x1024_0 (Host.reduceAdd (Host.divf (mulf (shapeCast _ (Host.reduceAdd (mulf h t) (constant S_ .f32 0x00000000#32) reducesTo_S4112x1024_S4112_d1 h_S_) shapeCasts_S4112_S4112x1) (mulf (broadcastInDim S4112x1 ![] bcast_S_S4112x1 (constant S_ .f32 0xBF000000#32)) (Host.divf (Host.rsqrt v) v))) (broadcastInDim S4112x1 ![] bcast_S_S4112x1 (constant S_ .f32 0x44800000#32))) (constant S_ .f32 0x00000000#32) reducesTo_S4112x1_S4112_d1 h_S_)

/-- The gradient before it is laid out. -/
def inner : FVec Ideal S4112x1024 .f32 :=
  addf (addf (addf dh (mulf (gained g w du) (broadcastInDim S4112x1024 ![0, 1] bcast_S4112x1_S4112x1024_0_1 (Host.rsqrt (moments h))))) (mulf h (shares h (moments h) (gained g w du)))) (mulf (shares h (moments h) (gained g w du)) h)

/-- The reference's gradient, of any arguments. -/
def grad : FVec Ideal S4224x1024 .f32 :=
  pad S4224x1024 ![112, 0] ![0, 0] ![0, 0] (inner h g w du dh) (sitofp .f32 (constantI S_ 32 0#32)) pads_S4112x1024_S4224x1024_11200_000 h_S_

theorem moments_at (i : Fin 4112) : moments h (ix2 i 0) = moment fun x => h (ix2 i x) := by
  pointwise [moments]
  rfl

theorem gained_at (i : Fin 4112) (j : Fin 1024) : gained g w du (ix2 i j) = (∑ x : Fin 4096, du (ix2 i x) * w (ix2 j x)) * g (ix1 j) := by
  pointwise [gained]

theorem shares_at (v : FVec Ideal S4112x1 .f32) (t : FVec Ideal S4112x1024 .f32) (i : Fin 4112) (j : Fin 1024) :
    shares h v t (ix2 i j) = ∑ _a : Fin 1, Ideal.div ((∑ x, h (ix2 i x) * t (ix2 i x)) * (minusHalf * Ideal.div (Ideal.rsqrt (v (ix2 i 0))) (v (ix2 i 0)))) width := by
  pointwise [shares]
  refine Finset.sum_congr rfl fun a _ => ?_
  rw [Subsingleton.elim a 0]

theorem inner_at (i : Fin 4112) (j : Fin 1024) :
    inner h g w du dh (ix2 i j) = plainRow (fun x => h (ix2 i x)) (fun x => ∑ y : Fin 4096, du (ix2 i y) * w (ix2 x y)) (fun x => g (ix1 x))
      (fun x => dh (ix2 i x)) j := by
  have e1 := shares_at h (moments h) (gained g w du) i j
  simp only [moments_at, gained_at] at e1
  have e2 := gained_at g w du i j
  have e3 := moments_at h i
  unfold inner
  generalize shares h (moments h) (gained g w du) = q at e1 ⊢
  generalize gained g w du = t at e2 ⊢
  generalize moments h = v at e3 ⊢
  pointwise
  rw [e1, e2, e3]
  rfl

theorem grad_at (k : Fin 4224) (r : Fin 1024) : grad h g w du dh (ix2 k r) = front (n := 1024) (inner h g w du dh) k r :=
  Cert.Kernel6Ideal.Norm.laidC_at (inner h g w du dh) k r

/-- The reference's gradient has the entries that the call leaves. -/
theorem grad_entry (k : Fin 4224) (r : Fin 1024) :
    grad h g w du dh (ix2 k r)
      = if 112 ≤ k.val then callRow (fun x => front (n := 1024) h k x)
          (fun x => ∑ y : Fin 4096, front (n := 4096) du k y * ent (n0 := 1024) (n1 := 4096) w x y) (fun x => g (ix1 x))
          (fun x => front (n := 1024) dh k x) r else 0 := by
  rw [grad_at]
  by_cases hk : 112 ≤ k.val
  · obtain ⟨i, hi⟩ : ∃ i : Fin 4112, k.val = 112 + i.val := ⟨⟨k.val - 112, by omega⟩, by dsimp only; omega⟩
    rw [if_pos hk, hi, front_high, ent_fin, inner_at]
    simp only [front_high, ent_fin]
    exact (row_eq _ _ _ _ r).symm
  · rw [if_neg hk, front_low _ (by omega)]

end

end Cert.Reference6Ideal.Norm
-- ==== Proof.UpFrame.lean ====
/- The run of the call that normalises the rows and multiplies them by the feed-forward layer's first matrix. The
   normalised rows are made at the first block of columns; they stay in a buffer of the call's own and in an output
   that the other blocks of columns leave alone and that is written back at the last. -/
module

public import proofs.«01_k».proof.Proof.Gen.Kernel10Ideal.Frame
public import proofs.«01_k».proof.Proof.Gen.Kernel10Ideal.Skeleton
public import Idealize.ShloMosaic.Lib.Claim
public import Idealize.ShloMosaic.Lib.Pipeline.TableIdle
public import Idealize.ShloMosaic.Lib.VecWindow

@[expose] public section

set_option maxRecDepth 16384

noncomputable section

namespace Cert.Kernel10Ideal.Up

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources the run is stated over. -/
abbrev Res (F : FTy → Type) := MT nD τ sig Unit (Elt F) ℕ (UR sig nD τ) ℕ

variable (m : (ℓ : Loc nD τ sig) → Buf (Elt F) ℓ) (ρ : Dev nD → PrngReg)

/-- The body is at its first block of columns. -/
abbrev first (i : grid0.Coords) : Prop := k0_cond1 i = 1#1

theorem first_iff : ∀ t : Fin cfg0.N, first (grid0.coords t) ↔ t.val % 8 = 0 := by decide +kernel

/-- The buffer the call keeps for itself. -/
abbrev keptM : Memref sig .tc .vmem S1408x1024 .bf16 := Memref.whole cc0_scratch0

theorem rest_eq (c : Dev nD) :
    (Pipeline.ΦA spec0 c : sProp (Res F)) = iprop(iprop((∃ d, owns (c : Thread nD τ) keptM fullShare d)) ∗ (∃ r, prngReg c r)) := by
  unfold Pipeline.ΦA; rw [scopedRest0_eq]; simp only [keptM, owns_whole]; try rfl

section Runs

variable (c : Dev nD) (i : grid0.Coords) (arg3 : Memref sig .tc .vmem S1408x1024 .f32) (harg3 : arg3.IsWhole)
  (arg4 : Memref sig .tc .vmem S1x1024 .f32) (harg4 : arg4.IsWhole) (arg5 : Memref sig .tc .vmem S1x1024x512 .bf16) (harg5 : arg5.IsWhole)
  (arg6 : Memref sig .tc .vmem S1408x512 .bf16) (harg6 : arg6.IsWhole) (arg7 : Memref sig .tc .vmem S1408x1024 .bf16) (harg7 : arg7.IsWhole)
  (arg8 : Memref sig .tc .vmem S1408x1024 .bf16) (harg8 : arg8.IsWhole)
  (x0 : Vec F S1408x1024 .f32) (x1 : Vec F S1x1024 .f32) (x2 : Vec F S1x1024x512 .bf16)

set_option maxHeartbeats 1000000 in
/-- The body at a first block of columns: it makes the normalised rows, keeps and hands out them, and multiplies them. -/
theorem run_first (hc : first i) (E : Set ℕ) (K : PUnit → sProp (Res F)) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg3 fullShare x0 ∗ owns (c : Thread nD τ) arg4 fullShare x1 ∗ owns (c : Thread nD τ) arg5 fullShare x2
          ∗ owns (c : Thread nD τ) arg6 fullShare (k0_pay3 (k0_pay2 x0 x1) x2) ∗ owns (c : Thread nD τ) arg7 fullShare (k0_pay1 x0 x1)
          ∗ owns (c : Thread nD τ) arg8 fullShare (k0_pay2 x0 x1)) -∗ K ⟨⟩))
      ⊢ wp frame (wpE (defs₀ (F := F)) Variants.none c none) E (cc0_mlp_up_0 i arg3 harg3 arg4 harg4 arg5 harg5 arg6 harg6 arg7 harg7 arg8 harg8) K := by
  simp only [cc0_mlp_up_0_eq_skeleton]; unfold cc0_mlp_up_0_skel
  unfold owns
  iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
  obtain rfl := harg3.eq_unread hf0; obtain rfl := harg4.eq_unread hf1; obtain rfl := harg5.eq_unread hf2
  have e3 := harg3.read_unread (Val := Elt F) x0
  have e4 := harg4.read_unread (Val := Elt F) x1
  have e5 := harg5.read_unread (Val := Elt F) x2
  sl_exec (disch := first | sl_exact hc)
  sl_step
  iapply Hk
  isplitl [H0]
  · iexists _; isplitr; · ipureintro; exact e3
    iexact H0
  isplitl [H1]
  · iexists _; isplitr; · ipureintro; exact e4
    iexact H1
  isplitl [H2]
  · iexists _; isplitr; · ipureintro; exact e5
    iexact H2
  isplitl [H3]
  · iexists _; isplitr
    swap; · iexact H3
    ipureintro
    sl_unfold_run_names
    erw [View.read_writes_full]
    rw [View.readCov_full, View.readAt_full, View.readAt_full, View.readAt_full, e3, e4, e5]
  isplitl [H4]
  · iexists _; isplitr
    swap; · iexact H4
    ipureintro
    sl_unfold_run_names
    erw [View.read_writes_full]
    rw [View.readAt_full, View.readAt_full, e3, e4]
  iexists _; isplitr
  swap; · iexact HS0
  ipureintro
  sl_unfold_run_names
  erw [View.read_writes_full]
  rw [View.readAt_full, View.readAt_full, e3, e4]

set_option maxHeartbeats 1000000 in
/-- The body at a later block of columns: it multiplies the rows it kept. -/
theorem run_later (s : Vec F S1408x1024 .bf16) (hc : ¬first i) (E : Set ℕ) (K : PUnit → sProp (Res F)) :
    iprop(owns (c : Thread nD τ) arg5 fullShare x2 ∗ (∃ d, owns (c : Thread nD τ) arg6 fullShare d) ∗ owns (c : Thread nD τ) arg8 fullShare s
        ∗ (iprop(owns (c : Thread nD τ) arg5 fullShare x2
          ∗ owns (c : Thread nD τ) arg6 fullShare (k0_pay3 s x2) ∗ owns (c : Thread nD τ) arg8 fullShare s) -∗ K ⟨⟩))
      ⊢ wp frame (wpE (defs₀ (F := F)) Variants.none c none) E (cc0_mlp_up_0 i arg3 harg3 arg4 harg4 arg5 harg5 arg6 harg6 arg7 harg7 arg8 harg8) K := by
  simp only [cc0_mlp_up_0_eq_skeleton]; unfold cc0_mlp_up_0_skel
  unfold owns
  iintro ⟨⟨%f2, %hf2, H2⟩, ⟨%d3, %f3, -, H3⟩, ⟨%fs0, %hs0, HS0⟩, Hk⟩
  obtain rfl := harg5.eq_unread hf2; obtain rfl := harg8.eq_unread hs0
  have e5 := harg5.read_unread (Val := Elt F) x2
  have e8 := harg8.read_unread (Val := Elt F) s
  sl_exec (disch := first | sl_exact hc)
  sl_step
  iapply Hk
  isplitl [H2]
  · iexists _; isplitr; · ipureintro; exact e5
    iexact H2
  isplitl [H3]
  · iexists _; isplitr
    swap; · iexact H3
    ipureintro
    sl_unfold_run_names
    erw [View.read_writes_full]
    rw [View.readAt_full, View.readAt_full, e5, e8]
  iexists _; isplitr; · ipureintro; exact e8
  iexact HS0

end Runs

/-! ## What the buffers hold after each point -/

/-- The first point of the same block of rows. -/
def start (t : Fin cfg0.N) : Fin cfg0.N := ⟨8 * (t.val / 8), lt_of_le_of_lt (Nat.mul_div_le t.val 8) t.isLt⟩

theorem start_first (t : Fin cfg0.N) (h : t.val % 8 = 0) : start t = t := by
  apply Fin.ext
  show 8 * (t.val / 8) = t.val
  omega

theorem start_prev (t : Fin cfg0.N) (h : ¬t.val % 8 = 0) (hp : t.val - 1 < cfg0.N) : start ⟨t.val - 1, hp⟩ = start t := by
  apply Fin.ext
  show 8 * ((t.val - 1) / 8) = 8 * (t.val / 8)
  omega

/-- The normalised rows handed out. -/
def rows (c : Dev nD) (t : Fin cfg0.N) : Vec F S1408x1024 .bf16 := k0_pay1 (iblk m c 0 (start t)) (iblk m c 1 (start t))

/-- The normalised rows kept. -/
def keptRows (c : Dev nD) (t : Fin cfg0.N) : Vec F S1408x1024 .bf16 := k0_pay2 (iblk m c 0 (start t)) (iblk m c 1 (start t))

/-- The product written. -/
def prod (c : Dev nD) (t : Fin cfg0.N) : Vec F S1408x512 .bf16 := k0_pay3 (keptRows m c t) (iblk m c 2 t)

/-- What is kept before each point. -/
def between (c : Dev nD) : (n : ℕ) → n ≤ cfg0.N → sProp (Res F)
  | 0, _ => Pipeline.ΦA spec0 c
  | n + 1, hn => iprop(iprop(owns (c : Thread nD τ) keptM fullShare (keptRows m c ⟨n, hn⟩)) ∗ (∃ r, prngReg c r))

theorem between_zero (c : Dev nD) (n : ℕ) (h : n ≤ cfg0.N) (hz : n = 0) : between m c n h = Pipeline.ΦA spec0 c := by
  subst hz; rfl

theorem between_pos (c : Dev nD) (n : ℕ) (h : n ≤ cfg0.N) (hz : n ≠ 0) :
    between m c n h = iprop(iprop(owns (c : Thread nD τ) keptM fullShare (keptRows m c ⟨n - 1, by omega⟩)) ∗ (∃ r, prngReg c r)) := by
  cases n with
  | zero => exact absurd rfl hz
  | succ n => rfl

/-- Before any point the kept buffer holds something. -/
theorem between_any (c : Dev nD) (n : ℕ) (h : n ≤ cfg0.N) : between m c n h ⊢ Pipeline.ΦA spec0 c := by
  by_cases hz : n = 0
  · rw [between_zero m c n h hz]
    try exact Idealize.SL.BI.Entails.refl _
  · rw [between_pos m c n h hz, rest_eq]
    iintro ⟨HS0, Hg⟩
    isplitl [HS0]
    · iexists _; iexact HS0
    iexact Hg

/-- What the buffers of the pipeline hold after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => prod m c t
    | ⟨4, _⟩ => rows m c t
  Φ t := between m c t.val (Nat.le_of_lt_succ t.isLt)
  q _ := fullShare
  owed _ := 0

theorem A_eq (c : Dev nD) (w : Fin cfg0.W) : (dats m 0 c).A w = V m c (Pipeline.arrRef spec0 w) := by
  dsimp only [dats]

theorem between_castSucc (c : Dev nD) (t : Fin cfg0.N) :
    (dats m 0 c).Φ t.castSucc = between m c t.val (Nat.le_of_lt t.isLt) := by
  dsimp only [dats]; exact Pipeline.Dat.Φ_castSucc (between m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = prod m c t := by dsimp only [dats]
theorem after0_4 (c : Dev nD) (t : Fin cfg0.N) : (dats m 0 c).after 4 t = rows m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The output that later blocks of columns leave alone -/

theorem idle_iff : ∀ t : Fin cfg0.N, cfg0.idle 4 (grid0.coords t) = decide (¬t.val % 8 = 0) := by decide +kernel

/-- Before a position nothing has been stored into the output since it was last written back. -/
def bare (n : ℕ) : Bool := decide (n % 8 = 0)

theorem bare_step : ∀ t : Fin cfg0.N,
    bare (t.val + 1) = ((cfg0.win 4).flush t || (cfg0.idle 4 (cfg0.grid.coords t) && bare t.val)) := by decide +kernel

theorem bare_eq (t : Fin cfg0.N) : cfg0.fresh 4 t.val = bare t.val :=
  Pipeline.Cfg.fresh_tab cfg0 4 bare rfl bare_step t.val (Nat.le_of_lt t.isLt)

theorem rows_prev (c : Dev nD) (t : Fin cfg0.N) (h : ¬t.val % 8 = 0) (hp : t.val - 1 < cfg0.N) : rows m c ⟨t.val - 1, hp⟩ = rows m c t := by
  unfold rows
  rw [start_prev t h hp]

theorem keptRows_prev (c : Dev nD) (t : Fin cfg0.N) (h : ¬t.val % 8 = 0) (hp : t.val - 1 < cfg0.N) :
    keptRows m c ⟨t.val - 1, hp⟩ = keptRows m c t := by
  unfold keptRows
  rw [start_prev t h hp]

theorem carried (c : Dev nD) : ∀ (t : Fin cfg0.N) (_ : t.val ≠ 0), cfg0.idle 4 (grid0.coords t) = true → cfg0.fresh 4 t.val = false →
    (dats m 0 c).after 4 t = (dats m 0 c).after 4 ⟨t.val - 1, by omega⟩ := by
  intro t _ hi _
  rw [idle_iff t, decide_eq_true_eq] at hi
  rw [after0_4, after0_4, rows_prev m c t hi]

/-- A later block of columns finds the normalised rows in the output. -/
theorem before_later (c : Dev nD) (t : Fin cfg0.N) (h : ¬t.val % 8 = 0) (d) : (dats m 0 c).before 4 t d = rows m c t := by
  rw [Dat.before_out_traj _ 4 rfl (fun _ _ => rfl) (carried m c) t.val t rfl d,
    if_neg (by rw [bare_eq, bare, decide_eq_true_eq]; exact h), after0_4, rows_prev m c t h]

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl

theorem leaves0 (c : Dev nD) (t : Fin cfg0.N) : (dats m 0 c).leavesExact 0 t = owns (c : Thread nD τ) (st0_0 t) fullShare (iblk m c 0 t) := by
  unfold Dat.leavesExact; rw [live0 t, after0_0]
theorem leaves1 (c : Dev nD) (t : Fin cfg0.N) : (dats m 0 c).leavesExact 1 t = owns (c : Thread nD τ) (st0_1 t) fullShare (iblk m c 1 t) := by
  unfold Dat.leavesExact; rw [live1 t, after0_1]
theorem leaves2 (c : Dev nD) (t : Fin cfg0.N) : (dats m 0 c).leavesExact 2 t = owns (c : Thread nD τ) (st0_2 t) fullShare (iblk m c 2 t) := by
  unfold Dat.leavesExact; rw [live2 t, after0_2]
theorem leaves3 (c : Dev nD) (t : Fin cfg0.N) : (dats m 0 c).leavesExact 3 t = owns (c : Thread nD τ) (st0_3 t) fullShare (prod m c t) := by
  unfold Dat.leavesExact; rw [live3 t, after0_3]

/-- After any point the output holds the normalised rows, which is what it has to. -/
theorem leaves4 (c : Dev nD) (t : Fin cfg0.N) : owns (c : Thread nD τ) (st0_4 t) fullShare (rows m c t) ⊢ (dats m 0 c).leavesExact 4 t := by
  by_cases h : t.val % 8 = 0
  · unfold Dat.leavesExact
    rw [idle_iff t, decide_eq_false (fun hn => hn h), after0_4]
  · by_cases hf : (cfg0.win 4).flush t = true
    · unfold Dat.leavesExact
      rw [idle_iff t, decide_eq_true h, hf, after0_4]
    · rw [Dat.leavesExact_idle _ 4 t ((idle_iff t).trans (decide_eq_true h)) (Bool.not_eq_true _ ▸ hf)]
      iintro H
      iexists (rows m c t)
      rw [before_later m c t h]
      iexact H

/-! ## The body at any point -/

def bodyPre (c : Dev nD) (t : Fin cfg0.N) : sProp (Res F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp (Res F) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = between m c (t.val + 1) t.isLt from rfl,
    show between m c (t.val + 1) t.isLt = iprop(iprop(owns (c : Thread nD τ) keptM fullShare (keptRows m c t)) ∗ (∃ r, prngReg c r)) from rfl]
  rw [leaves0, leaves1, leaves2, leaves3, between_castSucc m c t]
  by_cases h0 : t.val % 8 = 0
  · refine (sep_mono_left (between_any m c _ _)).trans ?_
    rw [rest_eq]
    show _ ⊢ _
    iintro ⟨⟨HS0, Hg⟩, Ho, ⟨%d0, H0⟩, ⟨%d1, H1⟩, ⟨%d2, H2⟩, ⟨%d3, H3⟩, ⟨%d4, H4⟩⟩
    iapply (run_first c (grid0.coords t) _ _ _ _ _ _ _ _ _ _ _ _ (iblk m c 0 t) (iblk m c 1 t) (iblk m c 2 t) ((first_iff t).mpr h0) Set.univ _)
    isplitl [H0]; · iexact H0
    isplitl [H1]; · iexact H1
    isplitl [H2]; · iexact H2
    isplitl [H3]; · iexists _; iexact H3
    isplitl [H4]; · iexists _; iexact H4
    isplitl [HS0]; · iexact HS0
    iintro ⟨H0, H1, H2, H3, H4, HS0⟩
    isplitl [HS0 Hg]
    · isplitl [HS0]
      · unfold keptRows; rw [start_first t h0]; iexact HS0
      iexact Hg
    isplitl [Ho]; · iexact Ho
    isplitl [H0]; · iexact H0
    isplitl [H1]; · iexact H1
    isplitl [H2]; · iexact H2
    isplitl [H3]
    · unfold prod keptRows; rw [start_first t h0]; iexact H3
    iapply (leaves4 m c t)
    unfold rows; rw [start_first t h0]; iexact H4
  · have hz : t.val ≠ 0 := fun e => h0 (by rw [e])
    rw [between_pos m c _ _ hz, keptRows_prev m c t h0]
    simp only [before_later m c t h0]
    iintro ⟨⟨HS0, Hg⟩, Ho, ⟨%d0, H0⟩, ⟨%d1, H1⟩, ⟨%d2, H2⟩, ⟨%d3, H3⟩, ⟨%d4, H4⟩⟩
    iapply (run_later c (grid0.coords t) _ _ _ _ _ _ _ _ _ _ _ _ (iblk m c 2 t) (keptRows m c t) (fun h => h0 ((first_iff t).mp h)) Set.univ _)
    isplitl [H2]; · iexact H2
    isplitl [H3]; · iexists _; iexact H3
    isplitl [HS0]; · iexact HS0
    iintro ⟨H2, H3, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    iapply (leaves4 m c t)
    iexact H4

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = between m c 0 (Nat.zero_le _) from rfl, between_zero m c 0 _ rfl]
  try exact Idealize.SL.BI.Entails.refl _

theorem hout (c : Dev nD) : (dats m 0 c).Φ (Fin.last cfg0.N) ⊢ Pipeline.ΦA spec0 c :=
  between_any m c _ (Nat.le_of_lt_succ (Fin.last cfg0.N).isLt)

/-! ## The run -/

set_option backward.isDefEq.respectTransparency.types false in
/-- Every execution ends, with the arrays of the pipeline as computed and every counter at zero. -/
theorem run_main : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) ((θ_run defs _ _).mono (fun _ h => h.1) (run_main m ρ))

/-- The arguments end as they were and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main m ρ))

/-- The results end as computed, the arguments as they were. -/
theorem run_results : θ_run defs (onTc (τ := τ) (main (F := F))) ⟨m, fun _ => 0, ρ⟩ (fun r => ∀ c : Dev nD,
      r.2.mem ((c.tc : Thread nD τ).loc main_v5_0) = (dats m 0 c).arrAt 3 cfg0.N
      ∧ r.2.mem ((c.tc : Thread nD τ).loc main_v5_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.2.1 c).1 3, (h.2.1 c).1 4, h.1 c⟩) (θ_run_and (unchanged m ρ) (run_main m ρ))

end Cert.Kernel10Ideal.Up

end
-- ==== Proof.UpForward.lean ====
/- The call that normalises the rows and multiplies them by the feed-forward layer's first matrix: what it leaves. -/
module

public import proofs.«01_k».proof.Proof.Rows
public import proofs.«01_k».proof.Proof.NormRow
public import proofs.«01_k».proof.Proof.UpFrame
public import proofs.«01_k».proof.Proof.Gen.Reference10Ideal.Run
public import Idealize.ShloMosaic.Lib.Pipeline.ValueKit
public import Idealize.ShloMosaic.Lib.KernelVsHost
public import Idealize.ShloMosaic.Lib.VecWindow

@[expose] public section

set_option maxRecDepth 8192

noncomputable section

namespace Cert.Kernel10Ideal.Up

open Cert.Kernel10Ideal Cert.Kernel10Ideal.Gen Idealize.ShloMosaic Idealize.ShloMosaic.TcCoe Idealize.ShloMosaic.Tactic Cert.Mlp
open scoped BigOperators
open Idealize.SL Idealize.SL.RA Idealize.SL.BI Idealize.SL.ProofMode Idealize.SL.Sem

/-- A row divided by the root of its mean square and multiplied by the gain. -/
def normRow (h g : Fin 1024 → EReal) (j : Fin 1024) : EReal := h j * factor h * g j

theorem normRow_zero (g : Fin 1024 → EReal) (j : Fin 1024) : normRow (fun _ => 0) g j = 0 := by
  unfold normRow
  rw [zero_mul, zero_mul]

theorem pay1_at (x0 : Vec Ideal S1408x1024 .f32) (x1 : Vec Ideal S1x1024 .f32) (a : Fin 1408) (b : Fin 1024) :
    k0_pay1 x0 x1 (ix2 a b) = normRow (fun x => x0 (ix2 a x)) (fun x => x1 (ix2 0 x)) b := by
  pointwise [k0_pay1]
  rfl

theorem pay2_at (x0 : Vec Ideal S1408x1024 .f32) (x1 : Vec Ideal S1x1024 .f32) (a : Fin 1408) (b : Fin 1024) :
    k0_pay2 x0 x1 (ix2 a b) = k0_pay1 x0 x1 (ix2 a b) := by
  unfold k0_pay2
  generalize k0_pay1 x0 x1 = y
  pointwise

theorem pay3_at (s : Vec Ideal S1408x1024 .bf16) (x2 : Vec Ideal S1x1024x512 .bf16) (a : Fin 1408) (b : Fin 512) :
    k0_pay3 s x2 (ix2 a b) = ∑ x : Fin 1024, s (ix2 a x) * x2 (ix3 0 x b) := by
  pointwise [k0_pay3]

theorem idx_all : ∀ t : Fin cfg0.N, win0_0.index t = ![t.val / 8, 0] ∧ win0_1.index t = ![0, 0]
    ∧ win0_2.index t = ![t.val % 8, 0, 0] ∧ win0_3.index t = ![t.val / 8, t.val % 8] ∧ win0_4.index t = ![t.val / 8, 0] := by
  decide +kernel

variable (m : (ℓ : Loc nD τ sig) → Buf (Elt Ideal) ℓ) (c : Dev nD)

/-- The residual, the gain and the matrix of the launch. -/
abbrev argH : Mat 4112 1024 := m ((c.tc : Thread nD τ).loc main_arg0)
abbrev argG : FVec Ideal S1024 .f32 := m ((c.tc : Thread nD τ).loc main_arg1)
abbrev argW : Mat 1024 4096 := m ((c.tc : Thread nD τ).loc main_arg2)

/-- The residual as laid out. -/
def laidH (x : FVec Ideal S4112x1024 .f32) : FVec Ideal S4224x1024 .f32 :=
  pad S4224x1024 ![112, 0] ![0, 0] ![0, 0] x (sitofp .f32 (constantI S_ 32 0#32)) pads_S4112x1024_S4224x1024_11200_000 h_S_

/-- The gain as laid out. -/
def laidG (x : FVec Ideal S1024 .f32) : FVec Ideal S1x1024 .f32 := broadcastInDim S1x1024 ![1] bcast_S1024_S1x1024_1 x

/-- The matrix as laid out, by blocks of columns. -/
def laidW (x : FVec Ideal S1024x4096 .f32) : FVec Ideal S8x1024x512 .bf16 :=
  truncf .bf16 (transpose S8x1024x512 [1, 0, 2] (shapeCast S1024x8x512 x shapeCasts_S1024x4096_S1024x8x512) transposes_S1024x8x512_S8x1024x512_1_0_2) bitsLt_bf16_f32

theorem laidH_at (x : FVec Ideal S4112x1024 .f32) (g : Fin 4224) (r : Fin 1024) : laidH x (ix2 g r) = front (n := 1024) x g r := by
  have hz : (sitofp .f32 (constantI S_ 32 0#32) : FVec Ideal S_ .f32) = fun _ => 0 := pad_zero
  unfold laidH
  rw [hz]
  pointwise
  unfold front ent
  have hg := g.isLt
  by_cases h : 112 ≤ g.val
  · rw [dif_pos ⟨h, by omega⟩, if_pos h, dif_pos ⟨by omega, r.isLt⟩]
  · rw [dif_neg fun e => h e.1, if_neg h]

theorem laidG_at (x : FVec Ideal S1024 .f32) (a : Fin 1) (r : Fin 1024) : laidG x (ix2 a r) = x (ix1 r) := by
  pointwise [laidG]

theorem laidW_at (x : FVec Ideal S1024x4096 .f32) (s : Fin 8) (b : Fin 1024) (r : Fin 512) :
    laidW x (ix3 s b r) = ent (n0 := 1024) (n1 := 4096) x b (512 * s + r) := by
  refine Eq.trans ?_ (ent_fin (n0 := 1024) (n1 := 4096) x b ⟨512 * s + r, by omega⟩).symm
  pointwise [laidW]
  simp only [Nat.mul_comm]

theorem entry_h : V m c main_v0 = laidH (m ((c.tc : Thread nD τ).loc main_arg0)) := by
  unfold V
  simp only [hostOps0, hostOps0_1, hostOps0_2, List.flatten_cons, List.flatten_nil, List.append_nil, List.cons_append, List.nil_append]
  entry_read
  rfl

theorem entry_g : V m c main_v1 = laidG (m ((c.tc : Thread nD τ).loc main_arg1)) := by
  unfold V
  simp only [hostOps0, hostOps0_1, hostOps0_2, List.flatten_cons, List.flatten_nil, List.append_nil, List.cons_append, List.nil_append]
  entry_read
  rfl

theorem entry_w : V m c main_v4 = laidW (m ((c.tc : Thread nD τ).loc main_arg2)) := by
  unfold V
  simp only [hostOps0, hostOps0_1, hostOps0_2, List.flatten_cons, List.flatten_nil, List.append_nil, List.cons_append, List.nil_append]
  entry_read
  rfl

theorem block_h (t : Fin cfg0.N) (a : Fin 1408) (b : Fin 1024) :
    (iblk m c 0 t : Vec Ideal S1408x1024 .f32) (ix2 a b) = front (argH m c) (1408 * (t.val / 8) + a) b := by
  have h := (idx_all t).1
  have hN : t.val < 24 := lt_of_lt_of_eq t.isLt N_0
  refine Eq.trans ?_ (laidH_at _ ⟨1408 * (t.val / 8) + a.val, by omega⟩ b)
  rw [← entry_h]
  blk_ext [iblk, h]

theorem block_g (t : Fin cfg0.N) (b : Fin 1024) : (iblk m c 1 t : Vec Ideal S1x1024 .f32) (ix2 0 b) = argG m c (ix1 b) := by
  have h := (idx_all t).2.1
  refine Eq.trans ?_ (laidG_at _ 0 b)
  rw [← entry_g]
  blk_ext [iblk, h]

theorem block_w (t : Fin cfg0.N) (b : Fin 1024) (x : Fin 512) :
    (iblk m c 2 t : Vec Ideal S1x1024x512 .bf16) (ix3 0 b x) = ent (argW m c) b (512 * (t.val % 8) + x) := by
  have h := (idx_all t).2.2.1
  refine Eq.trans ?_ (laidW_at _ ⟨t.val % 8, by omega⟩ b x)
  rw [← entry_w]
  blk_ext [iblk, h]

/-- A normalised row by its number. -/
def normed (g : ℕ) (r : Fin 1024) : EReal := normRow (fun x => front (argH m c) g x) (fun x => argG m c (ix1 x)) r

/-- An entry of the product by row and column number. -/
def entry (g r : ℕ) : EReal := ∑ x : Fin 1024, normed m c g x * ent (argW m c) x r

theorem made (t : Fin cfg0.N) (a : Fin 1408) (b : Fin 1024) :
    k0_pay1 (F := Ideal) (iblk m c 0 (start t)) (iblk m c 1 (start t)) (ix2 a b) = normed m c (1408 * (t.val / 8) + a) b := by
  refine (pay1_at _ _ a b).trans ?_
  unfold normed
  have es : (start t).val / 8 = t.val / 8 := by
    show 8 * (t.val / 8) / 8 = t.val / 8
    omega
  have e0 : (fun x : Fin 1024 => (iblk m c 0 (start t) : Vec Ideal S1408x1024 .f32) (ix2 a x)) = fun x : Fin 1024 => front (argH m c) (1408 * (t.val / 8) + a) x.val :=
    funext fun x => (block_h m c (start t) a x).trans (by rw [es])
  have e1 : (fun x : Fin 1024 => (iblk m c 1 (start t) : Vec Ideal S1x1024 .f32) (ix2 0 x)) = fun x => argG m c (ix1 x) :=
    funext fun x => block_g m c (start t) x
  rw [e0, e1]

theorem prod_at (t : Fin cfg0.N) (a : Fin 1408) (b : Fin 512) :
    prod m c t (ix2 a b) = entry m c (1408 * (t.val / 8) + a) (512 * (t.val % 8) + b) := by
  refine (pay3_at _ _ a b).trans (Finset.sum_congr rfl fun x _ => congrArg₂ (· * ·) ?_ (block_w m c t x b))
  exact (pay2_at _ _ a x).trans (made m c t a x)

/-- The product that the call leaves. -/
theorem final_prod : (dats m 0 c).arrAt 3 cfg0.N = fun i : S4224x4096.Idx => entry m c (i 0).val (i 1).val := by
  refine (dats m 0 c).arrAt_eq_of_covers 3 _ (by decide +kernel) fun t hf y => ?_
  blk_simp [(idx_all t).2.2.2.1]
  rw [after0_3]
  have e : y = ix2 (n0 := 1408) (n1 := 512) (y 0) (y 1) := by
    funext a
    match a with
    | ⟨0, _⟩ => rfl
    | ⟨1, _⟩ => rfl
  refine (congrArg (prod m c t) e).trans ((prod_at m c t (y 0) (y 1)).trans ?_)
  rw [Nat.mul_comm 1408, Nat.mul_comm 512]

/-- The normalised rows that the call leaves. -/
theorem final_rows : (dats m 0 c).arrAt 4 cfg0.N = fun i : S4224x1024.Idx => normed m c (i 0).val (i 1) := by
  refine (dats m 0 c).arrAt_eq_of_covers 4 _ (by decide +kernel) fun t hf y => ?_
  blk_simp [(idx_all t).2.2.2.2]
  rw [after0_4]
  have e : y = ix2 (n0 := 1408) (n1 := 1024) (y 0) (y 1) := by
    funext a
    match a with
    | ⟨0, _⟩ => rfl
    | ⟨1, _⟩ => rfl
  refine (congrArg (rows m c t) e).trans ((made m c t (y 0) (y 1)).trans ?_)
  rw [Nat.mul_comm 1408]
  exact congrArg (normed m c _) (Fin.ext (by blk_simp [(idx_all t).2.2.2.2]))

end Cert.Kernel10Ideal.Up

namespace Cert.Reference10Ideal.Up

open Cert.Reference10Ideal Cert.Reference10Ideal.Gen Idealize.ShloMosaic Cert.Mlp
open Cert.Kernel10Ideal.Up (normRow normRow_zero)
open scoped BigOperators

section

variable (h : FVec Ideal S4112x1024 .f32) (g : FVec Ideal S1024 .f32) (w : FVec Ideal S1024x4096 .f32)

/-- The reference's normalised rows. -/
def normed : FVec Ideal S4112x1024 .f32 :=
  mulf (mulf h (broadcastInDim S4112x1024 ![0, 1] bcast_S4112x1_S4112x1024_0_1 (Host.rsqrt (addf (Host.divf (broadcastInDim S4112x1 ![0] bcast_S4112_S4112x1_0 (Host.reduceAdd (mulf h h) (constant S_ .f32 0x00000000#32) reducesTo_S4112x1024_S4112_d1 h_S_)) (broadcastInDim S4112x1 ![] bcast_S_S4112x1 (constant S_ .f32 0x44800000#32))) (broadcastInDim S4112x1 ![] bcast_S_S4112x1 (constant S_ .f32 0x358637BD#32)))))) (broadcastInDim S4112x1024 ![0, 1] bcast_S1x1024_S4112x1024_0_1 (broadcastInDim S1x1024 ![1] bcast_S1024_S1x1024_1 g))

/-- The reference's product. -/
def inner (n : FVec Ideal S4112x1024 .f32) : FVec Ideal S4112x4096 .f32 := Host.dotGeneral dot_S4112x1024_S1024x4096_S4112x4096_1_0_0_1_n_n none n w

/-- The reference's results, of any arguments. -/
def outProd : FVec Ideal S4224x4096 .bf16 :=
  pad S4224x4096 ![112, 0] ![0, 0] ![0, 0] (truncf .bf16 (inner w (normed h g)) bitsLt_bf16_f32) (sitofp .bf16 (constantI S_ 32 0#32)) pads_S4112x4096_S4224x4096_11200_000 h_S_
def outRows : FVec Ideal S4224x1024 .bf16 :=
  pad S4224x1024 ![112, 0] ![0, 0] ![0, 0] (truncf .bf16 (normed h g) bitsLt_bf16_f32) (sitofp .bf16 (constantI S_ 32 0#32)) pads_S4112x1024_S4224x1024_11200_000 h_S_

theorem normed_at (i : Fin 4112) (j : Fin 1024) : normed h g (ix2 i j) = normRow (fun x => h (ix2 i x)) (fun x => g (ix1 x)) j := by
  pointwise [normed]
  rfl

theorem inner_at (n : FVec Ideal S4112x1024 .f32) (i : Fin 4112) (j : Fin 4096) : inner w n (ix2 i j) = ∑ x : Fin 1024, n (ix2 i x) * w (ix2 x j) := by
  pointwise [inner]

theorem zero_pad : (sitofp .bf16 (constantI S_ 32 0#32) : FVec Ideal S_ .bf16) = fun _ => 0 := by
  funext i
  simp [sitofp, constantI, FloatOps.sitofp]

theorem prod_front (y : FVec Ideal S4112x4096 .f32) (a : Fin 4224) (r : Fin 4096) :
    (pad S4224x4096 ![112, 0] ![0, 0] ![0, 0] (truncf .bf16 y bitsLt_bf16_f32) (sitofp .bf16 (constantI S_ 32 0#32)) pads_S4112x4096_S4224x4096_11200_000 h_S_ : FVec Ideal S4224x4096 .bf16) (ix2 a r)
      = front (n := 4096) y a r := by
  rw [zero_pad]
  pointwise
  unfold front ent
  have hg := a.isLt
  by_cases h : 112 ≤ a.val
  · rw [dif_pos ⟨h, by omega⟩, if_pos h, dif_pos ⟨by omega, r.isLt⟩]
  · rw [dif_neg fun e => h e.1, if_neg h]

theorem rows_front (y : FVec Ideal S4112x1024 .f32) (a : Fin 4224) (r : Fin 1024) :
    (pad S4224x1024 ![112, 0] ![0, 0] ![0, 0] (truncf .bf16 y bitsLt_bf16_f32) (sitofp .bf16 (constantI S_ 32 0#32)) pads_S4112x1024_S4224x1024_11200_000 h_S_ : FVec Ideal S4224x1024 .bf16) (ix2 a r)
      = front (n := 1024) y a r := by
  rw [zero_pad]
  pointwise
  unfold front ent
  have hg := a.isLt
  by_cases h : 112 ≤ a.val
  · rw [dif_pos ⟨h, by omega⟩, if_pos h, dif_pos ⟨by omega, r.isLt⟩]
  · rw [dif_neg fun e => h e.1, if_neg h]

/-- The rows put in front are zero and so are they normalised. -/
theorem front_normed (a : ℕ) (ha : a < 4224) (r : Fin 1024) :
    front (n := 1024) (normed h g) a r = normRow (fun x => front (n := 1024) h a x) (fun x => g (ix1 x)) r := by
  by_cases hl : 112 ≤ a
  · obtain ⟨i, hi⟩ : ∃ i : Fin 4112, a = 112 + i.val := ⟨⟨a - 112, by omega⟩, by dsimp only; omega⟩
    have e : (fun x : Fin 1024 => front (n := 1024) h a x) = fun x => h (ix2 i x) := funext fun x => by rw [hi, front_high, ent_fin]
    rw [e, hi, front_high, ent_fin, normed_at]
  · have e : (fun x : Fin 1024 => front (n := 1024) h a x) = fun _ => 0 := funext fun x => front_low _ (by omega) _
    rw [e, front_low _ (by omega), normRow_zero]

theorem rows_at (a : Fin 4224) (r : Fin 1024) : outRows h g (ix2 a r) = normRow (fun x => front (n := 1024) h a x) (fun x => g (ix1 x)) r :=
  (rows_front _ a r).trans (front_normed h g a a.isLt r)

theorem prod_at (a : Fin 4224) (r : Fin 4096) :
    outProd h g w (ix2 a r) = ∑ x : Fin 1024, normRow (fun y => front (n := 1024) h a y) (fun y => g (ix1 y)) x * ent (n0 := 1024) (n1 := 4096) w x r := by
  refine (prod_front _ a r).trans ?_
  simp only [← front_normed h g a a.isLt]
  by_cases hl : 112 ≤ a.val
  · obtain ⟨i, hi⟩ : ∃ i : Fin 4112, a.val = 112 + i.val := ⟨⟨a.val - 112, by omega⟩, by dsimp only; omega⟩
    rw [hi, front_high, ent_fin, inner_at]
    refine Finset.sum_congr rfl fun x _ => ?_
    rw [front_high, ent_fin, ent_fin]
  · rw [front_low _ (by omega)]
    refine (Finset.sum_eq_zero fun x _ => ?_).symm
    rw [front_low _ (by omega), zero_mul]

end

end Cert.Reference10Ideal.Up
-- ==== Proof.Wide.lean ====
/- Sums over blocks of 896 columns, the last of which are filled up with zeros. -/
module

public import proofs.«01_k».proof.Proof.Rows

@[expose] public section

noncomputable section

namespace Cert.Mlp

open Idealize.ShloMosaic
open scoped BigOperators

/-- Outside its columns a matrix counts as zero. -/
theorem ent_out {n0 n1 : ℕ} (x : Mat n0 n1) (g : ℕ) {r : ℕ} (h : ¬r < n1) : ent x g r = 0 := by
  unfold ent
  rw [dif_neg fun e => h e.2]

/-- A sum over seven blocks of 896 columns is one over the 6176 columns in which there is something. -/
theorem sum_wide (f : ℕ → EReal) (hz : ∀ g, ¬g < 6176 → f g = 0) :
    ∑ n ∈ Finset.range 7, ∑ b : Fin 896, f (896 * n + b) = ∑ x : Fin 6176, f x := by
  have e : ∀ N : ℕ, ∑ n ∈ Finset.range N, ∑ b : Fin 896, f (896 * n + b) = ∑ g ∈ Finset.range (896 * N), f g := by
    intro N
    induction N with
    | zero => simp
    | succ N ih =>
      rw [Finset.sum_range_succ, ih, Nat.mul_succ, Finset.sum_range_add]
      congr 1
  rw [e 7, show 896 * 7 = 6176 + 96 from rfl, Finset.sum_range_add, Finset.sum_eq_zero (s := Finset.range 96) fun b _ => hz _ (by omega), add_zero]
  exact (Fin.sum_univ_eq_sum_range f 6176).symm

end Cert.Mlp
-- ==== Proof.MixerNorm.lean ====
/- The call that takes the gradient through the state-space layer's normalisation. -/
module

public import proofs.«01_k».proof.Proof.Wide
public import proofs.«01_k».proof.Proof.NormRow
public import proofs.«01_k».proof.Proof.Basic
public import proofs.«01_k».proof.Proof.Gen.Kernel9Ideal.Value
public import proofs.«01_k».proof.Proof.Gen.Reference9Ideal.Run
public import Idealize.ShloMosaic.Lib.Pipeline.ValueKit
public import Idealize.ShloMosaic.Lib.KernelVsHost
public import Idealize.ShloMosaic.Lib.VecWindow

@[expose] public section

set_option maxRecDepth 8192

noncomputable section

namespace Cert.Kernel9Ideal.MixerNorm

open Cert.Kernel9Ideal Cert.Kernel9Ideal.Gen Idealize.ShloMosaic Idealize.ShloMosaic.TcCoe Idealize.ShloMosaic.Tactic Cert.Mlp
open scoped BigOperators
open Idealize.SL Idealize.SL.RA Idealize.SL.BI Idealize.SL.ProofMode Idealize.SL.Sem

section Steps

variable {c : Dev nD} {i : grid0.Coords} {arg3 : Memref sig .tc .vmem S704x896 .bf16} {harg3 : arg3.IsWhole} {arg4 : Memref sig .tc .vmem S1024x896 .bf16} {harg4 : arg4.IsWhole} {arg5 : Memref sig .tc .vmem S704x1024 .f32} {harg5 : arg5.IsWhole} {arg6 : Memref sig .tc .vmem S1x1024 .f32} {harg6 : arg6.IsWhole} {arg7 : Memref sig .tc .vmem S704x1024 .f32} {harg7 : arg7.IsWhole} {arg8 : Memref sig .tc .vmem S704x1024 .f32} {harg8 : arg8.IsWhole} {arg9 : Memref sig .tc .vmem S8x1024 .f32} {harg9 : arg9.IsWhole} {arg10 : Memref sig .tc .vmem S704x1024 .f32} {harg10 : arg10.IsWhole}
  {x0 : Vec Ideal S704x896 .bf16} {x1 : Vec Ideal S1024x896 .bf16} {x2 : Vec Ideal S704x1024 .f32} {x3 : Vec Ideal S1x1024 .f32} {x4 : Vec Ideal S704x1024 .f32} {xo6 : Vec Ideal S8x1024 .f32} {xs0 : Vec Ideal S704x1024 .f32}

/-- What a block of columns adds. -/
theorem pay1_at (x0 : Vec Ideal S704x896 .bf16) (x1 : Vec Ideal S1024x896 .bf16) (a : Fin 704) (b : Fin 1024) :
    k0_pay1 x0 x1 (ix2 a b) = ∑ x : Fin 896, x0 (ix2 a x) * x1 (ix2 b x) := by
  pointwise [k0_pay1]

/-- The running sum after the first block of columns. -/
theorem first_eq {hc0 : cond0_0 i} {hc1 : ¬cond0_1 i} {hc2 : ¬cond0_2 i} :
    sout0_A_0 (F := Ideal) c i arg3 harg3 arg4 harg4 arg5 harg5 arg6 harg6 arg7 harg7 arg8 harg8 arg9 harg9 arg10 harg10 hc0 hc1 hc2 x0 x1 x2 x3 x4 = k0_pay2 x0 x1 := by
  unfold sout0_A_0 kernelRun0_A
  dsimp only
  sl_unfold_run_names
  erw [View.read_writes_full]
  have e3 := harg3.read_unread (Val := Elt Ideal) x0
  have e4 := harg4.read_unread (Val := Elt Ideal) x1
  rw [View.readAt_full, View.readAt_full, e3, e4]

/-- The running sum after a middle block of columns. -/
theorem middle_eq {hc0 : ¬cond0_0 i} {hc1 : cond0_1 i} {hc2 : ¬cond0_2 i} :
    sout0_B_0 (F := Ideal) c i arg3 harg3 arg4 harg4 arg5 harg5 arg6 harg6 arg7 harg7 arg8 harg8 arg9 harg9 arg10 harg10 hc0 hc1 hc2 x0 x1 x2 x3 x4 xs0 = k0_pay3 x0 x1 xs0 := by
  unfold sout0_B_0 kernelRun0_B
  dsimp only
  sl_unfold_run_names
  erw [View.read_writes_full]
  have e3 := harg3.read_unread (Val := Elt Ideal) x0
  have e4 := harg4.read_unread (Val := Elt Ideal) x1
  have e10 := harg10.read_unread (Val := Elt Ideal) xs0
  rw [View.readAt_full, View.readAt_full, View.readAt_full, e3, e4, e10]

/-- What the last block of columns leaves in the output, in the first block of rows. -/
theorem last_eq {hc0 : ¬cond0_0 i} {hc1 : cond0_1 i} {hc2 : cond0_2 i} {hc3 : cond0_3 i} {hc4 : ¬cond0_4 i} :
    out0_C_5 (F := Ideal) c i arg3 harg3 arg4 harg4 arg5 harg5 arg6 harg6 arg7 harg7 arg8 harg8 arg9 harg9 arg10 harg10 hc0 hc1 hc2 hc3 hc4 x0 x1 x2 x3 x4 xs0
      = k0_pay9 (BitVec.ofNat 32 (i 0).val) (k0_pay3 x0 x1 xs0) x2 x3 x4 := by
  unfold out0_C_5 kernelRun0_C
  dsimp only
  sl_unfold_run_names
  erw [View.read_writes_full]
  have e3 := harg3.read_unread (Val := Elt Ideal) x0
  have e4 := harg4.read_unread (Val := Elt Ideal) x1
  have e5 := harg5.read_unread (Val := Elt Ideal) x2
  have e6 := harg6.read_unread (Val := Elt Ideal) x3
  have e7 := harg7.read_unread (Val := Elt Ideal) x4
  have e10 := harg10.read_unread (Val := Elt Ideal) xs0
  rw [View.readCov_full, View.readAt_full, View.readAt_full, View.readAt_full, View.readAt_full, View.readAt_full, View.readAt_full,
    e3, e4, e5, e6, e7, e10]

/-- What the last block of columns leaves in the output, in a later block of rows. -/
theorem later_eq {hc0 : ¬cond0_0 i} {hc1 : cond0_1 i} {hc2 : cond0_2 i} {hc3 : ¬cond0_3 i} {hc4 : cond0_4 i} :
    out0_D_5 (F := Ideal) c i arg3 harg3 arg4 harg4 arg5 harg5 arg6 harg6 arg7 harg7 arg8 harg8 arg9 harg9 arg10 harg10 hc0 hc1 hc2 hc3 hc4 x0 x1 x2 x3 x4 xo6 xs0
      = k0_pay9 (BitVec.ofNat 32 (i 0).val) (k0_pay3 x0 x1 xs0) x2 x3 x4 := by
  unfold out0_D_5 kernelRun0_D
  dsimp only
  sl_unfold_run_names
  erw [View.read_writes_full]
  have e3 := harg3.read_unread (Val := Elt Ideal) x0
  have e4 := harg4.read_unread (Val := Elt Ideal) x1
  have e5 := harg5.read_unread (Val := Elt Ideal) x2
  have e6 := harg6.read_unread (Val := Elt Ideal) x3
  have e7 := harg7.read_unread (Val := Elt Ideal) x4
  have e10 := harg10.read_unread (Val := Elt Ideal) xs0
  rw [View.readCov_full, View.readAt_full, View.readAt_full, View.readAt_full, View.readAt_full, View.readAt_full, View.readAt_full,
    e3, e4, e5, e6, e7, e10]

theorem pay2_at (x0 : Vec Ideal S704x896 .bf16) (x1 : Vec Ideal S1024x896 .bf16) (a : Fin 704) (b : Fin 1024) :
    k0_pay2 x0 x1 (ix2 a b) = k0_pay1 x0 x1 (ix2 a b) := by
  unfold k0_pay2
  generalize k0_pay1 x0 x1 = y
  pointwise

theorem pay3_at (x0 : Vec Ideal S704x896 .bf16) (x1 : Vec Ideal S1024x896 .bf16) (s : Vec Ideal S704x1024 .f32) (a : Fin 704) (b : Fin 1024) :
    k0_pay3 x0 x1 s (ix2 a b) = s (ix2 a b) + k0_pay1 x0 x1 (ix2 a b) := by
  unfold k0_pay3
  generalize k0_pay1 x0 x1 = y
  pointwise

theorem pay6_at (x2 : Vec Ideal S704x1024 .f32) (a : Fin 704) : k0_pay6 x2 (ix2 a 0) = factor fun x => x2 (ix2 a x) := by
  pointwise [k0_pay6, k0_pay5]
  rfl

theorem pay9_at (n : BitVec 32) (s x2 : Vec Ideal S704x1024 .f32) (x3 : Vec Ideal S1x1024 .f32) (x4 : Vec Ideal S704x1024 .f32) (a : Fin 704) (b : Fin 1024) :
    k0_pay9 n s x2 x3 x4 (ix2 a b)
      = Scalar.select (Scalar.cmpi .sge (n * 704#32 + BitVec.ofNat 32 a.val) 112#32)
          (callRow (fun x => x2 (ix2 a x)) (fun x => s (ix2 a x)) (fun x => x3 (ix2 0 x)) (fun x => x4 (ix2 a x)) b) 0 := by
  unfold callRow
  simp only [← pay6_at]
  unfold k0_pay9 k0_pay7 k0_pay5
  generalize k0_pay6 x2 = r
  pointwise
  rfl

end Steps

theorem idx_all : ∀ t : Fin cfg0.N, win0_0.index t = ![t.val / 7, t.val % 7] ∧ win0_1.index t = ![0, t.val % 7]
    ∧ win0_2.index t = ![t.val / 7, 0] ∧ win0_3.index t = ![0, 0] ∧ win0_4.index t = ![t.val / 7, 0] ∧ win0_5.index t = ![t.val / 7, 0] := by
  decide +kernel

theorem flush_last : ∀ t : Fin cfg0.N, (cfg0.win 5).flush t = true → t.val % 7 = 6 := by decide +kernel

theorem coords_row : ∀ t : Fin cfg0.N, ((grid0.coords t) 0).val = t.val / 7 := by decide +kernel

/-- The test of a row's number against the rows put in front. -/
theorem row_test (n a : ℕ) (hn : n < 6) (ha : a < 704) :
    Scalar.cmpi .sge (BitVec.ofNat 32 n * 704#32 + BitVec.ofNat 32 a) 112#32 = BitVec.ofBool (decide (112 ≤ 704 * n + a)) := by
  have e : BitVec.ofNat 32 n * 704#32 + BitVec.ofNat 32 a = BitVec.ofNat 32 (704 * n + a) := by
    rw [BitVec.ofNat_add, BitVec.ofNat_mul, BitVec.mul_comm]
  rw [e]
  exact WordCmp.cmpi_sge_ofNat (by omega) (by omega)

variable (m : (ℓ : Loc nD τ sig) → Buf (Elt Ideal) ℓ) (c : Dev nD)

/-- The residual, the gain, the matrix, the gradient of the hidden values and the cotangent of the launch. -/
abbrev argH : Mat 4112 1024 := m ((c.tc : Thread nD τ).loc main_arg0)
abbrev argG : FVec Ideal S1024 .f32 := m ((c.tc : Thread nD τ).loc main_arg1)
abbrev argW : Mat 1024 6176 := m ((c.tc : Thread nD τ).loc main_arg2)
abbrev argU : Mat 4112 6176 := m ((c.tc : Thread nD τ).loc main_arg3)
abbrev argC : Mat 4112 1024 := m ((c.tc : Thread nD τ).loc main_arg4)

/-- The gradient of the hidden values as laid out. -/
def laidU (x : FVec Ideal S4112x6176 .f32) : FVec Ideal S4224x6272 .bf16 :=
  truncf .bf16 (pad S4224x6272 ![112, 0] ![0, 96] ![0, 0] x (sitofp .f32 (constantI S_ 32 0#32)) pads_S4112x6176_S4224x6272_11200_0960 h_S_) bitsLt_bf16_f32

/-- The matrix as laid out. -/
def laidW (x : FVec Ideal S1024x6176 .f32) : FVec Ideal S1024x6272 .bf16 :=
  truncf .bf16 (pad S1024x6272 ![0, 0] ![0, 96] ![0, 0] x (sitofp .f32 (constantI S_ 32 0#32)) pads_S1024x6176_S1024x6272_000_0960 h_S_) bitsLt_bf16_f32

/-- The gain as laid out. -/
def laidG (x : FVec Ideal S1024 .f32) : FVec Ideal S1x1024 .f32 := broadcastInDim S1x1024 ![1] bcast_S1024_S1x1024_1 x

/-- The residual and the cotangent as laid out. -/
def laidC (x : FVec Ideal S4112x1024 .f32) : FVec Ideal S4224x1024 .f32 :=
  pad S4224x1024 ![112, 0] ![0, 0] ![0, 0] x (sitofp .f32 (constantI S_ 32 0#32)) pads_S4112x1024_S4224x1024_11200_000 h_S_

theorem laidU_at (x : FVec Ideal S4112x6176 .f32) (g : Fin 4224) (r : Fin 6272) : laidU x (ix2 g r) = front (n := 6176) x g r := by
  have hz : (sitofp .f32 (constantI S_ 32 0#32) : FVec Ideal S_ .f32) = fun _ => 0 := pad_zero
  unfold laidU
  rw [hz]
  pointwise
  unfold front ent
  have hg := g.isLt
  by_cases h : 112 ≤ g.val
  · by_cases h' : r.val < 6176
    · rw [dif_pos ⟨⟨h, by omega⟩, h'⟩, if_pos h, dif_pos ⟨by omega, h'⟩]
    · rw [dif_neg fun e => h' e.2, if_pos h, dif_neg fun e => h' e.2]
  · rw [dif_neg fun e => h e.1.1, if_neg h]

theorem laidC_at (x : FVec Ideal S4112x1024 .f32) (g : Fin 4224) (r : Fin 1024) : laidC x (ix2 g r) = front (n := 1024) x g r := by
  have hz : (sitofp .f32 (constantI S_ 32 0#32) : FVec Ideal S_ .f32) = fun _ => 0 := pad_zero
  unfold laidC
  rw [hz]
  pointwise
  unfold front ent
  have hg := g.isLt
  by_cases h : 112 ≤ g.val
  · rw [dif_pos ⟨h, by omega⟩, if_pos h, dif_pos ⟨by omega, r.isLt⟩]
  · rw [dif_neg fun e => h e.1, if_neg h]

theorem laidG_at (x : FVec Ideal S1024 .f32) (a : Fin 1) (r : Fin 1024) : laidG x (ix2 a r) = x (ix1 r) := by
  pointwise [laidG]

theorem laidW_at (x : FVec Ideal S1024x6176 .f32) (b : Fin 1024) (r : Fin 6272) : laidW x (ix2 b r) = ent (n0 := 1024) (n1 := 6176) x b r := by
  have hz : (sitofp .f32 (constantI S_ 32 0#32) : FVec Ideal S_ .f32) = fun _ => 0 := pad_zero
  unfold laidW
  rw [hz]
  pointwise
  unfold ent
  by_cases h : r.val < 6176
  · rw [dif_pos h, dif_pos ⟨b.isLt, h⟩]
  · rw [dif_neg h, dif_neg fun e => h e.2]

theorem entry_u : V m c main_v3 = laidU (m ((c.tc : Thread nD τ).loc main_arg3)) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  rfl

theorem entry_w : V m c main_v6 = laidW (m ((c.tc : Thread nD τ).loc main_arg2)) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  rfl

theorem entry_g : V m c main_v4 = laidG (m ((c.tc : Thread nD τ).loc main_arg1)) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  rfl

theorem entry_h : V m c main_v1 = laidC (m ((c.tc : Thread nD τ).loc main_arg0)) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  rfl

theorem entry_c : V m c main_v0 = laidC (m ((c.tc : Thread nD τ).loc main_arg4)) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  rfl

theorem block_u (t : Fin cfg0.N) (a : Fin 704) (x : Fin 896) :
    (iblk m c 0 t : Vec Ideal S704x896 .bf16) (ix2 a x) = front (argU m c) (704 * (t.val / 7) + a) (896 * (t.val % 7) + x) := by
  have h := (idx_all t).1
  have hN : t.val < 42 := lt_of_lt_of_eq t.isLt N_0
  refine Eq.trans ?_ (laidU_at _ ⟨704 * (t.val / 7) + a.val, by omega⟩ ⟨896 * (t.val % 7) + x.val, by omega⟩)
  rw [← entry_u]
  blk_ext [iblk, h]

theorem block_w (t : Fin cfg0.N) (b : Fin 1024) (x : Fin 896) :
    (iblk m c 1 t : Vec Ideal S1024x896 .bf16) (ix2 b x) = ent (argW m c) b (896 * (t.val % 7) + x) := by
  have h := (idx_all t).2.1
  refine Eq.trans ?_ (laidW_at _ b ⟨896 * (t.val % 7) + x.val, by omega⟩)
  rw [← entry_w]
  blk_ext [iblk, h]

theorem block_h (t : Fin cfg0.N) (a : Fin 704) (b : Fin 1024) :
    (iblk m c 2 t : Vec Ideal S704x1024 .f32) (ix2 a b) = front (argH m c) (704 * (t.val / 7) + a) b := by
  have h := (idx_all t).2.2.1
  have hN : t.val < 42 := lt_of_lt_of_eq t.isLt N_0
  refine Eq.trans ?_ (laidC_at _ ⟨704 * (t.val / 7) + a.val, by omega⟩ b)
  rw [← entry_h]
  blk_ext [iblk, h]

theorem block_g (t : Fin cfg0.N) (b : Fin 1024) : (iblk m c 3 t : Vec Ideal S1x1024 .f32) (ix2 0 b) = argG m c (ix1 b) := by
  have h := (idx_all t).2.2.2.1
  refine Eq.trans ?_ (laidG_at _ 0 b)
  rw [← entry_g]
  blk_ext [iblk, h]

theorem block_c (t : Fin cfg0.N) (a : Fin 704) (b : Fin 1024) :
    (iblk m c 4 t : Vec Ideal S704x1024 .f32) (ix2 a b) = front (argC m c) (704 * (t.val / 7) + a) b := by
  have h := (idx_all t).2.2.2.2.1
  have hN : t.val < 42 := lt_of_lt_of_eq t.isLt N_0
  refine Eq.trans ?_ (laidC_at _ ⟨704 * (t.val / 7) + a.val, by omega⟩ b)
  rw [← entry_c]
  blk_ext [iblk, h]

/-- What a column of the hidden gradient adds to an entry of the product. -/
def term (g r x : ℕ) : EReal := front (argU m c) g x * ent (argW m c) r x

theorem term_out (g r x : ℕ) (h : ¬x < 6176) : term m c g r x = 0 := by
  unfold term
  rw [ent_out _ _ h, mul_zero]

theorem block_sum (t : Fin cfg0.N) (a : Fin 704) (b : Fin 1024) :
    k0_pay1 (F := Ideal) (iblk m c 0 t) (iblk m c 1 t) (ix2 a b)
      = ∑ x : Fin 896, term m c (704 * (t.val / 7) + a) b (896 * (t.val % 7) + x) :=
  (pay1_at _ _ a b).trans (Finset.sum_congr rfl fun x _ => congrArg₂ (· * ·) (block_u m c t a x) (block_w m c t b x))

/-- The running sum after a point that is not its last. -/
theorem running (n : ℕ) : ∀ (hn : n < cfg0.N), ¬n % 7 = 6 → ∀ (a : Fin 704) (b : Fin 1024),
    (outsAt0 m c n hn).2.2 (ix2 a b) = ∑ k ∈ Finset.range (n % 7 + 1), ∑ x : Fin 896, term m c (704 * (n / 7) + a) b (896 * k + x) := by
  induction n with
  | zero =>
    intro hn h6 a b
    have E := congrArg (fun z => z.2.2) (outsAt0_A m c ⟨0, hn⟩ rfl (by dsimp only; omega) h6)
    dsimp only at E
    refine (congrFun (E.trans first_eq) (ix2 a b)).trans ?_
    rw [pay2_at, block_sum, Finset.sum_range_one]
    rfl
  | succ n ih =>
    intro hn h6 a b
    by_cases h0 : (n + 1) % 7 = 0
    · have E := congrArg (fun z => z.2.2) (outsAt0_A m c ⟨n + 1, hn⟩ h0 (by dsimp only; omega) h6)
      dsimp only at E
      refine (congrFun (E.trans first_eq) (ix2 a b)).trans ?_
      rw [pay2_at, block_sum, h0, Finset.sum_range_one]
    · have E := congrArg (fun z => z.2.2) (outsAt0_B m c ⟨n + 1, hn⟩ h0 (by dsimp only; omega) h6)
      dsimp only at E
      refine (congrFun (E.trans middle_eq) (ix2 a b)).trans ?_
      rw [pay3_at, block_sum, Finset.sum_range_succ]
      congr 1
      refine (ih _ (by omega) a b).trans ?_
      rw [show (n + 1) / 7 = n / 7 by omega, show (n + 1) % 7 = n % 7 + 1 by omega]

/-- The sum after the last block of columns. -/
theorem full_sum (t : Fin cfg0.N) (h6 : t.val % 7 = 6) (a : Fin 704) (b : Fin 1024) :
    k0_pay3 (F := Ideal) (iblk m c 0 t) (iblk m c 1 t) (outsAt0 m c (t.val - 1) (Nat.lt_of_le_of_lt (Nat.sub_le _ _) t.isLt)).2.2 (ix2 a b)
      = ∑ x : Fin 6176, term m c (704 * (t.val / 7) + a) b x := by
  rw [pay3_at, block_sum, ← sum_wide _ (term_out m c _ _), Finset.sum_range_succ _ 6]
  congr 1
  · refine (running m c (t.val - 1) _ (by omega) a b).trans ?_
    rw [show (t.val - 1) % 7 + 1 = 6 by omega, show (t.val - 1) / 7 = t.val / 7 by omega]
  · rw [h6]

/-- An entry of the result by row and column number. -/
def entry (g : ℕ) (r : Fin 1024) : EReal :=
  if 112 ≤ g then callRow (fun x => front (argH m c) g x) (fun x => ∑ y : Fin 6176, term m c g x y) (fun x => argG m c (ix1 x))
    (fun x => front (argC m c) g x) r else 0

/-- What the last point of a block of rows writes. -/
theorem written_eq (t : Fin cfg0.N) (h6 : t.val % 7 = 6) (a : Fin 704) (b : Fin 1024) :
    k0_pay9 (F := Ideal) (BitVec.ofNat 32 ((grid0.coords t) 0).val) (k0_pay3 (iblk m c 0 t) (iblk m c 1 t) (outsAt0 m c (t.val - 1) (Nat.lt_of_le_of_lt (Nat.sub_le _ _) t.isLt)).2.2)
      (iblk m c 2 t) (iblk m c 3 t) (iblk m c 4 t) (ix2 a b) = entry m c (704 * (t.val / 7) + a) b := by
  have hN : t.val < 42 := lt_of_lt_of_eq t.isLt N_0
  refine (pay9_at _ _ _ _ _ a b).trans ?_
  rw [coords_row, row_test _ _ (by omega) a.isLt, Cert.Attn.select_ofBool]
  unfold entry
  have e1 : (fun x : Fin 1024 => (iblk m c 2 t : Vec Ideal S704x1024 .f32) (ix2 a x)) = fun x : Fin 1024 => front (argH m c) (704 * (t.val / 7) + a) x.val :=
    funext fun x => block_h m c t a x
  have e2 := funext fun x : Fin 1024 => full_sum m c t h6 a x
  have e3 : (fun x : Fin 1024 => (iblk m c 3 t : Vec Ideal S1x1024 .f32) (ix2 0 x)) = fun x => argG m c (ix1 x) :=
    funext fun x => block_g m c t x
  have e4 : (fun x : Fin 1024 => (iblk m c 4 t : Vec Ideal S704x1024 .f32) (ix2 a x)) = fun x : Fin 1024 => front (argC m c) (704 * (t.val / 7) + a) x.val :=
    funext fun x => block_c m c t a x
  rw [e1, e2, e3, e4]

theorem written (t : Fin cfg0.N) (h6 : t.val % 7 = 6) (a : Fin 704) (b : Fin 1024) :
    (outsAt0 m c t.val t.isLt).1 (ix2 a b) = entry m c (704 * (t.val / 7) + a) b := by
  by_cases h8 : t.val < 7
  · have E := congrArg (fun z => z.1) (outsAt0_C m c t (by omega) (by omega) h6 h8 (by omega))
    dsimp only at E
    exact (congrFun (E.trans last_eq) (ix2 a b)).trans (written_eq m c t h6 a b)
  · have E := congrArg (fun z => z.1) (outsAt0_D m c t (by omega) (by omega) h6 h8 (by omega))
    dsimp only at E
    exact (congrFun (E.trans later_eq) (ix2 a b)).trans (written_eq m c t h6 a b)

/-- The array that the call leaves. -/
theorem final : (dats m 0 c).arrAt 5 cfg0.N = fun i : S4224x1024.Idx => entry m c (i 0).val (i 1) := by
  refine (dats m 0 c).arrAt_eq_of_covers 5 _ (by decide +kernel) fun t hf y => ?_
  have h6 := flush_last t hf
  blk_simp [(idx_all t).2.2.2.2.2]
  rw [after0_5]
  have e : y = ix2 (n0 := 704) (n1 := 1024) (y 0) (y 1) := by
    funext a
    match a with
    | ⟨0, _⟩ => rfl
    | ⟨1, _⟩ => rfl
  refine (congrArg (outsAt0 m c t.val t.isLt).1 e).trans ((written m c t h6 (y 0) (y 1)).trans ?_)
  rw [Nat.mul_comm 704]
  exact congrArg (entry m c _) (Fin.ext (by blk_simp [(idx_all t).2.2.2.2.2]))

end Cert.Kernel9Ideal.MixerNorm

namespace Cert.Reference9Ideal.MixerNorm

open Cert.Reference9Ideal Cert.Reference9Ideal.Gen Idealize.ShloMosaic Cert.Mlp

section

variable (h : FVec Ideal S4112x1024 .f32) (g : FVec Ideal S1024 .f32) (w : FVec Ideal S1024x6176 .f32) (du : FVec Ideal S4112x6176 .f32)
  (dh : FVec Ideal S4112x1024 .f32)

/-- The mean square of each row with the small number added. -/
def moments : FVec Ideal S4112x1 .f32 :=
  addf (Host.divf (broadcastInDim S4112x1 ![0] bcast_S4112_S4112x1_0 (Host.reduceAdd (mulf h h) (constant S_ .f32 0x00000000#32) reducesTo_S4112x1024_S4112_d1 h_S_)) (broadcastInDim S4112x1 ![] bcast_S_S4112x1 (constant S_ .f32 0x44800000#32))) (broadcastInDim S4112x1 ![] bcast_S_S4112x1 (constant S_ .f32 0x358637BD#32))

/-- The gradient of the normalised rows times the gain. -/
def gained : FVec Ideal S4112x1024 .f32 :=
  mulf (Host.dotGeneral dot_S4112x6176_S1024x6176_S4112x1024_1_1_0_0_n_n none du w) (broadcastInDim S4112x1024 ![0, 1] bcast_S1x1024_S4112x1024_0_1 (broadcastInDim S1x1024 ![1] bcast_S1024_S1x1024_1 g))

/-- Each row's gradient of its mean square. -/
def shares (v : FVec Ideal S4112x1 .f32) (t : FVec Ideal S4112x1024 .f32) : FVec Ideal S4112x1024 .f32 :=
  broadcastInDim S4112x1024 ![0] bcast_S4112_S4112x1024_0 (Host.reduceAdd (Host.divf (mulf (shapeCast _ (Host.reduceAdd (mulf h t) (constant S_ .f32 0x00000000#32) reducesTo_S4112x1024_S4112_d1 h_S_) shapeCasts_S4112_S4112x1) (mulf (broadcastInDim S4112x1 ![] bcast_S_S4112x1 (constant S_ .f32 0xBF000000#32)) (Host.divf (Host.rsqrt v) v))) (broadcastInDim S4112x1 ![] bcast_S_S4112x1 (constant S_ .f32 0x44800000#32))) (constant S_ .f32 0x00000000#32) reducesTo_S4112x1_S4112_d1 h_S_)

/-- The gradient before it is laid out. -/
def inner : FVec Ideal S4112x1024 .f32 :=
  addf (addf (addf dh (mulf (gained g w du) (broadcastInDim S4112x1024 ![0, 1] bcast_S4112x1_S4112x1024_0_1 (Host.rsqrt (moments h))))) (mulf h (shares h (moments h) (gained g w du)))) (mulf (shares h (moments h) (gained g w du)) h)

/-- The reference's gradient, of any arguments. -/
def grad : FVec Ideal S4224x1024 .f32 :=
  pad S4224x1024 ![112, 0] ![0, 0] ![0, 0] (inner h g w du dh) (sitofp .f32 (constantI S_ 32 0#32)) pads_S4112x1024_S4224x1024_11200_000 h_S_

theorem moments_at (i : Fin 4112) : moments h (ix2 i 0) = moment fun x => h (ix2 i x) := by
  pointwise [moments]
  rfl

theorem gained_at (i : Fin 4112) (j : Fin 1024) : gained g w du (ix2 i j) = (∑ x : Fin 6176, du (ix2 i x) * w (ix2 j x)) * g (ix1 j) := by
  pointwise [gained]

theorem shares_at (v : FVec Ideal S4112x1 .f32) (t : FVec Ideal S4112x1024 .f32) (i : Fin 4112) (j : Fin 1024) :
    shares h v t (ix2 i j) = ∑ _a : Fin 1, Ideal.div ((∑ x, h (ix2 i x) * t (ix2 i x)) * (minusHalf * Ideal.div (Ideal.rsqrt (v (ix2 i 0))) (v (ix2 i 0)))) width := by
  pointwise [shares]
  refine Finset.sum_congr rfl fun a _ => ?_
  rw [Subsingleton.elim a 0]

theorem inner_at (i : Fin 4112) (j : Fin 1024) :
    inner h g w du dh (ix2 i j) = plainRow (fun x => h (ix2 i x)) (fun x => ∑ y : Fin 6176, du (ix2 i y) * w (ix2 x y)) (fun x => g (ix1 x))
      (fun x => dh (ix2 i x)) j := by
  have e1 := shares_at h (moments h) (gained g w du) i j
  simp only [moments_at, gained_at] at e1
  have e2 := gained_at g w du i j
  have e3 := moments_at h i
  unfold inner
  generalize shares h (moments h) (gained g w du) = q at e1 ⊢
  generalize gained g w du = t at e2 ⊢
  generalize moments h = v at e3 ⊢
  pointwise
  rw [e1, e2, e3]
  rfl

theorem grad_at (k : Fin 4224) (r : Fin 1024) : grad h g w du dh (ix2 k r) = front (n := 1024) (inner h g w du dh) k r :=
  Cert.Kernel9Ideal.MixerNorm.laidC_at (inner h g w du dh) k r

/-- The reference's gradient has the entries that the call leaves. -/
theorem grad_entry (k : Fin 4224) (r : Fin 1024) :
    grad h g w du dh (ix2 k r)
      = if 112 ≤ k.val then callRow (fun x => front (n := 1024) h k x)
          (fun x => ∑ y : Fin 6176, front (n := 6176) du k y * ent (n0 := 1024) (n1 := 6176) w x y) (fun x => g (ix1 x))
          (fun x => front (n := 1024) dh k x) r else 0 := by
  rw [grad_at]
  by_cases hk : 112 ≤ k.val
  · obtain ⟨i, hi⟩ : ∃ i : Fin 4112, k.val = 112 + i.val := ⟨⟨k.val - 112, by omega⟩, by dsimp only; omega⟩
    rw [if_pos hk, hi, front_high, ent_fin, inner_at]
    simp only [front_high, ent_fin]
    exact (row_eq _ _ _ _ r).symm
  · rw [if_neg hk, front_low _ (by omega)]

end

end Cert.Reference9Ideal.MixerNorm
-- ==== Proof.MixerFrame.lean ====
/- The run of the call that normalises the rows and multiplies them by the matrix into a state-space mixer, over seven
   blocks of columns: the rows are made at the first and kept, in a buffer and in an output, through the six others. -/
module

public import proofs.«01_k».proof.Proof.Gen.Kernel11Ideal.Frame
public import proofs.«01_k».proof.Proof.Gen.Kernel11Ideal.Skeleton
public import Idealize.ShloMosaic.Lib.Claim
public import Idealize.ShloMosaic.Lib.Pipeline.TableIdle
public import Idealize.ShloMosaic.Lib.VecWindow

@[expose] public section

set_option maxRecDepth 16384

noncomputable section

namespace Cert.Kernel11Ideal.MixerUp

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources the run is stated over. -/
abbrev Res (F : FTy → Type) := MT nD τ sig Unit (Elt F) ℕ (UR sig nD τ) ℕ

variable (m : (ℓ : Loc nD τ sig) → Buf (Elt F) ℓ) (ρ : Dev nD → PrngReg)

/-- The body is at its first block of columns. -/
abbrev first (i : grid0.Coords) : Prop := k0_cond1 i = 1#1

theorem first_iff : ∀ t : Fin cfg0.N, first (grid0.coords t) ↔ t.val % 7 = 0 := by decide +kernel

/-- The buffer the call keeps for itself. -/
abbrev keptM : Memref sig .tc .vmem S1408x1024 .bf16 := Memref.whole cc0_scratch0

theorem rest_eq (c : Dev nD) :
    (Pipeline.ΦA spec0 c : sProp (Res F)) = iprop(iprop((∃ d, owns (c : Thread nD τ) keptM fullShare d)) ∗ (∃ r, prngReg c r)) := by
  unfold Pipeline.ΦA; rw [scopedRest0_eq]; simp only [keptM, owns_whole]; try rfl

section Runs

variable (c : Dev nD) (i : grid0.Coords) (arg3 : Memref sig .tc .vmem S1408x1024 .f32) (harg3 : arg3.IsWhole)
  (arg4 : Memref sig .tc .vmem S1x1024 .f32) (harg4 : arg4.IsWhole) (arg5 : Memref sig .tc .vmem S1024x896 .bf16) (harg5 : arg5.IsWhole)
  (arg6 : Memref sig .tc .vmem S1408x896 .f32) (harg6 : arg6.IsWhole) (arg7 : Memref sig .tc .vmem S1408x1024 .bf16) (harg7 : arg7.IsWhole)
  (arg8 : Memref sig .tc .vmem S1408x1024 .bf16) (harg8 : arg8.IsWhole)
  (x0 : Vec F S1408x1024 .f32) (x1 : Vec F S1x1024 .f32) (x2 : Vec F S1024x896 .bf16)

set_option maxHeartbeats 1000000 in
/-- The body at a first block of columns: it makes the normalised rows, keeps and hands out them, and multiplies them. -/
theorem run_first (hc : first i) (E : Set ℕ) (K : PUnit → sProp (Res F)) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg3 fullShare x0 ∗ owns (c : Thread nD τ) arg4 fullShare x1 ∗ owns (c : Thread nD τ) arg5 fullShare x2
          ∗ owns (c : Thread nD τ) arg6 fullShare (k0_pay3 (k0_pay2 x0 x1) x2) ∗ owns (c : Thread nD τ) arg7 fullShare (k0_pay1 x0 x1)
          ∗ owns (c : Thread nD τ) arg8 fullShare (k0_pay2 x0 x1)) -∗ K ⟨⟩))
      ⊢ wp frame (wpE (defs₀ (F := F)) Variants.none c none) E (cc0_ssd_in_0 i arg3 harg3 arg4 harg4 arg5 harg5 arg6 harg6 arg7 harg7 arg8 harg8) K := by
  simp only [cc0_ssd_in_0_eq_skeleton]; unfold cc0_ssd_in_0_skel
  unfold owns
  iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
  obtain rfl := harg3.eq_unread hf0; obtain rfl := harg4.eq_unread hf1; obtain rfl := harg5.eq_unread hf2
  have e3 := harg3.read_unread (Val := Elt F) x0
  have e4 := harg4.read_unread (Val := Elt F) x1
  have e5 := harg5.read_unread (Val := Elt F) x2
  sl_exec (disch := first | sl_exact hc)
  sl_step
  iapply Hk
  isplitl [H0]
  · iexists _; isplitr; · ipureintro; exact e3
    iexact H0
  isplitl [H1]
  · iexists _; isplitr; · ipureintro; exact e4
    iexact H1
  isplitl [H2]
  · iexists _; isplitr; · ipureintro; exact e5
    iexact H2
  isplitl [H3]
  · iexists _; isplitr
    swap; · iexact H3
    ipureintro
    sl_unfold_run_names
    erw [View.read_writes_full]
    rw [View.readCov_full, View.readAt_full, View.readAt_full, View.readAt_full, e3, e4, e5]
  isplitl [H4]
  · iexists _; isplitr
    swap; · iexact H4
    ipureintro
    sl_unfold_run_names
    erw [View.read_writes_full]
    rw [View.readAt_full, View.readAt_full, e3, e4]
  iexists _; isplitr
  swap; · iexact HS0
  ipureintro
  sl_unfold_run_names
  erw [View.read_writes_full]
  rw [View.readAt_full, View.readAt_full, e3, e4]

set_option maxHeartbeats 1000000 in
/-- The body at a later block of columns: it multiplies the rows it kept. -/
theorem run_later (s : Vec F S1408x1024 .bf16) (hc : ¬first i) (E : Set ℕ) (K : PUnit → sProp (Res F)) :
    iprop(owns (c : Thread nD τ) arg5 fullShare x2 ∗ (∃ d, owns (c : Thread nD τ) arg6 fullShare d) ∗ owns (c : Thread nD τ) arg8 fullShare s
        ∗ (iprop(owns (c : Thread nD τ) arg5 fullShare x2
          ∗ owns (c : Thread nD τ) arg6 fullShare (k0_pay3 s x2) ∗ owns (c : Thread nD τ) arg8 fullShare s) -∗ K ⟨⟩))
      ⊢ wp frame (wpE (defs₀ (F := F)) Variants.none c none) E (cc0_ssd_in_0 i arg3 harg3 arg4 harg4 arg5 harg5 arg6 harg6 arg7 harg7 arg8 harg8) K := by
  simp only [cc0_ssd_in_0_eq_skeleton]; unfold cc0_ssd_in_0_skel
  unfold owns
  iintro ⟨⟨%f2, %hf2, H2⟩, ⟨%d3, %f3, -, H3⟩, ⟨%fs0, %hs0, HS0⟩, Hk⟩
  obtain rfl := harg5.eq_unread hf2; obtain rfl := harg8.eq_unread hs0
  have e5 := harg5.read_unread (Val := Elt F) x2
  have e8 := harg8.read_unread (Val := Elt F) s
  sl_exec (disch := first | sl_exact hc)
  sl_step
  iapply Hk
  isplitl [H2]
  · iexists _; isplitr; · ipureintro; exact e5
    iexact H2
  isplitl [H3]
  · iexists _; isplitr
    swap; · iexact H3
    ipureintro
    sl_unfold_run_names
    erw [View.read_writes_full]
    rw [View.readAt_full, View.readAt_full, e5, e8]
  iexists _; isplitr; · ipureintro; exact e8
  iexact HS0

end Runs

/-! ## What the buffers hold after each point -/

/-- The first point of the same block of rows. -/
def start (t : Fin cfg0.N) : Fin cfg0.N := ⟨7 * (t.val / 7), lt_of_le_of_lt (Nat.mul_div_le t.val 7) t.isLt⟩

theorem start_first (t : Fin cfg0.N) (h : t.val % 7 = 0) : start t = t := by
  apply Fin.ext
  show 7 * (t.val / 7) = t.val
  omega

theorem start_prev (t : Fin cfg0.N) (h : ¬t.val % 7 = 0) (hp : t.val - 1 < cfg0.N) : start ⟨t.val - 1, hp⟩ = start t := by
  apply Fin.ext
  show 7 * ((t.val - 1) / 7) = 7 * (t.val / 7)
  omega

/-- The normalised rows handed out. -/
def rows (c : Dev nD) (t : Fin cfg0.N) : Vec F S1408x1024 .bf16 := k0_pay1 (iblk m c 0 (start t)) (iblk m c 1 (start t))

/-- The normalised rows kept. -/
def keptRows (c : Dev nD) (t : Fin cfg0.N) : Vec F S1408x1024 .bf16 := k0_pay2 (iblk m c 0 (start t)) (iblk m c 1 (start t))

/-- The product written. -/
def prod (c : Dev nD) (t : Fin cfg0.N) : Vec F S1408x896 .f32 := k0_pay3 (keptRows m c t) (iblk m c 2 t)

/-- What is kept before each point. -/
def between (c : Dev nD) : (n : ℕ) → n ≤ cfg0.N → sProp (Res F)
  | 0, _ => Pipeline.ΦA spec0 c
  | n + 1, hn => iprop(iprop(owns (c : Thread nD τ) keptM fullShare (keptRows m c ⟨n, hn⟩)) ∗ (∃ r, prngReg c r))

theorem between_zero (c : Dev nD) (n : ℕ) (h : n ≤ cfg0.N) (hz : n = 0) : between m c n h = Pipeline.ΦA spec0 c := by
  subst hz; rfl

theorem between_pos (c : Dev nD) (n : ℕ) (h : n ≤ cfg0.N) (hz : n ≠ 0) :
    between m c n h = iprop(iprop(owns (c : Thread nD τ) keptM fullShare (keptRows m c ⟨n - 1, by omega⟩)) ∗ (∃ r, prngReg c r)) := by
  cases n with
  | zero => exact absurd rfl hz
  | succ n => rfl

/-- Before any point the kept buffer holds something. -/
theorem between_any (c : Dev nD) (n : ℕ) (h : n ≤ cfg0.N) : between m c n h ⊢ Pipeline.ΦA spec0 c := by
  by_cases hz : n = 0
  · rw [between_zero m c n h hz]
    try exact Idealize.SL.BI.Entails.refl _
  · rw [between_pos m c n h hz, rest_eq]
    iintro ⟨HS0, Hg⟩
    isplitl [HS0]
    · iexists _; iexact HS0
    iexact Hg

/-- What the buffers of the pipeline hold after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => prod m c t
    | ⟨4, _⟩ => rows m c t
  Φ t := between m c t.val (Nat.le_of_lt_succ t.isLt)
  q _ := fullShare
  owed _ := 0

theorem A_eq (c : Dev nD) (w : Fin cfg0.W) : (dats m 0 c).A w = V m c (Pipeline.arrRef spec0 w) := by
  dsimp only [dats]

theorem between_castSucc (c : Dev nD) (t : Fin cfg0.N) :
    (dats m 0 c).Φ t.castSucc = between m c t.val (Nat.le_of_lt t.isLt) := by
  dsimp only [dats]; exact Pipeline.Dat.Φ_castSucc (between m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = prod m c t := by dsimp only [dats]
theorem after0_4 (c : Dev nD) (t : Fin cfg0.N) : (dats m 0 c).after 4 t = rows m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The output that later blocks of columns leave alone -/

theorem idle_iff : ∀ t : Fin cfg0.N, cfg0.idle 4 (grid0.coords t) = decide (¬t.val % 7 = 0) := by decide +kernel

/-- Before a position nothing has been stored into the output since it was last written back. -/
def bare (n : ℕ) : Bool := decide (n % 7 = 0)

theorem bare_step : ∀ t : Fin cfg0.N,
    bare (t.val + 1) = ((cfg0.win 4).flush t || (cfg0.idle 4 (cfg0.grid.coords t) && bare t.val)) := by decide +kernel

theorem bare_eq (t : Fin cfg0.N) : cfg0.fresh 4 t.val = bare t.val :=
  Pipeline.Cfg.fresh_tab cfg0 4 bare rfl bare_step t.val (Nat.le_of_lt t.isLt)

theorem rows_prev (c : Dev nD) (t : Fin cfg0.N) (h : ¬t.val % 7 = 0) (hp : t.val - 1 < cfg0.N) : rows m c ⟨t.val - 1, hp⟩ = rows m c t := by
  unfold rows
  rw [start_prev t h hp]

theorem keptRows_prev (c : Dev nD) (t : Fin cfg0.N) (h : ¬t.val % 7 = 0) (hp : t.val - 1 < cfg0.N) :
    keptRows m c ⟨t.val - 1, hp⟩ = keptRows m c t := by
  unfold keptRows
  rw [start_prev t h hp]

theorem carried (c : Dev nD) : ∀ (t : Fin cfg0.N) (_ : t.val ≠ 0), cfg0.idle 4 (grid0.coords t) = true → cfg0.fresh 4 t.val = false →
    (dats m 0 c).after 4 t = (dats m 0 c).after 4 ⟨t.val - 1, by omega⟩ := by
  intro t _ hi _
  rw [idle_iff t, decide_eq_true_eq] at hi
  rw [after0_4, after0_4, rows_prev m c t hi]

/-- A later block of columns finds the normalised rows in the output. -/
theorem before_later (c : Dev nD) (t : Fin cfg0.N) (h : ¬t.val % 7 = 0) (d) : (dats m 0 c).before 4 t d = rows m c t := by
  rw [Dat.before_out_traj _ 4 rfl (fun _ _ => rfl) (carried m c) t.val t rfl d,
    if_neg (by rw [bare_eq, bare, decide_eq_true_eq]; exact h), after0_4, rows_prev m c t h]

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl

theorem leaves0 (c : Dev nD) (t : Fin cfg0.N) : (dats m 0 c).leavesExact 0 t = owns (c : Thread nD τ) (st0_0 t) fullShare (iblk m c 0 t) := by
  unfold Dat.leavesExact; rw [live0 t, after0_0]
theorem leaves1 (c : Dev nD) (t : Fin cfg0.N) : (dats m 0 c).leavesExact 1 t = owns (c : Thread nD τ) (st0_1 t) fullShare (iblk m c 1 t) := by
  unfold Dat.leavesExact; rw [live1 t, after0_1]
theorem leaves2 (c : Dev nD) (t : Fin cfg0.N) : (dats m 0 c).leavesExact 2 t = owns (c : Thread nD τ) (st0_2 t) fullShare (iblk m c 2 t) := by
  unfold Dat.leavesExact; rw [live2 t, after0_2]
theorem leaves3 (c : Dev nD) (t : Fin cfg0.N) : (dats m 0 c).leavesExact 3 t = owns (c : Thread nD τ) (st0_3 t) fullShare (prod m c t) := by
  unfold Dat.leavesExact; rw [live3 t, after0_3]

/-- After any point the output holds the normalised rows, which is what it has to. -/
theorem leaves4 (c : Dev nD) (t : Fin cfg0.N) : owns (c : Thread nD τ) (st0_4 t) fullShare (rows m c t) ⊢ (dats m 0 c).leavesExact 4 t := by
  by_cases h : t.val % 7 = 0
  · unfold Dat.leavesExact
    rw [idle_iff t, decide_eq_false (fun hn => hn h), after0_4]
  · by_cases hf : (cfg0.win 4).flush t = true
    · unfold Dat.leavesExact
      rw [idle_iff t, decide_eq_true h, hf, after0_4]
    · rw [Dat.leavesExact_idle _ 4 t ((idle_iff t).trans (decide_eq_true h)) (Bool.not_eq_true _ ▸ hf)]
      iintro H
      iexists (rows m c t)
      rw [before_later m c t h]
      iexact H

/-! ## The body at any point -/

def bodyPre (c : Dev nD) (t : Fin cfg0.N) : sProp (Res F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp (Res F) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = between m c (t.val + 1) t.isLt from rfl,
    show between m c (t.val + 1) t.isLt = iprop(iprop(owns (c : Thread nD τ) keptM fullShare (keptRows m c t)) ∗ (∃ r, prngReg c r)) from rfl]
  rw [leaves0, leaves1, leaves2, leaves3, between_castSucc m c t]
  by_cases h0 : t.val % 7 = 0
  · refine (sep_mono_left (between_any m c _ _)).trans ?_
    rw [rest_eq]
    show _ ⊢ _
    iintro ⟨⟨HS0, Hg⟩, Ho, ⟨%d0, H0⟩, ⟨%d1, H1⟩, ⟨%d2, H2⟩, ⟨%d3, H3⟩, ⟨%d4, H4⟩⟩
    iapply (run_first c (grid0.coords t) _ _ _ _ _ _ _ _ _ _ _ _ (iblk m c 0 t) (iblk m c 1 t) (iblk m c 2 t) ((first_iff t).mpr h0) Set.univ _)
    isplitl [H0]; · iexact H0
    isplitl [H1]; · iexact H1
    isplitl [H2]; · iexact H2
    isplitl [H3]; · iexists _; iexact H3
    isplitl [H4]; · iexists _; iexact H4
    isplitl [HS0]; · iexact HS0
    iintro ⟨H0, H1, H2, H3, H4, HS0⟩
    isplitl [HS0 Hg]
    · isplitl [HS0]
      · unfold keptRows; rw [start_first t h0]; iexact HS0
      iexact Hg
    isplitl [Ho]; · iexact Ho
    isplitl [H0]; · iexact H0
    isplitl [H1]; · iexact H1
    isplitl [H2]; · iexact H2
    isplitl [H3]
    · unfold prod keptRows; rw [start_first t h0]; iexact H3
    iapply (leaves4 m c t)
    unfold rows; rw [start_first t h0]; iexact H4
  · have hz : t.val ≠ 0 := fun e => h0 (by rw [e])
    rw [between_pos m c _ _ hz, keptRows_prev m c t h0]
    simp only [before_later m c t h0]
    iintro ⟨⟨HS0, Hg⟩, Ho, ⟨%d0, H0⟩, ⟨%d1, H1⟩, ⟨%d2, H2⟩, ⟨%d3, H3⟩, ⟨%d4, H4⟩⟩
    iapply (run_later c (grid0.coords t) _ _ _ _ _ _ _ _ _ _ _ _ (iblk m c 2 t) (keptRows m c t) (fun h => h0 ((first_iff t).mp h)) Set.univ _)
    isplitl [H2]; · iexact H2
    isplitl [H3]; · iexists _; iexact H3
    isplitl [HS0]; · iexact HS0
    iintro ⟨H2, H3, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    iapply (leaves4 m c t)
    iexact H4

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = between m c 0 (Nat.zero_le _) from rfl, between_zero m c 0 _ rfl]
  try exact Idealize.SL.BI.Entails.refl _

theorem hout (c : Dev nD) : (dats m 0 c).Φ (Fin.last cfg0.N) ⊢ Pipeline.ΦA spec0 c :=
  between_any m c _ (Nat.le_of_lt_succ (Fin.last cfg0.N).isLt)

/-! ## The run -/

set_option backward.isDefEq.respectTransparency.types false in
/-- Every execution ends, with the arrays of the pipeline as computed and every counter at zero. -/
theorem run_main : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) ((θ_run defs _ _).mono (fun _ h => h.1) (run_main m ρ))

/-- The arguments end as they were and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main m ρ))

/-- The results end as computed, the arguments as they were. -/
theorem run_results : θ_run defs (onTc (τ := τ) (main (F := F))) ⟨m, fun _ => 0, ρ⟩ (fun r => ∀ c : Dev nD,
      r.2.mem ((c.tc : Thread nD τ).loc main_v4_0) = (dats m 0 c).arrAt 3 cfg0.N
      ∧ r.2.mem ((c.tc : Thread nD τ).loc main_v4_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.2.1 c).1 3, (h.2.1 c).1 4, h.1 c⟩) (θ_run_and (unchanged m ρ) (run_main m ρ))

end Cert.Kernel11Ideal.MixerUp

end
-- ==== Proof.MixerForward.lean ====
/- The call that normalises the rows and multiplies them by the matrix into a state-space mixer: what it leaves. The
   norm's rows and their layout are as in UpForward, the filled up matrix as in MixerNorm. -/
module

public import proofs.«01_k».proof.Proof.UpForward
public import proofs.«01_k».proof.Proof.MixerNorm
public import proofs.«01_k».proof.Proof.MixerFrame
public import proofs.«01_k».proof.Proof.Gen.Reference11Ideal.Run

@[expose] public section

set_option maxRecDepth 8192

noncomputable section

namespace Cert.Kernel11Ideal.MixerUp

open Cert.Kernel11Ideal Cert.Kernel11Ideal.Gen Idealize.ShloMosaic Idealize.ShloMosaic.TcCoe Idealize.ShloMosaic.Tactic Cert.Mlp
open Cert.Kernel10Ideal.Up (normRow normRow_zero laidH laidH_at laidG laidG_at)
open Cert.Kernel9Ideal.MixerNorm (laidW laidW_at)
open scoped BigOperators
open Idealize.SL Idealize.SL.RA Idealize.SL.BI Idealize.SL.ProofMode Idealize.SL.Sem

theorem pay1_at (x0 : Vec Ideal S1408x1024 .f32) (x1 : Vec Ideal S1x1024 .f32) (a : Fin 1408) (b : Fin 1024) :
    k0_pay1 x0 x1 (ix2 a b) = normRow (fun x => x0 (ix2 a x)) (fun x => x1 (ix2 0 x)) b :=
  Cert.Kernel10Ideal.Up.pay1_at x0 x1 a b

theorem pay2_at (x0 : Vec Ideal S1408x1024 .f32) (x1 : Vec Ideal S1x1024 .f32) (a : Fin 1408) (b : Fin 1024) :
    k0_pay2 x0 x1 (ix2 a b) = k0_pay1 x0 x1 (ix2 a b) :=
  Cert.Kernel10Ideal.Up.pay2_at x0 x1 a b

theorem pay3_at (s : Vec Ideal S1408x1024 .bf16) (x2 : Vec Ideal S1024x896 .bf16) (a : Fin 1408) (b : Fin 896) :
    k0_pay3 s x2 (ix2 a b) = ∑ x : Fin 1024, s (ix2 a x) * x2 (ix2 x b) := by
  pointwise [k0_pay3]

theorem idx_all : ∀ t : Fin cfg0.N, win0_0.index t = ![t.val / 7, 0] ∧ win0_1.index t = ![0, 0]
    ∧ win0_2.index t = ![0, t.val % 7] ∧ win0_3.index t = ![t.val / 7, t.val % 7] ∧ win0_4.index t = ![t.val / 7, 0] := by
  decide +kernel

variable (m : (ℓ : Loc nD τ sig) → Buf (Elt Ideal) ℓ) (c : Dev nD)

/-- The residual, the gain and the matrix of the launch. -/
abbrev argH : Mat 4112 1024 := m ((c.tc : Thread nD τ).loc main_arg0)
abbrev argG : FVec Ideal S1024 .f32 := m ((c.tc : Thread nD τ).loc main_arg1)
abbrev argW : Mat 1024 6176 := m ((c.tc : Thread nD τ).loc main_arg2)

theorem entry_h : V m c main_v0 = laidH (argH m c) := by
  unfold V
  simp only [hostOps0, hostOps0_1, hostOps0_2, hostOps0_3, hostOps0_4, List.flatten_cons, List.flatten_nil, List.append_nil, List.cons_append, List.nil_append]
  entry_read
  rfl

theorem entry_g : V m c main_v1 = laidG (argG m c) := by
  unfold V
  simp only [hostOps0, hostOps0_1, hostOps0_2, hostOps0_3, hostOps0_4, List.flatten_cons, List.flatten_nil, List.append_nil, List.cons_append, List.nil_append]
  entry_read
  rfl

theorem entry_w : V m c main_v3 = laidW (argW m c) := by
  unfold V
  simp only [hostOps0, hostOps0_1, hostOps0_2, hostOps0_3, hostOps0_4, List.flatten_cons, List.flatten_nil, List.append_nil, List.cons_append, List.nil_append]
  entry_read
  rfl

theorem block_h (t : Fin cfg0.N) (a : Fin 1408) (b : Fin 1024) :
    (iblk m c 0 t : Vec Ideal S1408x1024 .f32) (ix2 a b) = front (argH m c) (1408 * (t.val / 7) + a) b := by
  have h := (idx_all t).1
  have hN : t.val < 21 := lt_of_lt_of_eq t.isLt N_0
  refine Eq.trans ?_ (laidH_at _ ⟨1408 * (t.val / 7) + a.val, by omega⟩ b)
  rw [← entry_h]
  blk_ext [iblk, h]

theorem block_g (t : Fin cfg0.N) (b : Fin 1024) : (iblk m c 1 t : Vec Ideal S1x1024 .f32) (ix2 0 b) = argG m c (ix1 b) := by
  have h := (idx_all t).2.1
  refine Eq.trans ?_ (laidG_at _ 0 b)
  rw [← entry_g]
  blk_ext [iblk, h]

theorem block_w (t : Fin cfg0.N) (b : Fin 1024) (x : Fin 896) :
    (iblk m c 2 t : Vec Ideal S1024x896 .bf16) (ix2 b x) = ent (argW m c) b (896 * (t.val % 7) + x) := by
  have h := (idx_all t).2.2.1
  refine Eq.trans ?_ (laidW_at _ b ⟨896 * (t.val % 7) + x.val, by omega⟩)
  rw [← entry_w]
  blk_ext [iblk, h]

/-- A normalised row by its number. -/
def normed (g : ℕ) (r : Fin 1024) : EReal := normRow (fun x => front (argH m c) g x) (fun x => argG m c (ix1 x)) r

/-- An entry of the product by row and column number. -/
def entry (g r : ℕ) : EReal := ∑ x : Fin 1024, normed m c g x * ent (argW m c) x r

theorem made (t : Fin cfg0.N) (a : Fin 1408) (b : Fin 1024) :
    k0_pay1 (F := Ideal) (iblk m c 0 (start t)) (iblk m c 1 (start t)) (ix2 a b) = normed m c (1408 * (t.val / 7) + a) b := by
  refine (pay1_at _ _ a b).trans ?_
  unfold normed
  have es : (start t).val / 7 = t.val / 7 := by
    show 7 * (t.val / 7) / 7 = t.val / 7
    omega
  have e0 : (fun x : Fin 1024 => (iblk m c 0 (start t) : Vec Ideal S1408x1024 .f32) (ix2 a x)) = fun x : Fin 1024 => front (argH m c) (1408 * (t.val / 7) + a) x.val :=
    funext fun x => (block_h m c (start t) a x).trans (by rw [es])
  have e1 : (fun x : Fin 1024 => (iblk m c 1 (start t) : Vec Ideal S1x1024 .f32) (ix2 0 x)) = fun x => argG m c (ix1 x) :=
    funext fun x => block_g m c (start t) x
  rw [e0, e1]

theorem prod_at (t : Fin cfg0.N) (a : Fin 1408) (b : Fin 896) :
    prod m c t (ix2 a b) = entry m c (1408 * (t.val / 7) + a) (896 * (t.val % 7) + b) := by
  refine (pay3_at _ _ a b).trans (Finset.sum_congr rfl fun x _ => congrArg₂ (· * ·) ?_ (block_w m c t x b))
  exact (pay2_at _ _ a x).trans (made m c t a x)

/-- The product that the call leaves. -/
theorem final_prod : (dats m 0 c).arrAt 3 cfg0.N = fun i : S4224x6272.Idx => entry m c (i 0).val (i 1).val := by
  refine (dats m 0 c).arrAt_eq_of_covers 3 _ (by decide +kernel) fun t hf y => ?_
  blk_simp [(idx_all t).2.2.2.1]
  rw [after0_3]
  have e : y = ix2 (n0 := 1408) (n1 := 896) (y 0) (y 1) := by
    funext a
    match a with
    | ⟨0, _⟩ => rfl
    | ⟨1, _⟩ => rfl
  refine (congrArg (prod m c t) e).trans ((prod_at m c t (y 0) (y 1)).trans ?_)
  rw [Nat.mul_comm 1408, Nat.mul_comm 896]

/-- The normalised rows that the call leaves. -/
theorem final_rows : (dats m 0 c).arrAt 4 cfg0.N = fun i : S4224x1024.Idx => normed m c (i 0).val (i 1) := by
  refine (dats m 0 c).arrAt_eq_of_covers 4 _ (by decide +kernel) fun t hf y => ?_
  blk_simp [(idx_all t).2.2.2.2]
  rw [after0_4]
  have e : y = ix2 (n0 := 1408) (n1 := 1024) (y 0) (y 1) := by
    funext a
    match a with
    | ⟨0, _⟩ => rfl
    | ⟨1, _⟩ => rfl
  refine (congrArg (rows m c t) e).trans ((made m c t (y 0) (y 1)).trans ?_)
  rw [Nat.mul_comm 1408]
  exact congrArg (normed m c _) (Fin.ext (by blk_simp [(idx_all t).2.2.2.2]))

end Cert.Kernel11Ideal.MixerUp

namespace Cert.Reference11Ideal.MixerUp

open Cert.Reference11Ideal Cert.Reference11Ideal.Gen Idealize.ShloMosaic Cert.Mlp
open Cert.Kernel10Ideal.Up (normRow)
open Cert.Reference10Ideal.Up (normed front_normed)
open scoped BigOperators

section

variable (h : FVec Ideal S4112x1024 .f32) (g : FVec Ideal S1024 .f32) (w : FVec Ideal S1024x6176 .f32)

/-- The reference's product. -/
def inner (n : FVec Ideal S4112x1024 .f32) : FVec Ideal S4112x6176 .f32 := Host.dotGeneral dot_S4112x1024_S1024x6176_S4112x6176_1_0_0_1_n_n none n w

/-- The reference's product as laid out. -/
def outProd : FVec Ideal S4224x6272 .f32 :=
  pad S4224x6272 ![112, 0] ![0, 96] ![0, 0] (inner w (normed h g)) (sitofp .f32 (constantI S_ 32 0#32)) pads_S4112x6176_S4224x6272_11200_0960 h_S_

theorem inner_at (n : FVec Ideal S4112x1024 .f32) (i : Fin 4112) (j : Fin 6176) : inner w n (ix2 i j) = ∑ x : Fin 1024, n (ix2 i x) * w (ix2 x j) := by
  pointwise [inner]

theorem prod_front (a : Fin 4224) (r : Fin 6272) : outProd h g w (ix2 a r) = front (n := 6176) (inner w (normed h g)) a r :=
  Cert.Kernel9Ideal.MixerNorm.laidU_at (inner w (normed h g)) a r

/-- In the filled up columns the product is zero, as the sum over a column of zeros is. -/
theorem prod_at (a : Fin 4224) (r : Fin 6272) :
    outProd h g w (ix2 a r) = ∑ x : Fin 1024, normRow (fun y => front (n := 1024) h a y) (fun y => g (ix1 y)) x * ent (n0 := 1024) (n1 := 6176) w x r := by
  refine (prod_front h g w a r).trans ?_
  simp only [← front_normed h g a a.isLt]
  by_cases hl : 112 ≤ a.val
  · obtain ⟨i, hi⟩ : ∃ i : Fin 4112, a.val = 112 + i.val := ⟨⟨a.val - 112, by omega⟩, by dsimp only; omega⟩
    rw [hi, front_high]
    by_cases hr : r.val < 6176
    · obtain ⟨j, hj⟩ : ∃ j : Fin 6176, r.val = j.val := ⟨⟨r.val, hr⟩, rfl⟩
      rw [hj, ent_fin, inner_at]
      refine Finset.sum_congr rfl fun x _ => ?_
      rw [front_high, ent_fin, ent_fin]
    · rw [ent_out _ _ hr]
      refine (Finset.sum_eq_zero fun x _ => ?_).symm
      rw [ent_out _ _ hr, mul_zero]
  · rw [front_low _ (by omega)]
    refine (Finset.sum_eq_zero fun x _ => ?_).symm
    rw [front_low _ (by omega), zero_mul]

end

end Cert.Reference11Ideal.MixerUp
-- ==== Proof.MixerIn.lean ====
/- The call that makes the gradient of the matrix into the state-space mixer. -/
module

public import proofs.«01_k».proof.Proof.Wide
public import proofs.«01_k».proof.Proof.Gen.Kernel7Ideal.Value
public import proofs.«01_k».proof.Proof.Gen.Reference7Ideal.Run
public import Idealize.ShloMosaic.Lib.Pipeline.ValueKit
public import Idealize.ShloMosaic.Lib.KernelVsHost
public import Idealize.ShloMosaic.Lib.VecWindow

@[expose] public section

set_option maxRecDepth 8192

noncomputable section

namespace Cert.Kernel7Ideal.MixerIn

open Cert.Kernel7Ideal Cert.Kernel7Ideal.Gen Idealize.ShloMosaic Idealize.ShloMosaic.TcCoe Idealize.ShloMosaic.Tactic Cert.Mlp
open scoped BigOperators
open Idealize.SL Idealize.SL.RA Idealize.SL.BI Idealize.SL.ProofMode Idealize.SL.Sem

section Steps

variable {c : Dev nD} {i : grid0.Coords} {arg3 : Memref sig .tc .vmem S384x1024 .bf16} {harg3 : arg3.IsWhole} {arg4 : Memref sig .tc .vmem S384x896 .bf16} {harg4 : arg4.IsWhole} {arg5 : Memref sig .tc .vmem S1024x896 .bf16} {harg5 : arg5.IsWhole} {arg6 : Memref sig .tc .vmem S1024x896 .f32} {harg6 : arg6.IsWhole}
  {x0 : Vec Ideal S384x1024 .bf16} {x1 : Vec Ideal S384x896 .bf16} {xs0 : Vec Ideal S1024x896 .f32}

/-- What a block of rows adds. -/
theorem pay1_at (x0 : Vec Ideal S384x1024 .bf16) (x1 : Vec Ideal S384x896 .bf16) (a : Fin 1024) (b : Fin 896) :
    k0_pay1 x0 x1 (ix2 a b) = ∑ x : Fin 384, x0 (ix2 x a) * x1 (ix2 x b) := by
  pointwise [k0_pay1]

/-- The running sum after the first block of rows. -/
theorem first_eq {hc0 : cond0_0 i} {hc1 : ¬cond0_1 i} {hc2 : ¬cond0_2 i} :
    sout0_A_0 (F := Ideal) c i arg3 harg3 arg4 harg4 arg5 harg5 arg6 harg6 hc0 hc1 hc2 x0 x1 = k0_pay2 x0 x1 := by
  unfold sout0_A_0 kernelRun0_A
  dsimp only
  sl_unfold_run_names
  erw [View.read_writes_full]
  have e3 := harg3.read_unread (Val := Elt Ideal) x0
  have e4 := harg4.read_unread (Val := Elt Ideal) x1
  rw [View.readAt_full, View.readAt_full, e3, e4]

/-- The running sum after a middle block of rows. -/
theorem middle_eq {hc0 : ¬cond0_0 i} {hc1 : cond0_1 i} {hc2 : ¬cond0_2 i} :
    sout0_B_0 (F := Ideal) c i arg3 harg3 arg4 harg4 arg5 harg5 arg6 harg6 hc0 hc1 hc2 x0 x1 xs0 = k0_pay3 x0 x1 xs0 := by
  unfold sout0_B_0 kernelRun0_B
  dsimp only
  sl_unfold_run_names
  erw [View.read_writes_full]
  have e3 := harg3.read_unread (Val := Elt Ideal) x0
  have e4 := harg4.read_unread (Val := Elt Ideal) x1
  have e6 := harg6.read_unread (Val := Elt Ideal) xs0
  rw [View.readAt_full, View.readAt_full, View.readAt_full, e3, e4, e6]

/-- What the last block of rows leaves in the output. -/
theorem last_eq {hc0 : ¬cond0_0 i} {hc1 : cond0_1 i} {hc2 : cond0_2 i} :
    out0_C_2 (F := Ideal) c i arg3 harg3 arg4 harg4 arg5 harg5 arg6 harg6 hc0 hc1 hc2 x0 x1 xs0 = k0_pay4 (k0_pay3 x0 x1 xs0) := by
  unfold out0_C_2 kernelRun0_C
  dsimp only
  sl_unfold_run_names
  erw [View.read_writes_full]
  have e3 := harg3.read_unread (Val := Elt Ideal) x0
  have e4 := harg4.read_unread (Val := Elt Ideal) x1
  have e6 := harg6.read_unread (Val := Elt Ideal) xs0
  rw [View.readCov_full, View.readAt_full, View.readAt_full, View.readAt_full, e3, e4, e6]

theorem pay2_at (x0 : Vec Ideal S384x1024 .bf16) (x1 : Vec Ideal S384x896 .bf16) (a : Fin 1024) (b : Fin 896) :
    k0_pay2 x0 x1 (ix2 a b) = k0_pay1 x0 x1 (ix2 a b) := by
  unfold k0_pay2
  generalize k0_pay1 x0 x1 = y
  pointwise

theorem pay3_at (x0 : Vec Ideal S384x1024 .bf16) (x1 : Vec Ideal S384x896 .bf16) (s : Vec Ideal S1024x896 .f32) (a : Fin 1024) (b : Fin 896) :
    k0_pay3 x0 x1 s (ix2 a b) = s (ix2 a b) + k0_pay1 x0 x1 (ix2 a b) := by
  unfold k0_pay3
  generalize k0_pay1 x0 x1 = y
  pointwise

theorem pay4_at (s : Vec Ideal S1024x896 .f32) (a : Fin 1024) (b : Fin 896) : k0_pay4 s (ix2 a b) = s (ix2 a b) := by
  pointwise [k0_pay4]

end Steps

theorem idx_all : ∀ t : Fin cfg0.N, win0_0.index t = ![t.val % 11, 0] ∧ win0_1.index t = ![t.val % 11, t.val / 11]
    ∧ win0_2.index t = ![0, t.val / 11] := by decide +kernel

theorem flush_last : ∀ t : Fin cfg0.N, (cfg0.win 2).flush t = true → t.val % 11 = 10 := by decide +kernel

variable (m : (ℓ : Loc nD τ sig) → Buf (Elt Ideal) ℓ) (c : Dev nD)

/-- The normalised input and the cotangent of the launch. -/
abbrev argH : Mat 4112 1024 := m ((c.tc : Thread nD τ).loc main_arg0)
abbrev argD : Mat 4112 6176 := m ((c.tc : Thread nD τ).loc main_arg1)

/-- The input as laid out. -/
def laidH (x : FVec Ideal S4112x1024 .f32) : FVec Ideal S4224x1024 .bf16 :=
  truncf .bf16 (pad S4224x1024 ![112, 0] ![0, 0] ![0, 0] x (sitofp .f32 (constantI S_ 32 0#32)) pads_S4112x1024_S4224x1024_11200_000 h_S_) bitsLt_bf16_f32

/-- The cotangent as laid out. -/
def laidD (x : FVec Ideal S4112x6176 .f32) : FVec Ideal S4224x6272 .bf16 :=
  truncf .bf16 (pad S4224x6272 ![112, 0] ![0, 96] ![0, 0] x (sitofp .f32 (constantI S_ 32 0#32)) pads_S4112x6176_S4224x6272_11200_0960 h_S_) bitsLt_bf16_f32

theorem laidH_at (x : FVec Ideal S4112x1024 .f32) (g : Fin 4224) (r : Fin 1024) : laidH x (ix2 g r) = front (n := 1024) x g r := by
  have hz : (sitofp .f32 (constantI S_ 32 0#32) : FVec Ideal S_ .f32) = fun _ => 0 := pad_zero
  unfold laidH
  rw [hz]
  pointwise
  unfold front ent
  have hg := g.isLt
  by_cases h : 112 ≤ g.val
  · rw [dif_pos ⟨h, by omega⟩, if_pos h, dif_pos ⟨by omega, r.isLt⟩]
  · rw [dif_neg fun e => h e.1, if_neg h]

theorem laidD_at (x : FVec Ideal S4112x6176 .f32) (g : Fin 4224) (r : Fin 6272) : laidD x (ix2 g r) = front (n := 6176) x g r := by
  have hz : (sitofp .f32 (constantI S_ 32 0#32) : FVec Ideal S_ .f32) = fun _ => 0 := pad_zero
  unfold laidD
  rw [hz]
  pointwise
  unfold front ent
  have hg := g.isLt
  by_cases h : 112 ≤ g.val
  · by_cases h' : r.val < 6176
    · rw [dif_pos ⟨⟨h, by omega⟩, h'⟩, if_pos h, dif_pos ⟨by omega, h'⟩]
    · rw [dif_neg fun e => h' e.2, if_pos h, dif_neg fun e => h' e.2]
  · rw [dif_neg fun e => h e.1.1, if_neg h]

theorem entry_h : V m c main_v1 = laidH (m ((c.tc : Thread nD τ).loc main_arg0)) := by
  unfold V
  simp only [hostOps0, hostOps0_1, hostOps0_2, hostOps0_3, hostOps0_4, List.flatten_cons, List.flatten_nil, List.append_nil, List.cons_append, List.nil_append]
  entry_read
  rfl

theorem entry_d : V m c main_v3 = laidD (m ((c.tc : Thread nD τ).loc main_arg1)) := by
  unfold V
  simp only [hostOps0, hostOps0_1, hostOps0_2, hostOps0_3, hostOps0_4, List.flatten_cons, List.flatten_nil, List.append_nil, List.cons_append, List.nil_append]
  entry_read
  rfl

theorem block_h (t : Fin cfg0.N) (x : Fin 384) (a : Fin 1024) :
    (iblk m c 0 t : Vec Ideal S384x1024 .bf16) (ix2 x a) = front (argH m c) (384 * (t.val % 11) + x) a := by
  have h := (idx_all t).1
  refine Eq.trans ?_ (laidH_at _ ⟨384 * (t.val % 11) + x.val, by omega⟩ a)
  rw [← entry_h]
  blk_ext [iblk, h]

theorem block_d (t : Fin cfg0.N) (x : Fin 384) (b : Fin 896) :
    (iblk m c 1 t : Vec Ideal S384x896 .bf16) (ix2 x b) = front (argD m c) (384 * (t.val % 11) + x) (896 * (t.val / 11) + b) := by
  have h := (idx_all t).2.1
  have hN : t.val < 77 := lt_of_lt_of_eq t.isLt N_0
  refine Eq.trans ?_ (laidD_at _ ⟨384 * (t.val % 11) + x.val, by omega⟩ ⟨896 * (t.val / 11) + b.val, by omega⟩)
  rw [← entry_d]
  blk_ext [iblk, h]

/-- What a row adds to an entry of the gradient. -/
def term (a b g : ℕ) : EReal := front (argH m c) g a * front (argD m c) g b

theorem block_sum (t : Fin cfg0.N) (a : Fin 1024) (b : Fin 896) :
    k0_pay1 (F := Ideal) (iblk m c 0 t) (iblk m c 1 t) (ix2 a b)
      = ∑ x : Fin 384, term m c a (896 * (t.val / 11) + b) (384 * (t.val % 11) + x) :=
  (pay1_at _ _ a b).trans (Finset.sum_congr rfl fun x _ => congrArg₂ (· * ·) (block_h m c t x a) (block_d m c t x b))

/-- The running sum after a point that is not its last. -/
theorem running (n : ℕ) : ∀ (hn : n < cfg0.N), ¬n % 11 = 10 → ∀ (a : Fin 1024) (b : Fin 896),
    (outsAt0 m c n hn).2 (ix2 a b) = ∑ kb ∈ Finset.range (n % 11 + 1), ∑ x : Fin 384, term m c a (896 * (n / 11) + b) (384 * kb + x) := by
  induction n with
  | zero =>
    intro hn h10 a b
    have E := congrArg (fun z => z.2) (outsAt0_A m c ⟨0, hn⟩ rfl (by dsimp only; omega) h10)
    dsimp only at E
    refine (congrFun (E.trans first_eq) (ix2 a b)).trans ?_
    rw [pay2_at, block_sum, Finset.sum_range_one]
    rfl
  | succ n ih =>
    intro hn h10 a b
    by_cases h0 : (n + 1) % 11 = 0
    · have E := congrArg (fun z => z.2) (outsAt0_A m c ⟨n + 1, hn⟩ h0 (by dsimp only; omega) h10)
      dsimp only at E
      refine (congrFun (E.trans first_eq) (ix2 a b)).trans ?_
      rw [pay2_at, block_sum, h0, Finset.sum_range_one]
    · have E := congrArg (fun z => z.2) (outsAt0_B m c ⟨n + 1, hn⟩ h0 (by dsimp only; omega) h10)
      dsimp only at E
      refine (congrFun (E.trans middle_eq) (ix2 a b)).trans ?_
      rw [pay3_at, block_sum, Finset.sum_range_succ]
      congr 1
      refine (ih _ (by omega) a b).trans ?_
      rw [show (n + 1) / 11 = n / 11 by omega, show (n + 1) % 11 = n % 11 + 1 by omega]

/-- What the last point of a block of columns writes. -/
theorem written (t : Fin cfg0.N) (h10 : t.val % 11 = 10) (a : Fin 1024) (b : Fin 896) :
    (outsAt0 m c t.val t.isLt).1 (ix2 a b) = ∑ g ∈ Finset.range 4224, term m c a (896 * (t.val / 11) + b) g := by
  have E := congrArg (fun z => z.1) (outsAt0_C m c t (by omega) (by omega) h10)
  dsimp only at E
  refine (congrFun (E.trans last_eq) (ix2 a b)).trans ?_
  rw [pay4_at, pay3_at, block_sum, ← sum_blocks, Finset.sum_range_succ _ 10]
  congr 1
  · refine (running m c (t.val - 1) _ (by omega) a b).trans ?_
    rw [show (t.val - 1) % 11 + 1 = 10 by omega, show (t.val - 1) / 11 = t.val / 11 by omega]
  · rw [h10]

/-- The array that the call leaves. -/
theorem final : (dats m 0 c).arrAt 2 cfg0.N = fun i : S1024x6272.Idx => ∑ g ∈ Finset.range 4224, term m c (i 0).val (i 1).val g := by
  refine (dats m 0 c).arrAt_eq_of_covers 2 _ (by decide +kernel) fun t hf y => ?_
  have h10 := flush_last t hf
  blk_simp [(idx_all t).2.2]
  rw [after0_2]
  have e : y = ix2 (n0 := 1024) (n1 := 896) (y 0) (y 1) := by
    funext a
    match a with
    | ⟨0, _⟩ => rfl
    | ⟨1, _⟩ => rfl
  refine (congrArg (outsAt0 m c t.val t.isLt).1 e).trans ((written m c t h10 (y 0) (y 1)).trans ?_)
  rw [Nat.mul_comm 896]

/-- An entry of it, as a sum over the rows of the arguments. -/
theorem entry_sum (a : Fin 1024) (b : Fin 6272) :
    ∑ g ∈ Finset.range 4224, term m c a b g = if h : b.val < 6176 then ∑ i : Fin 4112, argD m c (ix2 i ⟨b.val, h⟩) * argH m c (ix2 i a) else 0 := by
  rw [sum_front]
  · by_cases h : b.val < 6176
    · rw [dif_pos h]
      refine Finset.sum_congr rfl fun i _ => ?_
      unfold term
      rw [front_high, front_high, ent_fin, mul_comm]
      exact congrArg₂ (· * ·) (ent_fin (argD m c) i ⟨b.val, h⟩) rfl
    · rw [dif_neg h]
      refine Finset.sum_eq_zero fun i _ => ?_
      unfold term
      rw [front_high, front_high, ent_out (argD m c) _ h, mul_zero]
  · intro g hg
    unfold term
    rw [front_low _ hg b.val, mul_zero]

end Cert.Kernel7Ideal.MixerIn

namespace Cert.Reference7Ideal.MixerIn

open Cert.Reference7Ideal Cert.Reference7Ideal.Gen Idealize.ShloMosaic Cert.Mlp

/-- The reference's gradient before it is laid out. -/
def inner (h : FVec Ideal S4112x1024 .f32) (dz : FVec Ideal S4112x6176 .f32) : FVec Ideal S1024x6176 .f32 :=
  transpose S1024x6176 [1, 0] (Host.dotGeneral dot_S4112x6176_S4112x1024_S6176x1024_0_0_1_1_n_n none dz h) transposes_S6176x1024_S1024x6176_1_0

/-- The reference's gradient, of any arguments. -/
def grad (h : FVec Ideal S4112x1024 .f32) (dz : FVec Ideal S4112x6176 .f32) : FVec Ideal S1024x6272 .bf16 :=
  truncf .bf16 (pad S1024x6272 ![0, 0] ![0, 96] ![0, 0] (inner h dz) (sitofp .f32 (constantI S_ 32 0#32)) pads_S1024x6176_S1024x6272_000_0960 h_S_) bitsLt_bf16_f32

theorem inner_at (h : FVec Ideal S4112x1024 .f32) (dz : FVec Ideal S4112x6176 .f32) (a : Fin 1024) (b : Fin 6176) :
    inner h dz (ix2 a b) = ∑ i : Fin 4112, dz (ix2 i b) * h (ix2 i a) := by
  pointwise [inner]

theorem grad_at (h : FVec Ideal S4112x1024 .f32) (dz : FVec Ideal S4112x6176 .f32) (a : Fin 1024) (b : Fin 6272) :
    grad h dz (ix2 a b) = if h' : b.val < 6176 then ∑ i : Fin 4112, dz (ix2 i ⟨b.val, h'⟩) * h (ix2 i a) else 0 := by
  have hz : (sitofp .f32 (constantI S_ 32 0#32) : FVec Ideal S_ .f32) = fun _ => 0 := pad_zero
  have e := inner_at h dz a
  unfold grad
  rw [hz]
  generalize inner h dz = y at e ⊢
  pointwise
  by_cases h' : b.val < 6176
  · rw [dif_pos h', dif_pos h', e]
  · rw [dif_neg h', dif_neg h']

end Cert.Reference7Ideal.MixerIn
-- ==== Proof.MixerOut.lean ====
/- The call that makes the gradient of the matrix out of the state-space mixer. -/
module

public import proofs.«01_k».proof.Proof.Rows
public import proofs.«01_k».proof.Proof.Gen.Kernel8Ideal.Value
public import proofs.«01_k».proof.Proof.Gen.Reference8Ideal.Run
public import Idealize.ShloMosaic.Lib.Pipeline.ValueKit
public import Idealize.ShloMosaic.Lib.KernelVsHost
public import Idealize.ShloMosaic.Lib.VecWindow

@[expose] public section

set_option maxRecDepth 8192

noncomputable section

namespace Cert.Kernel8Ideal.MixerOut

open Cert.Kernel8Ideal Cert.Kernel8Ideal.Gen Idealize.ShloMosaic Idealize.ShloMosaic.TcCoe Idealize.ShloMosaic.Tactic Cert.Mlp
open scoped BigOperators
open Idealize.SL Idealize.SL.RA Idealize.SL.BI Idealize.SL.ProofMode Idealize.SL.Sem

section Steps

variable {c : Dev nD} {i : grid0.Coords} {arg3 : Memref sig .tc .vmem S384x2048 .bf16} {harg3 : arg3.IsWhole} {arg4 : Memref sig .tc .vmem S384x1024 .f32} {harg4 : arg4.IsWhole} {arg5 : Memref sig .tc .vmem S2048x1024 .bf16} {harg5 : arg5.IsWhole} {arg6 : Memref sig .tc .vmem S2048x1024 .f32} {harg6 : arg6.IsWhole}
  {x0 : Vec Ideal S384x2048 .bf16} {x1 : Vec Ideal S384x1024 .f32} {xs0 : Vec Ideal S2048x1024 .f32}

/-- What a block of rows adds. -/
theorem pay1_at (x0 : Vec Ideal S384x2048 .bf16) (x1 : Vec Ideal S384x1024 .f32) (a : Fin 2048) (b : Fin 1024) :
    k0_pay1 x0 x1 (ix2 a b) = ∑ x : Fin 384, x0 (ix2 x a) * x1 (ix2 x b) := by
  pointwise [k0_pay1]

/-- The running sum after the first block of rows. -/
theorem first_eq {hc0 : cond0_0 i} {hc1 : ¬cond0_1 i} {hc2 : ¬cond0_2 i} :
    sout0_A_0 (F := Ideal) c i arg3 harg3 arg4 harg4 arg5 harg5 arg6 harg6 hc0 hc1 hc2 x0 x1 = k0_pay2 x0 x1 := by
  unfold sout0_A_0 kernelRun0_A
  dsimp only
  sl_unfold_run_names
  erw [View.read_writes_full]
  have e3 := harg3.read_unread (Val := Elt Ideal) x0
  have e4 := harg4.read_unread (Val := Elt Ideal) x1
  rw [View.readAt_full, View.readAt_full, e3, e4]

/-- The running sum after a middle block of rows. -/
theorem middle_eq {hc0 : ¬cond0_0 i} {hc1 : cond0_1 i} {hc2 : ¬cond0_2 i} :
    sout0_B_0 (F := Ideal) c i arg3 harg3 arg4 harg4 arg5 harg5 arg6 harg6 hc0 hc1 hc2 x0 x1 xs0 = k0_pay3 x0 x1 xs0 := by
  unfold sout0_B_0 kernelRun0_B
  dsimp only
  sl_unfold_run_names
  erw [View.read_writes_full]
  have e3 := harg3.read_unread (Val := Elt Ideal) x0
  have e4 := harg4.read_unread (Val := Elt Ideal) x1
  have e6 := harg6.read_unread (Val := Elt Ideal) xs0
  rw [View.readAt_full, View.readAt_full, View.readAt_full, e3, e4, e6]

/-- What the last block of rows leaves in the output. -/
theorem last_eq {hc0 : ¬cond0_0 i} {hc1 : cond0_1 i} {hc2 : cond0_2 i} :
    out0_C_2 (F := Ideal) c i arg3 harg3 arg4 harg4 arg5 harg5 arg6 harg6 hc0 hc1 hc2 x0 x1 xs0 = k0_pay4 (k0_pay3 x0 x1 xs0) := by
  unfold out0_C_2 kernelRun0_C
  dsimp only
  sl_unfold_run_names
  erw [View.read_writes_full]
  have e3 := harg3.read_unread (Val := Elt Ideal) x0
  have e4 := harg4.read_unread (Val := Elt Ideal) x1
  have e6 := harg6.read_unread (Val := Elt Ideal) xs0
  rw [View.readCov_full, View.readAt_full, View.readAt_full, View.readAt_full, e3, e4, e6]

theorem pay2_at (x0 : Vec Ideal S384x2048 .bf16) (x1 : Vec Ideal S384x1024 .f32) (a : Fin 2048) (b : Fin 1024) :
    k0_pay2 x0 x1 (ix2 a b) = k0_pay1 x0 x1 (ix2 a b) := by
  unfold k0_pay2
  generalize k0_pay1 x0 x1 = y
  pointwise

theorem pay3_at (x0 : Vec Ideal S384x2048 .bf16) (x1 : Vec Ideal S384x1024 .f32) (s : Vec Ideal S2048x1024 .f32) (a : Fin 2048) (b : Fin 1024) :
    k0_pay3 x0 x1 s (ix2 a b) = s (ix2 a b) + k0_pay1 x0 x1 (ix2 a b) := by
  unfold k0_pay3
  generalize k0_pay1 x0 x1 = y
  pointwise

theorem pay4_at (s : Vec Ideal S2048x1024 .f32) (a : Fin 2048) (b : Fin 1024) : k0_pay4 s (ix2 a b) = s (ix2 a b) := by
  pointwise [k0_pay4]

end Steps

theorem idx_all : ∀ t : Fin cfg0.N, win0_0.index t = ![t.val, 0] ∧ win0_1.index t = ![t.val, 0]
    ∧ win0_2.index t = ![0, 0] := by decide +kernel

theorem flush_last : ∀ t : Fin cfg0.N, (cfg0.win 2).flush t = true → t.val = 10 := by decide +kernel

variable (m : (ℓ : Loc nD τ sig) → Buf (Elt Ideal) ℓ) (c : Dev nD)

/-- The gated rows and the cotangent of the launch. -/
abbrev argU : Mat 4112 2048 := m ((c.tc : Thread nD τ).loc main_arg0)
abbrev argC : Mat 4112 1024 := m ((c.tc : Thread nD τ).loc main_arg1)

/-- The gated rows as laid out. -/
def laidU (x : FVec Ideal S4112x2048 .f32) : FVec Ideal S4224x2048 .bf16 :=
  truncf .bf16 (pad S4224x2048 ![112, 0] ![0, 0] ![0, 0] x (sitofp .f32 (constantI S_ 32 0#32)) pads_S4112x2048_S4224x2048_11200_000 h_S_) bitsLt_bf16_f32

/-- The cotangent as laid out. -/
def laidC (x : FVec Ideal S4112x1024 .f32) : FVec Ideal S4224x1024 .f32 :=
  pad S4224x1024 ![112, 0] ![0, 0] ![0, 0] x (sitofp .f32 (constantI S_ 32 0#32)) pads_S4112x1024_S4224x1024_11200_000 h_S_

theorem laidU_at (x : FVec Ideal S4112x2048 .f32) (g : Fin 4224) (r : Fin 2048) : laidU x (ix2 g r) = front (n := 2048) x g r := by
  have hz : (sitofp .f32 (constantI S_ 32 0#32) : FVec Ideal S_ .f32) = fun _ => 0 := pad_zero
  unfold laidU
  rw [hz]
  pointwise
  unfold front ent
  have hg := g.isLt
  by_cases h : 112 ≤ g.val
  · rw [dif_pos ⟨h, by omega⟩, if_pos h, dif_pos ⟨by omega, r.isLt⟩]
  · rw [dif_neg fun e => h e.1, if_neg h]

theorem laidC_at (x : FVec Ideal S4112x1024 .f32) (g : Fin 4224) (r : Fin 1024) : laidC x (ix2 g r) = front (n := 1024) x g r := by
  have hz : (sitofp .f32 (constantI S_ 32 0#32) : FVec Ideal S_ .f32) = fun _ => 0 := pad_zero
  unfold laidC
  rw [hz]
  pointwise
  unfold front ent
  have hg := g.isLt
  by_cases h : 112 ≤ g.val
  · rw [dif_pos ⟨h, by omega⟩, if_pos h, dif_pos ⟨by omega, r.isLt⟩]
  · rw [dif_neg fun e => h e.1, if_neg h]

theorem entry_u : V m c main_v2 = laidU (m ((c.tc : Thread nD τ).loc main_arg0)) := by
  unfold V
  simp only [hostOps0, hostOps0_1, hostOps0_2, hostOps0_3, hostOps0_4, List.flatten_cons, List.flatten_nil, List.append_nil, List.cons_append, List.nil_append]
  entry_read
  rfl

theorem entry_c : V m c main_v0 = laidC (m ((c.tc : Thread nD τ).loc main_arg1)) := by
  unfold V
  simp only [hostOps0, hostOps0_1, hostOps0_2, hostOps0_3, hostOps0_4, List.flatten_cons, List.flatten_nil, List.append_nil, List.cons_append, List.nil_append]
  entry_read
  rfl

theorem block_u (t : Fin cfg0.N) (x : Fin 384) (a : Fin 2048) :
    (iblk m c 0 t : Vec Ideal S384x2048 .bf16) (ix2 x a) = front (argU m c) (384 * t.val + x) a := by
  have h := (idx_all t).1
  have hN : t.val < 11 := lt_of_lt_of_eq t.isLt N_0
  refine Eq.trans ?_ (laidU_at _ ⟨384 * t.val + x.val, by omega⟩ a)
  rw [← entry_u]
  blk_ext [iblk, h]

theorem block_c (t : Fin cfg0.N) (x : Fin 384) (b : Fin 1024) :
    (iblk m c 1 t : Vec Ideal S384x1024 .f32) (ix2 x b) = front (argC m c) (384 * t.val + x) b := by
  have h := (idx_all t).2.1
  have hN : t.val < 11 := lt_of_lt_of_eq t.isLt N_0
  refine Eq.trans ?_ (laidC_at _ ⟨384 * t.val + x.val, by omega⟩ b)
  rw [← entry_c]
  blk_ext [iblk, h]

/-- What a row adds to an entry of the gradient. -/
def term (a b g : ℕ) : EReal := front (argU m c) g a * front (argC m c) g b

theorem block_sum (t : Fin cfg0.N) (a : Fin 2048) (b : Fin 1024) :
    k0_pay1 (F := Ideal) (iblk m c 0 t) (iblk m c 1 t) (ix2 a b)
      = ∑ x : Fin 384, term m c a b (384 * t.val + x) :=
  (pay1_at _ _ a b).trans (Finset.sum_congr rfl fun x _ => congrArg₂ (· * ·) (block_u m c t x a) (block_c m c t x b))

/-- The running sum after a point that is not the last. -/
theorem running (n : ℕ) : ∀ (hn : n < cfg0.N), ¬n = 10 → ∀ (a : Fin 2048) (b : Fin 1024),
    (outsAt0 m c n hn).2 (ix2 a b) = ∑ kb ∈ Finset.range (n + 1), ∑ x : Fin 384, term m c a b (384 * kb + x) := by
  induction n with
  | zero =>
    intro hn h10 a b
    have E := congrArg (fun z => z.2) (outsAt0_A m c ⟨0, hn⟩ rfl (by dsimp only; omega) (by dsimp only; omega))
    dsimp only at E
    refine (congrFun (E.trans first_eq) (ix2 a b)).trans ?_
    rw [pay2_at, block_sum, Finset.sum_range_one]
  | succ n ih =>
    intro hn h10 a b
    have hN : n + 1 < 11 := lt_of_lt_of_eq hn N_0
    have E := congrArg (fun z => z.2) (outsAt0_B m c ⟨n + 1, hn⟩ (by dsimp only; omega) (by dsimp only; omega) (by dsimp only; omega))
    dsimp only at E
    refine (congrFun (E.trans middle_eq) (ix2 a b)).trans ?_
    rw [pay3_at, block_sum, Finset.sum_range_succ]
    congr 1
    exact ih _ (by omega) a b

/-- What the last point writes. -/
theorem written (t : Fin cfg0.N) (h10 : t.val = 10) (a : Fin 2048) (b : Fin 1024) :
    (outsAt0 m c t.val t.isLt).1 (ix2 a b) = ∑ g ∈ Finset.range 4224, term m c a b g := by
  have E := congrArg (fun z => z.1) (outsAt0_C m c t (by omega) (by omega) (by omega))
  dsimp only at E
  refine (congrFun (E.trans last_eq) (ix2 a b)).trans ?_
  rw [pay4_at, pay3_at, block_sum, ← sum_blocks, Finset.sum_range_succ _ 10]
  congr 1
  · refine (running m c (t.val - 1) _ (by omega) a b).trans ?_
    rw [show t.val - 1 + 1 = 10 by omega]
  · rw [h10]

/-- The array that the call leaves. -/
theorem final : (dats m 0 c).arrAt 2 cfg0.N = fun i : S2048x1024.Idx => ∑ g ∈ Finset.range 4224, term m c (i 0).val (i 1).val g := by
  refine (dats m 0 c).arrAt_eq_of_covers 2 _ (by decide +kernel) fun t hf y => ?_
  have h10 := flush_last t hf
  blk_simp [(idx_all t).2.2]
  rw [after0_2]
  have e : y = ix2 (n0 := 2048) (n1 := 1024) (y 0) (y 1) := by
    funext a
    match a with
    | ⟨0, _⟩ => rfl
    | ⟨1, _⟩ => rfl
  exact (congrArg (outsAt0 m c t.val t.isLt).1 e).trans (written m c t h10 (y 0) (y 1))

/-- An entry of it, as a sum over the rows of the arguments. -/
theorem entry_sum (a : Fin 2048) (b : Fin 1024) :
    ∑ g ∈ Finset.range 4224, term m c a b g = ∑ i : Fin 4112, argC m c (ix2 i b) * argU m c (ix2 i a) := by
  rw [sum_front]
  · refine Finset.sum_congr rfl fun i _ => ?_
    unfold term
    rw [front_high, front_high, ent_fin, ent_fin, mul_comm]
  · intro g hg
    unfold term
    rw [front_low _ hg b.val, mul_zero]

end Cert.Kernel8Ideal.MixerOut

namespace Cert.Reference8Ideal.MixerOut

open Cert.Reference8Ideal Cert.Reference8Ideal.Gen Idealize.ShloMosaic Cert.Mlp

/-- The reference's gradient, of any arguments. -/
def grad (u : FVec Ideal S4112x2048 .f32) (ct : FVec Ideal S4112x1024 .f32) : FVec Ideal S2048x1024 .bf16 :=
  truncf .bf16 (transpose S2048x1024 [1, 0] (Host.dotGeneral dot_S4112x1024_S4112x2048_S1024x2048_0_0_1_1_n_n none ct u) transposes_S1024x2048_S2048x1024_1_0) bitsLt_bf16_f32

theorem grad_at (u : FVec Ideal S4112x2048 .f32) (ct : FVec Ideal S4112x1024 .f32) (a : Fin 2048) (b : Fin 1024) :
    grad u ct (ix2 a b) = ∑ i : Fin 4112, ct (ix2 i b) * u (ix2 i a) := by
  pointwise [grad]

end Cert.Reference8Ideal.MixerOut
-- ==== Proof.lean ====
/- The claims: the kernel as printed, its text read over the real numbers and the reference each run to the end, leaving
   their arguments as they were and every counter at zero; and on arguments that are real numbers the kernel's three
   results are the reference's three results. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.RefStages
public import proofs.«01_k».proof.Proof.RefValue
public import proofs.«01_k».proof.Proof.Final
public import proofs.«01_k».proof.Proof.Combine
public import proofs.«01_k».proof.Proof.Finite
public import proofs.«01_k».proof.Proof.HiddenGrad
public import proofs.«01_k».proof.Proof.DownGrad
public import proofs.«01_k».proof.Proof.UpGrad
public import proofs.«01_k».proof.Proof.DownForward
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.NormGrad
public import proofs.«01_k».proof.Proof.Gen.Reference10Ideal
public import proofs.«01_k».proof.Proof.Gen.Reference10Ideal.Run
public import proofs.«01_k».proof.Proof.Gen.Kernel10
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference11Ideal
public import proofs.«01_k».proof.Proof.Gen.Reference11Ideal.Run
public import proofs.«01_k».proof.Proof.Gen.Kernel11
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.UpForward
public import proofs.«01_k».proof.Proof.MixerForward
public import proofs.«01_k».proof.Proof.MixerIn
public import proofs.«01_k».proof.Proof.MixerOut
public import proofs.«01_k».proof.Proof.MixerNorm
public import Idealize.ShloMosaic.Lib.Quiescent
public import Idealize.ShloMosaic.Adequacy
public import Idealize.ShloMosaic.Init

@[expose] public section

noncomputable section

namespace Cert.Proof

open Idealize.ShloMosaic Idealize.SL.Sem Cert.Attn

/-- The reference runs; its arguments stay and its counters are at zero, there being none. -/
theorem frame_reference : Cert.quiescent_ReferenceIdeal (hReferenceIdeal := Cert.ReferenceIdeal.Gen.facts) := by
  intro m ρ _
  exact (θ_run Cert.ReferenceIdeal.defs _ _).mono
    (fun r h => ⟨fun c => ⟨(h c).2.2.2.1, (h c).2.2.2.2.1, (h c).2.2.2.2.2.1, (h c).2.2.2.2.2.2⟩, sem_eq_zero_of_no_sems (by decide) r.2⟩)
    (Cert.ReferenceIdeal.Value.run (F := Ideal) m ρ)

theorem ext2 {α : Type} {n0 n1 : ℕ} {x y : (⟨2, ![n0, n1]⟩ : Shape).Idx → α} (h : ∀ (r : Fin n0) (g : Fin n1), x (ix2 r g) = y (ix2 r g)) : x = y :=
  funext fun i => (congrArg x (Cert.KernelIdeal.Tile.pair_eta i)).trans ((h (i 0) (i 1)).trans (congrArg y (Cert.KernelIdeal.Tile.pair_eta i).symm))

theorem ext3 {α : Type} {n0 n1 n2 : ℕ} {x y : (⟨3, ![n0, n1, n2]⟩ : Shape).Idx → α}
    (h : ∀ (p : Fin n0) (r : Fin n1) (g : Fin n2), x (ix3 p r g) = y (ix3 p r g)) : x = y := by
  funext i
  have e : i = ix3 (i 0) (i 1) (i 2) := by
    funext a
    match a with
    | ⟨0, _⟩ => rfl
    | ⟨1, _⟩ => rfl
    | ⟨2, _⟩ => rfl
  rw [e]
  exact h _ _ _

section

variable (m : (ℓ : Loc Cert.KernelIdeal.nD Cert.KernelIdeal.τ Cert.KernelIdeal.sig) → Buf (Elt Ideal) ℓ) (c : Dev Cert.KernelIdeal.nD)
variable (q k : Arr 96) (v ct : Arr 64)
variable (hq : Holds (m ((c.tc : Thread Cert.KernelIdeal.nD Cert.KernelIdeal.τ).loc Cert.KernelIdeal.main_arg0)) q)
variable (hk : Holds (m ((c.tc : Thread Cert.KernelIdeal.nD Cert.KernelIdeal.τ).loc Cert.KernelIdeal.main_arg1)) k)
variable (hv : Holds (m ((c.tc : Thread Cert.KernelIdeal.nD Cert.KernelIdeal.τ).loc Cert.KernelIdeal.main_arg2)) v)
variable (hc : Holds (m ((c.tc : Thread Cert.KernelIdeal.nD Cert.KernelIdeal.τ).loc Cert.KernelIdeal.main_arg3)) ct)
variable (m' : (ℓ : Loc Cert.ReferenceIdeal.nD Cert.ReferenceIdeal.τ Cert.ReferenceIdeal.sig) → Buf (Elt Ideal) ℓ)
variable (hq' : Holds (m' ((c.tc : Thread Cert.ReferenceIdeal.nD Cert.ReferenceIdeal.τ).loc Cert.ReferenceIdeal.main_arg0)) q)
variable (hk' : Holds (m' ((c.tc : Thread Cert.ReferenceIdeal.nD Cert.ReferenceIdeal.τ).loc Cert.ReferenceIdeal.main_arg1)) k)
variable (hv' : Holds (m' ((c.tc : Thread Cert.ReferenceIdeal.nD Cert.ReferenceIdeal.τ).loc Cert.ReferenceIdeal.main_arg2)) v)
variable (hc' : Holds (m' ((c.tc : Thread Cert.ReferenceIdeal.nD Cert.ReferenceIdeal.τ).loc Cert.ReferenceIdeal.main_arg3)) ct)

include hq hk hv hc hq' hk' hv' hc'

theorem same_q : Cert.ReferenceIdeal.Value.res_out0 (F := Ideal) m' c = (Cert.KernelIdeal.Gen.dats m 0 c).arrAt 7 Cert.KernelIdeal.cfg0.N := by
  rw [Cert.KernelIdeal.Tile.finalQ (Cert.KernelIdeal.Prep.staged hq hk hv hc)]
  refine (Cert.ReferenceIdeal.Stage.out0_eq m' c).trans (ext2 fun r g => ?_)
  have h := Cert.ReferenceIdeal.Stage.outQ_at hq' hk' hv' hc' r g
  rw [← allQ_eq q k v ct r g] at h
  exact h

theorem same_k : Cert.ReferenceIdeal.Value.res_out1 (F := Ideal) m' c = (Cert.KernelIdeal.Gen.dats m 0 c).arrAt 8 Cert.KernelIdeal.cfg0.N := by
  rw [Cert.KernelIdeal.Tile.finalK (Cert.KernelIdeal.Prep.staged hq hk hv hc)]
  refine (Cert.ReferenceIdeal.Stage.out1_eq m' c).trans (ext2 fun r g => ?_)
  have h := Cert.ReferenceIdeal.Stage.outK_at hq' hk' hv' hc' g r
  rw [← allK_eq q k v ct g r] at h
  exact h

theorem same_v : Cert.ReferenceIdeal.Value.res_out2 (F := Ideal) m' c = (Cert.KernelIdeal.Gen.dats m 0 c).arrAt 9 Cert.KernelIdeal.cfg0.N := by
  rw [Cert.KernelIdeal.Tile.finalV (Cert.KernelIdeal.Prep.staged hq hk hv hc)]
  refine (Cert.ReferenceIdeal.Stage.out2_eq m' c).trans (ext2 fun r g => ?_)
  have h := Cert.ReferenceIdeal.Stage.outV_at hq' hk' hc' g r
  rw [← allV_eq q k v ct g r] at h
  exact h

end

/-- The kernel's results are the reference's. -/
theorem values : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hargs
  letI := Cert.Pre_finite.Gen.facts
  refine ⟨fun c => (Cert.KernelIdeal.Gen.dats m 0 c).arrAt 7 Cert.KernelIdeal.cfg0.N,
    fun c => (Cert.KernelIdeal.Gen.dats m 0 c).arrAt 8 Cert.KernelIdeal.cfg0.N,
    fun c => (Cert.KernelIdeal.Gen.dats m 0 c).arrAt 9 Cert.KernelIdeal.cfg0.N,
    Cert.KernelIdeal.Value.run_blocks (F := Ideal) m ρ, ?_⟩
  refine (θ_run Cert.ReferenceIdeal.defs _ _).mono (fun r h c => ?_) (Cert.ReferenceIdeal.Value.run (F := Ideal) m' ρ')
  obtain ⟨p0, p1, p2, p3⟩ := hpre c
  obtain ⟨a0, a1, a2, a3⟩ := hargs c
  obtain ⟨r0, r1, r2, rest⟩ := h c
  obtain ⟨xq, hq⟩ := (⟨_, holds0 _ _ _ _ p0⟩ : ∃ f, Holds (m ((c.tc : Thread Cert.KernelIdeal.nD Cert.KernelIdeal.τ).loc Cert.KernelIdeal.main_arg0)) f)
  obtain ⟨xk, hk⟩ := (⟨_, holds1 _ _ _ _ p1⟩ : ∃ f, Holds (m ((c.tc : Thread Cert.KernelIdeal.nD Cert.KernelIdeal.τ).loc Cert.KernelIdeal.main_arg1)) f)
  obtain ⟨xv, hv⟩ := (⟨_, holds2 _ _ _ _ p2⟩ : ∃ f, Holds (m ((c.tc : Thread Cert.KernelIdeal.nD Cert.KernelIdeal.τ).loc Cert.KernelIdeal.main_arg2)) f)
  obtain ⟨xc, hc⟩ := (⟨_, holds3 _ _ _ _ p3⟩ : ∃ f, Holds (m ((c.tc : Thread Cert.KernelIdeal.nD Cert.KernelIdeal.τ).loc Cert.KernelIdeal.main_arg3)) f)
  have hq' := hq
  have hk' := hk
  have hv' := hv
  have hc' := hc
  rw [← a0] at hq'
  rw [← a1] at hk'
  rw [← a2] at hv'
  rw [← a3] at hc'
  exact ⟨r0.trans (same_q m c _ _ _ _ hq hk hv hc m' hq' hk' hv' hc'), r1.trans (same_k m c _ _ _ _ hq hk hv hc m' hq' hk' hv' hc'),
    r2.trans (same_v m c _ _ _ _ hq hk hv hc m' hq' hk' hv' hc'), rest⟩

/-- The reference for the hidden values' gradient runs. -/
theorem frame_reference2 : Cert.quiescent_Reference2Ideal (hReference2Ideal := Cert.Reference2Ideal.Gen.facts) := by
  intro m ρ _
  exact (θ_run Cert.Reference2Ideal.defs _ _).mono (fun r h => ⟨fun c => (h c).2, sem_eq_zero_of_no_sems (by decide) r.2⟩)
    (Cert.Reference2Ideal.Value.run (F := Ideal) m ρ)

/-- The reference for the second matrix's gradient runs. -/
theorem frame_reference3 : Cert.quiescent_Reference3Ideal (hReference3Ideal := Cert.Reference3Ideal.Gen.facts) := by
  intro m ρ _
  exact (θ_run Cert.Reference3Ideal.defs _ _).mono (fun r h => ⟨fun c => (h c).2, sem_eq_zero_of_no_sems (by decide) r.2⟩)
    (Cert.Reference3Ideal.Value.run (F := Ideal) m ρ)

/-- The reference for the first matrix's gradient runs. -/
theorem frame_reference4 : Cert.quiescent_Reference4Ideal (hReference4Ideal := Cert.Reference4Ideal.Gen.facts) := by
  intro m ρ _
  exact (θ_run Cert.Reference4Ideal.defs _ _).mono (fun r h => ⟨fun c => (h c).2, sem_eq_zero_of_no_sems (by decide) r.2⟩)
    (Cert.Reference4Ideal.Value.run (F := Ideal) m ρ)

/-- The hidden values' gradient is the reference's. -/
theorem values2 : Cert.algebraic_Kernel2Ideal_Reference2Ideal (hKernel2Ideal := Cert.Kernel2Ideal.Gen.facts)
    (hReference2Ideal := Cert.Reference2Ideal.Gen.facts) := by
  intro m ρ m' ρ' _ hargs
  refine ⟨fun c => (Cert.Kernel2Ideal.Gen.dats m 0 c).arrAt 3 Cert.Kernel2Ideal.cfg0.N, Cert.Kernel2Ideal.Value.run_blocks (F := Ideal) m ρ, ?_⟩
  refine (θ_run Cert.Reference2Ideal.defs _ _).mono (fun r h c => ⟨(h c).1.trans ?_, (h c).2⟩) (Cert.Reference2Ideal.Value.run (F := Ideal) m' ρ')
  obtain ⟨a0, a1, a2⟩ := hargs c
  rw [a0, a1, a2]
  refine Eq.trans ?_ (Cert.Kernel2Ideal.Hidden.final m c).symm
  exact ext2 fun g j => Cert.Reference2Ideal.Hidden.grad_entry (Cert.Kernel2Ideal.Hidden.argU m c) (Cert.Kernel2Ideal.Hidden.argW m c)
    (Cert.Kernel2Ideal.Hidden.argC m c) g j

/-- The second matrix's gradient is the reference's. -/
theorem values3 : Cert.algebraic_Kernel3Ideal_Reference3Ideal (hKernel3Ideal := Cert.Kernel3Ideal.Gen.facts)
    (hReference3Ideal := Cert.Reference3Ideal.Gen.facts) := by
  intro m ρ m' ρ' _ hargs
  refine ⟨fun c => (Cert.Kernel3Ideal.Gen.dats m 0 c).arrAt 2 Cert.Kernel3Ideal.cfg0.N, Cert.Kernel3Ideal.Value.run_blocks (F := Ideal) m ρ, ?_⟩
  refine (θ_run Cert.Reference3Ideal.defs _ _).mono (fun r h c => ⟨(h c).1.trans ?_, (h c).2⟩) (Cert.Reference3Ideal.Value.run (F := Ideal) m' ρ')
  obtain ⟨a0, a1⟩ := hargs c
  rw [a0, a1]
  refine Eq.trans ?_ (Cert.Kernel3Ideal.Down.final m c).symm
  exact ext2 fun a b => (Cert.Reference3Ideal.Down.grad_at (Cert.Kernel3Ideal.Down.argU m c) (Cert.Kernel3Ideal.Down.argC m c) a b).trans
    (Cert.Kernel3Ideal.Down.entry_sum m c a b).symm

/-- The first matrix's gradient is the reference's. -/
theorem values4 : Cert.algebraic_Kernel4Ideal_Reference4Ideal (hKernel4Ideal := Cert.Kernel4Ideal.Gen.facts)
    (hReference4Ideal := Cert.Reference4Ideal.Gen.facts) := by
  intro m ρ m' ρ' _ hargs
  refine ⟨fun c => (Cert.Kernel4Ideal.Gen.dats m 0 c).arrAt 2 Cert.Kernel4Ideal.cfg0.N, Cert.Kernel4Ideal.Value.run_blocks (F := Ideal) m ρ, ?_⟩
  refine (θ_run Cert.Reference4Ideal.defs _ _).mono (fun r h c => ⟨(h c).1.trans ?_, (h c).2⟩) (Cert.Reference4Ideal.Value.run (F := Ideal) m' ρ')
  obtain ⟨a0, a1⟩ := hargs c
  rw [a0, a1]
  refine Eq.trans ?_ (Cert.Kernel4Ideal.Up.final m c).symm
  exact ext3 fun p a b => (Cert.Reference4Ideal.Up.grad_at (Cert.Kernel4Ideal.Up.argH m c) (Cert.Kernel4Ideal.Up.argU m c) p a b).trans
    (Cert.Kernel4Ideal.Up.entry_sum m c a ⟨512 * p.val + b.val, by omega⟩).symm

/-- The reference for the forward product with the second matrix runs. -/
theorem frame_reference5 : Cert.quiescent_Reference5Ideal (hReference5Ideal := Cert.Reference5Ideal.Gen.facts) := by
  intro m ρ _
  exact (θ_run Cert.Reference5Ideal.defs _ _).mono (fun r h => ⟨fun c => (h c).2, sem_eq_zero_of_no_sems (by decide) r.2⟩)
    (Cert.Reference5Ideal.Value.run (F := Ideal) m ρ)

/-- The reference for the gradient through the normalisation runs. -/
theorem frame_reference6 : Cert.quiescent_Reference6Ideal (hReference6Ideal := Cert.Reference6Ideal.Gen.facts) := by
  intro m ρ _
  exact (θ_run Cert.Reference6Ideal.defs _ _).mono (fun r h => ⟨fun c => (h c).2, sem_eq_zero_of_no_sems (by decide) r.2⟩)
    (Cert.Reference6Ideal.Value.run (F := Ideal) m ρ)

/-- The forward product with the second matrix is the reference's. -/
theorem values5 : Cert.algebraic_Kernel5Ideal_Reference5Ideal (hKernel5Ideal := Cert.Kernel5Ideal.Gen.facts)
    (hReference5Ideal := Cert.Reference5Ideal.Gen.facts) := by
  intro m ρ m' ρ' _ hargs
  refine ⟨fun c => (Cert.Kernel5Ideal.Gen.dats m 0 c).arrAt 3 Cert.Kernel5Ideal.cfg0.N, Cert.Kernel5Ideal.Value.run_blocks (F := Ideal) m ρ, ?_⟩
  refine (θ_run Cert.Reference5Ideal.defs _ _).mono (fun r h c => ⟨(h c).1.trans ?_, (h c).2⟩) (Cert.Reference5Ideal.Value.run (F := Ideal) m' ρ')
  obtain ⟨a0, a1, a2⟩ := hargs c
  rw [a0, a1, a2]
  refine Eq.trans ?_ (Cert.Kernel5Ideal.Forward.final m c).symm
  exact ext2 fun g j => Cert.Reference5Ideal.Forward.result_entry (Cert.Kernel5Ideal.Forward.argU m c) (Cert.Kernel5Ideal.Forward.argW m c)
    (Cert.Kernel5Ideal.Forward.argH m c) g j

/-- The gradient through the normalisation is the reference's. -/
theorem values6 : Cert.algebraic_Kernel6Ideal_Reference6Ideal (hKernel6Ideal := Cert.Kernel6Ideal.Gen.facts)
    (hReference6Ideal := Cert.Reference6Ideal.Gen.facts) := by
  intro m ρ m' ρ' _ hargs
  refine ⟨fun c => (Cert.Kernel6Ideal.Gen.dats m 0 c).arrAt 5 Cert.Kernel6Ideal.cfg0.N,
    (θ_run Cert.Kernel6Ideal.defs _ _).mono (fun r h c => ⟨(h c).1, (h c).2.2⟩) (Cert.Kernel6Ideal.Value.run_blocks (F := Ideal) m ρ), ?_⟩
  refine (θ_run Cert.Reference6Ideal.defs _ _).mono (fun r h c => ⟨(h c).1.trans ?_, (h c).2⟩) (Cert.Reference6Ideal.Value.run (F := Ideal) m' ρ')
  obtain ⟨a0, a1, a2, a3, a4⟩ := hargs c
  unfold Cert.Reference6Ideal.Value.res_main_v35
  rw [a0, a1, a2, a3, a4]
  refine Eq.trans ?_ (Cert.Kernel6Ideal.Norm.final m c).symm
  exact ext2 fun g j => Cert.Reference6Ideal.Norm.grad_entry (Cert.Kernel6Ideal.Norm.argH m c) (Cert.Kernel6Ideal.Norm.argG m c)
    (Cert.Kernel6Ideal.Norm.argW m c) (Cert.Kernel6Ideal.Norm.argU m c) (Cert.Kernel6Ideal.Norm.argC m c) g j

/-- The reference for the gradient of the matrix into the state-space mixer runs. -/
theorem frame_reference7 : Cert.quiescent_Reference7Ideal (hReference7Ideal := Cert.Reference7Ideal.Gen.facts) := by
  intro m ρ _
  exact (θ_run Cert.Reference7Ideal.defs _ _).mono (fun r h => ⟨fun c => (h c).2, sem_eq_zero_of_no_sems (by decide) r.2⟩)
    (Cert.Reference7Ideal.Value.run (F := Ideal) m ρ)

/-- The reference for the gradient of the matrix out of the state-space mixer runs. -/
theorem frame_reference8 : Cert.quiescent_Reference8Ideal (hReference8Ideal := Cert.Reference8Ideal.Gen.facts) := by
  intro m ρ _
  exact (θ_run Cert.Reference8Ideal.defs _ _).mono (fun r h => ⟨fun c => (h c).2, sem_eq_zero_of_no_sems (by decide) r.2⟩)
    (Cert.Reference8Ideal.Value.run (F := Ideal) m ρ)

/-- The reference for the gradient through the state-space layer's normalisation runs. -/
theorem frame_reference9 : Cert.quiescent_Reference9Ideal (hReference9Ideal := Cert.Reference9Ideal.Gen.facts) := by
  intro m ρ _
  exact (θ_run Cert.Reference9Ideal.defs _ _).mono (fun r h => ⟨fun c => (h c).2, sem_eq_zero_of_no_sems (by decide) r.2⟩)
    (Cert.Reference9Ideal.Value.run (F := Ideal) m ρ)

/-- The gradient of the matrix into the state-space mixer is the reference's. -/
theorem values7 : Cert.algebraic_Kernel7Ideal_Reference7Ideal (hKernel7Ideal := Cert.Kernel7Ideal.Gen.facts)
    (hReference7Ideal := Cert.Reference7Ideal.Gen.facts) := by
  intro m ρ m' ρ' _ hargs
  refine ⟨fun c => (Cert.Kernel7Ideal.Gen.dats m 0 c).arrAt 2 Cert.Kernel7Ideal.cfg0.N, Cert.Kernel7Ideal.Value.run_blocks (F := Ideal) m ρ, ?_⟩
  refine (θ_run Cert.Reference7Ideal.defs _ _).mono (fun r h c => ⟨(h c).1.trans ?_, (h c).2⟩) (Cert.Reference7Ideal.Value.run (F := Ideal) m' ρ')
  obtain ⟨a0, a1⟩ := hargs c
  rw [a0, a1]
  refine Eq.trans ?_ (Cert.Kernel7Ideal.MixerIn.final m c).symm
  exact ext2 fun a b => (Cert.Reference7Ideal.MixerIn.grad_at (Cert.Kernel7Ideal.MixerIn.argH m c) (Cert.Kernel7Ideal.MixerIn.argD m c) a b).trans (Cert.Kernel7Ideal.MixerIn.entry_sum m c a b).symm

/-- The gradient of the matrix out of the state-space mixer is the reference's. -/
theorem values8 : Cert.algebraic_Kernel8Ideal_Reference8Ideal (hKernel8Ideal := Cert.Kernel8Ideal.Gen.facts)
    (hReference8Ideal := Cert.Reference8Ideal.Gen.facts) := by
  intro m ρ m' ρ' _ hargs
  refine ⟨fun c => (Cert.Kernel8Ideal.Gen.dats m 0 c).arrAt 2 Cert.Kernel8Ideal.cfg0.N, Cert.Kernel8Ideal.Value.run_blocks (F := Ideal) m ρ, ?_⟩
  refine (θ_run Cert.Reference8Ideal.defs _ _).mono (fun r h c => ⟨(h c).1.trans ?_, (h c).2⟩) (Cert.Reference8Ideal.Value.run (F := Ideal) m' ρ')
  obtain ⟨a0, a1⟩ := hargs c
  rw [a0, a1]
  refine Eq.trans ?_ (Cert.Kernel8Ideal.MixerOut.final m c).symm
  exact ext2 fun a b => (Cert.Reference8Ideal.MixerOut.grad_at (Cert.Kernel8Ideal.MixerOut.argU m c) (Cert.Kernel8Ideal.MixerOut.argC m c) a b).trans (Cert.Kernel8Ideal.MixerOut.entry_sum m c a b).symm

/-- The gradient through the state-space layer's normalisation is the reference's. -/
theorem values9 : Cert.algebraic_Kernel9Ideal_Reference9Ideal (hKernel9Ideal := Cert.Kernel9Ideal.Gen.facts)
    (hReference9Ideal := Cert.Reference9Ideal.Gen.facts) := by
  intro m ρ m' ρ' _ hargs
  refine ⟨fun c => (Cert.Kernel9Ideal.Gen.dats m 0 c).arrAt 5 Cert.Kernel9Ideal.cfg0.N,
    (θ_run Cert.Kernel9Ideal.defs _ _).mono (fun r h c => ⟨(h c).1, (h c).2.2⟩) (Cert.Kernel9Ideal.Value.run_blocks (F := Ideal) m ρ), ?_⟩
  refine (θ_run Cert.Reference9Ideal.defs _ _).mono (fun r h c => ⟨(h c).1.trans ?_, (h c).2⟩) (Cert.Reference9Ideal.Value.run (F := Ideal) m' ρ')
  obtain ⟨a0, a1, a2, a3, a4⟩ := hargs c
  unfold Cert.Reference9Ideal.Value.res_main_v35
  rw [a0, a1, a2, a3, a4]
  refine Eq.trans ?_ (Cert.Kernel9Ideal.MixerNorm.final m c).symm
  exact ext2 fun g j => Cert.Reference9Ideal.MixerNorm.grad_entry (Cert.Kernel9Ideal.MixerNorm.argH m c) (Cert.Kernel9Ideal.MixerNorm.argG m c)
    (Cert.Kernel9Ideal.MixerNorm.argW m c) (Cert.Kernel9Ideal.MixerNorm.argU m c) (Cert.Kernel9Ideal.MixerNorm.argC m c) g j

/-- The two texts of the call of the feed-forward layer's first matrix have one table of bodies. -/
theorem same_bodies : Cert.Kernel10.defs₀ (F := Bits) = Cert.Kernel10Ideal.defs₀ (F := Bits) := by
  unfold Cert.Kernel10.defs₀ Cert.Kernel10Ideal.defs₀
  refine congrArg Defs.onTc ?_
  funext l p
  match l, p with
  | 0, (t, s) => rfl
  | ⟨n + 1, h⟩, _ => exact absurd h (Nat.not_lt.2 (Nat.le_add_left _ _))

theorem same_table : Cert.Kernel10.defs (F := Bits) = Cert.Kernel10Ideal.defs (F := Bits) :=
  congrArg (Pipeline.defs Cert.Kernel10Ideal.pcfgs) same_bodies

/-- The call of the feed-forward layer's first matrix runs, as its ideal text does. -/
theorem frame_kernel10 : Cert.quiescent_Kernel10 (hKernel10 := Cert.Kernel10.Gen.facts) := by
  intro m ρ _
  show (θ_run (Cert.Kernel10.defs (F := Bits)) _ _) _
  rw [same_table]
  exact (θ_run Cert.Kernel10Ideal.defs _ _).mono (fun _ h => h) (Cert.Kernel10Ideal.Up.quiet (F := Bits) m ρ)

/-- The reference for the feed-forward layer's first matrix runs. -/
theorem frame_reference10 : Cert.quiescent_Reference10Ideal (hReference10Ideal := Cert.Reference10Ideal.Gen.facts) := by
  intro m ρ _
  exact (θ_run Cert.Reference10Ideal.defs _ _).mono (fun r h => ⟨fun c => (h c).2.2, sem_eq_zero_of_no_sems (by decide) r.2⟩)
    (Cert.Reference10Ideal.Value.run (F := Ideal) m ρ)

/-- The normalised rows and their product with the first matrix are the reference's. -/
theorem values10 : Cert.algebraic_Kernel10Ideal_Reference10Ideal (hKernel10Ideal := Cert.Kernel10Ideal.Gen.facts)
    (hReference10Ideal := Cert.Reference10Ideal.Gen.facts) := by
  intro m ρ m' ρ' _ hargs
  refine ⟨fun c => (Cert.Kernel10Ideal.Up.dats m 0 c).arrAt 3 Cert.Kernel10Ideal.cfg0.N,
    fun c => (Cert.Kernel10Ideal.Up.dats m 0 c).arrAt 4 Cert.Kernel10Ideal.cfg0.N, Cert.Kernel10Ideal.Up.run_results (F := Ideal) m ρ, ?_⟩
  refine (θ_run Cert.Reference10Ideal.defs _ _).mono (fun r h c => ⟨(h c).1.trans ?_, (h c).2.1.trans ?_, (h c).2.2⟩)
    (Cert.Reference10Ideal.Value.run (F := Ideal) m' ρ')
  all_goals
    obtain ⟨a0, a1, a2⟩ := hargs c
    rw [a0, a1]
  · rw [a2]
    refine Eq.trans ?_ (Cert.Kernel10Ideal.Up.final_prod m c).symm
    exact ext2 fun g j => Cert.Reference10Ideal.Up.prod_at (Cert.Kernel10Ideal.Up.argH m c) (Cert.Kernel10Ideal.Up.argG m c)
      (Cert.Kernel10Ideal.Up.argW m c) g j
  · refine Eq.trans ?_ (Cert.Kernel10Ideal.Up.final_rows m c).symm
    exact ext2 fun g j => Cert.Reference10Ideal.Up.rows_at (Cert.Kernel10Ideal.Up.argH m c) (Cert.Kernel10Ideal.Up.argG m c) g j

/-- The two texts of the call of the matrix into the mixer have one table of bodies. -/
theorem same_bodies_mixer : Cert.Kernel11.defs₀ (F := Bits) = Cert.Kernel11Ideal.defs₀ (F := Bits) := by
  unfold Cert.Kernel11.defs₀ Cert.Kernel11Ideal.defs₀
  refine congrArg Defs.onTc ?_
  funext l p
  match l, p with
  | 0, (t, s) => rfl
  | ⟨n + 1, h⟩, _ => exact absurd h (Nat.not_lt.2 (Nat.le_add_left _ _))

theorem same_table_mixer : Cert.Kernel11.defs (F := Bits) = Cert.Kernel11Ideal.defs (F := Bits) :=
  congrArg (Pipeline.defs Cert.Kernel11Ideal.pcfgs) same_bodies_mixer

/-- The call of the matrix into the mixer runs, as its ideal text does. -/
theorem frame_kernel11 : Cert.quiescent_Kernel11 (hKernel11 := Cert.Kernel11.Gen.facts) := by
  intro m ρ _
  show (θ_run (Cert.Kernel11.defs (F := Bits)) _ _) _
  rw [same_table_mixer]
  exact (θ_run Cert.Kernel11Ideal.defs _ _).mono (fun _ h => h) (Cert.Kernel11Ideal.MixerUp.quiet (F := Bits) m ρ)

/-- The reference for the matrix into the mixer runs. -/
theorem frame_reference11 : Cert.quiescent_Reference11Ideal (hReference11Ideal := Cert.Reference11Ideal.Gen.facts) := by
  intro m ρ _
  exact (θ_run Cert.Reference11Ideal.defs _ _).mono (fun r h => ⟨fun c => (h c).2.2, sem_eq_zero_of_no_sems (by decide) r.2⟩)
    (Cert.Reference11Ideal.Value.run (F := Ideal) m ρ)

/-- The normalised rows and their product with the matrix into the mixer are the reference's. -/
theorem values11 : Cert.algebraic_Kernel11Ideal_Reference11Ideal (hKernel11Ideal := Cert.Kernel11Ideal.Gen.facts)
    (hReference11Ideal := Cert.Reference11Ideal.Gen.facts) := by
  intro m ρ m' ρ' _ hargs
  refine ⟨fun c => (Cert.Kernel11Ideal.MixerUp.dats m 0 c).arrAt 3 Cert.Kernel11Ideal.cfg0.N,
    fun c => (Cert.Kernel11Ideal.MixerUp.dats m 0 c).arrAt 4 Cert.Kernel11Ideal.cfg0.N, Cert.Kernel11Ideal.MixerUp.run_results (F := Ideal) m ρ, ?_⟩
  refine (θ_run Cert.Reference11Ideal.defs _ _).mono (fun r h c => ⟨(h c).1.trans ?_, (h c).2.1.trans ?_, (h c).2.2⟩)
    (Cert.Reference11Ideal.Value.run (F := Ideal) m' ρ')
  all_goals
    obtain ⟨a0, a1, a2⟩ := hargs c
    rw [a0, a1]
  · rw [a2]
    refine Eq.trans ?_ (Cert.Kernel11Ideal.MixerUp.final_prod m c).symm
    exact ext2 fun g j => Cert.Reference11Ideal.MixerUp.prod_at (Cert.Kernel11Ideal.MixerUp.argH m c) (Cert.Kernel11Ideal.MixerUp.argG m c)
      (Cert.Kernel11Ideal.MixerUp.argW m c) g j
  · refine Eq.trans ?_ (Cert.Kernel11Ideal.MixerUp.final_rows m c).symm
    exact ext2 fun g j => Cert.Reference10Ideal.Up.rows_at (Cert.Kernel11Ideal.MixerUp.argH m c) (Cert.Kernel11Ideal.MixerUp.argG m c) g j

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts, Cert.Pre_finite.Gen.facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    fun m ρ _ => Cert.Kernel2.Gen.frame m ρ,
    fun m ρ _ => Cert.Kernel2Ideal.Gen.frame m ρ,
    frame_reference2,
    fun m ρ _ => Cert.Kernel3.Gen.frame m ρ,
    fun m ρ _ => Cert.Kernel3Ideal.Gen.frame m ρ,
    frame_reference3,
    fun m ρ _ => Cert.Kernel4.Gen.frame m ρ,
    fun m ρ _ => Cert.Kernel4Ideal.Gen.frame m ρ,
    frame_reference4,
    fun m ρ _ => Cert.Kernel5.Gen.frame m ρ,
    fun m ρ _ => Cert.Kernel5Ideal.Gen.frame m ρ,
    frame_reference5,
    fun m ρ _ => Cert.Kernel6.Gen.frame m ρ,
    fun m ρ _ => Cert.Kernel6Ideal.Gen.frame m ρ,
    frame_reference6,
    fun m ρ _ => Cert.Kernel7.Gen.frame m ρ,
    fun m ρ _ => Cert.Kernel7Ideal.Gen.frame m ρ,
    frame_reference7,
    fun m ρ _ => Cert.Kernel8.Gen.frame m ρ,
    fun m ρ _ => Cert.Kernel8Ideal.Gen.frame m ρ,
    frame_reference8,
    fun m ρ _ => Cert.Kernel9.Gen.frame m ρ,
    fun m ρ _ => Cert.Kernel9Ideal.Gen.frame m ρ,
    frame_reference9,
    frame_kernel10,
    fun m ρ _ => Cert.Kernel10Ideal.Up.quiet m ρ,
    frame_reference10,
    frame_kernel11,
    fun m ρ _ => Cert.Kernel11Ideal.MixerUp.quiet m ρ,
    frame_reference11,
    trivial,
    values,
    trivial,
    values2,
    trivial,
    values3,
    trivial,
    values4,
    trivial,
    values5,
    trivial,
    values6,
    trivial,
    values7,
    trivial,
    values8,
    trivial,
    values9,
    trivial,
    values10,
    trivial,
    values11⟩

end Cert.Proof

end
